-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_finite3 [hPre_finite3 : Cert.Pre_finite3.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_finite3.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6))) = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_finite3 [hPre_finite3 : Cert.Pre_finite3.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_finite3.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6))) = (fun _ => 1#1)

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel10Ideal_finite4 [hPre_finite4 : Cert.Pre_finite4.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_finite4.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6))) = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_finite4 [hPre_finite4 : Cert.Pre_finite4.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_finite4.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5)) (m ((c.tc : Thread Cert.Reference10Ideal.nD Cert.Reference10Ideal.τ).loc Cert.Reference10Ideal.main_arg6))) = (fun _ => 1#1)

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Kernel11Ideal_finite5 [hPre_finite5 : Cert.Pre_finite5.Facts] (m : (ℓ : Loc Cert.Kernel11Ideal.nD Cert.Kernel11Ideal.τ Cert.Kernel11Ideal.sig) → Buf (Elt Ideal) ℓ) : Prop :=
  ∀ c : Dev Cert.Kernel11Ideal.nD,
    (Cert.Pre_finite5.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3))) = (fun _ => 1#1)

def Pre_Reference11Ideal (m : (ℓ : Loc Cert.Reference11Ideal.nD Cert.Reference11Ideal.τ Cert.Reference11Ideal.sig) → Buf (Elt Ideal) ℓ) : Prop :=
  True

def Pre_Reference11Ideal_finite5 [hPre_finite5 : Cert.Pre_finite5.Facts] (m : (ℓ : Loc Cert.Reference11Ideal.nD Cert.Reference11Ideal.τ Cert.Reference11Ideal.sig) → Buf (Elt Ideal) ℓ) : Prop :=
  ∀ c : Dev Cert.Reference11Ideal.nD,
    (Cert.Pre_finite5.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ r.2.sem = fun _ => 0)

def quiescent_Kernel9Ideal_pre_finite3 [hKernel9Ideal : Cert.Kernel9Ideal.Facts] [hPre_finite3 : Cert.Pre_finite3.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_finite3 m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6))
      ∧ r.2.sem = fun _ => 0)

def quiescent_Reference9Ideal_pre_finite3 [hReference9Ideal : Cert.Reference9Ideal.Facts] [hPre_finite3 : Cert.Pre_finite3.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_finite3 m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ r.2.sem = fun _ => 0)

def quiescent_Kernel10Ideal_pre_finite4 [hKernel10Ideal : Cert.Kernel10Ideal.Facts] [hPre_finite4 : Cert.Pre_finite4.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal_finite4 m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6))
      ∧ r.2.sem = fun _ => 0)

def quiescent_Reference10Ideal_pre_finite4 [hReference10Ideal : Cert.Reference10Ideal.Facts] [hPre_finite4 : Cert.Pre_finite4.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_finite4 m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Kernel11Ideal_pre_finite5 [hKernel11Ideal : Cert.Kernel11Ideal.Facts] [hPre_finite5 : Cert.Pre_finite5.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal_finite5 m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Reference11Ideal_pre_finite5 [hReference11Ideal : Cert.Reference11Ideal.Facts] [hPre_finite5 : Cert.Pre_finite5.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal_finite5 m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_v58) = v2 c
          ∧ r.2.mem ((c.tc : Thread Cert.ReferenceIdeal.nD Cert.ReferenceIdeal.τ).loc Cert.ReferenceIdeal.main_v59) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v3_0)) (v1 : (c : Dev Cert.Kernel2Ideal.nD) → Buf (Elt Ideal) ((c.tc : Thread Cert.Kernel2Ideal.nD Cert.Kernel2Ideal.τ).loc Cert.Kernel2Ideal.main_v3_1)) (v2 : (c : Dev Cert.Kernel2Ideal.nD) → Buf (Elt Ideal) ((c.tc : Thread Cert.Kernel2Ideal.nD Cert.Kernel2Ideal.τ).loc Cert.Kernel2Ideal.main_v3_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3_0) = v0 c
          ∧ r.2.mem ((c.tc : Thread Cert.Kernel2Ideal.nD Cert.Kernel2Ideal.τ).loc Cert.Kernel2Ideal.main_v3_1) = v1 c
          ∧ r.2.mem ((c.tc : Thread Cert.Kernel2Ideal.nD Cert.Kernel2Ideal.τ).loc Cert.Kernel2Ideal.main_v3_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v40) = v0 c
          ∧ r.2.mem ((c.tc : Thread Cert.Reference2Ideal.nD Cert.Reference2Ideal.τ).loc Cert.Reference2Ideal.main_v18) = v1 c
          ∧ r.2.mem ((c.tc : Thread Cert.Reference2Ideal.nD Cert.Reference2Ideal.τ).loc Cert.Reference2Ideal.main_v41) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v3_0)) (v1 : (c : Dev Cert.Kernel3Ideal.nD) → Buf (Elt Ideal) ((c.tc : Thread Cert.Kernel3Ideal.nD Cert.Kernel3Ideal.τ).loc Cert.Kernel3Ideal.main_v3_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3_0) = v0 c
          ∧ r.2.mem ((c.tc : Thread Cert.Kernel3Ideal.nD Cert.Kernel3Ideal.τ).loc Cert.Kernel3Ideal.main_v3_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_v2) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v8)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v8) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v19) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v22) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v4_0)) (v1 : (c : Dev Cert.Kernel8Ideal.nD) → Buf (Elt Ideal) ((c.tc : Thread Cert.Kernel8Ideal.nD Cert.Kernel8Ideal.τ).loc Cert.Kernel8Ideal.main_v4_1)) (v2 : (c : Dev Cert.Kernel8Ideal.nD) → Buf (Elt Ideal) ((c.tc : Thread Cert.Kernel8Ideal.nD Cert.Kernel8Ideal.τ).loc Cert.Kernel8Ideal.main_v4_2)) (v3 : (c : Dev Cert.Kernel8Ideal.nD) → Buf (Elt Ideal) ((c.tc : Thread Cert.Kernel8Ideal.nD Cert.Kernel8Ideal.τ).loc Cert.Kernel8Ideal.main_v4_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4_0) = v0 c
          ∧ r.2.mem ((c.tc : Thread Cert.Kernel8Ideal.nD Cert.Kernel8Ideal.τ).loc Cert.Kernel8Ideal.main_v4_1) = v1 c
          ∧ r.2.mem ((c.tc : Thread Cert.Kernel8Ideal.nD Cert.Kernel8Ideal.τ).loc Cert.Kernel8Ideal.main_v4_2) = v2 c
          ∧ r.2.mem ((c.tc : Thread Cert.Kernel8Ideal.nD Cert.Kernel8Ideal.τ).loc Cert.Kernel8Ideal.main_v4_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v43) = v0 c
          ∧ r.2.mem ((c.tc : Thread Cert.Reference8Ideal.nD Cert.Reference8Ideal.τ).loc Cert.Reference8Ideal.main_v44) = v1 c
          ∧ r.2.mem ((c.tc : Thread Cert.Reference8Ideal.nD Cert.Reference8Ideal.τ).loc Cert.Reference8Ideal.main_v25) = v2 c
          ∧ r.2.mem ((c.tc : Thread Cert.Reference8Ideal.nD Cert.Reference8Ideal.τ).loc Cert.Reference8Ideal.main_v45) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def preserves_Kernel9_Kernel9Ideal : Prop :=
  IdealRules.named_const.Statement Cert.Kernel9Ideal.κ "gelu_a" .f32 0x3D372713#32 ((8943 / 200000 : ℝ) : EReal)
  ∧ IdealRules.named_const.Statement Cert.Kernel9Ideal.κ "gelu_3a" .f32 0x3E095D4F#32 ((26829 / 200000 : ℝ) : EReal)

def algebraic_Kernel9Ideal_Reference9Ideal_pre_finite3 [hKernel9Ideal : Cert.Kernel9Ideal.Facts] [hReference9Ideal : Cert.Reference9Ideal.Facts] [hPre_finite3 : Cert.Pre_finite3.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_finite3 m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)) →
    ∃ (v0 : (c : Dev Cert.Kernel9Ideal.nD) → Buf (Elt Ideal) ((c.tc : Thread Cert.Kernel9Ideal.nD Cert.Kernel9Ideal.τ).loc Cert.Kernel9Ideal.main_v45_0)) (v1 : (c : Dev Cert.Kernel9Ideal.nD) → Buf (Elt Ideal) ((c.tc : Thread Cert.Kernel9Ideal.nD Cert.Kernel9Ideal.τ).loc Cert.Kernel9Ideal.main_v45_1)) (v2 : (c : Dev Cert.Kernel9Ideal.nD) → Buf (Elt Ideal) ((c.tc : Thread Cert.Kernel9Ideal.nD Cert.Kernel9Ideal.τ).loc Cert.Kernel9Ideal.main_v45_2)) (v3 : (c : Dev Cert.Kernel9Ideal.nD) → Buf (Elt Ideal) ((c.tc : Thread Cert.Kernel9Ideal.nD Cert.Kernel9Ideal.τ).loc Cert.Kernel9Ideal.main_v45_3)) (v4 : (c : Dev Cert.Kernel9Ideal.nD) → Buf (Elt Ideal) ((c.tc : Thread Cert.Kernel9Ideal.nD Cert.Kernel9Ideal.τ).loc Cert.Kernel9Ideal.main_v45_4)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v45_0) = v0 c
          ∧ r.2.mem ((c.tc : Thread Cert.Kernel9Ideal.nD Cert.Kernel9Ideal.τ).loc Cert.Kernel9Ideal.main_v45_1) = v1 c
          ∧ r.2.mem ((c.tc : Thread Cert.Kernel9Ideal.nD Cert.Kernel9Ideal.τ).loc Cert.Kernel9Ideal.main_v45_2) = v2 c
          ∧ r.2.mem ((c.tc : Thread Cert.Kernel9Ideal.nD Cert.Kernel9Ideal.τ).loc Cert.Kernel9Ideal.main_v45_3) = v3 c
          ∧ r.2.mem ((c.tc : Thread Cert.Kernel9Ideal.nD Cert.Kernel9Ideal.τ).loc Cert.Kernel9Ideal.main_v45_4) = v4 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v142) = v0 c
          ∧ r.2.mem ((c.tc : Thread Cert.Reference9Ideal.nD Cert.Reference9Ideal.τ).loc Cert.Reference9Ideal.main_v143) = v1 c
          ∧ r.2.mem ((c.tc : Thread Cert.Reference9Ideal.nD Cert.Reference9Ideal.τ).loc Cert.Reference9Ideal.main_v116) = v2 c
          ∧ r.2.mem ((c.tc : Thread Cert.Reference9Ideal.nD Cert.Reference9Ideal.τ).loc Cert.Reference9Ideal.main_v144) = v3 c
          ∧ r.2.mem ((c.tc : Thread Cert.Reference9Ideal.nD Cert.Reference9Ideal.τ).loc Cert.Reference9Ideal.main_v145) = v4 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6))

def preserves_Kernel10_Kernel10Ideal : Prop :=
  True

def algebraic_Kernel10Ideal_Reference10Ideal_pre_finite4 [hKernel10Ideal : Cert.Kernel10Ideal.Facts] [hReference10Ideal : Cert.Reference10Ideal.Facts] [hPre_finite4 : Cert.Pre_finite4.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal_finite4 m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)) →
    ∃ (v0 : (c : Dev Cert.Kernel10Ideal.nD) → Buf (Elt Ideal) ((c.tc : Thread Cert.Kernel10Ideal.nD Cert.Kernel10Ideal.τ).loc Cert.Kernel10Ideal.main_v4_0)) (v1 : (c : Dev Cert.Kernel10Ideal.nD) → Buf (Elt Ideal) ((c.tc : Thread Cert.Kernel10Ideal.nD Cert.Kernel10Ideal.τ).loc Cert.Kernel10Ideal.main_v4_1)) (v2 : (c : Dev Cert.Kernel10Ideal.nD) → Buf (Elt Ideal) ((c.tc : Thread Cert.Kernel10Ideal.nD Cert.Kernel10Ideal.τ).loc Cert.Kernel10Ideal.main_v4_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v4_0) = v0 c
          ∧ r.2.mem ((c.tc : Thread Cert.Kernel10Ideal.nD Cert.Kernel10Ideal.τ).loc Cert.Kernel10Ideal.main_v4_1) = v1 c
          ∧ r.2.mem ((c.tc : Thread Cert.Kernel10Ideal.nD Cert.Kernel10Ideal.τ).loc Cert.Kernel10Ideal.main_v4_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v77) = v0 c
          ∧ r.2.mem ((c.tc : Thread Cert.Reference10Ideal.nD Cert.Reference10Ideal.τ).loc Cert.Reference10Ideal.main_v78) = v1 c
          ∧ r.2.mem ((c.tc : Thread Cert.Reference10Ideal.nD Cert.Reference10Ideal.τ).loc Cert.Reference10Ideal.main_v92) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6))

def preserves_Kernel11_Kernel11Ideal : Prop :=
  True

def algebraic_Kernel11Ideal_Reference11Ideal_pre_finite5 [hKernel11Ideal : Cert.Kernel11Ideal.Facts] [hReference11Ideal : Cert.Reference11Ideal.Facts] [hPre_finite5 : Cert.Pre_finite5.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal_finite5 m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v3_0)) (v1 : (c : Dev Cert.Kernel11Ideal.nD) → Buf (Elt Ideal) ((c.tc : Thread Cert.Kernel11Ideal.nD Cert.Kernel11Ideal.τ).loc Cert.Kernel11Ideal.main_v3_1)) (v2 : (c : Dev Cert.Kernel11Ideal.nD) → Buf (Elt Ideal) ((c.tc : Thread Cert.Kernel11Ideal.nD Cert.Kernel11Ideal.τ).loc Cert.Kernel11Ideal.main_v3_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v3_0) = v0 c
          ∧ r.2.mem ((c.tc : Thread Cert.Kernel11Ideal.nD Cert.Kernel11Ideal.τ).loc Cert.Kernel11Ideal.main_v3_1) = v1 c
          ∧ r.2.mem ((c.tc : Thread Cert.Kernel11Ideal.nD Cert.Kernel11Ideal.τ).loc Cert.Kernel11Ideal.main_v3_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v161) = v0 c
          ∧ r.2.mem ((c.tc : Thread Cert.Reference11Ideal.nD Cert.Reference11Ideal.τ).loc Cert.Reference11Ideal.main_v95) = v1 c
          ∧ r.2.mem ((c.tc : Thread Cert.Reference11Ideal.nD Cert.Reference11Ideal.τ).loc Cert.Reference11Ideal.main_v162) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hPre_finite : Cert.Pre_finite.Facts) (hPre_finite2 : Cert.Pre_finite2.Facts) (hPre_finite3 : Cert.Pre_finite3.Facts) (hPre_finite4 : Cert.Pre_finite4.Facts) (hPre_finite5 : Cert.Pre_finite5.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Kernel9Ideal_pre_finite3 (hKernel9Ideal := hKernel9Ideal) (hPre_finite3 := hPre_finite3)
    ∧ quiescent_Reference9Ideal (hReference9Ideal := hReference9Ideal)
    ∧ quiescent_Reference9Ideal_pre_finite3 (hReference9Ideal := hReference9Ideal) (hPre_finite3 := hPre_finite3)
    ∧ quiescent_Kernel10 (hKernel10 := hKernel10)
    ∧ quiescent_Kernel10Ideal (hKernel10Ideal := hKernel10Ideal)
    ∧ quiescent_Kernel10Ideal_pre_finite4 (hKernel10Ideal := hKernel10Ideal) (hPre_finite4 := hPre_finite4)
    ∧ quiescent_Reference10Ideal (hReference10Ideal := hReference10Ideal)
    ∧ quiescent_Reference10Ideal_pre_finite4 (hReference10Ideal := hReference10Ideal) (hPre_finite4 := hPre_finite4)
    ∧ quiescent_Kernel11 (hKernel11 := hKernel11)
    ∧ quiescent_Kernel11Ideal (hKernel11Ideal := hKernel11Ideal)
    ∧ quiescent_Kernel11Ideal_pre_finite5 (hKernel11Ideal := hKernel11Ideal) (hPre_finite5 := hPre_finite5)
    ∧ quiescent_Reference11Ideal (hReference11Ideal := hReference11Ideal)
    ∧ quiescent_Reference11Ideal_pre_finite5 (hReference11Ideal := hReference11Ideal) (hPre_finite5 := hPre_finite5)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal_pre_finite3 (hKernel9Ideal := hKernel9Ideal) (hReference9Ideal := hReference9Ideal) (hPre_finite3 := hPre_finite3)
    ∧ preserves_Kernel10_Kernel10Ideal
    ∧ algebraic_Kernel10Ideal_Reference10Ideal_pre_finite4 (hKernel10Ideal := hKernel10Ideal) (hReference10Ideal := hReference10Ideal) (hPre_finite4 := hPre_finite4)
    ∧ preserves_Kernel11_Kernel11Ideal
    ∧ algebraic_Kernel11Ideal_Reference11Ideal_pre_finite5 (hKernel11Ideal := hKernel11Ideal) (hReference11Ideal := hReference11Ideal) (hPre_finite5 := hPre_finite5)
-- ==== Pre_finite.lean ====
abbrev S16384x1024 : Shape := ⟨2, ![16384, 1024]⟩
abbrev S16384x256 : Shape := ⟨2, ![16384, 256]⟩
abbrev S1024 : Shape := ⟨1, ![1024]⟩
abbrev S1024x1024 : Shape := ⟨2, ![1024, 1024]⟩
abbrev S256x1024 : Shape := ⟨2, ![256, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S16384x256 : S_.BroadcastsInDim S16384x256 (![] : Fin 0 → Fin S16384x256.rank)
  reducesTo_S16384x256_S_d0_1 : S16384x256.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S256x1024 : S_.BroadcastsInDim S256x1024 (![] : Fin 0 → Fin S256x1024.rank)
  reducesTo_S256x1024_S_d0_1 : S256x1024.ReducesTo [0, 1] S_

variable [Facts]

def fn_part1 {F : FTy → Type} [FloatOps F] (main_arg4 : FVec F S1024x1024 .f32) (main_arg5 : FVec F S256x1024 .f32) (main_v3 : IVec S_ 1) (main_v7 : IVec S_ 1) (main_v11 : IVec S_ 1) (main_v15 : IVec S_ 1) : IVec S_ 1 :=
  let main_v16 : FVec F S1024x1024 .f32 := Host.absf main_arg4
  let main_cst_6 : FVec F S_ .f32 := constant S_ .f32 0x7F800000#32
  let main_v17 : FVec F S1024x1024 .f32 := broadcastInDim S1024x1024 ![] bcast_S_S1024x1024 main_cst_6
  let main_v18 : IVec S1024x1024 1 := cmpf .olt main_v16 main_v17
  let main_c_7 : IVec S_ 1 := constantI S_ 1 1#1
  let main_v19 : IVec S_ 1 := (fun x v => Host.reduce IntOp.andi x v reducesTo_S1024x1024_S_d0_1 h_S_) main_v18 main_c_7
  let main_v20 : FVec F S256x1024 .f32 := Host.absf main_arg5
  let main_cst_8 : FVec F S_ .f32 := constant S_ .f32 0x7F800000#32
  let main_v21 : FVec F S256x1024 .f32 := broadcastInDim S256x1024 ![] bcast_S_S256x1024 main_cst_8
  let main_v22 : IVec S256x1024 1 := cmpf .olt main_v20 main_v21
  let main_c_9 : IVec S_ 1 := constantI S_ 1 1#1
  let main_v23 : IVec S_ 1 := (fun x v => Host.reduce IntOp.andi x v reducesTo_S256x1024_S_d0_1 h_S_) main_v22 main_c_9
  let main_v24 : IVec S_ 1 := andi main_v3 main_v7
  let main_v25 : IVec S_ 1 := andi main_v24 main_v11
  let main_v26 : IVec S_ 1 := andi main_v25 main_v15
  let main_v27 : IVec S_ 1 := andi main_v26 main_v19
  let main_v28 : IVec S_ 1 := andi main_v27 main_v23
  main_v28

def fn {F : FTy → Type} [FloatOps F] (main_arg0 : FVec F S16384x1024 .f32) (main_arg1 : FVec F S16384x1024 .f32) (main_arg2 : FVec F S16384x256 .f32) (main_arg3 : FVec F S1024 .f32) (main_arg4 : FVec F S1024x1024 .f32) (main_arg5 : FVec F S256x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : FVec F S16384x256 .f32 := Host.absf main_arg2
  let main_cst_2 : FVec F S_ .f32 := constant S_ .f32 0x7F800000#32
  let main_v9 : FVec F S16384x256 .f32 := broadcastInDim S16384x256 ![] bcast_S_S16384x256 main_cst_2
  let main_v10 : IVec S16384x256 1 := cmpf .olt main_v8 main_v9
  let main_c_3 : IVec S_ 1 := constantI S_ 1 1#1
  let main_v11 : IVec S_ 1 := (fun x v => Host.reduce IntOp.andi x v reducesTo_S16384x256_S_d0_1 h_S_) main_v10 main_c_3
  let main_v12 : FVec F S1024 .f32 := Host.absf main_arg3
  let main_cst_4 : FVec F S_ .f32 := constant S_ .f32 0x7F800000#32
  let main_v13 : FVec F S1024 .f32 := broadcastInDim S1024 ![] bcast_S_S1024 main_cst_4
  let main_v14 : IVec S1024 1 := cmpf .olt main_v12 main_v13
  let main_c_5 : IVec S_ 1 := constantI S_ 1 1#1
  let main_v15 : IVec S_ 1 := (fun x v => Host.reduce IntOp.andi x v reducesTo_S1024_S_d0 h_S_) main_v14 main_c_5
  fn_part1 (F := F) main_arg4 main_arg5 main_v3 main_v7 main_v11 main_v15
-- ==== Pre_finite2.lean ====
abbrev S16384x2176 : Shape := ⟨2, ![16384, 2176]⟩
abbrev S16384x1024 : Shape := ⟨2, ![16384, 1024]⟩
abbrev S1024 : Shape := ⟨1, ![1024]⟩
abbrev S1024x2176 : Shape := ⟨2, ![1024, 2176]⟩
abbrev S_ : Shape := ⟨0, ![]⟩

class Facts : Prop where
  bcast_S_S16384x2176 : S_.BroadcastsInDim S16384x2176 (![] : Fin 0 → Fin S16384x2176.rank)
  reducesTo_S16384x2176_S_d0_1 : S16384x2176.ReducesTo [0, 1] S_
  h_S_ : 0 < S_.numel
  bcast_S_S16384x1024 : S_.BroadcastsInDim S16384x1024 (![] : Fin 0 → Fin S16384x1024.rank)
  reducesTo_S16384x1024_S_d0_1 : S16384x1024.ReducesTo [0, 1] S_
  bcast_S_S1024 : S_.BroadcastsInDim S1024 (![] : Fin 0 → Fin S1024.rank)
  reducesTo_S1024_S_d0 : S1024.ReducesTo [0] S_
  bcast_S_S1024x2176 : S_.BroadcastsInDim S1024x2176 (![] : Fin 0 → Fin S1024x2176.rank)
  reducesTo_S1024x2176_S_d0_1 : S1024x2176.ReducesTo [0, 1] S_

variable [Facts]

def fn_part1 {F : FTy → Type} [FloatOps F] (main_v3 : IVec S_ 1) (main_v7 : IVec S_ 1) (main_v11 : IVec S_ 1) (main_v15 : IVec S_ 1) : IVec S_ 1 :=
  let main_v16 : IVec S_ 1 := andi main_v3 main_v7
  let main_v17 : IVec S_ 1 := andi main_v16 main_v11
  let main_v18 : IVec S_ 1 := andi main_v17 main_v15
  main_v18

def fn {F : FTy → Type} [FloatOps F] (main_arg0 : FVec F S16384x2176 .f32) (main_arg1 : FVec F S16384x1024 .f32) (main_arg2 : FVec F S1024 .f32) (main_arg3 : FVec F S1024x2176 .f32) (main_arg4 : FVec F S16384x1024 .f32) : IVec S_ 1 :=
  let main_v0 : FVec F S16384x2176 .f32 := Host.absf main_arg0
  let main_cst : FVec F S_ .f32 := constant S_ .f32 0x7F800000#32
  let main_v1 : FVec F S16384x2176 .f32 := broadcastInDim S16384x2176 ![] bcast_S_S16384x2176 main_cst
  let main_v2 : IVec S16384x2176 1 := cmpf .olt main_v0 main_v1
  let main_c : IVec S_ 1 := constantI S_ 1 1#1
  let main_v3 : IVec S_ 1 := (fun x v => Host.reduce IntOp.andi x v reducesTo_S16384x2176_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : FVec F S1024 .f32 := Host.absf main_arg2
  let main_cst_2 : FVec F S_ .f32 := constant S_ .f32 0x7F800000#32
  let main_v9 : FVec F S1024 .f32 := broadcastInDim S1024 ![] bcast_S_S1024 main_cst_2
  let main_v10 : IVec S1024 1 := cmpf .olt main_v8 main_v9
  let main_c_3 : IVec S_ 1 := constantI S_ 1 1#1
  let main_v11 : IVec S_ 1 := (fun x v => Host.reduce IntOp.andi x v reducesTo_S1024_S_d0 h_S_) main_v10 main_c_3
  let main_v12 : FVec F S1024x2176 .f32 := Host.absf main_arg3
  let main_cst_4 : FVec F S_ .f32 := constant S_ .f32 0x7F800000#32
  let main_v13 : FVec F S1024x2176 .f32 := broadcastInDim S1024x2176 ![] bcast_S_S1024x2176 main_cst_4
  let main_v14 : IVec S1024x2176 1 := cmpf .olt main_v12 main_v13
  let main_c_5 : IVec S_ 1 := constantI S_ 1 1#1
  let main_v15 : IVec S_ 1 := (fun x v => Host.reduce IntOp.andi x v reducesTo_S1024x2176_S_d0_1 h_S_) main_v14 main_c_5
  fn_part1 (F := F) main_v3 main_v7 main_v11 main_v15
-- ==== Pre_finite3.lean ====
abbrev S16384x1024 : Shape := ⟨2, ![16384, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x5632 : S_.BroadcastsInDim S1024x5632 (![] : Fin 0 → Fin S1024x5632.rank)
  reducesTo_S1024x5632_S_d0_1 : S1024x5632.ReducesTo [0, 1] S_
  bcast_S_S3x5632 : S_.BroadcastsInDim S3x5632 (![] : Fin 0 → Fin S3x5632.rank)
  reducesTo_S3x5632_S_d0_1 : S3x5632.ReducesTo [0, 1] S_
  bcast_S_S5632 : S_.BroadcastsInDim S5632 (![] : Fin 0 → Fin S5632.rank)
  reducesTo_S5632_S_d0 : S5632.ReducesTo [0] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S3x5632 .f32) (main_arg5 : FVec F S5632 .f32) (main_arg6 : FVec F S2816x1024 .f32) (main_v3 : IVec S_ 1) (main_v7 : IVec S_ 1) (main_v11 : IVec S_ 1) (main_v15 : IVec S_ 1) : IVec S_ 1 :=
  let main_v16 : FVec F S3x5632 .f32 := Host.absf main_arg4
  let main_cst_6 : FVec F S_ .f32 := constant S_ .f32 0x7F800000#32
  let main_v17 : FVec F S3x5632 .f32 := broadcastInDim S3x5632 ![] bcast_S_S3x5632 main_cst_6
  let main_v18 : IVec S3x5632 1 := cmpf .olt main_v16 main_v17
  let main_c_7 : IVec S_ 1 := constantI S_ 1 1#1
  let main_v19 : IVec S_ 1 := (fun x v => Host.reduce IntOp.andi x v reducesTo_S3x5632_S_d0_1 h_S_) main_v18 main_c_7
  let main_v20 : FVec F S5632 .f32 := Host.absf main_arg5
  let main_cst_8 : FVec F S_ .f32 := constant S_ .f32 0x7F800000#32
  let main_v21 : FVec F S5632 .f32 := broadcastInDim S5632 ![] bcast_S_S5632 main_cst_8
  let main_v22 : IVec S5632 1 := cmpf .olt main_v20 main_v21
  let main_c_9 : IVec S_ 1 := constantI S_ 1 1#1
  let main_v23 : IVec S_ 1 := (fun x v => Host.reduce IntOp.andi x v reducesTo_S5632_S_d0 h_S_) main_v22 main_c_9
  let main_v24 : FVec F S2816x1024 .f32 := Host.absf main_arg6
  let main_cst_10 : FVec F S_ .f32 := constant S_ .f32 0x7F800000#32
  let main_v25 : FVec F S2816x1024 .f32 := broadcastInDim S2816x1024 ![] bcast_S_S2816x1024 main_cst_10
  let main_v26 : IVec S2816x1024 1 := cmpf .olt main_v24 main_v25
  let main_c_11 : IVec S_ 1 := constantI S_ 1 1#1
  let main_v27 : IVec S_ 1 := (fun x v => Host.reduce IntOp.andi x v reducesTo_S2816x1024_S_d0_1 h_S_) main_v26 main_c_11
  let main_v28 : IVec S_ 1 := andi main_v3 main_v7
  let main_v29 : IVec S_ 1 := andi main_v28 main_v11
  let main_v30 : IVec S_ 1 := andi main_v29 main_v15
  let main_v31 : IVec S_ 1 := andi main_v30 main_v19
  let main_v32 : IVec S_ 1 := andi main_v31 main_v23
  let main_v33 : IVec S_ 1 := andi main_v32 main_v27
  main_v33

def fn {F : FTy → Type} [FloatOps F] (main_arg0 : FVec F S16384x1024 .f32) (main_arg1 : FVec F S16384x1024 .f32) (main_arg2 : FVec F S1024 .f32) (main_arg3 : FVec F S1024x5632 .f32) (main_arg4 : FVec F S3x5632 .f32) (main_arg5 : FVec F S5632 .f32) (main_arg6 : FVec F S2816x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : FVec F S1024 .f32 := Host.absf main_arg2
  let main_cst_2 : FVec F S_ .f32 := constant S_ .f32 0x7F800000#32
  let main_v9 : FVec F S1024 .f32 := broadcastInDim S1024 ![] bcast_S_S1024 main_cst_2
  let main_v10 : IVec S1024 1 := cmpf .olt main_v8 main_v9
  let main_c_3 : IVec S_ 1 := constantI S_ 1 1#1
  let main_v11 : IVec S_ 1 := (fun x v => Host.reduce IntOp.andi x v reducesTo_S1024_S_d0 h_S_) main_v10 main_c_3
  let main_v12 : FVec F S1024x5632 .f32 := Host.absf main_arg3
  let main_cst_4 : FVec F S_ .f32 := constant S_ .f32 0x7F800000#32
  let main_v13 : FVec F S1024x5632 .f32 := broadcastInDim S1024x5632 ![] bcast_S_S1024x5632 main_cst_4
  let main_v14 : IVec S1024x5632 1 := cmpf .olt main_v12 main_v13
  let main_c_5 : IVec S_ 1 := constantI S_ 1 1#1
  let main_v15 : IVec S_ 1 := (fun x v => Host.reduce IntOp.andi x v reducesTo_S1024x5632_S_d0_1 h_S_) main_v14 main_c_5
  fn_part1 (F := F) main_arg4 main_arg5 main_arg6 main_v3 main_v7 main_v11 main_v15
-- ==== Pre_finite4.lean ====
abbrev S16384x1024 : Shape := ⟨2, ![16384, 1024]⟩
abbrev S16384x512 : Shape := ⟨2, ![16384, 512]⟩
abbrev S16384x2176 : Shape := ⟨2, ![16384, 2176]⟩
abbrev S4x128x128 : Shape := ⟨3, ![4, 128, 128]⟩
abbrev S512 : Shape := ⟨1, ![512]⟩
abbrev S1024x1024 : Shape := ⟨2, ![1024, 1024]⟩
abbrev S1024 : Shape := ⟨1, ![1024]⟩
abbrev S_ : Shape := ⟨0, ![]⟩

class Facts : Prop where
  bcast_S_S16384x2176 : S_.BroadcastsInDim S16384x2176 (![] : Fin 0 → Fin S16384x2176.rank)
  reducesTo_S16384x2176_S_d0_1 : S16384x2176.ReducesTo [0, 1] S_
  h_S_ : 0 < S_.numel

variable [Facts]

def fn {F : FTy → Type} [FloatOps F] (main_arg0 : FVec F S16384x1024 .f32) (main_arg1 : FVec F S16384x512 .f32) (main_arg2 : FVec F S16384x2176 .f32) (main_arg3 : FVec F S4x128x128 .f32) (main_arg4 : FVec F S512 .f32) (main_arg5 : FVec F S1024x1024 .f32) (main_arg6 : FVec F S1024 .f32) : IVec S_ 1 :=
  let main_v0 : FVec F S16384x2176 .f32 := Host.absf main_arg2
  let main_cst : FVec F S_ .f32 := constant S_ .f32 0x7F800000#32
  let main_v1 : FVec F S16384x2176 .f32 := broadcastInDim S16384x2176 ![] bcast_S_S16384x2176 main_cst
  let main_v2 : IVec S16384x2176 1 := cmpf .olt main_v0 main_v1
  let main_c : IVec S_ 1 := constantI S_ 1 1#1
  let main_v3 : IVec S_ 1 := (fun x v => Host.reduce IntOp.andi x v reducesTo_S16384x2176_S_d0_1 h_S_) main_v2 main_c
  main_v3
-- ==== Pre_finite5.lean ====
abbrev S16384x1024 : Shape := ⟨2, ![16384, 1024]⟩
abbrev S16384x2176 : Shape := ⟨2, ![16384, 2176]⟩
abbrev S4x128x128 : Shape := ⟨3, ![4, 128, 128]⟩
abbrev S512 : Shape := ⟨1, ![512]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S16384x2176 : S_.BroadcastsInDim S16384x2176 (![] : Fin 0 → Fin S16384x2176.rank)
  reducesTo_S16384x2176_S_d0_1 : S16384x2176.ReducesTo [0, 1] S_
  bcast_S_S4x128x128 : S_.BroadcastsInDim S4x128x128 (![] : Fin 0 → Fin S4x128x128.rank)
  reducesTo_S4x128x128_S_d0_1_2 : S4x128x128.ReducesTo [0, 1, 2] S_
  bcast_S_S512 : S_.BroadcastsInDim S512 (![] : Fin 0 → Fin S512.rank)
  reducesTo_S512_S_d0 : S512.ReducesTo [0] S_

variable [Facts]

def fn_part1 {F : FTy → Type} [FloatOps F] (main_v3 : IVec S_ 1) (main_v7 : IVec S_ 1) (main_v11 : IVec S_ 1) (main_v15 : IVec S_ 1) : IVec S_ 1 :=
  let main_v16 : IVec S_ 1 := andi main_v3 main_v7
  let main_v17 : IVec S_ 1 := andi main_v16 main_v11
  let main_v18 : IVec S_ 1 := andi main_v17 main_v15
  main_v18

def fn {F : FTy → Type} [FloatOps F] (main_arg0 : FVec F S16384x1024 .f32) (main_arg1 : FVec F S16384x2176 .f32) (main_arg2 : FVec F S4x128x128 .f32) (main_arg3 : FVec F S512 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x2176 .f32 := Host.absf main_arg1
  let main_cst_0 : FVec F S_ .f32 := constant S_ .f32 0x7F800000#32
  let main_v5 : FVec F S16384x2176 .f32 := broadcastInDim S16384x2176 ![] bcast_S_S16384x2176 main_cst_0
  let main_v6 : IVec S16384x2176 1 := cmpf .olt main_v4 main_v5
  let main_c_1 : IVec S_ 1 := constantI S_ 1 1#1
  let main_v7 : IVec S_ 1 := (fun x v => Host.reduce IntOp.andi x v reducesTo_S16384x2176_S_d0_1 h_S_) main_v6 main_c_1
  let main_v8 : FVec F S4x128x128 .f32 := Host.absf main_arg2
  let main_cst_2 : FVec F S_ .f32 := constant S_ .f32 0x7F800000#32
  let main_v9 : FVec F S4x128x128 .f32 := broadcastInDim S4x128x128 ![] bcast_S_S4x128x128 main_cst_2
  let main_v10 : IVec S4x128x128 1 := cmpf .olt main_v8 main_v9
  let main_c_3 : IVec S_ 1 := constantI S_ 1 1#1
  let main_v11 : IVec S_ 1 := (fun x v => Host.reduce IntOp.andi x v reducesTo_S4x128x128_S_d0_1_2 h_S_) main_v10 main_c_3
  let main_v12 : FVec F S512 .f32 := Host.absf main_arg3
  let main_cst_4 : FVec F S_ .f32 := constant S_ .f32 0x7F800000#32
  let main_v13 : FVec F S512 .f32 := broadcastInDim S512 ![] bcast_S_S512 main_cst_4
  let main_v14 : IVec S512 1 := cmpf .olt main_v12 main_v13
  let main_c_5 : IVec S_ 1 := constantI S_ 1 1#1
  let main_v15 : IVec S_ 1 := (fun x v => Host.reduce IntOp.andi x v reducesTo_S512_S_d0 h_S_) main_v14 main_c_5
  fn_part1 (F := F) main_v3 main_v7 main_v11 main_v15
-- ==== Kernel.lean ====
abbrev S16384x1024 : Shape := ⟨2, ![16384, 1024]⟩
abbrev S16384x256 : Shape := ⟨2, ![16384, 256]⟩
abbrev S1024 : Shape := ⟨1, ![1024]⟩
abbrev S1024x1024 : Shape := ⟨2, ![1024, 1024]⟩
abbrev S256x1024 : Shape := ⟨2, ![256, 1024]⟩
abbrev S1x1024 : Shape := ⟨2, ![1, 1024]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩

abbrev nBuf : Space → Nat
  | .hbm => 14
  | .vmem => 15
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x256, .f32⟩
  | .hbm, ⟨3, _⟩ => ⟨S1024, .f32⟩
  | .hbm, ⟨4, _⟩ => ⟨S1024x1024, .f32⟩
  | .hbm, ⟨5, _⟩ => ⟨S256x1024, .f32⟩
  | .hbm, ⟨6, _⟩ => ⟨S1024x1024, .bf16⟩
  | .hbm, ⟨7, _⟩ => ⟨S1x1024, .f32⟩
  | .hbm, ⟨8, _⟩ => ⟨S1024x1024, .bf16⟩
  | .hbm, ⟨9, _⟩ => ⟨S256x1024, .bf16⟩
  | .hbm, ⟨10, _⟩ => ⟨S16384x1024, .f32⟩
  | .hbm, ⟨11, _⟩ => ⟨S1024x1024, .f32⟩
  | .hbm, ⟨12, _⟩ => ⟨S256x1024, .f32⟩
  | .hbm, ⟨13, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x256, .f32⟩
  | .local _ .vmem, ⟨5, _⟩ => ⟨S512x256, .f32⟩
  | .local _ .vmem, ⟨6, _⟩ => ⟨S1x1024, .f32⟩
  | .local _ .vmem, ⟨7, _⟩ => ⟨S1024x1024, .bf16⟩
  | .local _ .vmem, ⟨8, _⟩ => ⟨S1024x1024, .bf16⟩
  | .local _ .vmem, ⟨9, _⟩ => ⟨S256x1024, .bf16⟩
  | .local _ .vmem, ⟨10, _⟩ => ⟨S512x1024, .f32⟩
  | .local _ .vmem, ⟨11, _⟩ => ⟨S512x1024, .f32⟩
  | .local _ .vmem, ⟨12, _⟩ => ⟨S1024x1024, .f32⟩
  | .local _ .vmem, ⟨13, _⟩ => ⟨S256x1024, .f32⟩
  | .local _ .vmem, ⟨14, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem10_0 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S16384x1024 : Shape := ⟨2, ![16384, 1024]⟩
abbrev S16384x256 : Shape := ⟨2, ![16384, 256]⟩
abbrev S1024 : Shape := ⟨1, ![1024]⟩
abbrev S1024x1024 : Shape := ⟨2, ![1024, 1024]⟩
abbrev S256x1024 : Shape := ⟨2, ![256, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1024x256 : Shape := ⟨2, ![1024, 256]⟩

abbrev nBuf : Space → Nat
  | .hbm => 78
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x256, .f32⟩
  | .hbm, ⟨3, _⟩ => ⟨S1024, .f32⟩
  | .hbm, ⟨4, _⟩ => ⟨S1024x1024, .f32⟩
  | .hbm, ⟨5, _⟩ => ⟨S256x1024, .f32⟩
  | .hbm, ⟨6, _⟩ => ⟨S16384x1024, .f32⟩
  | .hbm, ⟨7, _⟩ => ⟨S16384x1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x1024, .f32⟩
  | .hbm, ⟨23, _⟩ => ⟨S16384x1024, .f32⟩
  | .hbm, ⟨24, _⟩ => ⟨S1x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S_, .f32⟩
  | .hbm, ⟨31, _⟩ => ⟨S16384x1024, .f32⟩
  | .hbm, ⟨32, _⟩ => ⟨S16384x1024, .f32⟩
  | .hbm, ⟨33, _⟩ => ⟨S_, .f32⟩
  | .hbm, ⟨34, _⟩ => ⟨S16384x1024, .f32⟩
  | .hbm, ⟨35, _⟩ => ⟨S16384x1024, .f32⟩
  | .hbm, ⟨36, _⟩ => ⟨S_, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S1024x1024, .f32⟩
  | .hbm, ⟨47, _⟩ => ⟨S1024x1024, .f32⟩
  | .hbm, ⟨48, _⟩ => ⟨S16384x1024, .f32⟩
  | .hbm, ⟨49, _⟩ => ⟨S16384x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S16384x1024, .f32⟩
  | .hbm, ⟨54, _⟩ => ⟨S16384x1024, .f32⟩
  | .hbm, ⟨55, _⟩ => ⟨S_, .f32⟩
  | .hbm, ⟨56, _⟩ => ⟨S1024, .f32⟩
  | .hbm, ⟨57, _⟩ => ⟨S16384x1024, .f32⟩
  | .hbm, ⟨58, _⟩ => ⟨S_, .f32⟩
  | .hbm, ⟨59, _⟩ => ⟨S16384, .f32⟩
  | .hbm, ⟨60, _⟩ => ⟨S16384x1, .f32⟩
  | .hbm, ⟨61, _⟩ => ⟨S16384x1024, .f32⟩
  | .hbm, ⟨62, _⟩ => ⟨S16384x1024, .f32⟩
  | .hbm, ⟨63, _⟩ => ⟨S16384x1024, .f32⟩
  | .hbm, ⟨64, _⟩ => ⟨S16384x1, .f32⟩
  | .hbm, ⟨65, _⟩ => ⟨S_, .f32⟩
  | .hbm, ⟨66, _⟩ => ⟨S16384x1, .f32⟩
  | .hbm, ⟨67, _⟩ => ⟨S16384x1, .f32⟩
  | .hbm, ⟨68, _⟩ => ⟨S_, .f32⟩
  | .hbm, ⟨69, _⟩ => ⟨S16384, .f32⟩
  | .hbm, ⟨70, _⟩ => ⟨S16384x1024, .f32⟩
  | .hbm, ⟨71, _⟩ => ⟨S16384x1024, .f32⟩
  | .hbm, ⟨72, _⟩ => ⟨S16384x1024, .f32⟩
  | .hbm, ⟨73, _⟩ => ⟨S16384x1024, .f32⟩
  | .hbm, ⟨74, _⟩ => ⟨S16384x1024, .f32⟩
  | .hbm, ⟨75, _⟩ => ⟨S1024x256, .f32⟩
  | .hbm, ⟨76, _⟩ => ⟨S256x1024, .f32⟩
  | .hbm, ⟨77, _⟩ => ⟨S1x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_6 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_7 : Ref sig .tc := ⟨.hbm, 55, rfl⟩
abbrev main_v41 : Ref sig .tc := ⟨.hbm, 56, rfl⟩
abbrev main_v42 : Ref sig .tc := ⟨.hbm, 57, rfl⟩
abbrev main_cst_8 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_9 : Ref sig .tc := ⟨.hbm, 65, rfl⟩
abbrev main_v49 : Ref sig .tc := ⟨.hbm, 66, rfl⟩
abbrev main_v50 : Ref sig .tc := ⟨.hbm, 67, rfl⟩
abbrev main_cst_10 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩

abbrev nD : Nat := 1
abbrev τ : Topo := Topo.v7x

variable {F : FTy → Type} [FloatOps F]
-- ==== Kernel2.lean ====
abbrev S16384x2176 : Shape := ⟨2, ![16384, 2176]⟩
abbrev S16384x1024 : Shape := ⟨2, ![16384, 1024]⟩
abbrev S1024 : Shape := ⟨1, ![1024]⟩
abbrev S1024x2176 : Shape := ⟨2, ![1024, 2176]⟩
abbrev S1x1024 : Shape := ⟨2, ![1, 1024]⟩
abbrev S2176x1024 : Shape := ⟨2, ![2176, 1024]⟩
abbrev S512x2176 : Shape := ⟨2, ![512, 2176]⟩
abbrev S512x1024 : Shape := ⟨2, ![512, 1024]⟩
abbrev S512 : Shape := ⟨1, ![512]⟩
abbrev S512x1 : Shape := ⟨2, ![512, 1]⟩

abbrev nBuf : Space → Nat
  | .hbm => 11
  | .vmem => 12
  | .smem => 0
  | _ => 0

abbrev bufTy : (tb : Table) → Fin (tcTables nBuf tb) → BufTy
  | .hbm, ⟨0, _⟩ => ⟨S16384x2176, .f32⟩
  | .hbm, ⟨1, _⟩ => ⟨S16384x1024, .f32⟩
  | .hbm, ⟨2, _⟩ => ⟨S1024, .f32⟩
  | .hbm, ⟨3, _⟩ => ⟨S1024x2176, .f32⟩
  | .hbm, ⟨4, _⟩ => ⟨S16384x1024, .f32⟩
  | .hbm, ⟨5, _⟩ => ⟨S1x1024, .f32⟩
  | .hbm, ⟨6, _⟩ => ⟨S1024x2176, .bf16⟩
  | .hbm, ⟨7, _⟩ => ⟨S2176x1024, .bf16⟩
  | .hbm, ⟨8, _⟩ => ⟨S16384x1024, .f32⟩
  | .hbm, ⟨9, _⟩ => ⟨S1024x2176, .f32⟩
  | .hbm, ⟨10, _⟩ => ⟨S1x1024, .f32⟩
  | .local _ .vmem, ⟨0, _⟩ => ⟨S512x2176, .f32⟩
  | .local _ .vmem, ⟨1, _⟩ => ⟨S512x2176, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S2176x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1024x2176, .f32⟩
  | .local _ .vmem, ⟨11, _⟩ => ⟨S1x1024, .f32⟩
  | _, _ => ⟨S16384x2176, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2176 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2176x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x2176 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference2Ideal.lean ====
abbrev S16384x2176 : Shape := ⟨2, ![16384, 2176]⟩
abbrev S16384x1024 : Shape := ⟨2, ![16384, 1024]⟩
abbrev S1024 : Shape := ⟨1, ![1024]⟩
abbrev S1024x2176 : Shape := ⟨2, ![1024, 2176]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S2176x1024 : Shape := ⟨2, ![2176, 1024]⟩

abbrev nBuf : Space → Nat
  | .hbm => 56
  | .vmem => 0
  | .smem => 0
  | _ => 0

abbrev bufTy : (tb : Table) → Fin (tcTables nBuf tb) → BufTy
  | .hbm, ⟨0, _⟩ => ⟨S16384x2176, .f32⟩
  | .hbm, ⟨1, _⟩ => ⟨S16384x1024, .f32⟩
  | .hbm, ⟨2, _⟩ => ⟨S1024, .f32⟩
  | .hbm, ⟨3, _⟩ => ⟨S1024x2176, .f32⟩
  | .hbm, ⟨4, _⟩ => ⟨S16384x1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S1x1024, .f32⟩
  | .hbm, ⟨23, _⟩ => ⟨S16384x1024, .f32⟩
  | .hbm, ⟨24, _⟩ => ⟨S16384x1024, .f32⟩
  | .hbm, ⟨25, _⟩ => ⟨S16384x2176, .f32⟩
  | .hbm, ⟨26, _⟩ => ⟨S2176x1024, .f32⟩
  | .hbm, ⟨27, _⟩ => ⟨S1024x2176, .f32⟩
  | .hbm, ⟨28, _⟩ => ⟨S16384x1024, .f32⟩
  | .hbm, ⟨29, _⟩ => ⟨S16384x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S16384x1024, .f32⟩
  | .hbm, ⟨34, _⟩ => ⟨S16384x1024, .f32⟩
  | .hbm, ⟨35, _⟩ => ⟨S_, .f32⟩
  | .hbm, ⟨36, _⟩ => ⟨S1024, .f32⟩
  | .hbm, ⟨37, _⟩ => ⟨S16384x1024, .f32⟩
  | .hbm, ⟨38, _⟩ => ⟨S_, .f32⟩
  | .hbm, ⟨39, _⟩ => ⟨S16384, .f32⟩
  | .hbm, ⟨40, _⟩ => ⟨S16384x1, .f32⟩
  | .hbm, ⟨41, _⟩ => ⟨S16384x1024, .f32⟩
  | .hbm, ⟨42, _⟩ => ⟨S16384x1024, .f32⟩
  | .hbm, ⟨43, _⟩ => ⟨S16384x1, .f32⟩
  | .hbm, ⟨44, _⟩ => ⟨S_, .f32⟩
  | .hbm, ⟨45, _⟩ => ⟨S16384x1, .f32⟩
  | .hbm, ⟨46, _⟩ => ⟨S16384x1, .f32⟩
  | .hbm, ⟨47, _⟩ => ⟨S_, .f32⟩
  | .hbm, ⟨48, _⟩ => ⟨S16384, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S1x1024, .f32⟩
  | _, _ => ⟨S16384x2176, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== Kernel3.lean ====
abbrev S16384x1024 : Shape := ⟨2, ![16384, 1024]⟩
abbrev S1024x1024 : Shape := ⟨2, ![1024, 1024]⟩

abbrev nBuf : Space → Nat
  | .hbm => 8
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024x1024, .f32⟩
  | .hbm, ⟨3, _⟩ => ⟨S16384x1024, .bf16⟩
  | .hbm, ⟨4, _⟩ => ⟨S1024x1024, .bf16⟩
  | .hbm, ⟨5, _⟩ => ⟨S1024x1024, .bf16⟩
  | .hbm, ⟨6, _⟩ => ⟨S16384x1024, .f32⟩
  | .hbm, ⟨7, _⟩ => ⟨S1024x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference3Ideal.lean ====
abbrev S16384x1024 : Shape := ⟨2, ![16384, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024x1024, .f32⟩
  | .hbm, ⟨3, _⟩ => ⟨S16384x1024, .f32⟩
  | .hbm, ⟨4, _⟩ => ⟨S1024x1024, .f32⟩
  | .hbm, ⟨5, _⟩ => ⟨S1024x1024, .f32⟩
  | .hbm, ⟨6, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel4.lean ====
abbrev S16384x1024 : Shape := ⟨2, ![16384, 1024]⟩
abbrev S16384x5632 : Shape := ⟨2, ![16384, 5632]⟩
abbrev S1024x5632 : Shape := ⟨2, ![1024, 5632]⟩
abbrev S1024x1024 : Shape := ⟨2, ![1024, 1024]⟩
abbrev S1024x1408 : Shape := ⟨2, ![1024, 1408]⟩

abbrev nBuf : Space → Nat
  | .hbm => 5
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S16384x5632, .f32⟩
  | .hbm, ⟨2, _⟩ => ⟨S16384x1024, .bf16⟩
  | .hbm, ⟨3, _⟩ => ⟨S16384x5632, .bf16⟩
  | .hbm, ⟨4, _⟩ => ⟨S1024x5632, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S16384x1024 : Shape := ⟨2, ![16384, 1024]⟩
abbrev S16384x5632 : Shape := ⟨2, ![16384, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x5632, .f32⟩
  | .hbm, ⟨2, _⟩ => ⟨S_, .f32⟩
  | .hbm, ⟨3, _⟩ => ⟨S1024x5632, .f32⟩
  | .hbm, ⟨4, _⟩ => ⟨S16384x5632, .f32⟩
  | .hbm, ⟨5, _⟩ => ⟨S5632x1024, .f32⟩
  | .hbm, ⟨6, _⟩ => ⟨S1024x5632, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel5.lean ====
abbrev S16384x2816 : Shape := ⟨2, ![16384, 2816]⟩
abbrev S16384x1024 : Shape := ⟨2, ![16384, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 4
  | .vmem => 6
  | .smem => 0
  | _ => 0

abbrev bufTy : (tb : Table) → Fin (tcTables nBuf tb) → BufTy
  | .hbm, ⟨0, _⟩ => ⟨S16384x2816, .f32⟩
  | .hbm, ⟨1, _⟩ => ⟨S16384x1024, .f32⟩
  | .hbm, ⟨2, _⟩ => ⟨S16384x2816, .bf16⟩
  | .hbm, ⟨3, _⟩ => ⟨S2816x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S1408x1024, .f32⟩
  | .local _ .vmem, ⟨5, _⟩ => ⟨S1408x1024, .f32⟩
  | _, _ => ⟨S16384x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S16384x2816 : Shape := ⟨2, ![16384, 2816]⟩
abbrev S16384x1024 : Shape := ⟨2, ![16384, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 7
  | .vmem => 0
  | .smem => 0
  | _ => 0

abbrev bufTy : (tb : Table) → Fin (tcTables nBuf tb) → BufTy
  | .hbm, ⟨0, _⟩ => ⟨S16384x2816, .f32⟩
  | .hbm, ⟨1, _⟩ => ⟨S16384x1024, .f32⟩
  | .hbm, ⟨2, _⟩ => ⟨S_, .f32⟩
  | .hbm, ⟨3, _⟩ => ⟨S2816x1024, .f32⟩
  | .hbm, ⟨4, _⟩ => ⟨S16384x1024, .f32⟩
  | .hbm, ⟨5, _⟩ => ⟨S1024x2816, .f32⟩
  | .hbm, ⟨6, _⟩ => ⟨S2816x1024, .f32⟩
  | _, _ => ⟨S16384x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel6.lean ====
abbrev S16384x1024 : Shape := ⟨2, ![16384, 1024]⟩
abbrev S1024 : Shape := ⟨1, ![1024]⟩
abbrev S1024x2056 : Shape := ⟨2, ![1024, 2056]⟩
abbrev S1024x512 : Shape := ⟨2, ![1024, 512]⟩
abbrev S1024x1024 : Shape := ⟨2, ![1024, 1024]⟩
abbrev S1024x8 : Shape := ⟨2, ![1024, 8]⟩
abbrev S_ : Shape := ⟨0, ![]⟩
abbrev S1024x120 : Shape := ⟨2, ![1024, 120]⟩
abbrev S1024x2176 : Shape := ⟨2, ![1024, 2176]⟩
abbrev S1x1024 : Shape := ⟨2, ![1, 1024]⟩
abbrev S16384x2176 : Shape := ⟨2, ![16384, 2176]⟩
abbrev S1024x1 : Shape := ⟨2, ![1024, 1]⟩

abbrev nBuf : Space → Nat
  | .hbm => 13
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2056, .f32⟩
  | .hbm, ⟨3, _⟩ => ⟨S1024x2056, .bf16⟩
  | .hbm, ⟨4, _⟩ => ⟨S1024x512, .bf16⟩
  | .hbm, ⟨5, _⟩ => ⟨S1024x1024, .bf16⟩
  | .hbm, ⟨6, _⟩ => ⟨S1024x8, .bf16⟩
  | .hbm, ⟨7, _⟩ => ⟨S1024x512, .bf16⟩
  | .hbm, ⟨8, _⟩ => ⟨S_, .bf16⟩
  | .hbm, ⟨9, _⟩ => ⟨S1024x120, .bf16⟩
  | .hbm, ⟨10, _⟩ => ⟨S1024x2176, .bf16⟩
  | .hbm, ⟨11, _⟩ => ⟨S1x1024, .f32⟩
  | .hbm, ⟨12, _⟩ => ⟨S16384x2176, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2176, .bf16⟩
  | .local _ .vmem, ⟨4, _⟩ => ⟨S1024x2176, .f32⟩
  | .local _ .vmem, ⟨5, _⟩ => ⟨S1024x2176, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2176 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1024x2176 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S16384x1024 : Shape := ⟨2, ![16384, 1024]⟩
abbrev S1024 : Shape := ⟨1, ![1024]⟩
abbrev S1024x2056 : Shape := ⟨2, ![1024, 2056]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2056 : Shape := ⟨2, ![16384, 2056]⟩
abbrev S16384x512 : Shape := ⟨2, ![16384, 512]⟩
abbrev S16384x8 : Shape := ⟨2, ![16384, 8]⟩
abbrev S16384x120 : Shape := ⟨2, ![16384, 120]⟩
abbrev S16384x2176 : Shape := ⟨2, ![16384, 2176]⟩

abbrev nBuf : Space → Nat
  | .hbm => 27
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2056, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x2056, .f32⟩
  | .hbm, ⟨20, _⟩ => ⟨S16384x512, .f32⟩
  | .hbm, ⟨21, _⟩ => ⟨S16384x1024, .f32⟩
  | .hbm, ⟨22, _⟩ => ⟨S16384x8, .f32⟩
  | .hbm, ⟨23, _⟩ => ⟨S16384x512, .f32⟩
  | .hbm, ⟨24, _⟩ => ⟨S_, .f32⟩
  | .hbm, ⟨25, _⟩ => ⟨S16384x120, .f32⟩
  | .hbm, ⟨26, _⟩ => ⟨S16384x2176, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Kernel7.lean ====
abbrev S16384x1024 : Shape := ⟨2, ![16384, 1024]⟩
abbrev S16384x256 : Shape := ⟨2, ![16384, 256]⟩
abbrev S1024 : Shape := ⟨1, ![1024]⟩
abbrev S1024x1024 : Shape := ⟨2, ![1024, 1024]⟩
abbrev S256x1024 : Shape := ⟨2, ![256, 1024]⟩
abbrev S1x1024 : Shape := ⟨2, ![1, 1024]⟩
abbrev S1024x256 : Shape := ⟨2, ![1024, 256]⟩
abbrev S1024x1 : Shape := ⟨2, ![1024, 1]⟩

abbrev nBuf : Space → Nat
  | .hbm => 9
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S16384x256, .f32⟩
  | .hbm, ⟨2, _⟩ => ⟨S1024, .f32⟩
  | .hbm, ⟨3, _⟩ => ⟨S1024x1024, .f32⟩
  | .hbm, ⟨4, _⟩ => ⟨S256x1024, .f32⟩
  | .hbm, ⟨5, _⟩ => ⟨S1x1024, .f32⟩
  | .hbm, ⟨6, _⟩ => ⟨S1024x1024, .bf16⟩
  | .hbm, ⟨7, _⟩ => ⟨S256x1024, .bf16⟩
  | .hbm, ⟨8, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x256, .f32⟩
  | .local _ .vmem, ⟨3, _⟩ => ⟨S1024x256, .f32⟩
  | .local _ .vmem, ⟨4, _⟩ => ⟨S1x1024, .f32⟩
  | .local _ .vmem, ⟨5, _⟩ => ⟨S1024x1024, .bf16⟩
  | .local _ .vmem, ⟨6, _⟩ => ⟨S256x1024, .bf16⟩
  | .local _ .vmem, ⟨7, _⟩ => ⟨S1024x1024, .f32⟩
  | .local _ .vmem, ⟨8, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference7Ideal.lean ====
abbrev S16384x1024 : Shape := ⟨2, ![16384, 1024]⟩
abbrev S16384x256 : Shape := ⟨2, ![16384, 256]⟩
abbrev S1024 : Shape := ⟨1, ![1024]⟩
abbrev S1024x1024 : Shape := ⟨2, ![1024, 1024]⟩
abbrev S256x1024 : Shape := ⟨2, ![256, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 33
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x256, .f32⟩
  | .hbm, ⟨2, _⟩ => ⟨S1024, .f32⟩
  | .hbm, ⟨3, _⟩ => ⟨S1024x1024, .f32⟩
  | .hbm, ⟨4, _⟩ => ⟨S256x1024, .f32⟩
  | .hbm, ⟨5, _⟩ => ⟨S16384x1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S_, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩

abbrev nD : Nat := 1
abbrev τ : Topo := Topo.v7x

variable {F : FTy → Type} [FloatOps F]
-- ==== Kernel8.lean ====
abbrev S16384x1024 : Shape := ⟨2, ![16384, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1x5632 : Shape := ⟨2, ![1, 5632]⟩
abbrev S16384x2816 : Shape := ⟨2, ![16384, 2816]⟩
abbrev S16384x5632 : Shape := ⟨2, ![16384, 5632]⟩
abbrev S256x1024 : Shape := ⟨2, ![256, 1024]⟩
abbrev S256x2816 : Shape := ⟨2, ![256, 2816]⟩
abbrev S256x5632 : Shape := ⟨2, ![256, 5632]⟩
abbrev S4x264x256 : Shape := ⟨3, ![4, 264, 256]⟩
abbrev S8x5632 : Shape := ⟨2, ![8, 5632]⟩
abbrev S1024x256 : Shape := ⟨2, ![1024, 256]⟩
abbrev S256x256 : Shape := ⟨2, ![256, 256]⟩
abbrev S8x256 : Shape := ⟨2, ![8, 256]⟩
abbrev S1x264x256 : Shape := ⟨3, ![1, 264, 256]⟩
abbrev S264x256 : Shape := ⟨2, ![264, 256]⟩
abbrev S1x256 : Shape := ⟨2, ![1, 256]⟩

abbrev nBuf : Space → Nat
  | .hbm => 14
  | .vmem => 18
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S16384x1024, .bf16⟩
  | .hbm, ⟨7, _⟩ => ⟨S1024x5632, .bf16⟩
  | .hbm, ⟨8, _⟩ => ⟨S1x5632, .f32⟩
  | .hbm, ⟨9, _⟩ => ⟨S2816x1024, .bf16⟩
  | .hbm, ⟨10, _⟩ => ⟨S16384x1024, .f32⟩
  | .hbm, ⟨11, _⟩ => ⟨S16384x2816, .bf16⟩
  | .hbm, ⟨12, _⟩ => ⟨S16384x5632, .f32⟩
  | .hbm, ⟨13, _⟩ => ⟨S16384x5632, .bf16⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S1024x5632, .bf16⟩
  | .local _ .vmem, ⟨5, _⟩ => ⟨S3x5632, .f32⟩
  | .local _ .vmem, ⟨6, _⟩ => ⟨S1x5632, .f32⟩
  | .local _ .vmem, ⟨7, _⟩ => ⟨S2816x1024, .bf16⟩
  | .local _ .vmem, ⟨8, _⟩ => ⟨S256x1024, .f32⟩
  | .local _ .vmem, ⟨9, _⟩ => ⟨S256x1024, .f32⟩
  | .local _ .vmem, ⟨10, _⟩ => ⟨S256x2816, .bf16⟩
  | .local _ .vmem, ⟨11, _⟩ => ⟨S256x2816, .bf16⟩
  | .local _ .vmem, ⟨12, _⟩ => ⟨S256x5632, .f32⟩
  | .local _ .vmem, ⟨13, _⟩ => ⟨S256x5632, .f32⟩
  | .local _ .vmem, ⟨14, _⟩ => ⟨S256x5632, .bf16⟩
  | .local _ .vmem, ⟨15, _⟩ => ⟨S256x5632, .bf16⟩
  | .local _ .vmem, ⟨16, _⟩ => ⟨S4x264x256, .f32⟩
  | .local _ .vmem, ⟨17, _⟩ => ⟨S8x5632, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x5632 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x5632 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference8Ideal.lean ====
abbrev S16384x1024 : Shape := ⟨2, ![16384, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S16384x5632 : Shape := ⟨2, ![16384, 5632]⟩
abbrev S_ : Shape := ⟨0, ![]⟩
abbrev S2x5632 : Shape := ⟨2, ![2, 5632]⟩
abbrev S16386x5632 : Shape := ⟨2, ![16386, 5632]⟩
abbrev S1x5632 : Shape := ⟨2, ![1, 5632]⟩
abbrev S16384x2816 : Shape := ⟨2, ![16384, 2816]⟩

abbrev nBuf : Space → Nat
  | .hbm => 57
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S16384x5632, .f32⟩
  | .hbm, ⟨7, _⟩ => ⟨S_, .f32⟩
  | .hbm, ⟨8, _⟩ => ⟨S2x5632, .f32⟩
  | .hbm, ⟨9, _⟩ => ⟨S16386x5632, .f32⟩
  | .hbm, ⟨10, _⟩ => ⟨S16384x5632, .f32⟩
  | .hbm, ⟨11, _⟩ => ⟨S1x5632, .f32⟩
  | .hbm, ⟨12, _⟩ => ⟨S5632, .f32⟩
  | .hbm, ⟨13, _⟩ => ⟨S1x5632, .f32⟩
  | .hbm, ⟨14, _⟩ => ⟨S16384x5632, .f32⟩
  | .hbm, ⟨15, _⟩ => ⟨S16384x5632, .f32⟩
  | .hbm, ⟨16, _⟩ => ⟨S1x5632, .f32⟩
  | .hbm, ⟨17, _⟩ => ⟨S16384x5632, .f32⟩
  | .hbm, ⟨18, _⟩ => ⟨S16384x5632, .f32⟩
  | .hbm, ⟨19, _⟩ => ⟨S16384x5632, .f32⟩
  | .hbm, ⟨20, _⟩ => ⟨S1x5632, .f32⟩
  | .hbm, ⟨21, _⟩ => ⟨S5632, .f32⟩
  | .hbm, ⟨22, _⟩ => ⟨S1x5632, .f32⟩
  | .hbm, ⟨23, _⟩ => ⟨S16384x5632, .f32⟩
  | .hbm, ⟨24, _⟩ => ⟨S16384x5632, .f32⟩
  | .hbm, ⟨25, _⟩ => ⟨S16384x5632, .f32⟩
  | .hbm, ⟨26, _⟩ => ⟨S16384x5632, .f32⟩
  | .hbm, ⟨27, _⟩ => ⟨S1x5632, .f32⟩
  | .hbm, ⟨28, _⟩ => ⟨S5632, .f32⟩
  | .hbm, ⟨29, _⟩ => ⟨S1x5632, .f32⟩
  | .hbm, ⟨30, _⟩ => ⟨S16384x5632, .f32⟩
  | .hbm, ⟨31, _⟩ => ⟨S16384x5632, .f32⟩
  | .hbm, ⟨32, _⟩ => ⟨S16384x5632, .f32⟩
  | .hbm, ⟨33, _⟩ => ⟨S16384x2816, .f32⟩
  | .hbm, ⟨34, _⟩ => ⟨S16384x2816, .f32⟩
  | .hbm, ⟨35, _⟩ => ⟨S16384x2816, .f32⟩
  | .hbm, ⟨36, _⟩ => ⟨S16384x2816, .f32⟩
  | .hbm, ⟨37, _⟩ => ⟨S_, .f32⟩
  | .hbm, ⟨38, _⟩ => ⟨S16384x2816, .f32⟩
  | .hbm, ⟨39, _⟩ => ⟨S16384x2816, .f32⟩
  | .hbm, ⟨40, _⟩ => ⟨S16384x2816, .f32⟩
  | .hbm, ⟨41, _⟩ => ⟨S_, .f32⟩
  | .hbm, ⟨42, _⟩ => ⟨S16384x2816, .f32⟩
  | .hbm, ⟨43, _⟩ => ⟨S16384x2816, .f32⟩
  | .hbm, ⟨44, _⟩ => ⟨S16384x2816, .f32⟩
  | .hbm, ⟨45, _⟩ => ⟨S_, .f32⟩
  | .hbm, ⟨46, _⟩ => ⟨S16384x2816, .f32⟩
  | .hbm, ⟨47, _⟩ => ⟨S16384x2816, .f32⟩
  | .hbm, ⟨48, _⟩ => ⟨S_, .f32⟩
  | .hbm, ⟨49, _⟩ => ⟨S16384x2816, .f32⟩
  | .hbm, ⟨50, _⟩ => ⟨S16384x2816, .f32⟩
  | .hbm, ⟨51, _⟩ => ⟨S16384x2816, .f32⟩
  | .hbm, ⟨52, _⟩ => ⟨S16384x2816, .f32⟩
  | .hbm, ⟨53, _⟩ => ⟨S16384x1024, .f32⟩
  | .hbm, ⟨54, _⟩ => ⟨S16384x1024, .f32⟩
  | .hbm, ⟨55, _⟩ => ⟨S16384x2816, .bf16⟩
  | .hbm, ⟨56, _⟩ => ⟨S16384x5632, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_0 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_1 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_2 : Ref sig .tc := ⟨.hbm, 45, rfl⟩
abbrev main_v36 : Ref sig .tc := ⟨.hbm, 46, rfl⟩
abbrev main_v37 : Ref sig .tc := ⟨.hbm, 47, rfl⟩
abbrev main_cst_3 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩

abbrev nD : Nat := 1
abbrev τ : Topo := Topo.v7x

variable {F : FTy → Type} [FloatOps F]
-- ==== Kernel9.lean ====
abbrev S16384x1024 : Shape := ⟨2, ![16384, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x5632 : Shape := ⟨2, ![16384, 5632]⟩
abbrev S2x5632 : Shape := ⟨2, ![2, 5632]⟩
abbrev S16386x5632 : Shape := ⟨2, ![16386, 5632]⟩
abbrev S1x5632 : Shape := ⟨2, ![1, 5632]⟩
abbrev S1024x2816 : Shape := ⟨2, ![1024, 2816]⟩
abbrev S5632x1024 : Shape := ⟨2, ![5632, 1024]⟩
abbrev S256x1024 : Shape := ⟨2, ![256, 1024]⟩
abbrev S256x5632 : Shape := ⟨2, ![256, 5632]⟩
abbrev S4x264x256 : Shape := ⟨3, ![4, 264, 256]⟩
abbrev S8x5632 : Shape := ⟨2, ![8, 5632]⟩
abbrev S1024x256 : Shape := ⟨2, ![1024, 256]⟩
abbrev S256x256 : Shape := ⟨2, ![256, 256]⟩
abbrev S1x264x256 : Shape := ⟨3, ![1, 264, 256]⟩
abbrev S264x256 : Shape := ⟨2, ![264, 256]⟩
abbrev S8x256 : Shape := ⟨2, ![8, 256]⟩
abbrev S1x256 : Shape := ⟨2, ![1, 256]⟩
abbrev S256 : Shape := ⟨1, ![256]⟩
abbrev S3x256 : Shape := ⟨2, ![3, 256]⟩
abbrev S256x1 : Shape := ⟨2, ![256, 1]⟩

abbrev nBuf : Space → Nat
  | .hbm => 61
  | .vmem => 21
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024, .f32⟩
  | .hbm, ⟨3, _⟩ => ⟨S1024x5632, .f32⟩
  | .hbm, ⟨4, _⟩ => ⟨S3x5632, .f32⟩
  | .hbm, ⟨5, _⟩ => ⟨S5632, .f32⟩
  | .hbm, ⟨6, _⟩ => ⟨S2816x1024, .f32⟩
  | .hbm, ⟨7, _⟩ => ⟨S16384x1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S1x1024, .f32⟩
  | .hbm, ⟨21, _⟩ => ⟨S16384x1024, .f32⟩
  | .hbm, ⟨22, _⟩ => ⟨S16384x1024, .f32⟩
  | .hbm, ⟨23, _⟩ => ⟨S16384x5632, .f32⟩
  | .hbm, ⟨24, _⟩ => ⟨S_, .f32⟩
  | .hbm, ⟨25, _⟩ => ⟨S2x5632, .f32⟩
  | .hbm, ⟨26, _⟩ => ⟨S16386x5632, .f32⟩
  | .hbm, ⟨27, _⟩ => ⟨S16384x5632, .f32⟩
  | .hbm, ⟨28, _⟩ => ⟨S1x5632, .f32⟩
  | .hbm, ⟨29, _⟩ => ⟨S5632, .f32⟩
  | .hbm, ⟨30, _⟩ => ⟨S1x5632, .f32⟩
  | .hbm, ⟨31, _⟩ => ⟨S16384x5632, .f32⟩
  | .hbm, ⟨32, _⟩ => ⟨S16384x5632, .f32⟩
  | .hbm, ⟨33, _⟩ => ⟨S1x5632, .f32⟩
  | .hbm, ⟨34, _⟩ => ⟨S16384x5632, .f32⟩
  | .hbm, ⟨35, _⟩ => ⟨S16384x5632, .f32⟩
  | .hbm, ⟨36, _⟩ => ⟨S16384x5632, .f32⟩
  | .hbm, ⟨37, _⟩ => ⟨S1x5632, .f32⟩
  | .hbm, ⟨38, _⟩ => ⟨S5632, .f32⟩
  | .hbm, ⟨39, _⟩ => ⟨S1x5632, .f32⟩
  | .hbm, ⟨40, _⟩ => ⟨S16384x5632, .f32⟩
  | .hbm, ⟨41, _⟩ => ⟨S16384x5632, .f32⟩
  | .hbm, ⟨42, _⟩ => ⟨S16384x5632, .f32⟩
  | .hbm, ⟨43, _⟩ => ⟨S16384x5632, .f32⟩
  | .hbm, ⟨44, _⟩ => ⟨S1x5632, .f32⟩
  | .hbm, ⟨45, _⟩ => ⟨S5632, .f32⟩
  | .hbm, ⟨46, _⟩ => ⟨S1x5632, .f32⟩
  | .hbm, ⟨47, _⟩ => ⟨S16384x5632, .f32⟩
  | .hbm, ⟨48, _⟩ => ⟨S16384x5632, .f32⟩
  | .hbm, ⟨49, _⟩ => ⟨S16384x5632, .f32⟩
  | .hbm, ⟨50, _⟩ => ⟨S16384x5632, .bf16⟩
  | .hbm, ⟨51, _⟩ => ⟨S1x1024, .f32⟩
  | .hbm, ⟨52, _⟩ => ⟨S2816x1024, .bf16⟩
  | .hbm, ⟨53, _⟩ => ⟨S1024x2816, .bf16⟩
  | .hbm, ⟨54, _⟩ => ⟨S1024x5632, .bf16⟩
  | .hbm, ⟨55, _⟩ => ⟨S5632x1024, .bf16⟩
  | .hbm, ⟨56, _⟩ => ⟨S16384x1024, .f32⟩
  | .hbm, ⟨57, _⟩ => ⟨S16384x5632, .bf16⟩
  | .hbm, ⟨58, _⟩ => ⟨S3x5632, .f32⟩
  | .hbm, ⟨59, _⟩ => ⟨S1x5632, .f32⟩
  | .hbm, ⟨60, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x5632, .bf16⟩
  | .local _ .vmem, ⟨3, _⟩ => ⟨S256x5632, .bf16⟩
  | .local _ .vmem, ⟨4, _⟩ => ⟨S256x5632, .f32⟩
  | .local _ .vmem, ⟨5, _⟩ => ⟨S256x5632, .f32⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S1024x2816, .bf16⟩
  | .local _ .vmem, ⟨10, _⟩ => ⟨S5632x1024, .bf16⟩
  | .local _ .vmem, ⟨11, _⟩ => ⟨S3x5632, .f32⟩
  | .local _ .vmem, ⟨12, _⟩ => ⟨S256x1024, .f32⟩
  | .local _ .vmem, ⟨13, _⟩ => ⟨S256x1024, .f32⟩
  | .local _ .vmem, ⟨14, _⟩ => ⟨S256x5632, .bf16⟩
  | .local _ .vmem, ⟨15, _⟩ => ⟨S256x5632, .bf16⟩
  | .local _ .vmem, ⟨16, _⟩ => ⟨S3x5632, .f32⟩
  | .local _ .vmem, ⟨17, _⟩ => ⟨S1x5632, .f32⟩
  | .local _ .vmem, ⟨18, _⟩ => ⟨S1x1024, .f32⟩
  | .local _ .vmem, ⟨19, _⟩ => ⟨S4x264x256, .f32⟩
  | .local _ .vmem, ⟨20, _⟩ => ⟨S8x5632, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45_0 : Ref sig .tc := ⟨.hbm, 56, rfl⟩
abbrev main_v45_1 : Ref sig .tc := ⟨.hbm, 57, rfl⟩
abbrev main_v45_2 : Ref sig .tc := ⟨.hbm, 58, rfl⟩
abbrev main_v45_3 : Ref sig .tc := ⟨.hbm, 59, rfl⟩
abbrev main_v45_4 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem12_0 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x5632 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S5632x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x5632 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x5632 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S3x5632 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x5632 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Kernel9Ideal.lean ====
variable {F : FTy → Type} [FloatOps F] [Named F]
def κ : String → Option EReal := fun
  | "gelu_3a" => some ((26829 / 200000 : ℝ) : EReal)
  | "gelu_a" => some ((8943 / 200000 : ℝ) : EReal)
  | _ => none
-- ==== Reference9Ideal.lean ====
abbrev S16384x1024 : Shape := ⟨2, ![16384, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x5632 : Shape := ⟨2, ![16384, 5632]⟩
abbrev S2x5632 : Shape := ⟨2, ![2, 5632]⟩
abbrev S16386x5632 : Shape := ⟨2, ![16386, 5632]⟩
abbrev S1x5632 : Shape := ⟨2, ![1, 5632]⟩
abbrev S16384x2816 : Shape := ⟨2, ![16384, 2816]⟩

abbrev nBuf : Space → Nat
  | .hbm => 188
  | .vmem => 0
  | .smem => 0
  | _ => 0

abbrev hbmTy0_0 (i : Nat) : BufTy := match i % 128 with
  | 0 => ⟨S16384x1024, .f32⟩
  | 1 => ⟨S16384x1024, .f32⟩
  | 2 => ⟨S1024, .f32⟩
  | 3 => ⟨S1024x5632, .f32⟩
  | 4 => ⟨S3x5632, .f32⟩
  | 5 => ⟨S5632, .f32⟩
  | 6 => ⟨S2816x1024, .f32⟩
  | 7 => ⟨S16384x1024, .f32⟩
  | 8 => ⟨S_, .f32⟩
  | 9 => ⟨S16384, .f32⟩
  | 10 => ⟨S16384x1, .f32⟩
  | 11 => ⟨S_, .f32⟩
  | 12 => ⟨S16384x1, .f32⟩
  | 13 => ⟨S16384x1, .f32⟩
  | 14 => ⟨S_, .f32⟩
  | 15 => ⟨S16384x1, .f32⟩
  | 16 => ⟨S16384x1, .f32⟩
  | 17 => ⟨S16384x1, .f32⟩
  | 18 => ⟨S16384x1, .f32⟩
  | 19 => ⟨S_, .f32⟩
  | 20 => ⟨S16384x1, .f32⟩
  | 21 => ⟨S16384x1, .f32⟩
  | 22 => ⟨S16384x1024, .f32⟩
  | 23 => ⟨S16384x1024, .f32⟩
  | 24 => ⟨S1x1024, .f32⟩
  | 25 => ⟨S16384x1024, .f32⟩
  | 26 => ⟨S16384x1024, .f32⟩
  | 27 => ⟨S16384x5632, .f32⟩
  | 28 => ⟨S_, .f32⟩
  | 29 => ⟨S2x5632, .f32⟩
  | 30 => ⟨S16386x5632, .f32⟩
  | 31 => ⟨S_, .f32⟩
  | 32 => ⟨S2x5632, .f32⟩
  | 33 => ⟨S16384x5632, .f32⟩
  | 34 => ⟨S1x5632, .f32⟩
  | 35 => ⟨S5632, .f32⟩
  | 36 => ⟨S1x5632, .f32⟩
  | 37 => ⟨S16384x5632, .f32⟩
  | 38 => ⟨S16384x5632, .f32⟩
  | 39 => ⟨S1x5632, .f32⟩
  | 40 => ⟨S16384x5632, .f32⟩
  | 41 => ⟨S16384x5632, .f32⟩
  | 42 => ⟨S16384x5632, .f32⟩
  | 43 => ⟨S1x5632, .f32⟩
  | 44 => ⟨S5632, .f32⟩
  | 45 => ⟨S1x5632, .f32⟩
  | 46 => ⟨S16384x5632, .f32⟩
  | 47 => ⟨S16384x5632, .f32⟩
  | 48 => ⟨S16384x5632, .f32⟩
  | 49 => ⟨S16384x5632, .f32⟩
  | 50 => ⟨S1x5632, .f32⟩
  | 51 => ⟨S5632, .f32⟩
  | 52 => ⟨S1x5632, .f32⟩
  | 53 => ⟨S16384x5632, .f32⟩
  | 54 => ⟨S16384x5632, .f32⟩
  | 55 => ⟨S16384x5632, .f32⟩
  | 56 => ⟨S16384x2816, .f32⟩
  | 57 => ⟨S16384x2816, .f32⟩
  | 58 => ⟨S_, .f32⟩
  | 59 => ⟨S_, .f32⟩
  | 60 => ⟨S_, .f32⟩
  | 61 => ⟨S16384x2816, .f32⟩
  | 62 => ⟨S16384x2816, .f32⟩
  | 63 => ⟨S16384x2816, .f32⟩
  | 64 => ⟨S_, .f32⟩
  | 65 => ⟨S16384x2816, .f32⟩
  | 66 => ⟨S16384x2816, .f32⟩
  | 67 => ⟨S16384x2816, .f32⟩
  | 68 => ⟨S16384x2816, .f32⟩
  | 69 => ⟨S16384x2816, .f32⟩
  | 70 => ⟨S_, .f32⟩
  | 71 => ⟨S16384x2816, .f32⟩
  | 72 => ⟨S16384x2816, .f32⟩
  | 73 => ⟨S16384x2816, .f32⟩
  | 74 => ⟨S_, .f32⟩
  | 75 => ⟨S16384x2816, .f32⟩
  | 76 => ⟨S16384x2816, .f32⟩
  | 77 => ⟨S_, .f32⟩
  | 78 => ⟨S16384x2816, .f32⟩
  | 79 => ⟨S16384x2816, .f32⟩
  | 80 => ⟨S16384x2816, .f32⟩
  | 81 => ⟨S_, .f32⟩
  | 82 => ⟨S16384x2816, .f32⟩
  | 83 => ⟨S16384x2816, .f32⟩
  | 84 => ⟨S_, .f32⟩
  | 85 => ⟨S16384x2816, .f32⟩
  | 86 => ⟨S16384x2816, .f32⟩
  | 87 => ⟨S16384x2816, .f32⟩
  | 88 => ⟨S16384x2816, .f32⟩
  | 89 => ⟨S16384x1024, .f32⟩
  | 90 => ⟨S16384x2816, .f32⟩
  | 91 => ⟨S16384x2816, .f32⟩
  | 92 => ⟨S16384x2816, .f32⟩
  | 93 => ⟨S16384x2816, .f32⟩
  | 94 => ⟨S16384x2816, .f32⟩
  | 95 => ⟨S_, .f32⟩
  | 96 => ⟨S16384x2816, .f32⟩
  | 97 => ⟨S16384x2816, .f32⟩
  | 98 => ⟨S16384x2816, .f32⟩
  | 99 => ⟨S_, .f32⟩
  | 100 => ⟨S16384x2816, .f32⟩
  | 101 => ⟨S16384x2816, .f32⟩
  | 102 => ⟨S16384x2816, .f32⟩
  | 103 => ⟨S16384x2816, .f32⟩
  | 104 => ⟨S16384x2816, .f32⟩
  | 105 => ⟨S16384x2816, .f32⟩
  | 106 => ⟨S16384x2816, .f32⟩
  | 107 => ⟨S16384x5632, .f32⟩
  | 108 => ⟨S16384x5632, .f32⟩
  | 109 => ⟨S_, .f32⟩
  | 110 => ⟨S5632, .f32⟩
  | 111 => ⟨S1x5632, .f32⟩
  | 112 => ⟨S16384x5632, .f32⟩
  | 113 => ⟨S16384x5632, .f32⟩
  | 114 => ⟨S_, .f32⟩
  | 115 => ⟨S5632, .f32⟩
  | 116 => ⟨S1x5632, .f32⟩
  | 117 => ⟨S_, .f32⟩
  | 118 => ⟨S3x5632, .f32⟩
  | 119 => ⟨S_, .f32⟩
  | 120 => ⟨S16386x5632, .f32⟩
  | 121 => ⟨S16384x5632, .f32⟩
  | 122 => ⟨S_, .f32⟩
  | 123 => ⟨S5632, .f32⟩
  | 124 => ⟨S1x5632, .f32⟩
  | 125 => ⟨S16384x5632, .f32⟩
  | 126 => ⟨S16384x5632, .f32⟩
  | 127 => ⟨S_, .f32⟩
  | _ => ⟨S16384x1024, .f32⟩

abbrev hbmTy0_1 (i : Nat) : BufTy := match i % 128 with
  | 0 => ⟨S5632, .f32⟩
  | 1 => ⟨S1x5632, .f32⟩
  | 2 => ⟨S_, .f32⟩
  | 3 => ⟨S3x5632, .f32⟩
  | 4 => ⟨S3x5632, .f32⟩
  | 5 => ⟨S_, .f32⟩
  | 6 => ⟨S16386x5632, .f32⟩
  | 7 => ⟨S16386x5632, .f32⟩
  | 8 => ⟨S_, .f32⟩
  | 9 => ⟨S5632, .f32⟩
  | 10 => ⟨S1x5632, .f32⟩
  | 11 => ⟨S_, .f32⟩
  | 12 => ⟨S5632, .f32⟩
  | 13 => ⟨S16384x5632, .f32⟩
  | 14 => ⟨S_, .f32⟩
  | 15 => ⟨S5632, .f32⟩
  | 16 => ⟨S1x5632, .f32⟩
  | 17 => ⟨S16384x5632, .f32⟩
  | 18 => ⟨S16384x5632, .f32⟩
  | 19 => ⟨S_, .f32⟩
  | 20 => ⟨S5632, .f32⟩
  | 21 => ⟨S1x5632, .f32⟩
  | 22 => ⟨S_, .f32⟩
  | 23 => ⟨S3x5632, .f32⟩
  | 24 => ⟨S3x5632, .f32⟩
  | 25 => ⟨S_, .f32⟩
  | 26 => ⟨S16386x5632, .f32⟩
  | 27 => ⟨S16386x5632, .f32⟩
  | 28 => ⟨S2x5632, .f32⟩
  | 29 => ⟨S16384x5632, .f32⟩
  | 30 => ⟨S16384x1024, .f32⟩
  | 31 => ⟨S16384x1024, .f32⟩
  | 32 => ⟨S_, .f32⟩
  | 33 => ⟨S1024, .f32⟩
  | 34 => ⟨S1x1024, .f32⟩
  | 35 => ⟨S16384x1024, .f32⟩
  | 36 => ⟨S16384x1024, .f32⟩
  | 37 => ⟨S_, .f32⟩
  | 38 => ⟨S1024, .f32⟩
  | 39 => ⟨S16384x1024, .f32⟩
  | 40 => ⟨S_, .f32⟩
  | 41 => ⟨S16384, .f32⟩
  | 42 => ⟨S16384x1, .f32⟩
  | 43 => ⟨S16384x1024, .f32⟩
  | 44 => ⟨S16384x1024, .f32⟩
  | 45 => ⟨S16384x1, .f32⟩
  | 46 => ⟨S_, .f32⟩
  | 47 => ⟨S16384x1, .f32⟩
  | 48 => ⟨S16384x1, .f32⟩
  | 49 => ⟨S_, .f32⟩
  | 50 => ⟨S16384, .f32⟩
  | 51 => ⟨S16384x1024, .f32⟩
  | 52 => ⟨S16384x1024, .f32⟩
  | 53 => ⟨S16384x1024, .f32⟩
  | 54 => ⟨S16384x1024, .f32⟩
  | 55 => ⟨S16384x1024, .f32⟩
  | 56 => ⟨S16384x1024, .f32⟩
  | 57 => ⟨S16384x5632, .bf16⟩
  | 58 => ⟨S1x5632, .f32⟩
  | 59 => ⟨S1x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_5 : Ref sig .tc := ⟨.hbm, 58, rfl⟩
abbrev main_cst_6 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_7 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_8 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_9 : Ref sig .tc := ⟨.hbm, 74, rfl⟩
abbrev main_v57 : Ref sig .tc := ⟨.hbm, 75, rfl⟩
abbrev main_v58 : Ref sig .tc := ⟨.hbm, 76, rfl⟩
abbrev main_cst_10 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_cst_11 : Ref sig .tc := ⟨.hbm, 81, rfl⟩
abbrev main_v62 : Ref sig .tc := ⟨.hbm, 82, rfl⟩
abbrev main_v63 : Ref sig .tc := ⟨.hbm, 83, rfl⟩
abbrev main_cst_12 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_cst_13 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_cst_14 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_cst_15 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_cst_16 : Ref sig .tc := ⟨.hbm, 114, rfl⟩
abbrev main_v90 : Ref sig .tc := ⟨.hbm, 115, rfl⟩
abbrev main_v91 : Ref sig .tc := ⟨.hbm, 116, rfl⟩
abbrev main_cst_17 : Ref sig .tc := ⟨.hbm, 117, rfl⟩
abbrev main_v92 : Ref sig .tc := ⟨.hbm, 118, rfl⟩
abbrev main_cst_18 : Ref sig .tc := ⟨.hbm, 119, rfl⟩
abbrev main_v93 : Ref sig .tc := ⟨.hbm, 120, rfl⟩
abbrev main_v94 : Ref sig .tc := ⟨.hbm, 121, rfl⟩
abbrev main_cst_19 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_cst_20 : Ref sig .tc := ⟨.hbm, 127, rfl⟩
abbrev main_v99 : Ref sig .tc := ⟨.hbm, 128, rfl⟩
abbrev main_v100 : Ref sig .tc := ⟨.hbm, 129, rfl⟩
abbrev main_cst_21 : Ref sig .tc := ⟨.hbm, 130, rfl⟩
abbrev main_v101 : Ref sig .tc := ⟨.hbm, 131, rfl⟩
abbrev main_v102 : Ref sig .tc := ⟨.hbm, 132, rfl⟩
abbrev main_cst_22 : Ref sig .tc := ⟨.hbm, 133, rfl⟩
abbrev main_v103 : Ref sig .tc := ⟨.hbm, 134, rfl⟩
abbrev main_v104 : Ref sig .tc := ⟨.hbm, 135, rfl⟩
abbrev main_cst_23 : Ref sig .tc := ⟨.hbm, 136, rfl⟩
abbrev main_v105 : Ref sig .tc := ⟨.hbm, 137, rfl⟩
abbrev main_v106 : Ref sig .tc := ⟨.hbm, 138, rfl⟩
abbrev main_cst_24 : Ref sig .tc := ⟨.hbm, 139, rfl⟩
abbrev main_v107 : Ref sig .tc := ⟨.hbm, 140, rfl⟩
abbrev main_v108 : Ref sig .tc := ⟨.hbm, 141, rfl⟩
abbrev main_cst_25 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_cst_26 : Ref sig .tc := ⟨.hbm, 147, rfl⟩
abbrev main_v113 : Ref sig .tc := ⟨.hbm, 148, rfl⟩
abbrev main_v114 : Ref sig .tc := ⟨.hbm, 149, rfl⟩
abbrev main_cst_27 : Ref sig .tc := ⟨.hbm, 150, rfl⟩
abbrev main_v115 : Ref sig .tc := ⟨.hbm, 151, rfl⟩
abbrev main_v116 : Ref sig .tc := ⟨.hbm, 152, rfl⟩
abbrev main_cst_28 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_cst_29 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_cst_30 : Ref sig .tc := ⟨.hbm, 165, rfl⟩
abbrev main_v127 : Ref sig .tc := ⟨.hbm, 166, rfl⟩
abbrev main_v128 : Ref sig .tc := ⟨.hbm, 167, rfl⟩
abbrev main_cst_31 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_cst_32 : Ref sig .tc := ⟨.hbm, 174, rfl⟩
abbrev main_v134 : Ref sig .tc := ⟨.hbm, 175, rfl⟩
abbrev main_v135 : Ref sig .tc := ⟨.hbm, 176, rfl⟩
abbrev main_cst_33 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩

abbrev nD : Nat := 1
abbrev τ : Topo := Topo.v7x

variable {F : FTy → Type} [FloatOps F]
-- ==== Kernel10.lean ====
abbrev S16384x1024 : Shape := ⟨2, ![16384, 1024]⟩
abbrev S16384x512 : Shape := ⟨2, ![16384, 512]⟩
abbrev S16384x2176 : Shape := ⟨2, ![16384, 2176]⟩
abbrev S4x128x128 : Shape := ⟨3, ![4, 128, 128]⟩
abbrev S512 : Shape := ⟨1, ![512]⟩
abbrev S1024x1024 : Shape := ⟨2, ![1024, 1024]⟩
abbrev S1024 : Shape := ⟨1, ![1024]⟩
abbrev S1x512 : Shape := ⟨2, ![1, 512]⟩
abbrev S1x1024 : Shape := ⟨2, ![1, 1024]⟩
abbrev S512x1024 : Shape := ⟨2, ![512, 1024]⟩
abbrev S512x512 : Shape := ⟨2, ![512, 512]⟩
abbrev S16x512 : Shape := ⟨2, ![16, 512]⟩
abbrev S528x512 : Shape := ⟨2, ![528, 512]⟩
abbrev S512x1 : Shape := ⟨2, ![512, 1]⟩
abbrev S512x128 : Shape := ⟨2, ![512, 128]⟩
abbrev S1x128x128 : Shape := ⟨3, ![1, 128, 128]⟩
abbrev S128x128 : Shape := ⟨2, ![128, 128]⟩
abbrev S1x128 : Shape := ⟨2, ![1, 128]⟩

abbrev nBuf : Space → Nat
  | .hbm => 14
  | .vmem => 19
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x2176, .f32⟩
  | .hbm, ⟨3, _⟩ => ⟨S4x128x128, .f32⟩
  | .hbm, ⟨4, _⟩ => ⟨S512, .f32⟩
  | .hbm, ⟨5, _⟩ => ⟨S1024x1024, .f32⟩
  | .hbm, ⟨6, _⟩ => ⟨S1024, .f32⟩
  | .hbm, ⟨7, _⟩ => ⟨S4x128x128, .bf16⟩
  | .hbm, ⟨8, _⟩ => ⟨S1x512, .f32⟩
  | .hbm, ⟨9, _⟩ => ⟨S1024x1024, .bf16⟩
  | .hbm, ⟨10, _⟩ => ⟨S1x1024, .f32⟩
  | .hbm, ⟨11, _⟩ => ⟨S16384x1024, .f32⟩
  | .hbm, ⟨12, _⟩ => ⟨S16384x1024, .bf16⟩
  | .hbm, ⟨13, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S16x512, .f32⟩
  | .local _ .vmem, ⟨7, _⟩ => ⟨S16x512, .f32⟩
  | .local _ .vmem, ⟨8, _⟩ => ⟨S4x128x128, .bf16⟩
  | .local _ .vmem, ⟨9, _⟩ => ⟨S1x512, .f32⟩
  | .local _ .vmem, ⟨10, _⟩ => ⟨S1024x1024, .bf16⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S528x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c3_i32 : BitVec 32 := 3#32
  let c0_i32_0 : BitVec 32 := 0#32
  ![v2.toNat, c3_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference10Ideal.lean ====
abbrev S16384x1024 : Shape := ⟨2, ![16384, 1024]⟩
abbrev S16384x512 : Shape := ⟨2, ![16384, 512]⟩
abbrev S16384x2176 : Shape := ⟨2, ![16384, 2176]⟩
abbrev S4x128x128 : Shape := ⟨3, ![4, 128, 128]⟩
abbrev S512 : Shape := ⟨1, ![512]⟩
abbrev S1024x1024 : Shape := ⟨2, ![1024, 1024]⟩
abbrev S1024 : Shape := ⟨1, ![1024]⟩
abbrev S1x16384x512 : Shape := ⟨3, ![1, 16384, 512]⟩
abbrev S1x16384x4x128 : Shape := ⟨4, ![1, 16384, 4, 128]⟩
abbrev S_ : Shape := ⟨0, ![]⟩
abbrev S16384 : Shape := ⟨1, ![16384]⟩
abbrev S1x16384x1x128 : Shape := ⟨4, ![1, 16384, 1, 128]⟩
abbrev S1x16384x128 : Shape := ⟨3, ![1, 16384, 128]⟩
abbrev S1x16386x128 : Shape := ⟨3, ![1, 16386, 128]⟩
abbrev S16384x1 : Shape := ⟨2, ![16384, 1]⟩
abbrev S1x16384x1 : Shape := ⟨3, ![1, 16384, 1]⟩
abbrev S1x16388x128 : Shape := ⟨3, ![1, 16388, 128]⟩
abbrev S1x16392x128 : Shape := ⟨3, ![1, 16392, 128]⟩
abbrev S1x16400x128 : Shape := ⟨3, ![1, 16400, 128]⟩
abbrev S4x128x1x16384 : Shape := ⟨4, ![4, 128, 1, 16384]⟩
abbrev S1x1x512 : Shape := ⟨3, ![1, 1, 512]⟩
abbrev S1x1024 : Shape := ⟨2, ![1, 1024]⟩

abbrev nBuf : Space → Nat
  | .hbm => 118
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x2176, .f32⟩
  | .hbm, ⟨3, _⟩ => ⟨S4x128x128, .f32⟩
  | .hbm, ⟨4, _⟩ => ⟨S512, .f32⟩
  | .hbm, ⟨5, _⟩ => ⟨S1024x1024, .f32⟩
  | .hbm, ⟨6, _⟩ => ⟨S1024, .f32⟩
  | .hbm, ⟨7, _⟩ => ⟨S16384x512, .f32⟩
  | .hbm, ⟨8, _⟩ => ⟨S1x16384x512, .f32⟩
  | .hbm, ⟨9, _⟩ => ⟨S1x16384x4x128, .f32⟩
  | .hbm, ⟨10, _⟩ => ⟨S_, .f32⟩
  | .hbm, ⟨11, _⟩ => ⟨S_, .f32⟩
  | .hbm, ⟨12, _⟩ => ⟨S1x16384x4x128, .f32⟩
  | .hbm, ⟨13, _⟩ => ⟨S16384, .f32⟩
  | .hbm, ⟨14, _⟩ => ⟨S_, .f32⟩
  | .hbm, ⟨15, _⟩ => ⟨S16384, .f32⟩
  | .hbm, ⟨16, _⟩ => ⟨S16384, .f32⟩
  | .hbm, ⟨17, _⟩ => ⟨S1x16384x1x128, .f32⟩
  | .hbm, ⟨18, _⟩ => ⟨S1x16384x128, .f32⟩
  | .hbm, ⟨19, _⟩ => ⟨S_, .i32⟩
  | .hbm, ⟨20, _⟩ => ⟨S_, .f32⟩
  | .hbm, ⟨21, _⟩ => ⟨S1x16386x128, .f32⟩
  | .hbm, ⟨22, _⟩ => ⟨S1x16384x128, .f32⟩
  | .hbm, ⟨23, _⟩ => ⟨S1x16384x128, .f32⟩
  | .hbm, ⟨24, _⟩ => ⟨S_, .f32⟩
  | .hbm, ⟨25, _⟩ => ⟨S16384, .f32⟩
  | .hbm, ⟨26, _⟩ => ⟨S16384, .f32⟩
  | .hbm, ⟨27, _⟩ => ⟨S16384x1, .f32⟩
  | .hbm, ⟨28, _⟩ => ⟨S1x16384x1, .f32⟩
  | .hbm, ⟨29, _⟩ => ⟨S1x16384x128, .f32⟩
  | .hbm, ⟨30, _⟩ => ⟨S1x16384x128, .f32⟩
  | .hbm, ⟨31, _⟩ => ⟨S1x16384x1x128, .f32⟩
  | .hbm, ⟨32, _⟩ => ⟨S1x16384x128, .f32⟩
  | .hbm, ⟨33, _⟩ => ⟨S1x16384x128, .f32⟩
  | .hbm, ⟨34, _⟩ => ⟨S1x16384x1x128, .f32⟩
  | .hbm, ⟨35, _⟩ => ⟨S1x16384x128, .f32⟩
  | .hbm, ⟨36, _⟩ => ⟨S_, .i32⟩
  | .hbm, ⟨37, _⟩ => ⟨S_, .f32⟩
  | .hbm, ⟨38, _⟩ => ⟨S1x16388x128, .f32⟩
  | .hbm, ⟨39, _⟩ => ⟨S1x16384x128, .f32⟩
  | .hbm, ⟨40, _⟩ => ⟨S1x16384x128, .f32⟩
  | .hbm, ⟨41, _⟩ => ⟨S_, .f32⟩
  | .hbm, ⟨42, _⟩ => ⟨S16384, .f32⟩
  | .hbm, ⟨43, _⟩ => ⟨S16384, .f32⟩
  | .hbm, ⟨44, _⟩ => ⟨S16384x1, .f32⟩
  | .hbm, ⟨45, _⟩ => ⟨S1x16384x1, .f32⟩
  | .hbm, ⟨46, _⟩ => ⟨S1x16384x128, .f32⟩
  | .hbm, ⟨47, _⟩ => ⟨S1x16384x128, .f32⟩
  | .hbm, ⟨48, _⟩ => ⟨S1x16384x1x128, .f32⟩
  | .hbm, ⟨49, _⟩ => ⟨S1x16384x128, .f32⟩
  | .hbm, ⟨50, _⟩ => ⟨S1x16384x128, .f32⟩
  | .hbm, ⟨51, _⟩ => ⟨S1x16384x1x128, .f32⟩
  | .hbm, ⟨52, _⟩ => ⟨S1x16384x128, .f32⟩
  | .hbm, ⟨53, _⟩ => ⟨S_, .i32⟩
  | .hbm, ⟨54, _⟩ => ⟨S_, .f32⟩
  | .hbm, ⟨55, _⟩ => ⟨S1x16392x128, .f32⟩
  | .hbm, ⟨56, _⟩ => ⟨S1x16384x128, .f32⟩
  | .hbm, ⟨57, _⟩ => ⟨S1x16384x128, .f32⟩
  | .hbm, ⟨58, _⟩ => ⟨S_, .f32⟩
  | .hbm, ⟨59, _⟩ => ⟨S16384, .f32⟩
  | .hbm, ⟨60, _⟩ => ⟨S16384, .f32⟩
  | .hbm, ⟨61, _⟩ => ⟨S16384x1, .f32⟩
  | .hbm, ⟨62, _⟩ => ⟨S1x16384x1, .f32⟩
  | .hbm, ⟨63, _⟩ => ⟨S1x16384x128, .f32⟩
  | .hbm, ⟨64, _⟩ => ⟨S1x16384x128, .f32⟩
  | .hbm, ⟨65, _⟩ => ⟨S1x16384x1x128, .f32⟩
  | .hbm, ⟨66, _⟩ => ⟨S1x16384x128, .f32⟩
  | .hbm, ⟨67, _⟩ => ⟨S1x16384x128, .f32⟩
  | .hbm, ⟨68, _⟩ => ⟨S1x16384x1x128, .f32⟩
  | .hbm, ⟨69, _⟩ => ⟨S1x16384x128, .f32⟩
  | .hbm, ⟨70, _⟩ => ⟨S_, .i32⟩
  | .hbm, ⟨71, _⟩ => ⟨S_, .f32⟩
  | .hbm, ⟨72, _⟩ => ⟨S1x16400x128, .f32⟩
  | .hbm, ⟨73, _⟩ => ⟨S1x16384x128, .f32⟩
  | .hbm, ⟨74, _⟩ => ⟨S1x16384x128, .f32⟩
  | .hbm, ⟨75, _⟩ => ⟨S_, .f32⟩
  | .hbm, ⟨76, _⟩ => ⟨S16384, .f32⟩
  | .hbm, ⟨77, _⟩ => ⟨S16384, .f32⟩
  | .hbm, ⟨78, _⟩ => ⟨S16384x1, .f32⟩
  | .hbm, ⟨79, _⟩ => ⟨S1x16384x1, .f32⟩
  | .hbm, ⟨80, _⟩ => ⟨S1x16384x128, .f32⟩
  | .hbm, ⟨81, _⟩ => ⟨S1x16384x128, .f32⟩
  | .hbm, ⟨82, _⟩ => ⟨S1x16384x1x128, .f32⟩
  | .hbm, ⟨83, _⟩ => ⟨S1x16384x128, .f32⟩
  | .hbm, ⟨84, _⟩ => ⟨S1x16384x128, .f32⟩
  | .hbm, ⟨85, _⟩ => ⟨S1x16384x1x128, .f32⟩
  | .hbm, ⟨86, _⟩ => ⟨S1x16384x1x128, .f32⟩
  | .hbm, ⟨87, _⟩ => ⟨S1x16384x1x128, .f32⟩
  | .hbm, ⟨88, _⟩ => ⟨S1x16384x1x128, .f32⟩
  | .hbm, ⟨89, _⟩ => ⟨S1x16384x4x128, .f32⟩
  | .hbm, ⟨90, _⟩ => ⟨S4x128x1x16384, .f32⟩
  | .hbm, ⟨91, _⟩ => ⟨S1x16384x4x128, .f32⟩
  | .hbm, ⟨92, _⟩ => ⟨S1x16384x512, .f32⟩
  | .hbm, ⟨93, _⟩ => ⟨S1x1x512, .f32⟩
  | .hbm, ⟨94, _⟩ => ⟨S1x16384x512, .f32⟩
  | .hbm, ⟨95, _⟩ => ⟨S1x16384x512, .f32⟩
  | .hbm, ⟨96, _⟩ => ⟨S16384x512, .f32⟩
  | .hbm, ⟨97, _⟩ => ⟨S16384x1024, .f32⟩
  | .hbm, ⟨98, _⟩ => ⟨S16384x1024, .f32⟩
  | .hbm, ⟨99, _⟩ => ⟨S16384x1024, .f32⟩
  | .hbm, ⟨100, _⟩ => ⟨S16384x1024, .bf16⟩
  | .hbm, ⟨101, _⟩ => ⟨S16384x1024, .f32⟩
  | .hbm, ⟨102, _⟩ => ⟨S_, .f32⟩
  | .hbm, ⟨103, _⟩ => ⟨S16384, .f32⟩
  | .hbm, ⟨104, _⟩ => ⟨S16384x1, .f32⟩
  | .hbm, ⟨105, _⟩ => ⟨S_, .f32⟩
  | .hbm, ⟨106, _⟩ => ⟨S16384x1, .f32⟩
  | .hbm, ⟨107, _⟩ => ⟨S16384x1, .f32⟩
  | .hbm, ⟨108, _⟩ => ⟨S_, .f32⟩
  | .hbm, ⟨109, _⟩ => ⟨S16384x1, .f32⟩
  | .hbm, ⟨110, _⟩ => ⟨S16384x1, .f32⟩
  | .hbm, ⟨111, _⟩ => ⟨S16384x1, .f32⟩
  | .hbm, ⟨112, _⟩ => ⟨S16384x1024, .f32⟩
  | .hbm, ⟨113, _⟩ => ⟨S16384x1024, .f32⟩
  | .hbm, ⟨114, _⟩ => ⟨S1x1024, .f32⟩
  | .hbm, ⟨115, _⟩ => ⟨S16384x1024, .f32⟩
  | .hbm, ⟨116, _⟩ => ⟨S16384x1024, .f32⟩
  | .hbm, ⟨117, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_call0_call0_cst : Ref sig .tc := ⟨.hbm, 10, rfl⟩
abbrev main_call0_call0_v0 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c : Ref sig .tc := ⟨.hbm, 19, rfl⟩
abbrev main_call1_v0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_1 : Ref sig .tc := ⟨.hbm, 36, rfl⟩
abbrev main_call2_v0 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_2 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_c_3 : Ref sig .tc := ⟨.hbm, 53, rfl⟩
abbrev main_call3_v0 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_4 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_c_5 : Ref sig .tc := ⟨.hbm, 70, rfl⟩
abbrev main_call4_v0 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_6 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_cst_7 : Ref sig .tc := ⟨.hbm, 102, rfl⟩
abbrev main_v80 : Ref sig .tc := ⟨.hbm, 103, rfl⟩
abbrev main_v81 : Ref sig .tc := ⟨.hbm, 104, rfl⟩
abbrev main_cst_8 : Ref sig .tc := ⟨.hbm, 105, rfl⟩
abbrev main_v82 : Ref sig .tc := ⟨.hbm, 106, rfl⟩
abbrev main_v83 : Ref sig .tc := ⟨.hbm, 107, rfl⟩
abbrev main_cst_9 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩

abbrev nD : Nat := 1
abbrev τ : Topo := Topo.v7x

variable {F : FTy → Type} [FloatOps F]
-- ==== Kernel11.lean ====
abbrev S16384x1024 : Shape := ⟨2, ![16384, 1024]⟩
abbrev S16384x2176 : Shape := ⟨2, ![16384, 2176]⟩
abbrev S4x128x128 : Shape := ⟨3, ![4, 128, 128]⟩
abbrev S512 : Shape := ⟨1, ![512]⟩
abbrev S1x512 : Shape := ⟨2, ![1, 512]⟩
abbrev S16384x512 : Shape := ⟨2, ![16384, 512]⟩
abbrev S512x512 : Shape := ⟨2, ![512, 512]⟩
abbrev S16x512 : Shape := ⟨2, ![16, 512]⟩
abbrev S528x512 : Shape := ⟨2, ![528, 512]⟩
abbrev S512x1 : Shape := ⟨2, ![512, 1]⟩
abbrev S512x128 : Shape := ⟨2, ![512, 128]⟩
abbrev S1x128x128 : Shape := ⟨3, ![1, 128, 128]⟩
abbrev S128x128 : Shape := ⟨2, ![128, 128]⟩
abbrev S128 : Shape := ⟨1, ![128]⟩
abbrev S1x128 : Shape := ⟨2, ![1, 128]⟩
abbrev S16x128 : Shape := ⟨2, ![16, 128]⟩

abbrev nBuf : Space → Nat
  | .hbm => 10
  | .vmem => 17
  | .smem => 0
  | _ => 0

abbrev bufTy : (tb : Table) → Fin (tcTables nBuf tb) → BufTy
  | .hbm, ⟨0, _⟩ => ⟨S16384x1024, .f32⟩
  | .hbm, ⟨1, _⟩ => ⟨S16384x2176, .f32⟩
  | .hbm, ⟨2, _⟩ => ⟨S4x128x128, .f32⟩
  | .hbm, ⟨3, _⟩ => ⟨S512, .f32⟩
  | .hbm, ⟨4, _⟩ => ⟨S4x128x128, .bf16⟩
  | .hbm, ⟨5, _⟩ => ⟨S4x128x128, .bf16⟩
  | .hbm, ⟨6, _⟩ => ⟨S1x512, .f32⟩
  | .hbm, ⟨7, _⟩ => ⟨S16384x512, .f32⟩
  | .hbm, ⟨8, _⟩ => ⟨S4x128x128, .f32⟩
  | .hbm, ⟨9, _⟩ => ⟨S1x512, .f32⟩
  | .local _ .vmem, ⟨0, _⟩ => ⟨S512x512, .f32⟩
  | .local _ .vmem, ⟨1, _⟩ => ⟨S512x512, .f32⟩
  | .local _ .vmem, ⟨2, _⟩ => ⟨S16x512, .f32⟩
  | .local _ .vmem, ⟨3, _⟩ => ⟨S16x512, .f32⟩
  | .local _ .vmem, ⟨4, _⟩ => ⟨S512x512, .f32⟩
  | .local _ .vmem, ⟨5, _⟩ => ⟨S512x512, .f32⟩
  | .local _ .vmem, ⟨6, _⟩ => ⟨S16x512, .f32⟩
  | .local _ .vmem, ⟨7, _⟩ => ⟨S16x512, .f32⟩
  | .local _ .vmem, ⟨8, _⟩ => ⟨S4x128x128, .bf16⟩
  | .local _ .vmem, ⟨9, _⟩ => ⟨S4x128x128, .bf16⟩
  | .local _ .vmem, ⟨10, _⟩ => ⟨S1x512, .f32⟩
  | .local _ .vmem, ⟨11, _⟩ => ⟨S512x512, .f32⟩
  | .local _ .vmem, ⟨12, _⟩ => ⟨S512x512, .f32⟩
  | .local _ .vmem, ⟨13, _⟩ => ⟨S4x128x128, .f32⟩
  | .local _ .vmem, ⟨14, _⟩ => ⟨S1x512, .f32⟩
  | .local _ .vmem, ⟨15, _⟩ => ⟨S528x512, .f32⟩
  | .local _ .vmem, ⟨16, _⟩ => ⟨S528x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c1_i32_0 : BitVec 32 := 1#32
  let c0_i32 : BitVec 32 := 0#32
  ![v2.toNat, c1_i32_0.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c3_i32 : BitVec 32 := 3#32
  let c0_i32_0 : BitVec 32 := 0#32
  ![v2.toNat, c3_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S4x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference11Ideal.lean ====
abbrev S16384x1024 : Shape := ⟨2, ![16384, 1024]⟩
abbrev S16384x2176 : Shape := ⟨2, ![16384, 2176]⟩
abbrev S4x128x128 : Shape := ⟨3, ![4, 128, 128]⟩
abbrev S512 : Shape := ⟨1, ![512]⟩
abbrev S16384x512 : Shape := ⟨2, ![16384, 512]⟩
abbrev S1x16384x512 : Shape := ⟨3, ![1, 16384, 512]⟩
abbrev S1x16384x4x128 : Shape := ⟨4, ![1, 16384, 4, 128]⟩
abbrev S_ : Shape := ⟨0, ![]⟩
abbrev S16384 : Shape := ⟨1, ![16384]⟩
abbrev S1x16384x1x128 : Shape := ⟨4, ![1, 16384, 1, 128]⟩
abbrev S1x16384x128 : Shape := ⟨3, ![1, 16384, 128]⟩
abbrev S1x2x128 : Shape := ⟨3, ![1, 2, 128]⟩
abbrev S1x16382x128 : Shape := ⟨3, ![1, 16382, 128]⟩
abbrev S16384x1 : Shape := ⟨2, ![16384, 1]⟩
abbrev S1x16384x1 : Shape := ⟨3, ![1, 16384, 1]⟩
abbrev S1x4x128 : Shape := ⟨3, ![1, 4, 128]⟩
abbrev S1x16380x128 : Shape := ⟨3, ![1, 16380, 128]⟩
abbrev S1x8x128 : Shape := ⟨3, ![1, 8, 128]⟩
abbrev S1x16376x128 : Shape := ⟨3, ![1, 16376, 128]⟩
abbrev S1x16x128 : Shape := ⟨3, ![1, 16, 128]⟩
abbrev S1x16368x128 : Shape := ⟨3, ![1, 16368, 128]⟩
abbrev S4x128x1x16384 : Shape := ⟨4, ![4, 128, 1, 16384]⟩
abbrev S1x1x512 : Shape := ⟨3, ![1, 1, 512]⟩
abbrev S1x512 : Shape := ⟨2, ![1, 512]⟩
abbrev S4x1x16384x128 : Shape := ⟨4, ![4, 1, 16384, 128]⟩

abbrev nBuf : Space → Nat
  | .hbm => 198
  | .vmem => 0
  | .smem => 0
  | _ => 0

abbrev hbmTy0_0 (i : Nat) : BufTy := match i % 128 with
  | 0 => ⟨S16384x1024, .f32⟩
  | 1 => ⟨S16384x2176, .f32⟩
  | 2 => ⟨S4x128x128, .f32⟩
  | 3 => ⟨S512, .f32⟩
  | 4 => ⟨S16384x512, .f32⟩
  | 5 => ⟨S1x16384x512, .f32⟩
  | 6 => ⟨S1x16384x4x128, .f32⟩
  | 7 => ⟨S_, .f32⟩
  | 8 => ⟨S_, .f32⟩
  | 9 => ⟨S1x16384x4x128, .f32⟩
  | 10 => ⟨S16384, .f32⟩
  | 11 => ⟨S_, .f32⟩
  | 12 => ⟨S16384, .f32⟩
  | 13 => ⟨S16384, .f32⟩
  | 14 => ⟨S1x16384x1x128, .f32⟩
  | 15 => ⟨S1x16384x128, .f32⟩
  | 16 => ⟨S_, .f32⟩
  | 17 => ⟨S1x2x128, .f32⟩
  | 18 => ⟨S1x16382x128, .f32⟩
  | 19 => ⟨S1x16384x128, .f32⟩
  | 20 => ⟨S_, .f32⟩
  | 21 => ⟨S1x2x128, .f32⟩
  | 22 => ⟨S1x16384x128, .f32⟩
  | 23 => ⟨S_, .f32⟩
  | 24 => ⟨S16384, .f32⟩
  | 25 => ⟨S16384, .f32⟩
  | 26 => ⟨S16384x1, .f32⟩
  | 27 => ⟨S1x16384x1, .f32⟩
  | 28 => ⟨S1x16384x128, .f32⟩
  | 29 => ⟨S1x16384x128, .f32⟩
  | 30 => ⟨S1x16384x1x128, .f32⟩
  | 31 => ⟨S1x16384x128, .f32⟩
  | 32 => ⟨S1x16384x128, .f32⟩
  | 33 => ⟨S1x16384x1x128, .f32⟩
  | 34 => ⟨S1x16384x128, .f32⟩
  | 35 => ⟨S_, .f32⟩
  | 36 => ⟨S1x4x128, .f32⟩
  | 37 => ⟨S1x16380x128, .f32⟩
  | 38 => ⟨S1x16384x128, .f32⟩
  | 39 => ⟨S_, .f32⟩
  | 40 => ⟨S1x4x128, .f32⟩
  | 41 => ⟨S1x16384x128, .f32⟩
  | 42 => ⟨S_, .f32⟩
  | 43 => ⟨S16384, .f32⟩
  | 44 => ⟨S16384, .f32⟩
  | 45 => ⟨S16384x1, .f32⟩
  | 46 => ⟨S1x16384x1, .f32⟩
  | 47 => ⟨S1x16384x128, .f32⟩
  | 48 => ⟨S1x16384x128, .f32⟩
  | 49 => ⟨S1x16384x1x128, .f32⟩
  | 50 => ⟨S1x16384x128, .f32⟩
  | 51 => ⟨S1x16384x128, .f32⟩
  | 52 => ⟨S1x16384x1x128, .f32⟩
  | 53 => ⟨S1x16384x128, .f32⟩
  | 54 => ⟨S_, .f32⟩
  | 55 => ⟨S1x8x128, .f32⟩
  | 56 => ⟨S1x16376x128, .f32⟩
  | 57 => ⟨S1x16384x128, .f32⟩
  | 58 => ⟨S_, .f32⟩
  | 59 => ⟨S1x8x128, .f32⟩
  | 60 => ⟨S1x16384x128, .f32⟩
  | 61 => ⟨S_, .f32⟩
  | 62 => ⟨S16384, .f32⟩
  | 63 => ⟨S16384, .f32⟩
  | 64 => ⟨S16384x1, .f32⟩
  | 65 => ⟨S1x16384x1, .f32⟩
  | 66 => ⟨S1x16384x128, .f32⟩
  | 67 => ⟨S1x16384x128, .f32⟩
  | 68 => ⟨S1x16384x1x128, .f32⟩
  | 69 => ⟨S1x16384x128, .f32⟩
  | 70 => ⟨S1x16384x128, .f32⟩
  | 71 => ⟨S1x16384x1x128, .f32⟩
  | 72 => ⟨S1x16384x128, .f32⟩
  | 73 => ⟨S_, .f32⟩
  | 74 => ⟨S1x16x128, .f32⟩
  | 75 => ⟨S1x16368x128, .f32⟩
  | 76 => ⟨S1x16384x128, .f32⟩
  | 77 => ⟨S_, .f32⟩
  | 78 => ⟨S1x16x128, .f32⟩
  | 79 => ⟨S1x16384x128, .f32⟩
  | 80 => ⟨S_, .f32⟩
  | 81 => ⟨S16384, .f32⟩
  | 82 => ⟨S16384, .f32⟩
  | 83 => ⟨S16384x1, .f32⟩
  | 84 => ⟨S1x16384x1, .f32⟩
  | 85 => ⟨S1x16384x128, .f32⟩
  | 86 => ⟨S1x16384x128, .f32⟩
  | 87 => ⟨S1x16384x1x128, .f32⟩
  | 88 => ⟨S1x16384x128, .f32⟩
  | 89 => ⟨S1x16384x128, .f32⟩
  | 90 => ⟨S1x16384x1x128, .f32⟩
  | 91 => ⟨S1x16384x1x128, .f32⟩
  | 92 => ⟨S1x16384x1x128, .f32⟩
  | 93 => ⟨S1x16384x1x128, .f32⟩
  | 94 => ⟨S1x16384x4x128, .f32⟩
  | 95 => ⟨S4x128x1x16384, .f32⟩
  | 96 => ⟨S1x16384x4x128, .f32⟩
  | 97 => ⟨S1x16384x512, .f32⟩
  | 98 => ⟨S1x1x512, .f32⟩
  | 99 => ⟨S1x16384x512, .f32⟩
  | 100 => ⟨S1x16384x512, .f32⟩
  | 101 => ⟨S16384x512, .f32⟩
  | 102 => ⟨S1x16384x512, .f32⟩
  | 103 => ⟨S1x16384x512, .f32⟩
  | 104 => ⟨S_, .f32⟩
  | 105 => ⟨S1x512, .f32⟩
  | 106 => ⟨S1x1x512, .f32⟩
  | 107 => ⟨S1x16384x512, .f32⟩
  | 108 => ⟨S1x16384x512, .f32⟩
  | 109 => ⟨S_, .f32⟩
  | 110 => ⟨S512, .f32⟩
  | 111 => ⟨S1x16384x4x128, .f32⟩
  | 112 => ⟨S4x128x1x16384, .f32⟩
  | 113 => ⟨S4x1x16384x128, .f32⟩
  | 114 => ⟨S1x16384x4x128, .f32⟩
  | 115 => ⟨S4x128x128, .f32⟩
  | 116 => ⟨S4x128x128, .f32⟩
  | 117 => ⟨S1x16384x1x128, .f32⟩
  | 118 => ⟨S1x16384x128, .f32⟩
  | 119 => ⟨S1x16384x1x128, .f32⟩
  | 120 => ⟨S1x16384x128, .f32⟩
  | 121 => ⟨S1x16384x1x128, .f32⟩
  | 122 => ⟨S1x16384x128, .f32⟩
  | 123 => ⟨S1x16384x1x128, .f32⟩
  | 124 => ⟨S1x16384x128, .f32⟩
  | 125 => ⟨S1x16384x128, .f32⟩
  | 126 => ⟨S1x16384x1x128, .f32⟩
  | 127 => ⟨S_, .f32⟩
  | _ => ⟨S16384x1024, .f32⟩

abbrev hbmTy0_1 (i : Nat) : BufTy := match i % 128 with
  | 0 => ⟨S1x16384x4x128, .f32⟩
  | 1 => ⟨S1x16384x128, .f32⟩
  | 2 => ⟨S1x16384x128, .f32⟩
  | 3 => ⟨S1x16384x128, .f32⟩
  | 4 => ⟨S1x16x128, .f32⟩
  | 5 => ⟨S1x16368x128, .f32⟩
  | 6 => ⟨S_, .f32⟩
  | 7 => ⟨S1x16384x128, .f32⟩
  | 8 => ⟨S1x16384x128, .f32⟩
  | 9 => ⟨S1x16384x1x128, .f32⟩
  | 10 => ⟨S_, .f32⟩
  | 11 => ⟨S1x16384x4x128, .f32⟩
  | 12 => ⟨S1x16384x128, .f32⟩
  | 13 => ⟨S1x16384x1x128, .f32⟩
  | 14 => ⟨S_, .f32⟩
  | 15 => ⟨S1x16384x4x128, .f32⟩
  | 16 => ⟨S1x16384x4x128, .f32⟩
  | 17 => ⟨S1x16384x128, .f32⟩
  | 18 => ⟨S1x16384x128, .f32⟩
  | 19 => ⟨S1x16384x128, .f32⟩
  | 20 => ⟨S1x8x128, .f32⟩
  | 21 => ⟨S1x16376x128, .f32⟩
  | 22 => ⟨S_, .f32⟩
  | 23 => ⟨S1x16384x128, .f32⟩
  | 24 => ⟨S1x16384x128, .f32⟩
  | 25 => ⟨S1x16384x1x128, .f32⟩
  | 26 => ⟨S_, .f32⟩
  | 27 => ⟨S1x16384x4x128, .f32⟩
  | 28 => ⟨S1x16384x4x128, .f32⟩
  | 29 => ⟨S1x16384x128, .f32⟩
  | 30 => ⟨S1x16384x1x128, .f32⟩
  | 31 => ⟨S_, .f32⟩
  | 32 => ⟨S1x16384x4x128, .f32⟩
  | 33 => ⟨S1x16384x4x128, .f32⟩
  | 34 => ⟨S1x16384x128, .f32⟩
  | 35 => ⟨S1x16384x128, .f32⟩
  | 36 => ⟨S1x16384x128, .f32⟩
  | 37 => ⟨S1x4x128, .f32⟩
  | 38 => ⟨S1x16380x128, .f32⟩
  | 39 => ⟨S_, .f32⟩
  | 40 => ⟨S1x16384x128, .f32⟩
  | 41 => ⟨S1x16384x128, .f32⟩
  | 42 => ⟨S1x16384x1x128, .f32⟩
  | 43 => ⟨S_, .f32⟩
  | 44 => ⟨S1x16384x4x128, .f32⟩
  | 45 => ⟨S1x16384x4x128, .f32⟩
  | 46 => ⟨S1x16384x128, .f32⟩
  | 47 => ⟨S1x16384x1x128, .f32⟩
  | 48 => ⟨S_, .f32⟩
  | 49 => ⟨S1x16384x4x128, .f32⟩
  | 50 => ⟨S1x16384x4x128, .f32⟩
  | 51 => ⟨S1x16384x128, .f32⟩
  | 52 => ⟨S1x16384x128, .f32⟩
  | 53 => ⟨S1x16384x128, .f32⟩
  | 54 => ⟨S1x2x128, .f32⟩
  | 55 => ⟨S1x16382x128, .f32⟩
  | 56 => ⟨S_, .f32⟩
  | 57 => ⟨S1x16384x128, .f32⟩
  | 58 => ⟨S1x16384x128, .f32⟩
  | 59 => ⟨S1x16384x1x128, .f32⟩
  | 60 => ⟨S_, .f32⟩
  | 61 => ⟨S1x16384x4x128, .f32⟩
  | 62 => ⟨S1x16384x4x128, .f32⟩
  | 63 => ⟨S_, .f32⟩
  | 64 => ⟨S_, .f32⟩
  | 65 => ⟨S1x16384x4x128, .f32⟩
  | 66 => ⟨S1x16384x4x128, .f32⟩
  | 67 => ⟨S1x16384x512, .f32⟩
  | 68 => ⟨S16384x512, .f32⟩
  | 69 => ⟨S1x512, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_call0_cst : Ref sig .tc := ⟨.hbm, 7, rfl⟩
abbrev main_call0_call0_v0 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_6 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_7 : Ref sig .tc := ⟨.hbm, 58, rfl⟩
abbrev main_v44 : Ref sig .tc := ⟨.hbm, 59, rfl⟩
abbrev main_v45 : Ref sig .tc := ⟨.hbm, 60, rfl⟩
abbrev main_cst_8 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_9 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_10 : Ref sig .tc := ⟨.hbm, 77, rfl⟩
abbrev main_v60 : Ref sig .tc := ⟨.hbm, 78, rfl⟩
abbrev main_v61 : Ref sig .tc := ⟨.hbm, 79, rfl⟩
abbrev main_cst_11 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_cst_12 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_cst_13 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_cst_14 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_cst_15 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_cst_16 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_cst_17 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_cst_18 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_cst_19 : Ref sig .tc := ⟨.hbm, 154, rfl⟩
abbrev main_v128 : Ref sig .tc := ⟨.hbm, 155, rfl⟩
abbrev main_v129 : Ref sig .tc := ⟨.hbm, 156, rfl⟩
abbrev main_v130 : Ref sig .tc := ⟨.hbm, 157, rfl⟩
abbrev main_v131 : Ref sig .tc := ⟨.hbm, 158, rfl⟩
abbrev main_cst_20 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_v136 : Ref sig .tc := ⟨.hbm, 164, rfl⟩
abbrev main_v137 : Ref sig .tc := ⟨.hbm, 165, rfl⟩
abbrev main_v138 : Ref sig .tc := ⟨.hbm, 166, rfl⟩
abbrev main_cst_21 : Ref sig .tc := ⟨.hbm, 167, rfl⟩
abbrev main_v139 : Ref sig .tc := ⟨.hbm, 168, rfl⟩
abbrev main_v140 : Ref sig .tc := ⟨.hbm, 169, rfl⟩
abbrev main_v141 : Ref sig .tc := ⟨.hbm, 170, rfl⟩
abbrev main_cst_22 : Ref sig .tc := ⟨.hbm, 171, rfl⟩
abbrev main_v142 : Ref sig .tc := ⟨.hbm, 172, rfl⟩
abbrev main_v143 : Ref sig .tc := ⟨.hbm, 173, rfl⟩
abbrev main_v144 : Ref sig .tc := ⟨.hbm, 174, rfl⟩
abbrev main_v145 : Ref sig .tc := ⟨.hbm, 175, rfl⟩
abbrev main_cst_23 : Ref sig .tc := ⟨.hbm, 176, rfl⟩
abbrev main_v146 : Ref sig .tc := ⟨.hbm, 177, rfl⟩
abbrev main_v147 : Ref sig .tc := ⟨.hbm, 178, rfl⟩
abbrev main_v148 : Ref sig .tc := ⟨.hbm, 179, rfl⟩
abbrev main_v149 : Ref sig .tc := ⟨.hbm, 180, rfl⟩
abbrev main_v150 : Ref sig .tc := ⟨.hbm, 181, rfl⟩
abbrev main_v151 : Ref sig .tc := ⟨.hbm, 182, rfl⟩
abbrev main_v152 : Ref sig .tc := ⟨.hbm, 183, rfl⟩
abbrev main_cst_24 : Ref sig .tc := ⟨.hbm, 184, rfl⟩
abbrev main_v153 : Ref sig .tc := ⟨.hbm, 185, rfl⟩
abbrev main_v154 : Ref sig .tc := ⟨.hbm, 186, rfl⟩
abbrev main_v155 : Ref sig .tc := ⟨.hbm, 187, rfl⟩
abbrev main_cst_25 : Ref sig .tc := ⟨.hbm, 188, rfl⟩
abbrev main_v156 : Ref sig .tc := ⟨.hbm, 189, rfl⟩
abbrev main_v157 : Ref sig .tc := ⟨.hbm, 190, rfl⟩
abbrev main_call1_call0_cst : Ref sig .tc := ⟨.hbm, 191, rfl⟩
abbrev main_call1_call0_v0 : Ref sig .tc := ⟨.hbm, 192, rfl⟩
abbrev main_v158 : Ref sig .tc := ⟨.hbm, 193, rfl⟩
abbrev main_v159 : Ref sig .tc := ⟨.hbm, 194, rfl⟩
abbrev main_v160 : Ref sig .tc := ⟨.hbm, 195, rfl⟩
abbrev main_v161 : Ref sig .tc := ⟨.hbm, 196, rfl⟩
abbrev main_v162 : Ref sig .tc := ⟨.hbm, 197, rfl⟩

abbrev nD : Nat := 1
abbrev τ : Topo := Topo.v7x

variable {F : FTy → Type} [FloatOps F]
-- ==== Proof.RowNorm.lean ====
/- One row of the normalisation the layers share, and of its backward pass, over the extended reals. -/
module

public import Idealize.ShloMosaic.Lib.Pointwise

@[expose] public section

noncomputable section

open Idealize.ShloMosaic

namespace Cert.Row

/-- A row of a matrix; without its last argument, the matrix as a function of two indices. -/
abbrev row {n m : Nat} (X : (⟨2, ![n, m]⟩ : Shape).Idx → EReal) (r : Fin n) (k : Fin m) : EReal := X (ix2 r k)

/-- The constant added under the root. -/
def eps : EReal := Ideal.ofBits .f32 0x358637BD#32

/-- The row's length as the programs write it. -/
def len : EReal := Ideal.ofBits .f32 0x44800000#32

/-- The reciprocal root mean square of a row. -/
def rr (x : Fin 1024 → EReal) : EReal := Ideal.rsqrt (Ideal.div (∑ k, x k * x k) len + eps)

/-- A row over its root mean square. -/
def hat (x : Fin 1024 → EReal) (k : Fin 1024) : EReal := x k * rr x

/-- A row over its root mean square, times the gain. -/
def nrm (x g : Fin 1024 → EReal) (k : Fin 1024) : EReal := x k * rr x * g k

/-- The gradient of a normalised row: `d` arrives at the normalised row, this leaves at the row. -/
def back (x g d : Fin 1024 → EReal) (k : Fin 1024) : EReal :=
  rr x * (d k * g k - x k * rr x * Ideal.div (∑ l, d l * g l * (x l * rr x)) len)

end Cert.Row

end
-- ==== Proof.Reals.lean ====
/- Extended reals that are real numbers: the operations of the programs keep them real. -/
module

public import proofs.«01_k».proof.Proof.RowNorm
public import Idealize.ShloMosaic.Lib.IdealHost

@[expose] public section

noncomputable section

open Idealize.ShloMosaic

namespace Cert.Reals

/-- Every entry is a real number. -/
def Real' {ι : Type} (f : ι → EReal) : Prop := ∃ r : ι → ℝ, f = fun i => (r i : EReal)

theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- An extended real of finite size is a real number. -/
theorem of_abs_lt {ι : Type} (f : ι → EReal) (h : ∀ i, f i ≠ ⊤ ∧ f i ≠ ⊥) : Real' f :=
  ⟨fun i => (f i).toReal, funext fun i => (EReal.coe_toReal (h i).1 (h i).2).symm⟩

theorem len_eq : Row.len = ((1024 : ℝ) : EReal) := by
  unfold Row.len
  simp [Ideal.ofBits, Ideal.ieee]
  rw [← EReal.coe_mul]
  norm_num

theorem half_eq : Ideal.ofBits .f32 0xBF000000#32 = ((-(1 / 2) : ℝ) : EReal) := by
  simp [Ideal.ofBits, Ideal.ieee]
  rw [← EReal.coe_mul]
  norm_num

theorem eps_eq : ∃ e : ℝ, 0 < e ∧ Row.eps = (e : EReal) := by
  refine ⟨8796093 / 2 ^ 43, by norm_num, ?_⟩
  unfold Row.eps
  simp [Ideal.ofBits, Ideal.ieee]
  rw [← EReal.coe_mul]
  norm_num

/-- The mean square of a row, with the constant under the root: a positive real number. -/
theorem ms_eq (x : Fin 1024 → ℝ) : ∃ M : ℝ, 0 < M ∧
    Ideal.div (∑ k, (x k : EReal) * x k) Row.len + Row.eps = (M : EReal) := by
  obtain ⟨e, he, h⟩ := eps_eq
  refine ⟨(∑ k, x k * x k) * (1 / 1024) + e, ?_, ?_⟩
  · have : 0 ≤ ∑ k, x k * x k := Finset.sum_nonneg fun k _ => mul_self_nonneg _
    positivity
  · rw [h, len_eq, Ideal.div_coe (by norm_num), EReal.coe_add, EReal.coe_mul, coe_sum]
    simp only [EReal.coe_mul]

/-- The reciprocal root mean square of a real row is a real number. -/
theorem rr_eq (x : Fin 1024 → ℝ) : ∃ M q : ℝ, 0 < M ∧ q * q * M = 1 ∧
    Ideal.div (∑ k, (x k : EReal) * x k) Row.len + Row.eps = (M : EReal) ∧ Row.rr (fun k => (x k : EReal)) = (q : EReal) := by
  obtain ⟨M, hM, h⟩ := ms_eq x
  refine ⟨M, (Real.sqrt M)⁻¹, hM, ?_, h, ?_⟩
  · have := Real.mul_self_sqrt hM.le
    have h0 := (Real.sqrt_pos.mpr hM).ne'
    field_simp
    nlinarith
  · unfold Row.rr
    rw [h, Ideal.rsqrt_coe, if_neg (not_lt.mpr hM.le), if_neg hM.ne']

/-- The gradient of a normalised row as the plain derivative writes it: the three terms of the product rule. -/
def backR (x g d : Fin 1024 → EReal) (k : Fin 1024) : EReal :=
  d k * g k * Row.rr x
    + x k * Ideal.div ((∑ l, x l * (d l * g l)) * (Ideal.ofBits .f32 0xBF000000#32
        * Ideal.div (Row.rr x) (Ideal.div (∑ k, x k * x k) Row.len + Row.eps))) Row.len
    + Ideal.div ((∑ l, x l * (d l * g l)) * (Ideal.ofBits .f32 0xBF000000#32
        * Ideal.div (Row.rr x) (Ideal.div (∑ k, x k * x k) Row.len + Row.eps))) Row.len * x k

theorem backR_eq (x g d : Fin 1024 → EReal) (hx : Real' x) (hg : Real' g) (hd : Real' d) (k : Fin 1024) :
    backR x g d k = Row.back x g d k := by
  obtain ⟨x, rfl⟩ := hx
  obtain ⟨g, rfl⟩ := hg
  obtain ⟨d, rfl⟩ := hd
  obtain ⟨M, q, hM, hq, h1, h2⟩ := rr_eq x
  unfold backR Row.back
  rw [h1, h2, half_eq, len_eq]
  simp only [Ideal.div_coe hM.ne', Ideal.div_coe (show (1024 : ℝ) ≠ 0 by norm_num), ← EReal.coe_mul, ← coe_sum, ← EReal.coe_add,
    ← EReal.coe_sub]
  congr 1
  have hs : ∑ l, d l * g l * (x l * q) = q * ∑ l, x l * (d l * g l) := by
    rw [Finset.mul_sum]
    exact Finset.sum_congr rfl fun l _ => by ring
  have hM' : 1 / M = q * q := by
    rw [one_div]
    exact (eq_inv_of_mul_eq_one_left hq).symm
  rw [hs, hM']
  ring

/-- A sum of products of real entries is real. -/
theorem real_sum {ι κ : Type} [Fintype κ] (f : ι → κ → EReal) (h : ∀ i, Real' (f i)) : Real' fun i => ∑ k, f i k := by
  refine ⟨fun i => ∑ k, (h i).choose k, funext fun i => ?_⟩
  rw [coe_sum]
  conv_lhs => rw [(h i).choose_spec]

theorem real_mul {ι : Type} {f g : ι → EReal} (hf : Real' f) (hg : Real' g) : Real' fun i => f i * g i := by
  obtain ⟨f, rfl⟩ := hf
  obtain ⟨g, rfl⟩ := hg
  exact ⟨fun i => f i * g i, funext fun i => (EReal.coe_mul _ _).symm⟩

theorem real_sub {ι : Type} {f g : ι → EReal} (hf : Real' f) (hg : Real' g) : Real' fun i => f i - g i := by
  obtain ⟨f, rfl⟩ := hf
  obtain ⟨g, rfl⟩ := hg
  exact ⟨fun i => f i - g i, funext fun i => (EReal.coe_sub _ _).symm⟩

theorem real_comp {ι κ : Type} {f : ι → EReal} (hf : Real' f) (e : κ → ι) : Real' fun k => f (e k) := by
  obtain ⟨f, rfl⟩ := hf
  exact ⟨fun k => f (e k), rfl⟩

theorem real_const {ι : Type} (r : ℝ) : Real' fun _ : ι => (r : EReal) := ⟨fun _ => r, rfl⟩

/-- The logistic function of real entries is real. -/
theorem real_gate {ι : Type} {f : ι → EReal} (hf : Real' f) : Real' fun i => Ideal.div 1 (1 + Ideal.exp (0 - f i)) := by
  obtain ⟨f, rfl⟩ := hf
  refine ⟨fun i => 1 * (1 / (1 + Real.exp (0 - f i))), funext fun i => ?_⟩
  have h0 : (1 + Real.exp (0 - f i)) ≠ 0 := by positivity
  rw [← EReal.coe_zero, ← EReal.coe_sub, Ideal.exp_coe, ← EReal.coe_one, ← EReal.coe_add, Ideal.div_coe h0, EReal.coe_mul]

theorem real_nrm {x g : Fin 1024 → EReal} (hx : Real' x) (hg : Real' g) : Real' (Row.nrm x g) := by
  obtain ⟨M, q, _, _, _, h⟩ := rr_eq hx.choose
  rw [← hx.choose_spec] at h
  unfold Row.nrm
  exact real_mul (real_mul hx (by rw [h]; exact real_const q)) hg

end Cert.Reals

end
-- ==== Proof.Finite.lean ====
/- The precondition, read: every entry of every argument is a real number. -/
module

public import proofs.«01_k».proof.Pre_finite
public import proofs.«01_k».proof.Proof.Gen.Pre_finite
public import proofs.«01_k».proof.Proof.Reals
public import Idealize.ShloMosaic.Lib.ReduceAll

@[expose] public section

set_option maxRecDepth 16384

noncomputable section

open Idealize.ShloMosaic Idealize.SL.Sem

namespace Cert.Finite

/-- A scalar's shape has one index. -/
instance one : Subsingleton (Cert.Pre_finite.S_ : Shape).Idx := ⟨fun a b => funext fun d => d.elim0⟩

theorem inf_eq : Ideal.ofBits .f32 0x7F800000#32 = ⊤ := by simp [Ideal.ofBits, Ideal.ieee]

/-- `all (|x| < ∞)` says that every entry of `x` is a real number. -/
theorem real_of_all {s : Shape} {axes : List (Fin s.rank)} (x : FVec Ideal s .f32) (d : Fin 0 → Fin s.rank)
    (hb : Cert.Pre_finite.S_.BroadcastsInDim s d) (init : IVec Cert.Pre_finite.S_ 1) (h : s.ReducesTo axes Cert.Pre_finite.S_)
    (hu : 0 < Cert.Pre_finite.S_.numel) (j : Cert.Pre_finite.S_.Idx)
    (e : Host.reduce IntOp.andi (cmpf .olt (Host.absf x) (broadcastInDim s d hb (constant (F := Ideal) Cert.Pre_finite.S_ .f32 0x7F800000#32)))
      init h hu j = 1#1) : Reals.Real' x := by
  refine Reals.of_abs_lt x fun i => ?_
  have := Host.reduce_andi_all _ _ h hu j e i
  have hc : Ideal.cmp .olt (max (x i) (-(x i))) (Ideal.ofBits .f32 0x7F800000#32) = 1#1 := this
  rw [inf_eq] at hc
  constructor
  · intro ht
    rw [ht] at hc
    simp [Ideal.cmp] at hc
  · intro ht
    rw [ht] at hc
    simp [Ideal.cmp] at hc

/-- The precondition's six conjuncts. -/
theorem finite_args (d x p g w q) (h : Cert.Pre_finite.fn (F := Ideal) d x p g w q = fun _ => 1#1) :
    Reals.Real' d ∧ Reals.Real' x ∧ Reals.Real' p ∧ Reals.Real' g ∧ Reals.Real' w ∧ Reals.Real' q := by
  have h0 := congrFun h (fun a => a.elim0)
  unfold Cert.Pre_finite.fn Cert.Pre_finite.fn_part1 at h0
  dsimp only at h0
  simp only [andi, IntOp.andi_eq_one] at h0
  obtain ⟨⟨⟨⟨⟨h1, h2⟩, h3⟩, h4⟩, h5⟩, h6⟩ := h0
  exact ⟨real_of_all _ _ _ _ _ _ _ h1, real_of_all _ _ _ _ _ _ _ h2, real_of_all _ _ _ _ _ _ _ h3, real_of_all _ _ _ _ _ _ _ h4,
    real_of_all _ _ _ _ _ _ _ h5, real_of_all _ _ _ _ _ _ _ h6⟩

end Cert.Finite

end
-- ==== Proof.PleRow.lean ====
/- One row of the gated per-layer embedding and of its backward pass, over the extended reals. -/
module

public import proofs.«01_k».proof.Proof.Reals

@[expose] public section

noncomputable section

open Idealize.ShloMosaic

namespace Cert.Ple

/-- The gate of a row: the logistic function of the normalised row times the gate's weights. -/
def gate (x g : Fin 1024 → EReal) (w : Fin 1024 → Fin 1024 → EReal) (j : Fin 1024) : EReal :=
  Ideal.div 1 (1 + Ideal.exp (0 - ∑ k, Row.nrm x g k * w k j))

/-- The embedding of a row, projected. -/
def proj (p : Fin 256 → EReal) (w : Fin 256 → Fin 1024 → EReal) (j : Fin 1024) : EReal := ∑ k, p k * w k j

/-- The gradient at the gate's argument. -/
def dgate (d x g : Fin 1024 → EReal) (p : Fin 256 → EReal) (w : Fin 1024 → Fin 1024 → EReal)
    (wp : Fin 256 → Fin 1024 → EReal) (j : Fin 1024) : EReal :=
  d j * proj p wp j * gate x g w j * (1 - gate x g w j)

/-- The gradient at the normalised row. -/
def dnorm (d x g : Fin 1024 → EReal) (p : Fin 256 → EReal) (w : Fin 1024 → Fin 1024 → EReal)
    (wp : Fin 256 → Fin 1024 → EReal) (k : Fin 1024) : EReal := ∑ j, dgate d x g p w wp j * w k j

theorem gate_real {x g : Fin 1024 → EReal} {w : Fin 1024 → Fin 1024 → EReal} (hx : Reals.Real' x) (hg : Reals.Real' g)
    (hw : ∀ k, Reals.Real' fun j => w j k) : Reals.Real' (gate x g w) :=
  Reals.real_gate (Reals.real_sum _ fun j => Reals.real_mul (Reals.real_nrm hx hg) (hw j))

theorem proj_real {p : Fin 256 → EReal} {w : Fin 256 → Fin 1024 → EReal} (hp : Reals.Real' p)
    (hw : ∀ k, Reals.Real' fun j => w j k) : Reals.Real' (proj p w) :=
  Reals.real_sum _ fun j => Reals.real_mul hp (hw j)

/-- The gradient at the normalised row is real where every argument is. -/
theorem dnorm_real {d x g : Fin 1024 → EReal} {p : Fin 256 → EReal} {w : Fin 1024 → Fin 1024 → EReal}
    {wp : Fin 256 → Fin 1024 → EReal} (hd : Reals.Real' d) (hx : Reals.Real' x) (hg : Reals.Real' g) (hp : Reals.Real' p)
    (hw : ∀ k, Reals.Real' fun j => w j k) (hw' : ∀ k, Reals.Real' fun j => w k j) (hq : ∀ k, Reals.Real' fun j => wp j k) :
    Reals.Real' (dnorm d x g p w wp) := by
  have h := gate_real hx hg hw
  have h1 : Reals.Real' fun j => 1 - gate x g w j := Reals.real_sub (by simpa using Reals.real_const 1) h
  exact Reals.real_sum _ fun k => Reals.real_mul (Reals.real_mul (Reals.real_mul (Reals.real_mul hd (proj_real hp hq)) h) h1) (hw' k)

end Cert.Ple

end
-- ==== Proof.PlePoint.lean ====
/- What the kernel's body stores at one grid point, read at an index. -/
module

public import proofs.«01_k».proof.Proof.Gen.KernelIdeal.Skeleton
public import proofs.«01_k».proof.Proof.PleRow

@[expose] public section

set_option maxRecDepth 16384

noncomputable section

open Idealize.ShloMosaic Idealize.ShloMosaic.TcCoe Idealize.SL.Sem
open Cert.Row (row)
open Cert.KernelIdeal Cert.KernelIdeal.Gen

namespace Cert.KernelIdeal.Point

variable (d x : FVec Ideal S512x1024 .f32) (p : FVec Ideal S512x256 .f32) (g : FVec Ideal S1x1024 .f32)
  (w wt : FVec Ideal S1024x1024 .bf16) (wp : FVec Ideal S256x1024 .bf16)

theorem rr_at (r : Fin 512) (c : Fin 1) : k0_pay5 (F := Ideal) x (ix2 r c) = Row.rr (row x r) := by
  pointwise [k0_pay5]
  rfl

theorem nrm_at (r : Fin 512) (k : Fin 1024) : k0_pay7 (F := Ideal) x g (ix2 r k) = Row.nrm (row x r) (row g 0) k := by
  pointwise [k0_pay7, k0_pay6, rr_at]
  rfl

theorem gate_at (r : Fin 512) (j : Fin 1024) :
    k0_pay8 (F := Ideal) x g w (ix2 r j) = Ple.gate (row x r) (row g 0) (row w) j := by
  pointwise [k0_pay8, nrm_at]
  rfl

theorem proj_at (r : Fin 512) (j : Fin 1024) :
    k0_pay10 (F := Ideal) p wp (ix2 r j) = Ple.proj (row p r) (row wp) j := by
  pointwise [k0_pay10, k0_pay9]
  rfl

theorem dgate_at (r : Fin 512) (j : Fin 1024) :
    k0_pay12 (F := Ideal) (k0_pay8 x g w) (k0_pay10 p wp) d (ix2 r j)
      = Ple.dgate (row d r) (row x r) (row g 0) (row p r) (row w) (row wp) j := by
  pointwise [k0_pay12, gate_at, proj_at]
  rfl

/-- The last operand of the second product is the gate's weights transposed. -/
def Turned : Prop := ∀ j k : Fin 1024, wt (ix2 j k) = w (ix2 k j)

variable {w wt}

theorem dnorm_at (h : Turned w wt) (r : Fin 512) (k : Fin 1024) :
    k0_pay14 (F := Ideal) (k0_pay8 x g w) (k0_pay10 p wp) d wt (ix2 r k)
      = Ple.dnorm (row d r) (row x r) (row g 0) (row p r) (row w) (row wp) k := by
  pointwise [k0_pay14, dgate_at, h _ _]
  rfl

theorem hat_at (r : Fin 512) (k : Fin 1024) :
    k0_pay15 (F := Ideal) x (k0_pay5 x) (ix2 r k) = Row.hat (row x r) k := by
  pointwise [k0_pay15, rr_at]
  rfl

/-- The block of the first result. -/
theorem dx_at (h : Turned w wt) (r : Fin 512) (k : Fin 1024) :
    k0_pay17 (F := Ideal) x (k0_pay5 x) (k0_pay6 g) (k0_pay8 x g w) (k0_pay10 p wp) d wt (ix2 r k)
      = row d r k + Row.back (row x r) (row g 0)
          (Ple.dnorm (row d r) (row x r) (row g 0) (row p r) (row w) (row wp)) k := by
  pointwise [k0_pay17, k0_pay6, hat_at, dnorm_at d x p g wp h, rr_at]
  rfl

/-- One point's share of the gate's weight gradient. -/
theorem dwg_at (acc : FVec Ideal S1024x1024 .f32) (k j : Fin 1024) :
    k0_pay13 (F := Ideal) (k0_pay7 x g) (k0_pay8 x g w) (k0_pay10 p wp) d acc (ix2 k j)
      = acc (ix2 k j) + ∑ r : Fin 512, Row.nrm (row x r) (row g 0) k
          * Ple.dgate (row d r) (row x r) (row g 0) (row p r) (row w) (row wp) j := by
  pointwise [k0_pay13, nrm_at, dgate_at]

/-- One point's share of the projection's weight gradient. -/
theorem dwp_at (acc : FVec Ideal S256x1024 .f32) (k : Fin 256) (j : Fin 1024) :
    k0_pay11 (F := Ideal) (k0_pay8 x g w) (k0_pay9 p) d acc (ix2 k j)
      = acc (ix2 k j) + ∑ r : Fin 512, row p r k * (row d r j * Ple.gate (row x r) (row g 0) (row w) j) := by
  pointwise [k0_pay11, k0_pay9, gate_at]

/-- One point's share of the gain's gradient. -/
theorem dg_at (h : Turned w wt) (acc : FVec Ideal S1x1024 .f32) (i : Fin 1) (k : Fin 1024) :
    k0_pay1 (F := Ideal) (k0_pay16 x (k0_pay5 x) (k0_pay8 x g w) (k0_pay10 p wp) d wt) acc (ix2 i k)
      = acc (ix2 i k) + ∑ r : Fin 512, Ple.dnorm (row d r) (row x r) (row g 0) (row p r) (row w) (row wp) k
          * Row.hat (row x r) k := by
  pointwise [k0_pay1, k0_pay16, hat_at, dnorm_at d x p g wp h]

theorem zero8 (k j : Fin 1024) : k0_pay2 (F := Ideal) (ix2 k j) = 0 := by pointwise [k0_pay2]
theorem zero9 (k : Fin 256) (j : Fin 1024) : k0_pay3 (F := Ideal) (ix2 k j) = 0 := by pointwise [k0_pay3]
theorem zero10 (k : Fin 1) (j : Fin 1024) : k0_pay4 (F := Ideal) (ix2 k j) = 0 := by pointwise [k0_pay4]

end Cert.KernelIdeal.Point

end
-- ==== Proof.PleValue.lean ====
/- The result arrays of the kernel, index by index, over the arrays it is called with. -/
module

public import proofs.«01_k».proof.Proof.Gen.KernelIdeal.Frame
public import proofs.«01_k».proof.Proof.PlePoint
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open Cert.Row (row)
open Cert.KernelIdeal Cert.KernelIdeal.Gen

namespace Cert.KernelIdeal.Value

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0]
    ∧ win0_7.index t = ![t.val, 0] ∧ win0_8.index t = ![0, 0] ∧ win0_9.index t = ![0, 0] ∧ win0_10.index t = ![0, 0] :=
  (by decide +kernel : ∀ t : Fin grid0.N, _)

/-- The arguments of the call at a device. -/
def aD (c : Dev nD) : FVec Ideal S16384x1024 .f32 := m ((c : Thread nD τ).loc main_arg0)
def aX (c : Dev nD) : FVec Ideal S16384x1024 .f32 := m ((c : Thread nD τ).loc main_arg1)
def aP (c : Dev nD) : FVec Ideal S16384x256 .f32 := m ((c : Thread nD τ).loc main_arg2)
def aG (c : Dev nD) : FVec Ideal S1024 .f32 := m ((c : Thread nD τ).loc main_arg3)
def aW (c : Dev nD) : FVec Ideal S1024x1024 .f32 := m ((c : Thread nD τ).loc main_arg4)
def aQ (c : Dev nD) : FVec Ideal S256x1024 .f32 := m ((c : Thread nD τ).loc main_arg5)

/-- Row `r` of block `t`, among all rows. -/
def at' (t : Fin cfg0.N) (r : Fin 512) : Fin 16384 := ⟨t.val * 512 + r.val, by have := t.isLt; have : cfg0.N = 32 := N_0; omega⟩

theorem blk_d (c : Dev nD) (t : Fin cfg0.N) (r : Fin 512) (k : Fin 1024) :
    (show FVec Ideal S512x1024 .f32 from iblk m c 0 t) (ix2 r k) = aD m c (ix2 (at' t r) k) := by
  unfold aD at'
  blk_ext [iblk, V, idx t]

theorem blk_x (c : Dev nD) (t : Fin cfg0.N) (r : Fin 512) (k : Fin 1024) :
    (show FVec Ideal S512x1024 .f32 from iblk m c 1 t) (ix2 r k) = aX m c (ix2 (at' t r) k) := by
  unfold aX at'
  blk_ext [iblk, V, idx t]

theorem blk_p (c : Dev nD) (t : Fin cfg0.N) (r : Fin 512) (k : Fin 256) :
    (show FVec Ideal S512x256 .f32 from iblk m c 2 t) (ix2 r k) = aP m c (ix2 (at' t r) k) := by
  unfold aP at'
  blk_ext [iblk, V, idx t]

theorem blk_g (c : Dev nD) (t : Fin cfg0.N) (k : Fin 1024) :
    (show FVec Ideal S1x1024 .f32 from iblk m c 3 t) (ix2 0 k) = aG m c (ix1 k) := by
  unfold aG
  blk_point [iblk, V, idx t]

theorem blk_w (c : Dev nD) (t : Fin cfg0.N) (k j : Fin 1024) :
    (show FVec Ideal S1024x1024 .bf16 from iblk m c 4 t) (ix2 k j) = aW m c (ix2 k j) := by
  unfold aW
  blk_point [iblk, V, idx t]

theorem blk_wt (c : Dev nD) (t : Fin cfg0.N) (k j : Fin 1024) :
    (show FVec Ideal S1024x1024 .bf16 from iblk m c 5 t) (ix2 j k) = aW m c (ix2 k j) := by
  unfold aW
  blk_point [iblk, V, idx t]

theorem blk_q (c : Dev nD) (t : Fin cfg0.N) (k : Fin 256) (j : Fin 1024) :
    (show FVec Ideal S256x1024 .bf16 from iblk m c 6 t) (ix2 k j) = aQ m c (ix2 k j) := by
  unfold aQ
  blk_point [iblk, V, idx t]

/-- The rows of one device's arguments, by the row's number. -/
abbrev nrmR (c : Dev nD) (i : Fin 16384) : Fin 1024 → EReal := Row.nrm (row (aX m c) i) fun k => aG m c (ix1 k)
abbrev gateR (c : Dev nD) (i : Fin 16384) : Fin 1024 → EReal :=
  Ple.gate (row (aX m c) i) (fun k => aG m c (ix1 k)) (row (aW m c))
abbrev dgateR (c : Dev nD) (i : Fin 16384) : Fin 1024 → EReal :=
  Ple.dgate (row (aD m c) i) (row (aX m c) i) (fun k => aG m c (ix1 k)) (row (aP m c) i) (row (aW m c)) (row (aQ m c))
abbrev dnormR (c : Dev nD) (i : Fin 16384) : Fin 1024 → EReal :=
  Ple.dnorm (row (aD m c) i) (row (aX m c) i) (fun k => aG m c (ix1 k)) (row (aP m c) i) (row (aW m c)) (row (aQ m c))

theorem row_d (c : Dev nD) (t : Fin cfg0.N) (r : Fin 512) :
    row (show FVec Ideal S512x1024 .f32 from iblk m c 0 t) r = row (aD m c) (at' t r) := funext fun k => blk_d m c t r k
theorem row_x (c : Dev nD) (t : Fin cfg0.N) (r : Fin 512) :
    row (show FVec Ideal S512x1024 .f32 from iblk m c 1 t) r = row (aX m c) (at' t r) := funext fun k => blk_x m c t r k
theorem row_p (c : Dev nD) (t : Fin cfg0.N) (r : Fin 512) :
    row (show FVec Ideal S512x256 .f32 from iblk m c 2 t) r = row (aP m c) (at' t r) := funext fun k => blk_p m c t r k
theorem row_g (c : Dev nD) (t : Fin cfg0.N) :
    row (show FVec Ideal S1x1024 .f32 from iblk m c 3 t) 0 = fun k => aG m c (ix1 k) := funext fun k => blk_g m c t k
theorem row_w (c : Dev nD) (t : Fin cfg0.N) :
    row (show FVec Ideal S1024x1024 .bf16 from iblk m c 4 t) = row (aW m c) := funext fun k => funext fun j => blk_w m c t k j
theorem row_q (c : Dev nD) (t : Fin cfg0.N) :
    row (show FVec Ideal S256x1024 .bf16 from iblk m c 6 t) = row (aQ m c) := funext fun k => funext fun j => blk_q m c t k j
theorem turned (c : Dev nD) (t : Fin cfg0.N) : Point.Turned (show FVec Ideal S1024x1024 .bf16 from iblk m c 4 t)
    (show FVec Ideal S1024x1024 .bf16 from iblk m c 5 t) := fun j k => (blk_wt m c t k j).trans (blk_w m c t k j).symm

/-- The first result. -/
def DX (c : Dev nD) : FVec Ideal S16384x1024 .f32 := fun i =>
  row (aD m c) (i 0) (i 1) + Row.back (row (aX m c) (i 0)) (fun k => aG m c (ix1 k)) (dnormR m c (i 0)) (i 1)

theorem point7 (c : Dev nD) (t : Fin cfg0.N) (r : Fin 512) (k : Fin 1024) :
    k0_pay17 (F := Ideal) (iblk m c 1 t) (k0_pay5 (iblk m c 1 t)) (k0_pay6 (iblk m c 3 t))
      (k0_pay8 (iblk m c 1 t) (iblk m c 3 t) (iblk m c 4 t)) (k0_pay10 (iblk m c 2 t) (iblk m c 6 t)) (iblk m c 0 t) (iblk m c 5 t) (ix2 r k)
      = DX m c (ix2 (at' t r) k) := by
  refine (Point.dx_at _ _ _ _ _ (turned m c t) r k).trans ?_
  rw [row_d, row_x, row_p, row_g, row_w, row_q]
  rfl

theorem final7 (c : Dev nD) : (dats m 0 c).arrAt 7 (cfgs 0).N = DX m c := by
  refine (dats m 0 c).arrAt_eq_of_covers 7 _ (by decide +kernel) fun t _ y => ?_
  blk_simp
  rw [after0_7]
  have e := point7 m c t (y 0) (y 1)
  rw [← eq_ix2 (show S512x1024.Idx from y)] at e
  have hp : (ix2 (at' t (y 0)) (y 1) : S16384x1024.Idx) = (win0_7.blk t).view.emb y := by
    unfold at'
    blk_ext [idx t]
  rw [hp] at e
  by_cases h0 : t.val % 32 = 0
  · rw [outsAt0_A m c t h0]
    frame_out
    exact e
  · rw [outsAt0_B m c t h0]
    frame_out
    exact e

/-- The second result: the gradient of the gate's weights. -/
def DW (c : Dev nD) : FVec Ideal S1024x1024 .f32 := fun i => ∑ r : Fin 16384, nrmR m c r (i 0) * dgateR m c r (i 1)

/-- The third result: the gradient of the projection's weights. -/
def DP (c : Dev nD) : FVec Ideal S256x1024 .f32 := fun i =>
  ∑ r : Fin 16384, row (aP m c) r (i 0) * (row (aD m c) r (i 1) * gateR m c r (i 1))

/-- The fourth result: the gradient of the gain, as one row. -/
def DG (c : Dev nD) : FVec Ideal S1x1024 .f32 := fun i =>
  ∑ r : Fin 16384, dnormR m c r (i 1) * Row.hat (row (aX m c) r) (i 1)

/-- The points' rows, added point by point, are all rows. -/
theorem sum_rows (f : Fin 16384 → EReal) (t : Fin cfg0.N) (h : ∀ s : Fin 32, 32 * (t.val / 32) + s.val < cfg0.N) :
    ∑ s : Fin 32, ∑ r : Fin 512, f (at' ⟨32 * (t.val / 32) + s.val, h s⟩ r) = ∑ i : Fin 16384, f i := by
  refine Fin.sum_mul_add_congr fun s k hl => congrArg f (Fin.ext ?_)
  have := t.isLt
  have hN : cfg0.N = 32 := N_0
  show (32 * (t.val / 32) + s.val) * 512 + k.val = s.val * 512 + k.val
  omega

/-- One point's share of the gate's weight gradient. -/
def part8 (c : Dev nD) (t : Fin cfg0.N) (j : S1024x1024.Idx) : EReal :=
  ∑ r : Fin 512, nrmR m c (at' t r) (j 0) * dgateR m c (at' t r) (j 1)

theorem step8 (c : Dev nD) (t : Fin cfg0.N) (acc : FVec Ideal S1024x1024 .f32) (j : S1024x1024.Idx) :
    k0_pay13 (F := Ideal) (k0_pay7 (iblk m c 1 t) (iblk m c 3 t)) (k0_pay8 (iblk m c 1 t) (iblk m c 3 t) (iblk m c 4 t))
      (k0_pay10 (iblk m c 2 t) (iblk m c 6 t)) (iblk m c 0 t) acc j = acc j + part8 m c t j := by
  rw [eq_ix2 j]
  refine (Point.dwg_at _ _ _ _ _ acc (j 0) (j 1)).trans ?_
  simp only [row_d, row_x, row_p, row_g, row_w, row_q]
  rfl

theorem final8 (c : Dev nD) : (dats m 0 c).arrAt 8 (cfgs 0).N = DW m c := by
  refine (dats m 0 c).arrAt_eq_of_covers 8 _ (by decide +kernel) fun t hf y => ?_
  blk_simp
  rw [after0_8, Pipeline.eq_sum_fin_of_reset_step_apply_of_flush (fun n h => (outsAt0 m c n h).2.1) 32 (fun _ => 0) (part8 m c)
    (fun t h j => by rw [outsAt0_A m c t h]; frame_out; rw [step8]; exact congrArg (· + _) (by rw [eq_ix2 j]; exact Point.zero8 _ _))
    (fun t h j => by rw [outsAt0_B m c t h]; frame_out; rw [step8])
    t ((flush0_8 t).mp hf) _, zero_add]
  have hp : (win0_8.blk t).view.emb y = (show S1024x1024.Idx from y) := by blk_ext [idx t]
  rw [hp]
  exact sum_rows (fun i => nrmR m c i (y 0) * dgateR m c i (y 1)) t _

/-- One point's share of the projection's weight gradient. -/
def part9 (c : Dev nD) (t : Fin cfg0.N) (j : S256x1024.Idx) : EReal :=
  ∑ r : Fin 512, row (aP m c) (at' t r) (j 0) * (row (aD m c) (at' t r) (j 1) * gateR m c (at' t r) (j 1))

theorem step9 (c : Dev nD) (t : Fin cfg0.N) (acc : FVec Ideal S256x1024 .f32) (j : S256x1024.Idx) :
    k0_pay11 (F := Ideal) (k0_pay8 (iblk m c 1 t) (iblk m c 3 t) (iblk m c 4 t)) (k0_pay9 (iblk m c 2 t)) (iblk m c 0 t) acc j
      = acc j + part9 m c t j := by
  rw [eq_ix2 j]
  refine (Point.dwp_at _ _ _ _ acc (j 0) (j 1)).trans ?_
  exact congrArg (acc _ + ·) (Finset.sum_congr rfl fun r _ => by rw [row_d, row_x, row_p, row_g, row_w]; rfl)

theorem final9 (c : Dev nD) : (dats m 0 c).arrAt 9 (cfgs 0).N = DP m c := by
  refine (dats m 0 c).arrAt_eq_of_covers 9 _ (by decide +kernel) fun t hf y => ?_
  blk_simp
  rw [after0_9, Pipeline.eq_sum_fin_of_reset_step_apply_of_flush (fun n h => (outsAt0 m c n h).2.2.1) 32 (fun _ => 0) (part9 m c)
    (fun t h j => by rw [outsAt0_A m c t h]; frame_out; rw [step9]; exact congrArg (· + _) (by rw [eq_ix2 j]; exact Point.zero9 _ _))
    (fun t h j => by rw [outsAt0_B m c t h]; frame_out; rw [step9])
    t ((flush0_9 t).mp hf) _, zero_add]
  have hp : (win0_9.blk t).view.emb y = (show S256x1024.Idx from y) := by blk_ext [idx t]
  rw [hp]
  exact sum_rows (fun i => row (aP m c) i (y 0) * (row (aD m c) i (y 1) * gateR m c i (y 1))) t _

/-- One point's share of the gain's gradient. -/
def part10 (c : Dev nD) (t : Fin cfg0.N) (j : S1x1024.Idx) : EReal :=
  ∑ r : Fin 512, dnormR m c (at' t r) (j 1) * Row.hat (row (aX m c) (at' t r)) (j 1)

theorem step10 (c : Dev nD) (t : Fin cfg0.N) (acc : FVec Ideal S1x1024 .f32) (j : S1x1024.Idx) :
    k0_pay1 (F := Ideal) (k0_pay16 (iblk m c 1 t) (k0_pay5 (iblk m c 1 t)) (k0_pay8 (iblk m c 1 t) (iblk m c 3 t) (iblk m c 4 t))
      (k0_pay10 (iblk m c 2 t) (iblk m c 6 t)) (iblk m c 0 t) (iblk m c 5 t)) acc j = acc j + part10 m c t j := by
  rw [eq_ix2 j]
  refine (Point.dg_at _ _ _ _ _ (turned m c t) acc (j 0) (j 1)).trans ?_
  simp only [row_d, row_x, row_p, row_g, row_w, row_q]
  rfl

theorem final10 (c : Dev nD) : (dats m 0 c).arrAt 10 (cfgs 0).N = DG m c := by
  refine (dats m 0 c).arrAt_eq_of_covers 10 _ (by decide +kernel) fun t hf y => ?_
  blk_simp
  rw [after0_10, Pipeline.eq_sum_fin_of_reset_step_apply_of_flush (fun n h => (outsAt0 m c n h).2.2.2) 32 (fun _ => 0) (part10 m c)
    (fun t h j => by rw [outsAt0_A m c t h]; frame_out; rw [step10]; exact congrArg (· + _) (by rw [eq_ix2 j]; exact Point.zero10 _ _))
    (fun t h j => by rw [outsAt0_B m c t h]; frame_out; rw [step10])
    t ((flush0_10 t).mp hf) _, zero_add]
  have hp : (win0_10.blk t).view.emb y = (show S1x1024.Idx from y) := by blk_ext [idx t]
  rw [hp]
  exact sum_rows (fun i => dnormR m c i (y 1) * Row.hat (row (aX m c) i) (y 1)) t _

end Cert.KernelIdeal.Value

end
-- ==== Proof.PleRef.lean ====
/- The reference's operations, read at an index. -/
module

public import proofs.«01_k».proof.Proof.Gen.ReferenceIdeal.Run
public import proofs.«01_k».proof.Proof.Gen.ReferenceIdeal.Read
public import proofs.«01_k».proof.Proof.PleRow
public import proofs.«01_k».proof.Proof.Reals

@[expose] public section

set_option maxRecDepth 16384

noncomputable section

open Idealize.ShloMosaic Idealize.ShloMosaic.TcCoe Idealize.SL.Sem
open Cert.Row (row)
open Cert.ReferenceIdeal Cert.ReferenceIdeal.Gen Cert.ReferenceIdeal.Read

namespace Cert.ReferenceIdeal.Point

variable (d x : FVec Ideal S16384x1024 .f32) (p : FVec Ideal S16384x256 .f32) (g : FVec Ideal S1024 .f32)
  (w : FVec Ideal S1024x1024 .f32) (wp : FVec Ideal S256x1024 .f32)

theorem rr_at (r : Fin 16384) (c : Fin 1) : val_main_v8 (F := Ideal) x (ix2 r c) = Row.rr (row x r) := by
  pointwise [val_main_v8, val_main_v7, val_main_v6, val_main_v5, val_main_v4, val_main_v3, val_main_v2, val_main_v1,
    val_main_cst, val_main_cst_0, val_main_cst_1]
  rfl

theorem nrm_at (r : Fin 16384) (k : Fin 1024) :
    val_main_v16 (F := Ideal) x g (ix2 r k) = Row.nrm (row x r) (fun k => g (ix1 k)) k := by
  pointwise [val_main_v16, val_main_v15, val_main_v14, val_main_v13, val_main_v12, rr_at]
  rfl

theorem gate_at (r : Fin 16384) (j : Fin 1024) :
    val_main_v23 (F := Ideal) x g w (ix2 r j) = Ple.gate (row x r) (fun k => g (ix1 k)) (row w) j := by
  pointwise [val_main_v23, val_main_v22, val_main_v21, val_main_v20, val_main_v19, val_main_v18, val_main_v17, nrm_at,
    val_main_cst_3, val_main_cst_4]
  unfold Ple.gate
  rw [zero_sub]

theorem proj_at (r : Fin 16384) (j : Fin 1024) :
    val_main_v0 (F := Ideal) p wp (ix2 r j) = Ple.proj (row p r) (row wp) j := by
  pointwise [val_main_v0]
  rfl

theorem dgate_at (r : Fin 16384) (j : Fin 1024) :
    val_main_v32 (F := Ideal) d x p g w wp (ix2 r j)
      = Ple.dgate (row d r) (row x r) (fun k => g (ix1 k)) (row p r) (row w) (row wp) j := by
  pointwise [val_main_v32, val_main_v30, val_main_v29, val_main_v28, val_main_v27, val_main_v26,
     val_main_v25, val_main_v24, gate_at,
    proj_at, val_main_cst_5]
  unfold Ple.dgate
  rw [mul_comm (Ple.proj _ _ _), ← mul_assoc]

theorem dnorm_at (r : Fin 16384) (k : Fin 1024) :
    val_main_v35 (F := Ideal) d x p g w wp (ix2 r k)
      = Ple.dnorm (row d r) (row x r) (fun k => g (ix1 k)) (row p r) (row w) (row wp) k := by
  pointwise [val_main_v35, dgate_at]
  rfl

theorem dwg_at (k j : Fin 1024) : val_main_v34 (F := Ideal) d x p g w wp (ix2 k j)
      = ∑ r : Fin 16384, Row.nrm (row x r) (fun k => g (ix1 k)) k
          * Ple.dgate (row d r) (row x r) (fun k => g (ix1 k)) (row p r) (row w) (row wp) j := by
  pointwise [val_main_v34, val_main_v33, dgate_at, nrm_at]
  exact Finset.sum_congr rfl fun r _ => mul_comm _ _

theorem dwp_at (k : Fin 256) (j : Fin 1024) : val_main_v58 (F := Ideal) d x p g w (ix2 k j)
      = ∑ r : Fin 16384, row p r k * (row d r j * Ple.gate (row x r) (fun k => g (ix1 k)) (row w) j) := by
  pointwise [val_main_v58, val_main_v57, val_main_v31, val_main_v29, gate_at]
  exact Finset.sum_congr rfl fun r _ => mul_comm _ _

theorem dg_at (i : Fin 1) (k : Fin 1024) : val_main_v59 (F := Ideal) d x p g w wp (ix2 i k)
      = ∑ r : Fin 16384, Ple.dnorm (row d r) (row x r) (fun k => g (ix1 k)) (row p r) (row w) (row wp) k
          * Row.hat (row x r) k := by
  pointwise [val_main_v59, val_main_v41, val_main_v38, val_main_v37, val_main_v36, val_main_v13, val_main_v12, rr_at, dnorm_at,
    val_main_cst_6, val_main_cst_7]
  simp only [Finset.univ_unique, Finset.sum_singleton, zero_add]
  exact Finset.sum_congr rfl fun r _ => mul_comm _ _

theorem dx_at (hd : Reals.Real' d) (hx : Reals.Real' x) (hp : Reals.Real' p) (hg : Reals.Real' g) (hw : Reals.Real' w)
    (hq : Reals.Real' wp) (r : Fin 16384) (k : Fin 1024) : val_main_v56 (F := Ideal) d x p g w wp (ix2 r k)
      = row d r k + Row.back (row x r) (fun k => g (ix1 k))
          (Ple.dnorm (row d r) (row x r) (fun k => g (ix1 k)) (row p r) (row w) (row wp)) k := by
  rw [← Reals.backR_eq _ _ _ (Reals.real_comp hx _) (Reals.real_comp hg _) (Ple.dnorm_real (Reals.real_comp hd _)
    (Reals.real_comp hx _) (Reals.real_comp hg _) (Reals.real_comp hp _) (fun k => Reals.real_comp hw _)
    (fun k => Reals.real_comp hw _) fun k => Reals.real_comp hq _)]
  pointwise [val_main_v56, val_main_v55, val_main_v54, val_main_v53, val_main_v52, val_main_v51, val_main_v50, val_main_v49,
    val_main_v48, val_main_v47, val_main_v46, val_main_v45, val_main_v44, val_main_v43, val_main_v42, val_main_v40, val_main_v39,
    val_main_v14, rr_at, dnorm_at, val_main_v11, val_main_v10, val_main_v9, val_main_v7, val_main_v6, val_main_v5, val_main_v4,
    val_main_v3, val_main_v2, val_main_v1, val_main_cst, val_main_cst_0, val_main_cst_1, val_main_cst_2, val_main_cst_8,
    val_main_cst_9, val_main_cst_10]
  simp only [Finset.univ_unique, Finset.sum_singleton, zero_add]
  rw [add_assoc, add_assoc]
  unfold Reals.backR
  rw [add_assoc]
  rfl

end Cert.ReferenceIdeal.Point

end
-- ==== Proof.PleClaim.lean ====
/- The claims about the backward pass of the gated per-layer embedding. -/
module

public import proofs.«01_k».proof.Defs
public import proofs.«01_k».proof.Proof.Finite
public import proofs.«01_k».proof.Proof.PleValue
public import proofs.«01_k».proof.Proof.PleRef
public import proofs.«01_k».proof.Proof.Gen.KernelIdeal.Value
public import Idealize.ShloMosaic.Lib.Claim

@[expose] public section

set_option maxRecDepth 16384

noncomputable section

namespace Cert.PleClaim

open Idealize.ShloMosaic Idealize.SL.Sem

theorem refFrame : Cert.quiescent_ReferenceIdeal := fun m ρ _ =>
  (θ_run Cert.ReferenceIdeal.defs _ _).mono (fun r h => ⟨fun c => (h c).2.2.2.2,
    sem_eq_zero_of_no_sems (by decide) r.2⟩) (Cert.ReferenceIdeal.Value.run (F := Ideal) m ρ)

theorem refFrame' : Cert.quiescent_ReferenceIdeal_pre_finite := fun m ρ _ => refFrame m ρ trivial

section
open Cert.ReferenceIdeal Cert.ReferenceIdeal.Read

variable (m : (ℓ : Loc KernelIdeal.nD KernelIdeal.τ KernelIdeal.sig) → Buf (Elt Ideal) ℓ) (c : Dev KernelIdeal.nD)

open Cert.KernelIdeal.Value (aD aX aP aG aW aQ DX DW DP DG)

theorem ref0 (h : Cert.Pre_finite.fn (F := Ideal) (aD m c) (aX m c) (aP m c) (aG m c) (aW m c) (aQ m c) = fun _ => 1#1) :
    val_main_v56 (F := Ideal) (aD m c) (aX m c) (aP m c) (aG m c) (aW m c) (aQ m c) = DX m c := by
  obtain ⟨h1, h2, h3, h4, h5, h6⟩ := Finite.finite_args _ _ _ _ _ _ h
  exact funext fun i => by rw [eq_ix2 i]; exact ReferenceIdeal.Point.dx_at _ _ _ _ _ _ h1 h2 h3 h4 h5 h6 (i 0) (i 1)

theorem ref1 : val_main_v34 (F := Ideal) (aD m c) (aX m c) (aP m c) (aG m c) (aW m c) (aQ m c) = DW m c :=
  funext fun i => by rw [eq_ix2 i]; exact ReferenceIdeal.Point.dwg_at _ _ _ _ _ _ (i 0) (i 1)

theorem ref2 : val_main_v58 (F := Ideal) (aD m c) (aX m c) (aP m c) (aG m c) (aW m c) = DP m c :=
  funext fun i => by rw [eq_ix2 i]; exact ReferenceIdeal.Point.dwp_at _ _ _ _ _ (i 0) (i 1)

theorem ref3 : val_main_v59 (F := Ideal) (aD m c) (aX m c) (aP m c) (aG m c) (aW m c) (aQ m c) = DG m c :=
  funext fun i => by rw [eq_ix2 i]; exact ReferenceIdeal.Point.dg_at _ _ _ _ _ _ (i 0) (i 1)

end

open Cert.KernelIdeal.Value in
/-- The kernel's four results are the reference's, over the extended reals. -/
theorem values : Cert.algebraic_KernelIdeal_ReferenceIdeal_pre_finite := by
  intro m g m' g' hpre hag
  refine ⟨fun c => DX m c, fun c => DW m c, fun c => DP m c, fun c => DG m c, ?_, ?_⟩
  · refine (θ_run KernelIdeal.defs _ _).mono (fun r h c => ?_) (run_blocks m g)
    obtain ⟨h0, h1, h2, h3, hr⟩ := h c
    exact ⟨h0.trans (final7 m c), h1.trans (final8 m c), h2.trans (final9 m c), h3.trans (final10 m c), hr⟩
  · refine (θ_run ReferenceIdeal.defs _ _).mono (fun r h c => ?_) (ReferenceIdeal.Value.run m' g')
    obtain ⟨h0, h1, h2, h3, hr⟩ := h c
    obtain ⟨e0, e1, e2, e3, e4, e5⟩ := hag c
    refine ⟨h0.trans ?_, h1.trans ?_, h2.trans ?_, h3.trans ?_, hr⟩
    · refine Eq.trans ?_ (ref0 m c (hpre c))
      unfold aD aX aP aG aW aQ
      rw [← e0, ← e1, ← e2, ← e3, ← e4, ← e5]
      rfl
    · refine Eq.trans ?_ (ref1 m c)
      unfold aD aX aP aG aW aQ
      rw [← e0, ← e1, ← e2, ← e3, ← e4, ← e5]
      rfl
    · refine Eq.trans ?_ (ref2 m c)
      unfold aD aX aP aG aW
      rw [← e0, ← e1, ← e2, ← e3, ← e4]
      rfl
    · refine Eq.trans ?_ (ref3 m c)
      unfold aD aX aP aG aW aQ
      rw [← e0, ← e1, ← e2, ← e3, ← e4, ← e5]
      rfl

end Cert.PleClaim

end
-- ==== Proof.InBwd.lean ====
/- The backward pass of the first norm and of the in-projection: the kernel's results index by index, and the reference's. -/
module

public import proofs.«01_k».proof.Defs
public import proofs.«01_k».proof.Proof.Finite
public import proofs.«01_k».proof.Pre_finite2
public import proofs.«01_k».proof.Proof.Gen.Pre_finite2
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.Row (row)

/-- The gradient at a normalised row: the gradient at its projection times the weights, transposed. -/
def Cert.InBwd.dnorm (d : Fin 2176 → EReal) (w : Fin 1024 → Fin 2176 → EReal) (k : Fin 1024) : EReal := ∑ j, d j * w k j

namespace Cert.Kernel2Ideal.Point
open Cert.Kernel2Ideal Cert.Kernel2Ideal.Gen

variable (p : FVec Ideal S512x2176 .f32) (x : FVec Ideal S512x1024 .f32) (g : FVec Ideal S1x1024 .f32)
  (w : FVec Ideal S1024x2176 .f32) (wt : FVec Ideal S2176x1024 .bf16)

theorem rr_at (r : Fin 512) (c : Fin 1) : k0_pay5 (F := Ideal) x (ix2 r c) = Row.rr (row x r) := by
  pointwise [k0_pay5]
  rfl

theorem hat_at (r : Fin 512) (k : Fin 1024) : k0_pay10 (F := Ideal) x (ix2 r k) = Row.hat (row x r) k := by
  pointwise [k0_pay10, rr_at]
  rfl

/-- The last operand of the second product is the weights transposed. -/
def Turned : Prop := ∀ j k, wt (ix2 j k) = w (ix2 k j)

variable {w wt}

theorem dnorm_at (h : Turned w wt) (r : Fin 512) (k : Fin 1024) :
    k0_pay9 (F := Ideal) p wt (ix2 r k) = InBwd.dnorm (row p r) (row w) k := by
  pointwise [k0_pay9, k0_pay7, h _ _]
  rfl

/-- The block of the first result. -/
theorem dx_at (h : Turned w wt) (d : FVec Ideal S512x1024 .f32) (r : Fin 512) (k : Fin 1024) :
    k0_pay1 (F := Ideal) (k0_pay5 x) (k0_pay10 x) (k0_pay11 g p wt) (k0_pay12 x g p wt) (Scalar.ofBits .f32 0x44800000#32) d (ix2 r k)
      = row d r k + Row.back (row x r) (row g 0) (InBwd.dnorm (row p r) (row w)) k := by
  pointwise [k0_pay1, k0_pay11, k0_pay12, k0_pay6, hat_at, dnorm_at p h, rr_at]
  rfl

/-- One point's share of the weights' gradient. -/
theorem dw_at (acc : FVec Ideal S1024x2176 .f32) (k : Fin 1024) (j : Fin 2176) :
    k0_pay8 (F := Ideal) x g p acc (ix2 k j)
      = acc (ix2 k j) + ∑ r : Fin 512, Row.nrm (row x r) (row g 0) k * row p r j := by
  pointwise [k0_pay8, k0_pay7, k0_pay6, rr_at]
  rfl

/-- One point's share of the gain's gradient. -/
theorem dg_at (h : Turned w wt) (acc : FVec Ideal S1x1024 .f32) (i : Fin 1) (k : Fin 1024) :
    k0_pay2 (F := Ideal) (k0_pay9 p wt) (k0_pay10 x) acc (ix2 i k)
      = acc (ix2 i k) + ∑ r : Fin 512, InBwd.dnorm (row p r) (row w) k * Row.hat (row x r) k := by
  pointwise [k0_pay2, hat_at, dnorm_at p h]

theorem zero6 (k : Fin 1024) (j : Fin 2176) : k0_pay3 (F := Ideal) (ix2 k j) = 0 := by pointwise [k0_pay3]
theorem zero7 (k : Fin 1) (j : Fin 1024) : k0_pay4 (F := Ideal) (ix2 k j) = 0 := by pointwise [k0_pay4]

end Cert.Kernel2Ideal.Point

namespace Cert.Kernel2Ideal.Value
open Cert.Kernel2Ideal Cert.Kernel2Ideal.Gen

variable (m : (ℓ : Loc nD τ sig) → Buf (Elt Ideal) ℓ)

theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![t.val, 0] ∧ win0_6.index t = ![0, 0]
    ∧ win0_7.index t = ![0, 0] :=
  (by decide +kernel : ∀ t : Fin grid0.N, _)

/-- The arguments of the call at a device. -/
def aP (c : Dev nD) : FVec Ideal S16384x2176 .f32 := m ((c : Thread nD τ).loc main_arg0)
def aX (c : Dev nD) : FVec Ideal S16384x1024 .f32 := m ((c : Thread nD τ).loc main_arg1)
def aG (c : Dev nD) : FVec Ideal S1024 .f32 := m ((c : Thread nD τ).loc main_arg2)
def aW (c : Dev nD) : FVec Ideal S1024x2176 .f32 := m ((c : Thread nD τ).loc main_arg3)
def aD (c : Dev nD) : FVec Ideal S16384x1024 .f32 := m ((c : Thread nD τ).loc main_arg4)

/-- Row `r` of block `t`, among all rows. -/
def at' (t : Fin cfg0.N) (r : Fin 512) : Fin 16384 := ⟨t.val * 512 + r.val, by have := t.isLt; have : cfg0.N = 32 := N_0; omega⟩

theorem row_p (c : Dev nD) (t : Fin cfg0.N) (r : Fin 512) :
    row (show FVec Ideal S512x2176 .f32 from iblk m c 0 t) r = row (aP m c) (at' t r) := by
  funext k
  show (show FVec Ideal S512x2176 .f32 from iblk m c 0 t) (ix2 r k) = aP m c (ix2 (at' t r) k)
  unfold aP at'
  blk_ext [iblk, V, idx t]

theorem row_x (c : Dev nD) (t : Fin cfg0.N) (r : Fin 512) :
    row (show FVec Ideal S512x1024 .f32 from iblk m c 1 t) r = row (aX m c) (at' t r) := by
  funext k
  show (show FVec Ideal S512x1024 .f32 from iblk m c 1 t) (ix2 r k) = aX m c (ix2 (at' t r) k)
  unfold aX at'
  blk_ext [iblk, V, idx t]

theorem row_g (c : Dev nD) (t : Fin cfg0.N) :
    row (show FVec Ideal S1x1024 .f32 from iblk m c 2 t) 0 = fun k => aG m c (ix1 k) := by
  funext k
  show (show FVec Ideal S1x1024 .f32 from iblk m c 2 t) (ix2 0 k) = aG m c (ix1 k)
  unfold aG
  blk_point [iblk, V, idx t]

theorem row_d (c : Dev nD) (t : Fin cfg0.N) (r : Fin 512) :
    row (show FVec Ideal S512x1024 .f32 from iblk m c 4 t) r = row (aD m c) (at' t r) := by
  funext k
  show (show FVec Ideal S512x1024 .f32 from iblk m c 4 t) (ix2 r k) = aD m c (ix2 (at' t r) k)
  unfold aD at'
  blk_ext [iblk, V, idx t]

theorem turned (c : Dev nD) (t : Fin cfg0.N) : Point.Turned (aW m c) (show FVec Ideal S2176x1024 .bf16 from iblk m c 3 t) := by
  intro j k
  unfold aW
  blk_point [iblk, V, idx t]

abbrev nrmR (c : Dev nD) (i : Fin 16384) : Fin 1024 → EReal := Row.nrm (row (aX m c) i) fun k => aG m c (ix1 k)
abbrev dnormR (c : Dev nD) (i : Fin 16384) : Fin 1024 → EReal := InBwd.dnorm (row (aP m c) i) (row (aW m c))

/-- The three results: the gradient at the row, of the weights, and of the gain. -/
def DX (c : Dev nD) : FVec Ideal S16384x1024 .f32 := fun i =>
  row (aD m c) (i 0) (i 1) + Row.back (row (aX m c) (i 0)) (fun k => aG m c (ix1 k)) (dnormR m c (i 0)) (i 1)
def DW (c : Dev nD) : FVec Ideal S1024x2176 .f32 := fun i => ∑ r : Fin 16384, nrmR m c r (i 0) * row (aP m c) r (i 1)
def DG (c : Dev nD) : FVec Ideal S1x1024 .f32 := fun i =>
  ∑ r : Fin 16384, dnormR m c r (i 1) * Row.hat (row (aX m c) r) (i 1)

theorem point5 (c : Dev nD) (t : Fin cfg0.N) (r : Fin 512) (k : Fin 1024) :
    k0_pay1 (F := Ideal) (k0_pay5 (iblk m c 1 t)) (k0_pay10 (iblk m c 1 t)) (k0_pay11 (iblk m c 2 t) (iblk m c 0 t) (iblk m c 3 t))
      (k0_pay12 (iblk m c 1 t) (iblk m c 2 t) (iblk m c 0 t) (iblk m c 3 t)) (Scalar.ofBits .f32 0x44800000#32) (iblk m c 4 t) (ix2 r k)
      = DX m c (ix2 (at' t r) k) := by
  refine (Point.dx_at _ _ _ (turned m c t) _ r k).trans ?_
  rw [row_d, row_x, row_p, row_g]
  rfl

theorem final5 (c : Dev nD) : (dats m 0 c).arrAt 5 (cfgs 0).N = DX m c := by
  refine (dats m 0 c).arrAt_eq_of_covers 5 _ (by decide +kernel) fun t _ y => ?_
  blk_simp
  rw [after0_5]
  have e := point5 m c t (y 0) (y 1)
  rw [← eq_ix2 (show S512x1024.Idx from y)] at e
  have hp : (ix2 (at' t (y 0)) (y 1) : S16384x1024.Idx) = (win0_5.blk t).view.emb y := by
    unfold at'
    blk_ext [idx t]
  rw [hp] at e
  by_cases h0 : t.val % 32 = 0
  · rw [outsAt0_A m c t h0]
    frame_out
    exact e
  · rw [outsAt0_B m c t h0]
    frame_out
    exact e

/-- The points' rows, added point by point, are all rows. -/
theorem sum_rows (f : Fin 16384 → EReal) (t : Fin cfg0.N) (h : ∀ s : Fin 32, 32 * (t.val / 32) + s.val < cfg0.N) :
    ∑ s : Fin 32, ∑ r : Fin 512, f (at' ⟨32 * (t.val / 32) + s.val, h s⟩ r) = ∑ i : Fin 16384, f i := by
  refine Fin.sum_mul_add_congr fun s k hl => congrArg f (Fin.ext ?_)
  have := t.isLt
  have hN : cfg0.N = 32 := N_0
  show (32 * (t.val / 32) + s.val) * 512 + k.val = s.val * 512 + k.val
  omega

/-- One point's share of the weights' gradient. -/
def part6 (c : Dev nD) (t : Fin cfg0.N) (j : S1024x2176.Idx) : EReal :=
  ∑ r : Fin 512, nrmR m c (at' t r) (j 0) * row (aP m c) (at' t r) (j 1)

theorem step6 (c : Dev nD) (t : Fin cfg0.N) (acc : FVec Ideal S1024x2176 .f32) (j : S1024x2176.Idx) :
    k0_pay8 (F := Ideal) (iblk m c 1 t) (iblk m c 2 t) (iblk m c 0 t) acc j = acc j + part6 m c t j := by
  rw [eq_ix2 j]
  refine (Point.dw_at _ _ _ acc (j 0) (j 1)).trans ?_
  exact congrArg (acc _ + ·) (Finset.sum_congr rfl fun r _ => by rw [row_x, row_p, row_g]; rfl)

theorem final6 (c : Dev nD) : (dats m 0 c).arrAt 6 (cfgs 0).N = DW m c := by
  refine (dats m 0 c).arrAt_eq_of_covers 6 _ (by decide +kernel) fun t hf y => ?_
  blk_simp
  rw [after0_6, Pipeline.eq_sum_fin_of_reset_step_apply_of_flush (fun n h => (outsAt0 m c n h).2.1) 32 (fun _ => 0) (part6 m c)
    (fun t h j => by rw [outsAt0_A m c t h]; frame_out; rw [step6]; exact congrArg (· + _) (by rw [eq_ix2 j]; exact Point.zero6 _ _))
    (fun t h j => by rw [outsAt0_B m c t h]; frame_out; rw [step6])
    t ((flush0_6 t).mp hf) _, zero_add]
  have hp : (win0_6.blk t).view.emb y = (show S1024x2176.Idx from y) := by blk_ext [idx t]
  rw [hp]
  exact sum_rows (fun i => nrmR m c i (y 0) * row (aP m c) i (y 1)) t _

/-- One point's share of the gain's gradient. -/
def part7 (c : Dev nD) (t : Fin cfg0.N) (j : S1x1024.Idx) : EReal :=
  ∑ r : Fin 512, dnormR m c (at' t r) (j 1) * Row.hat (row (aX m c) (at' t r)) (j 1)

theorem step7 (c : Dev nD) (t : Fin cfg0.N) (acc : FVec Ideal S1x1024 .f32) (j : S1x1024.Idx) :
    k0_pay2 (F := Ideal) (k0_pay9 (iblk m c 0 t) (iblk m c 3 t)) (k0_pay10 (iblk m c 1 t)) acc j = acc j + part7 m c t j := by
  rw [eq_ix2 j]
  refine (Point.dg_at _ _ (turned m c t) acc (j 0) (j 1)).trans ?_
  exact congrArg (acc _ + ·) (Finset.sum_congr rfl fun r _ => by rw [row_x, row_p]; rfl)

theorem final7 (c : Dev nD) : (dats m 0 c).arrAt 7 (cfgs 0).N = DG m c := by
  refine (dats m 0 c).arrAt_eq_of_covers 7 _ (by decide +kernel) fun t hf y => ?_
  blk_simp
  rw [after0_7, Pipeline.eq_sum_fin_of_reset_step_apply_of_flush (fun n h => (outsAt0 m c n h).2.2) 32 (fun _ => 0) (part7 m c)
    (fun t h j => by rw [outsAt0_A m c t h]; frame_out; rw [step7]; exact congrArg (· + _) (by rw [eq_ix2 j]; exact Point.zero7 _ _))
    (fun t h j => by rw [outsAt0_B m c t h]; frame_out; rw [step7])
    t ((flush0_7 t).mp hf) _, zero_add]
  have hp : (win0_7.blk t).view.emb y = (show S1x1024.Idx from y) := by blk_ext [idx t]
  rw [hp]
  exact sum_rows (fun i => dnormR m c i (y 1) * Row.hat (row (aX m c) i) (y 1)) t _

end Cert.Kernel2Ideal.Value

namespace Cert.Reference2Ideal.Point
open Cert.Reference2Ideal Cert.Reference2Ideal.Gen Cert.Reference2Ideal.Read

variable (p : FVec Ideal S16384x2176 .f32) (x : FVec Ideal S16384x1024 .f32) (g : FVec Ideal S1024 .f32)
  (w : FVec Ideal S1024x2176 .f32) (d : FVec Ideal S16384x1024 .f32)

theorem rr_at (r : Fin 16384) (c : Fin 1) : val_main_v7 (F := Ideal) x (ix2 r c) = Row.rr (row x r) := by
  pointwise [val_main_v7, val_main_v6, val_main_v5, val_main_v4, val_main_v3, val_main_v2, val_main_v1, val_main_v0,
    val_main_cst, val_main_cst_0, val_main_cst_1]
  rfl

theorem dnorm_at (r : Fin 16384) (k : Fin 1024) : val_main_v19 (F := Ideal) p w (ix2 r k) = InBwd.dnorm (row p r) (row w) k := by
  pointwise [val_main_v19]
  rfl

theorem dw_at (k : Fin 1024) (j : Fin 2176) : val_main_v18 (F := Ideal) p x g (ix2 k j)
      = ∑ r : Fin 16384, Row.nrm (row x r) (fun k => g (ix1 k)) k * row p r j := by
  pointwise [val_main_v18, val_main_v17, val_main_v15, val_main_v14, val_main_v13, val_main_v12, val_main_v11, rr_at]
  exact Finset.sum_congr rfl fun r _ => mul_comm _ _

theorem dg_at (i : Fin 1) (k : Fin 1024) : val_main_v41 (F := Ideal) p x w (ix2 i k)
      = ∑ r : Fin 16384, InBwd.dnorm (row p r) (row w) k * Row.hat (row x r) k := by
  pointwise [val_main_v41, val_main_v25, val_main_v22, val_main_v21, val_main_v20, val_main_v12, val_main_v11, rr_at, dnorm_at,
    val_main_cst_3, val_main_cst_4]
  simp only [Finset.univ_unique, Finset.sum_singleton, zero_add]
  exact Finset.sum_congr rfl fun r _ => mul_comm _ _

theorem dx_at (hp : Reals.Real' p) (hx : Reals.Real' x) (hg : Reals.Real' g) (hw : Reals.Real' w) (r : Fin 16384) (k : Fin 1024) :
    val_main_v40 (F := Ideal) p x g w d (ix2 r k)
      = row d r k + Row.back (row x r) (fun k => g (ix1 k)) (InBwd.dnorm (row p r) (row w)) k := by
  rw [← Reals.backR_eq (row x r) (fun k => g (ix1 k)) (InBwd.dnorm (row p r) (row w)) (Reals.real_comp hx _) (Reals.real_comp hg _)
    (Reals.real_sum _ fun k => Reals.real_mul (Reals.real_comp hp _) (Reals.real_comp hw _))]
  pointwise [val_main_v40, val_main_v39, val_main_v38, val_main_v37, val_main_v36, val_main_v35, val_main_v34, val_main_v33,
    val_main_v32, val_main_v31, val_main_v30, val_main_v29, val_main_v28, val_main_v27, val_main_v26, val_main_v24, val_main_v23,
    val_main_v13, rr_at, dnorm_at, val_main_v10, val_main_v9, val_main_v8, val_main_v6, val_main_v5, val_main_v4, val_main_v3,
    val_main_v2, val_main_v1, val_main_v0, val_main_cst, val_main_cst_0, val_main_cst_1, val_main_cst_2, val_main_cst_5,
    val_main_cst_6, val_main_cst_7]
  simp only [Finset.univ_unique, Finset.sum_singleton, zero_add]
  unfold Reals.backR
  rfl

end Cert.Reference2Ideal.Point

namespace Cert.InBwd

theorem refFrame : Cert.quiescent_Reference2Ideal := fun m ρ _ =>
  (θ_run Cert.Reference2Ideal.defs _ _).mono (fun r h => ⟨fun c => (h c).2.2.2,
    sem_eq_zero_of_no_sems (by decide) r.2⟩) (Cert.Reference2Ideal.Value.run (F := Ideal) m ρ)

theorem refFrame' : Cert.quiescent_Reference2Ideal_pre_finite2 := fun m ρ _ => refFrame m ρ trivial

/-- The precondition's four conjuncts. -/
theorem finite_args (p x g w d) (h : Cert.Pre_finite2.fn (F := Ideal) p x g w d = fun _ => 1#1) :
    Reals.Real' p ∧ Reals.Real' x ∧ Reals.Real' g ∧ Reals.Real' w := by
  have h0 := congrFun h (fun a => a.elim0)
  unfold Cert.Pre_finite2.fn Cert.Pre_finite2.fn_part1 at h0
  dsimp only at h0
  simp only [andi, IntOp.andi_eq_one] at h0
  obtain ⟨⟨⟨h1, h2⟩, h3⟩, h4⟩ := h0
  exact ⟨Finite.real_of_all _ _ _ _ _ _ _ h1, Finite.real_of_all _ _ _ _ _ _ _ h2, Finite.real_of_all _ _ _ _ _ _ _ h3,
    Finite.real_of_all _ _ _ _ _ _ _ h4⟩

section
open Cert.Reference2Ideal Cert.Reference2Ideal.Read

variable (m : (ℓ : Loc Kernel2Ideal.nD Kernel2Ideal.τ Kernel2Ideal.sig) → Buf (Elt Ideal) ℓ) (c : Dev Kernel2Ideal.nD)

open Cert.Kernel2Ideal.Value (aD aX aP aG aW DX DW DG)

theorem ref0 (h : Cert.Pre_finite2.fn (F := Ideal) (aP m c) (aX m c) (aG m c) (aW m c) (aD m c) = fun _ => 1#1) :
    val_main_v40 (F := Ideal) (aP m c) (aX m c) (aG m c) (aW m c) (aD m c) = DX m c := by
  obtain ⟨h1, h2, h3, h4⟩ := finite_args _ _ _ _ _ h
  exact funext fun i => by rw [eq_ix2 i]; exact Reference2Ideal.Point.dx_at _ _ _ _ _ h1 h2 h3 h4 (i 0) (i 1)

theorem ref1 : val_main_v18 (F := Ideal) (aP m c) (aX m c) (aG m c) = DW m c :=
  funext fun i => by rw [eq_ix2 i]; exact Reference2Ideal.Point.dw_at _ _ _ (i 0) (i 1)

theorem ref2 : val_main_v41 (F := Ideal) (aP m c) (aX m c) (aW m c) = DG m c :=
  funext fun i => by rw [eq_ix2 i]; exact Reference2Ideal.Point.dg_at _ _ _ (i 0) (i 1)

end

open Cert.Kernel2Ideal.Value in
/-- The kernel's three results are the reference's, over the extended reals. -/
theorem values : Cert.algebraic_Kernel2Ideal_Reference2Ideal_pre_finite2 := by
  intro m g m' g' hpre hag
  refine ⟨fun c => DX m c, fun c => DW m c, fun c => DG m c, ?_, ?_⟩
  · refine (θ_run Kernel2Ideal.defs _ _).mono (fun r h c => ?_) (run_blocks m g)
    obtain ⟨h0, h1, h2, hr⟩ := h c
    exact ⟨h0.trans (final5 m c), h1.trans (final6 m c), h2.trans (final7 m c), hr⟩
  · refine (θ_run Reference2Ideal.defs _ _).mono (fun r h c => ?_) (Reference2Ideal.Value.run m' g')
    obtain ⟨h0, h1, h2, hr⟩ := h c
    obtain ⟨e0, e1, e2, e3, e4⟩ := hag c
    refine ⟨h0.trans ?_, h1.trans ?_, h2.trans ?_, hr⟩
    · refine Eq.trans ?_ (ref0 m c (hpre c))
      unfold aD aX aP aG aW
      rw [← e0, ← e1, ← e2, ← e3, ← e4]
      rfl
    · refine Eq.trans ?_ (ref1 m c)
      unfold aX aP aG
      rw [← e0, ← e1, ← e2]
      rfl
    · refine Eq.trans ?_ (ref2 m c)
      unfold aX aP aW
      rw [← e0, ← e1, ← e3]
      rfl

end Cert.InBwd

end

end
-- ==== Proof.OutBwd.lean ====
/- The backward pass of the out-projection: the kernel's results index by index, and the reference's. -/
module

public import proofs.«01_k».proof.Defs
public import proofs.«01_k».proof.Proof.RowNorm
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.Row (row)

namespace Cert.Kernel3Ideal.Point
open Cert.Kernel3Ideal Cert.Kernel3Ideal.Gen

variable (d : FVec Ideal S1024x1024 .f32) (y wt : FVec Ideal S1024x1024 .bf16)

/-- The block of the first result. -/
theorem dy_at (r k : Fin 1024) : k0_pay3 (F := Ideal) d wt (ix2 r k) = ∑ j : Fin 1024, row d r j * wt (ix2 j k) := by
  pointwise [k0_pay3, k0_pay2]

/-- One point's share of the weights' gradient. -/
theorem dw_at (acc : FVec Ideal S1024x1024 .f32) (k j : Fin 1024) :
    k0_pay4 (F := Ideal) d acc y (ix2 k j) = acc (ix2 k j) + ∑ r : Fin 1024, row y r k * row d r j := by
  pointwise [k0_pay4, k0_pay2]

theorem zero4 (k j : Fin 1024) : k0_pay1 (F := Ideal) (ix2 k j) = 0 := by pointwise [k0_pay1]

end Cert.Kernel3Ideal.Point

namespace Cert.Kernel3Ideal.Value
open Cert.Kernel3Ideal Cert.Kernel3Ideal.Gen

variable (m : (ℓ : Loc nD τ sig) → Buf (Elt Ideal) ℓ)

theorem idx : ∀ t : Fin cfg0.N, win0_0.index t = ![t.val, 0] ∧ win0_1.index t = ![t.val, 0] ∧ win0_2.index t = ![0, 0]
    ∧ win0_3.index t = ![t.val, 0] ∧ win0_4.index t = ![0, 0] :=
  (by decide +kernel : ∀ t : Fin grid0.N, _)

/-- The arguments of the call at a device. -/
def aD (c : Dev nD) : FVec Ideal S16384x1024 .f32 := m ((c : Thread nD τ).loc main_arg0)
def aY (c : Dev nD) : FVec Ideal S16384x1024 .f32 := m ((c : Thread nD τ).loc main_arg1)
def aW (c : Dev nD) : FVec Ideal S1024x1024 .f32 := m ((c : Thread nD τ).loc main_arg2)

/-- Row `r` of block `t`, among all rows. -/
def at' (t : Fin cfg0.N) (r : Fin 1024) : Fin 16384 := ⟨t.val * 1024 + r.val, by have := t.isLt; have : cfg0.N = 16 := N_0; omega⟩

theorem row_d (c : Dev nD) (t : Fin cfg0.N) (r : Fin 1024) :
    row (show FVec Ideal S1024x1024 .f32 from iblk m c 0 t) r = row (aD m c) (at' t r) := by
  funext k
  show (show FVec Ideal S1024x1024 .f32 from iblk m c 0 t) (ix2 r k) = aD m c (ix2 (at' t r) k)
  unfold aD at'
  blk_ext [iblk, V, idx t]

theorem row_y (c : Dev nD) (t : Fin cfg0.N) (r : Fin 1024) :
    row (show FVec Ideal S1024x1024 .bf16 from iblk m c 1 t) r = row (aY m c) (at' t r) := by
  funext k
  show (show FVec Ideal S1024x1024 .bf16 from iblk m c 1 t) (ix2 r k) = aY m c (ix2 (at' t r) k)
  unfold aY at'
  blk_point [iblk, V, idx t]

theorem turned (c : Dev nD) (t : Fin cfg0.N) (j k : Fin 1024) :
    (show FVec Ideal S1024x1024 .bf16 from iblk m c 2 t) (ix2 j k) = aW m c (ix2 k j) := by
  unfold aW
  blk_point [iblk, V, idx t]

/-- The two results: the gradient at the mixed row, and of the weights. -/
def DY (c : Dev nD) : FVec Ideal S16384x1024 .f32 := fun i => ∑ j : Fin 1024, row (aD m c) (i 0) j * aW m c (ix2 (i 1) j)
def DW (c : Dev nD) : FVec Ideal S1024x1024 .f32 := fun i => ∑ r : Fin 16384, row (aY m c) r (i 0) * row (aD m c) r (i 1)

theorem point3 (c : Dev nD) (t : Fin cfg0.N) (r k : Fin 1024) :
    k0_pay3 (F := Ideal) (iblk m c 0 t) (iblk m c 2 t) (ix2 r k) = DY m c (ix2 (at' t r) k) := by
  refine (Point.dy_at _ _ r k).trans ?_
  exact Finset.sum_congr rfl fun j _ => congrArg₂ (· * ·) (congrFun (row_d m c t r) j) (turned m c t j k)

theorem final3 (c : Dev nD) : (dats m 0 c).arrAt 3 (cfgs 0).N = DY m c := by
  refine (dats m 0 c).arrAt_eq_of_covers 3 _ (by decide +kernel) fun t _ y => ?_
  blk_simp
  rw [after0_3]
  have e := point3 m c t (y 0) (y 1)
  rw [← eq_ix2 (show S1024x1024.Idx from y)] at e
  have hp : (ix2 (at' t (y 0)) (y 1) : S16384x1024.Idx) = (win0_3.blk t).view.emb y := by
    unfold at'
    blk_ext [idx t]
  rw [hp] at e
  by_cases h0 : t.val % 16 = 0
  · rw [outsAt0_A m c t h0]
    frame_out
    exact e
  · rw [outsAt0_B m c t h0]
    frame_out
    exact e

/-- The points' rows, added point by point, are all rows. -/
theorem sum_rows (f : Fin 16384 → EReal) (t : Fin cfg0.N) (h : ∀ s : Fin 16, 16 * (t.val / 16) + s.val < cfg0.N) :
    ∑ s : Fin 16, ∑ r : Fin 1024, f (at' ⟨16 * (t.val / 16) + s.val, h s⟩ r) = ∑ i : Fin 16384, f i := by
  refine Fin.sum_mul_add_congr fun s k hl => congrArg f (Fin.ext ?_)
  have := t.isLt
  have hN : cfg0.N = 16 := N_0
  show (16 * (t.val / 16) + s.val) * 1024 + k.val = s.val * 1024 + k.val
  omega

/-- One point's share of the weights' gradient. -/
def part4 (c : Dev nD) (t : Fin cfg0.N) (j : S1024x1024.Idx) : EReal :=
  ∑ r : Fin 1024, row (aY m c) (at' t r) (j 0) * row (aD m c) (at' t r) (j 1)

theorem step4 (c : Dev nD) (t : Fin cfg0.N) (acc : FVec Ideal S1024x1024 .f32) (j : S1024x1024.Idx) :
    k0_pay4 (F := Ideal) (iblk m c 0 t) acc (iblk m c 1 t) j = acc j + part4 m c t j := by
  rw [eq_ix2 j]
  refine (Point.dw_at _ _ acc (j 0) (j 1)).trans ?_
  exact congrArg (acc _ + ·) (Finset.sum_congr rfl fun r _ =>
    congrArg₂ (· * ·) (congrFun (row_y m c t r) (j 0)) (congrFun (row_d m c t r) (j 1)))

theorem final4 (c : Dev nD) : (dats m 0 c).arrAt 4 (cfgs 0).N = DW m c := by
  refine (dats m 0 c).arrAt_eq_of_covers 4 _ (by decide +kernel) fun t hf y => ?_
  blk_simp
  rw [after0_4, Pipeline.eq_sum_fin_of_reset_step_apply_of_flush (fun n h => (outsAt0 m c n h).2) 16 (fun _ => 0) (part4 m c)
    (fun t h j => by rw [outsAt0_A m c t h]; frame_out; rw [step4]; exact congrArg (· + _) (by rw [eq_ix2 j]; exact Point.zero4 _ _))
    (fun t h j => by rw [outsAt0_B m c t h]; frame_out; rw [step4])
    t ((flush0_4 t).mp hf) _, zero_add]
  have hp : (win0_4.blk t).view.emb y = (show S1024x1024.Idx from y) := by blk_ext [idx t]
  rw [hp]
  exact sum_rows (fun i => row (aY m c) i (y 0) * row (aD m c) i (y 1)) t _

end Cert.Kernel3Ideal.Value

namespace Cert.OutBwd

theorem refFrame : Cert.quiescent_Reference3Ideal := fun m ρ _ =>
  (θ_run Cert.Reference3Ideal.defs _ _).mono (fun r h => ⟨fun c => (h c).2.2,
    sem_eq_zero_of_no_sems (by decide) r.2⟩) (Cert.Reference3Ideal.Value.run (F := Ideal) m ρ)

section
open Cert.Reference3Ideal Cert.Reference3Ideal.Read

variable (m : (ℓ : Loc Kernel3Ideal.nD Kernel3Ideal.τ Kernel3Ideal.sig) → Buf (Elt Ideal) ℓ) (c : Dev Kernel3Ideal.nD)

open Cert.Kernel3Ideal.Value (aD aY aW DY DW)

theorem ref0 : val_main_v3 (F := Ideal) (aD m c) (aW m c) = DY m c :=
  funext fun i => by
    rw [eq_ix2 i]
    pointwise [val_main_v3]
    rfl

theorem ref1 : val_main_v2 (F := Ideal) (aD m c) (aY m c) = DW m c :=
  funext fun i => by
    rw [eq_ix2 i]
    pointwise [val_main_v2, val_main_v1]
    exact Finset.sum_congr rfl fun r _ => mul_comm _ _

end

open Cert.Kernel3Ideal.Value in
/-- The kernel's two results are the reference's, over the extended reals. -/
theorem values : Cert.algebraic_Kernel3Ideal_Reference3Ideal := by
  intro m g m' g' hpre hag
  refine ⟨fun c => DY m c, fun c => DW m c, ?_, ?_⟩
  · refine (θ_run Kernel3Ideal.defs _ _).mono (fun r h c => ?_) (run_blocks m g)
    obtain ⟨h0, h1, hr⟩ := h c
    exact ⟨h0.trans (final3 m c), h1.trans (final4 m c), hr⟩
  · refine (θ_run Reference3Ideal.defs _ _).mono (fun r h c => ?_) (Reference3Ideal.Value.run m' g')
    obtain ⟨h0, h1, hr⟩ := h c
    obtain ⟨e0, e1, e2⟩ := hag c
    refine ⟨h0.trans ?_, h1.trans ?_, hr⟩
    · refine Eq.trans ?_ (ref0 m c)
      unfold aD aW
      rw [← e0, ← e2]
      rfl
    · refine Eq.trans ?_ (ref1 m c)
      unfold aD aY
      rw [← e0, ← e1]
      rfl

end Cert.OutBwd

end

end
-- ==== Proof.DwUp.lean ====
/- The gradient of the up-projection's weights: the kernel's result index by index, and the reference's. -/
module

public import proofs.«01_k».proof.Defs
public import proofs.«01_k».proof.Proof.RowNorm
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.Row (row)

namespace Cert.Kernel4Ideal.Point
open Cert.Kernel4Ideal Cert.Kernel4Ideal.Gen

/-- One point's share of the product. -/
theorem dw_at (a : FVec Ideal S1024x1024 .bf16) (b : FVec Ideal S1024x1408 .bf16) (acc : FVec Ideal S1024x1408 .f32) (k : Fin 1024) (j : Fin 1408) :
    k0_pay2 (F := Ideal) acc a b (ix2 k j) = acc (ix2 k j) + ∑ r : Fin 1024, row a r k * row b r j := by
  pointwise [k0_pay2]

theorem zero2 (k : Fin 1024) (j : Fin 1408) : k0_pay1 (F := Ideal) (ix2 k j) = 0 := by pointwise [k0_pay1]

end Cert.Kernel4Ideal.Point

namespace Cert.Kernel4Ideal.Value
open Cert.Kernel4Ideal Cert.Kernel4Ideal.Gen

variable (m : (ℓ : Loc nD τ sig) → Buf (Elt Ideal) ℓ)

theorem idx : ∀ t : Fin cfg0.N, win0_0.index t = ![t.val % 16, 0] ∧ win0_1.index t = ![t.val % 16, t.val / 16]
    ∧ win0_2.index t = ![0, t.val / 16] :=
  (by decide +kernel : ∀ t : Fin grid0.N, _)

/-- The arguments of the call at a device. -/
def aA (c : Dev nD) : FVec Ideal S16384x1024 .f32 := m ((c : Thread nD τ).loc main_arg0)
def aB (c : Dev nD) : FVec Ideal S16384x5632 .f32 := m ((c : Thread nD τ).loc main_arg1)

/-- Row `r` of the rows that point `t` adds, among all rows. -/
def at' (t : Fin cfg0.N) (r : Fin 1024) : Fin 16384 := ⟨t.val % 16 * 1024 + r.val, by omega⟩

/-- Column `k` of the tile that point `t` adds to, among all columns. -/
def col (t : Fin cfg0.N) (k : Fin 1408) : Fin 5632 :=
  ⟨t.val / 16 * 1408 + k.val, by have := t.isLt; have : cfg0.N = 64 := N_0; omega⟩

theorem row_a (c : Dev nD) (t : Fin cfg0.N) (r : Fin 1024) (k : Fin 1024) :
    row (show FVec Ideal S1024x1024 .bf16 from iblk m c 0 t) r k = row (aA m c) (at' t r) k := by
  show (show FVec Ideal S1024x1024 .bf16 from iblk m c 0 t) (ix2 r k) = aA m c (ix2 (at' t r) k)
  unfold aA at'
  blk_point [iblk, V, idx t]

theorem row_b (c : Dev nD) (t : Fin cfg0.N) (r : Fin 1024) (k : Fin 1408) :
    row (show FVec Ideal S1024x1408 .bf16 from iblk m c 1 t) r k = row (aB m c) (at' t r) (col t k) := by
  show (show FVec Ideal S1024x1408 .bf16 from iblk m c 1 t) (ix2 r k) = aB m c (ix2 (at' t r) (col t k))
  unfold aB at' col
  blk_point [iblk, V, idx t]

/-- The result: the gradient of the weights. -/
def DW (c : Dev nD) : FVec Ideal S1024x5632 .f32 := fun i => ∑ r : Fin 16384, row (aA m c) r (i 0) * row (aB m c) r (i 1)

/-- The rows of the points of one tile, added point by point, are all rows. -/
theorem sum_rows (f : Fin 16384 → EReal) (t : Fin cfg0.N) (h : ∀ s : Fin 16, 16 * (t.val / 16) + s.val < cfg0.N) :
    ∑ s : Fin 16, ∑ r : Fin 1024, f (at' ⟨16 * (t.val / 16) + s.val, h s⟩ r) = ∑ i : Fin 16384, f i := by
  refine Fin.sum_mul_add_congr fun s k hl => congrArg f (Fin.ext ?_)
  show (16 * (t.val / 16) + s.val) % 16 * 1024 + k.val = s.val * 1024 + k.val
  omega

/-- The points of one tile add to the same columns. -/
theorem col_run (t : Fin cfg0.N) (s : Fin 16) (h : 16 * (t.val / 16) + s.val < cfg0.N) (k : Fin 1408) :
    col ⟨16 * (t.val / 16) + s.val, h⟩ k = col t k := by
  refine Fin.ext ?_
  show (16 * (t.val / 16) + s.val) / 16 * 1408 + k.val = t.val / 16 * 1408 + k.val
  omega

/-- One point's share of the gradient. -/
def partDW (c : Dev nD) (t : Fin cfg0.N) (j : S1024x1408.Idx) : EReal :=
  ∑ r : Fin 1024, row (aA m c) (at' t r) (j 0) * row (aB m c) (at' t r) (col t (j 1))

theorem stepDW (c : Dev nD) (t : Fin cfg0.N) (acc : FVec Ideal S1024x1408 .f32) (j : S1024x1408.Idx) :
    k0_pay2 (F := Ideal) acc (iblk m c 0 t) (iblk m c 1 t) j = acc j + partDW m c t j := by
  rw [eq_ix2 j]
  refine (Point.dw_at _ _ acc (j 0) (j 1)).trans ?_
  exact congrArg (acc _ + ·) (Finset.sum_congr rfl fun r _ =>
    congrArg₂ (· * ·) (row_a m c t r (j 0)) (row_b m c t r (j 1)))

/-- The shares of the points of one tile make the gradient there. -/
theorem total (c : Dev nD) (t : Fin cfg0.N) (y : S1024x1408.Idx) (h : ∀ s : Fin 16, 16 * (t.val / 16) + s.val < cfg0.N) :
    ∑ s : Fin 16, partDW m c ⟨16 * (t.val / 16) + s.val, h s⟩ y = DW m c (ix2 (y 0) (col t (y 1))) := by
  refine Eq.trans ?_ (sum_rows (fun i => row (aA m c) i (y 0) * row (aB m c) i (col t (y 1))) t h)
  exact Finset.sum_congr rfl fun s _ => Finset.sum_congr rfl fun r _ =>
    congrArg (fun k => row (aA m c) _ (y 0) * row (aB m c) _ k) (col_run t s (h s) (y 1))

theorem finalDW (c : Dev nD) : (dats m 0 c).arrAt 2 (cfgs 0).N = DW m c := by
  refine (dats m 0 c).arrAt_eq_of_covers 2 _ (by decide +kernel) fun t hf y => ?_
  blk_simp
  rw [after0_2, Pipeline.eq_sum_fin_of_reset_step_apply_of_flush (fun n h => outsAt0 m c n h) 16 (fun _ => 0) (partDW m c)
    (fun t h j => by rw [outsAt0_A m c t h]; frame_out; rw [stepDW]; exact congrArg (· + _) (by rw [eq_ix2 j]; exact Point.zero2 _ _))
    (fun t h j => by rw [outsAt0_B m c t h]; frame_out; rw [stepDW])
    t ((flush0_2 t).mp hf) _, zero_add]
  have hp : (ix2 (y 0) (col t (y 1)) : S1024x5632.Idx) = (win0_2.blk t).view.emb y := by
    unfold col
    blk_ext [idx t]
  rw [← hp]
  exact total m c t y _

end Cert.Kernel4Ideal.Value

namespace Cert.DwUp

theorem refFrame : Cert.quiescent_Reference4Ideal := fun m ρ _ =>
  (θ_run Cert.Reference4Ideal.defs _ _).mono (fun r h => ⟨fun c => (h c).2,
    sem_eq_zero_of_no_sems (by decide) r.2⟩) (Cert.Reference4Ideal.Value.run (F := Ideal) m ρ)

section
open Cert.Reference4Ideal Cert.Reference4Ideal.Read

variable (m : (ℓ : Loc Kernel4Ideal.nD Kernel4Ideal.τ Kernel4Ideal.sig) → Buf (Elt Ideal) ℓ) (c : Dev Kernel4Ideal.nD)

open Cert.Kernel4Ideal.Value (aA aB DW)

theorem ref0 : val_main_v3 (F := Ideal) (aA m c) (aB m c) = DW m c :=
  funext fun i => by
    rw [eq_ix2 i]
    pointwise [val_main_v3, val_main_v2]
    exact Finset.sum_congr rfl fun r _ => mul_comm _ _

end

open Cert.Kernel4Ideal.Value in
/-- The kernel's result is the reference's, over the extended reals. -/
theorem values : Cert.algebraic_Kernel4Ideal_Reference4Ideal := by
  intro m g m' g' hpre hag
  refine ⟨fun c => DW m c, ?_, ?_⟩
  · refine (θ_run Kernel4Ideal.defs _ _).mono (fun r h c => ?_) (run_blocks m g)
    obtain ⟨h0, hr⟩ := h c
    exact ⟨h0.trans (finalDW m c), hr⟩
  · refine (θ_run Reference4Ideal.defs _ _).mono (fun r h c => ?_) (Reference4Ideal.Value.run m' g')
    obtain ⟨h0, hr⟩ := h c
    obtain ⟨e0, e1⟩ := hag c
    refine ⟨h0.trans ?_, hr⟩
    refine Eq.trans ?_ (ref0 m c)
    unfold aA aB
    rw [← e0, ← e1]
    rfl

end Cert.DwUp

end

end
-- ==== Proof.DwDown.lean ====
/- The gradient of the down-projection's weights: the kernel's result index by index, and the reference's. -/
module

public import proofs.«01_k».proof.Defs
public import proofs.«01_k».proof.Proof.RowNorm
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.Row (row)

namespace Cert.Kernel5Ideal.Point
open Cert.Kernel5Ideal Cert.Kernel5Ideal.Gen

/-- One point's share of the product. -/
theorem dw_at (a : FVec Ideal S1024x1408 .bf16) (b : FVec Ideal S1024x1024 .f32) (acc : FVec Ideal S1408x1024 .f32) (k : Fin 1408) (j : Fin 1024) :
    k0_pay2 (F := Ideal) acc a b (ix2 k j) = acc (ix2 k j) + ∑ r : Fin 1024, row a r k * row b r j := by
  pointwise [k0_pay2]

theorem zero2 (k : Fin 1408) (j : Fin 1024) : k0_pay1 (F := Ideal) (ix2 k j) = 0 := by pointwise [k0_pay1]

end Cert.Kernel5Ideal.Point

namespace Cert.Kernel5Ideal.Value
open Cert.Kernel5Ideal Cert.Kernel5Ideal.Gen

variable (m : (ℓ : Loc nD τ sig) → Buf (Elt Ideal) ℓ)

theorem idx : ∀ t : Fin cfg0.N, win0_0.index t = ![t.val % 16, t.val / 16] ∧ win0_1.index t = ![t.val % 16, 0]
    ∧ win0_2.index t = ![t.val / 16, 0] :=
  (by decide +kernel : ∀ t : Fin grid0.N, _)

/-- The arguments of the call at a device. -/
def aA (c : Dev nD) : FVec Ideal S16384x2816 .f32 := m ((c : Thread nD τ).loc main_arg0)
def aB (c : Dev nD) : FVec Ideal S16384x1024 .f32 := m ((c : Thread nD τ).loc main_arg1)

/-- Row `r` of the rows that point `t` adds, among all rows. -/
def at' (t : Fin cfg0.N) (r : Fin 1024) : Fin 16384 := ⟨t.val % 16 * 1024 + r.val, by omega⟩

/-- Column `k` of the tile that point `t` adds to, among all columns. -/
def col (t : Fin cfg0.N) (k : Fin 1408) : Fin 2816 :=
  ⟨t.val / 16 * 1408 + k.val, by have := t.isLt; have : cfg0.N = 32 := N_0; omega⟩

theorem row_a (c : Dev nD) (t : Fin cfg0.N) (r : Fin 1024) (k : Fin 1408) :
    row (show FVec Ideal S1024x1408 .bf16 from iblk m c 0 t) r k = row (aA m c) (at' t r) (col t k) := by
  show (show FVec Ideal S1024x1408 .bf16 from iblk m c 0 t) (ix2 r k) = aA m c (ix2 (at' t r) (col t k))
  unfold aA at' col
  blk_point [iblk, V, idx t]

theorem row_b (c : Dev nD) (t : Fin cfg0.N) (r : Fin 1024) (k : Fin 1024) :
    row (show FVec Ideal S1024x1024 .f32 from iblk m c 1 t) r k = row (aB m c) (at' t r) k := by
  show (show FVec Ideal S1024x1024 .f32 from iblk m c 1 t) (ix2 r k) = aB m c (ix2 (at' t r) k)
  unfold aB at'
  blk_ext [iblk, V, idx t]

/-- The result: the gradient of the weights. -/
def DW (c : Dev nD) : FVec Ideal S2816x1024 .f32 := fun i => ∑ r : Fin 16384, row (aA m c) r (i 0) * row (aB m c) r (i 1)

/-- The rows of the points of one tile, added point by point, are all rows. -/
theorem sum_rows (f : Fin 16384 → EReal) (t : Fin cfg0.N) (h : ∀ s : Fin 16, 16 * (t.val / 16) + s.val < cfg0.N) :
    ∑ s : Fin 16, ∑ r : Fin 1024, f (at' ⟨16 * (t.val / 16) + s.val, h s⟩ r) = ∑ i : Fin 16384, f i := by
  refine Fin.sum_mul_add_congr fun s k hl => congrArg f (Fin.ext ?_)
  show (16 * (t.val / 16) + s.val) % 16 * 1024 + k.val = s.val * 1024 + k.val
  omega

/-- The points of one tile add to the same columns. -/
theorem col_run (t : Fin cfg0.N) (s : Fin 16) (h : 16 * (t.val / 16) + s.val < cfg0.N) (k : Fin 1408) :
    col ⟨16 * (t.val / 16) + s.val, h⟩ k = col t k := by
  refine Fin.ext ?_
  show (16 * (t.val / 16) + s.val) / 16 * 1408 + k.val = t.val / 16 * 1408 + k.val
  omega

/-- One point's share of the gradient. -/
def partDW (c : Dev nD) (t : Fin cfg0.N) (j : S1408x1024.Idx) : EReal :=
  ∑ r : Fin 1024, row (aA m c) (at' t r) (col t (j 0)) * row (aB m c) (at' t r) (j 1)

theorem stepDW (c : Dev nD) (t : Fin cfg0.N) (acc : FVec Ideal S1408x1024 .f32) (j : S1408x1024.Idx) :
    k0_pay2 (F := Ideal) acc (iblk m c 0 t) (iblk m c 1 t) j = acc j + partDW m c t j := by
  rw [eq_ix2 j]
  refine (Point.dw_at _ _ acc (j 0) (j 1)).trans ?_
  exact congrArg (acc _ + ·) (Finset.sum_congr rfl fun r _ =>
    congrArg₂ (· * ·) (row_a m c t r (j 0)) (row_b m c t r (j 1)))

/-- The shares of the points of one tile make the gradient there. -/
theorem total (c : Dev nD) (t : Fin cfg0.N) (y : S1408x1024.Idx) (h : ∀ s : Fin 16, 16 * (t.val / 16) + s.val < cfg0.N) :
    ∑ s : Fin 16, partDW m c ⟨16 * (t.val / 16) + s.val, h s⟩ y = DW m c (ix2 (col t (y 0)) (y 1)) := by
  refine Eq.trans ?_ (sum_rows (fun i => row (aA m c) i (col t (y 0)) * row (aB m c) i (y 1)) t h)
  exact Finset.sum_congr rfl fun s _ => Finset.sum_congr rfl fun r _ =>
    congrArg (fun k => row (aA m c) _ k * row (aB m c) _ (y 1)) (col_run t s (h s) (y 0))

theorem finalDW (c : Dev nD) : (dats m 0 c).arrAt 2 (cfgs 0).N = DW m c := by
  refine (dats m 0 c).arrAt_eq_of_covers 2 _ (by decide +kernel) fun t hf y => ?_
  blk_simp
  rw [after0_2, Pipeline.eq_sum_fin_of_reset_step_apply_of_flush (fun n h => outsAt0 m c n h) 16 (fun _ => 0) (partDW m c)
    (fun t h j => by rw [outsAt0_A m c t h]; frame_out; rw [stepDW]; exact congrArg (· + _) (by rw [eq_ix2 j]; exact Point.zero2 _ _))
    (fun t h j => by rw [outsAt0_B m c t h]; frame_out; rw [stepDW])
    t ((flush0_2 t).mp hf) _, zero_add]
  have hp : (ix2 (col t (y 0)) (y 1) : S2816x1024.Idx) = (win0_2.blk t).view.emb y := by
    unfold col
    blk_ext [idx t]
  rw [← hp]
  exact total m c t y _

end Cert.Kernel5Ideal.Value

namespace Cert.DwDown

theorem refFrame : Cert.quiescent_Reference5Ideal := fun m ρ _ =>
  (θ_run Cert.Reference5Ideal.defs _ _).mono (fun r h => ⟨fun c => (h c).2,
    sem_eq_zero_of_no_sems (by decide) r.2⟩) (Cert.Reference5Ideal.Value.run (F := Ideal) m ρ)

section
open Cert.Reference5Ideal Cert.Reference5Ideal.Read

variable (m : (ℓ : Loc Kernel5Ideal.nD Kernel5Ideal.τ Kernel5Ideal.sig) → Buf (Elt Ideal) ℓ) (c : Dev Kernel5Ideal.nD)

open Cert.Kernel5Ideal.Value (aA aB DW)

theorem ref0 : val_main_v3 (F := Ideal) (aA m c) (aB m c) = DW m c :=
  funext fun i => by
    rw [eq_ix2 i]
    pointwise [val_main_v3, val_main_v2]
    exact Finset.sum_congr rfl fun r _ => mul_comm _ _

end

open Cert.Kernel5Ideal.Value in
/-- The kernel's result is the reference's, over the extended reals. -/
theorem values : Cert.algebraic_Kernel5Ideal_Reference5Ideal := by
  intro m g m' g' hpre hag
  refine ⟨fun c => DW m c, ?_, ?_⟩
  · refine (θ_run Kernel5Ideal.defs _ _).mono (fun r h c => ?_) (run_blocks m g)
    obtain ⟨h0, hr⟩ := h c
    exact ⟨h0.trans (finalDW m c), hr⟩
  · refine (θ_run Reference5Ideal.defs _ _).mono (fun r h c => ?_) (Reference5Ideal.Value.run m' g')
    obtain ⟨h0, hr⟩ := h c
    obtain ⟨e0, e1⟩ := hag c
    refine ⟨h0.trans ?_, hr⟩
    refine Eq.trans ?_ (ref0 m c)
    unfold aA aB
    rw [← e0, ← e1]
    rfl

end Cert.DwDown

end

end
-- ==== Proof.InProj.lean ====
/- The forward pass of the first norm and of the in-projection: the kernel's result index by index, and the reference's. -/
module

public import proofs.«01_k».proof.Defs
public import proofs.«01_k».proof.Proof.RowNorm
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.Row (row)

namespace Cert.Kernel6Ideal.Point
open Cert.Kernel6Ideal Cert.Kernel6Ideal.Gen

theorem proj_at (x : FVec Ideal S1024x1024 .f32) (g : FVec Ideal S1x1024 .f32) (w : FVec Ideal S1024x2176 .bf16) (r : Fin 1024)
    (j : Fin 2176) : k0_pay1 (F := Ideal) x g w (ix2 r j) = ∑ k : Fin 1024, Row.nrm (row x r) (row g 0) k * w (ix2 k j) := by
  pointwise [k0_pay1]
  rfl

end Cert.Kernel6Ideal.Point

namespace Cert.Kernel6Ideal.Value
open Cert.Kernel6Ideal Cert.Kernel6Ideal.Gen

variable (m : (ℓ : Loc nD τ sig) → Buf (Elt Ideal) ℓ)

theorem idx : ∀ t : Fin cfg0.N, win0_0.index t = ![t.val, 0] ∧ win0_1.index t = ![0, 0] ∧ win0_2.index t = ![0, 0]
    ∧ win0_3.index t = ![t.val, 0] :=
  (by decide +kernel : ∀ t : Fin grid0.N, _)

/-- The arguments of the call at a device. -/
def aX (c : Dev nD) : FVec Ideal S16384x1024 .f32 := m ((c : Thread nD τ).loc main_arg0)
def aG (c : Dev nD) : FVec Ideal S1024 .f32 := m ((c : Thread nD τ).loc main_arg1)
def aW (c : Dev nD) : FVec Ideal S1024x2056 .f32 := m ((c : Thread nD τ).loc main_arg2)

/-- Row `r` of block `t`, among all rows. -/
def at' (t : Fin cfg0.N) (r : Fin 1024) : Fin 16384 := ⟨t.val * 1024 + r.val, by have := t.isLt; have : cfg0.N = 16 := N_0; omega⟩

theorem row_x (c : Dev nD) (t : Fin cfg0.N) (r : Fin 1024) :
    row (show FVec Ideal S1024x1024 .f32 from iblk m c 0 t) r = row (aX m c) (at' t r) := by
  funext k
  show (show FVec Ideal S1024x1024 .f32 from iblk m c 0 t) (ix2 r k) = aX m c (ix2 (at' t r) k)
  unfold aX at'
  blk_ext [iblk, V, idx t]

theorem row_g (c : Dev nD) (t : Fin cfg0.N) :
    row (show FVec Ideal S1x1024 .f32 from iblk m c 1 t) 0 = fun k => aG m c (ix1 k) := by
  funext k
  show (show FVec Ideal S1x1024 .f32 from iblk m c 1 t) (ix2 0 k) = aG m c (ix1 k)
  unfold aG
  blk_point [iblk, V, idx t]

/-- The weights with their columns in the version's order, the last 120 zero. -/
def cols (c : Dev nD) (k : Fin 1024) (j : Fin 2176) : EReal :=
  if h : j.val < 1024 then aW m c (ix2 k ⟨512 + j.val, by omega⟩)
  else if h : j.val - 1024 < 512 then aW m c (ix2 k ⟨j.val - 1024, by omega⟩)
  else if h : j.val - 1024 - 512 < 512 then aW m c (ix2 k ⟨1544 + (j.val - 1024 - 512), by omega⟩)
  else if h : j.val - 1024 - 512 - 512 < 8 then aW m c (ix2 k ⟨1536 + (j.val - 1024 - 512 - 512), by omega⟩)
  else 0

/-- The operand the host builds: the slices of the weights in the version's order, then zeros. -/
def built (w : FVec Ideal S1024x2056 .bf16) : FVec Ideal S1024x2176 .bf16 :=
  concatenate S1024x2176 1
    [⟨S1024x1024, extractStridedSlice S1024x1024 ![0, 512] w slices_S1024x2056_S1024x1024_0_512⟩,
      ⟨S1024x512, extractStridedSlice S1024x512 ![0, 0] w slices_S1024x2056_S1024x512_0_0⟩,
      ⟨S1024x512, extractStridedSlice S1024x512 ![0, 1544] w slices_S1024x2056_S1024x512_0_1544⟩,
      ⟨S1024x8, extractStridedSlice S1024x8 ![0, 1536] w slices_S1024x2056_S1024x8_0_1536⟩,
      ⟨S1024x120, broadcastInDim S1024x120 ![] bcast_S_S1024x120 (constant (F := Ideal) S_ .bf16 0x0000#16)⟩]
    concatenates_S1024x1024_S1024x512_S1024x512_S1024x8_S1024x120_S1024x2176_d1

theorem host_w (c : Dev nD) : V m c main_v6 = built (truncf .bf16 (aW m c) bitsLt_bf16_f32) := by
  unfold V
  after_results_simp
  dsimp only [Matrix.cons_val_zero, Matrix.cons_val_one, Matrix.cons_val]
  repeat after_results_step
  rfl

theorem built_at (w : FVec Ideal S1024x2056 .f32) (k : Fin 1024) (j : Fin 2176) :
    built (truncf .bf16 w bitsLt_bf16_f32) (ix2 k j)
      = if h : j.val < 1024 then w (ix2 k ⟨512 + j.val, by omega⟩)
        else if h : j.val - 1024 < 512 then w (ix2 k ⟨j.val - 1024, by omega⟩)
        else if h : j.val - 1024 - 512 < 512 then w (ix2 k ⟨1544 + (j.val - 1024 - 512), by omega⟩)
        else if h : j.val - 1024 - 512 - 512 < 8 then w (ix2 k ⟨1536 + (j.val - 1024 - 512 - 512), by omega⟩)
        else 0 := by
  pointwise [built]

theorem row_w (c : Dev nD) (t : Fin cfg0.N) (k : Fin 1024) (j : Fin 2176) :
    (show FVec Ideal S1024x2176 .bf16 from iblk m c 2 t) (ix2 k j) = cols m c k j := by
  refine Eq.trans ?_ (built_at (aW m c) k j)
  rw [← host_w]
  blk_ext [iblk, idx t]

/-- The result: the normalised row's projection. -/
def Y (c : Dev nD) : FVec Ideal S16384x2176 .f32 := fun i =>
  ∑ k : Fin 1024, Row.nrm (row (aX m c) (i 0)) (fun k => aG m c (ix1 k)) k * cols m c k (i 1)

theorem point3 (c : Dev nD) (t : Fin cfg0.N) (r : Fin 1024) (j : Fin 2176) :
    k0_pay1 (F := Ideal) (iblk m c 0 t) (iblk m c 1 t) (iblk m c 2 t) (ix2 r j) = Y m c (ix2 (at' t r) j) := by
  refine (Point.proj_at _ _ _ r j).trans ?_
  exact Finset.sum_congr rfl fun k _ =>
    congrArg₂ (· * ·) (by rw [row_x, row_g]; rfl) (row_w m c t k j)

theorem final3 (c : Dev nD) : (dats m 0 c).arrAt 3 (cfgs 0).N = Y m c := by
  refine (dats m 0 c).arrAt_eq_of_covers 3 _ (by decide +kernel) fun t _ y => ?_
  blk_simp
  rw [after0_3]
  have e := point3 m c t (y 0) (y 1)
  rw [← eq_ix2 (show S1024x2176.Idx from y)] at e
  have hp : (ix2 (at' t (y 0)) (y 1) : S16384x2176.Idx) = (win0_3.blk t).view.emb y := by
    unfold at'
    blk_ext [idx t]
  rw [hp] at e
  frame_out
  exact e

end Cert.Kernel6Ideal.Value

namespace Cert.Reference6Ideal.Point
open Cert.Reference6Ideal Cert.Reference6Ideal.Gen Cert.Reference6Ideal.Read

theorem proj_at (x : FVec Ideal S16384x1024 .f32) (g : FVec Ideal S1024 .f32) (w : FVec Ideal S1024x2056 .f32) (r : Fin 16384)
    (j : Fin 2056) : val_main_v13 (F := Ideal) x g w (ix2 r j)
      = ∑ k : Fin 1024, Row.nrm (row x r) (fun k => g (ix1 k)) k * w (ix2 k j) := by
  pointwise [val_main_v13, val_main_v12, val_main_v11, val_main_v10, val_main_v9, val_main_v8, val_main_v7, val_main_v6, val_main_v5,
    val_main_v4, val_main_v3, val_main_v2, val_main_v1, val_main_v0, val_main_cst, val_main_cst_0, val_main_cst_1]
  rfl

end Cert.Reference6Ideal.Point

namespace Cert.InProj

theorem refFrame : Cert.quiescent_Reference6Ideal := fun m ρ _ =>
  (θ_run Cert.Reference6Ideal.defs _ _).mono (fun r h => ⟨fun c => (h c).2,
    sem_eq_zero_of_no_sems (by decide) r.2⟩) (Cert.Reference6Ideal.Value.run (F := Ideal) m ρ)

section
open Cert.Reference6Ideal Cert.Reference6Ideal.Read

variable (m : (ℓ : Loc Kernel6Ideal.nD Kernel6Ideal.τ Kernel6Ideal.sig) → Buf (Elt Ideal) ℓ) (c : Dev Kernel6Ideal.nD)

open Cert.Kernel6Ideal.Value (aX aG aW Y)

theorem ref0 : val_main_v19 (F := Ideal) (aX m c) (aG m c) (aW m c) = Y m c :=
  funext fun i => by
    rw [eq_ix2 i]
    pointwise [val_main_v19, val_main_v18, val_main_v17, val_main_v16, val_main_v15, val_main_v14, Reference6Ideal.Point.proj_at, val_main_cst_2]
    unfold Y Cert.Kernel6Ideal.Value.cols
    by_cases h1 : (i 1).val < 1024
    · simp only [dif_pos h1]
    by_cases h2 : (i 1).val - 1024 < 512
    · simp only [dif_neg h1, dif_pos h2]
    by_cases h3 : (i 1).val - 1024 - 512 < 512
    · simp only [dif_neg h1, dif_neg h2, dif_pos h3]
    by_cases h4 : (i 1).val - 1024 - 512 - 512 < 8
    · simp only [dif_neg h1, dif_neg h2, dif_neg h3, dif_pos h4]
    · simp only [dif_neg h1, dif_neg h2, dif_neg h3, dif_neg h4, mul_zero, Finset.sum_const_zero]

end

open Cert.Kernel6Ideal.Value in
/-- The kernel's result is the reference's, over the extended reals. -/
theorem values : Cert.algebraic_Kernel6Ideal_Reference6Ideal := by
  intro m g m' g' hpre hag
  refine ⟨fun c => Y m c, ?_, ?_⟩
  · refine (θ_run Kernel6Ideal.defs _ _).mono (fun r h c => ?_) (run_blocks m g)
    obtain ⟨h0, hr⟩ := h c
    exact ⟨h0.trans (final3 m c), hr⟩
  · refine (θ_run Reference6Ideal.defs _ _).mono (fun r h c => ?_) (Reference6Ideal.Value.run m' g')
    obtain ⟨h0, hr⟩ := h c
    obtain ⟨e0, e1, e2⟩ := hag c
    refine ⟨h0.trans ?_, hr⟩
    refine Eq.trans ?_ (ref0 m c)
    unfold aX aG aW
    rw [← e0, ← e1, ← e2]
    rfl

end Cert.InProj

end

end
-- ==== Proof.PleFwd.lean ====
/- The forward pass of the gated per-layer embedding: the kernel's result index by index, and the reference's. -/
module

public import proofs.«01_k».proof.Defs
public import proofs.«01_k».proof.Proof.PleRow
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.Row (row)

namespace Cert.Kernel7Ideal.Point
open Cert.Kernel7Ideal Cert.Kernel7Ideal.Gen

theorem ple_at (x : FVec Ideal S1024x1024 .f32) (p : FVec Ideal S1024x256 .f32) (g : FVec Ideal S1x1024 .f32)
    (w : FVec Ideal S1024x1024 .bf16) (wp : FVec Ideal S256x1024 .bf16) (r k : Fin 1024) :
    k0_pay1 (F := Ideal) x g w p wp (ix2 r k)
      = row x r k + Ple.proj (row p r) (row wp) k * Ple.gate (row x r) (row g 0) (row w) k := by
  pointwise [k0_pay1]
  rfl

end Cert.Kernel7Ideal.Point

namespace Cert.Kernel7Ideal.Value
open Cert.Kernel7Ideal Cert.Kernel7Ideal.Gen

variable (m : (ℓ : Loc nD τ sig) → Buf (Elt Ideal) ℓ)

theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![t.val, 0] :=
  (by decide +kernel : ∀ t : Fin grid0.N, _)

/-- The arguments of the call at a device. -/
def aX (c : Dev nD) : FVec Ideal S16384x1024 .f32 := m ((c : Thread nD τ).loc main_arg0)
def aP (c : Dev nD) : FVec Ideal S16384x256 .f32 := m ((c : Thread nD τ).loc main_arg1)
def aG (c : Dev nD) : FVec Ideal S1024 .f32 := m ((c : Thread nD τ).loc main_arg2)
def aW (c : Dev nD) : FVec Ideal S1024x1024 .f32 := m ((c : Thread nD τ).loc main_arg3)
def aQ (c : Dev nD) : FVec Ideal S256x1024 .f32 := m ((c : Thread nD τ).loc main_arg4)

/-- Row `r` of block `t`, among all rows. -/
def at' (t : Fin cfg0.N) (r : Fin 1024) : Fin 16384 := ⟨t.val * 1024 + r.val, by have := t.isLt; have : cfg0.N = 16 := N_0; omega⟩

theorem row_x (c : Dev nD) (t : Fin cfg0.N) (r : Fin 1024) :
    row (show FVec Ideal S1024x1024 .f32 from iblk m c 0 t) r = row (aX m c) (at' t r) := by
  funext k
  show (show FVec Ideal S1024x1024 .f32 from iblk m c 0 t) (ix2 r k) = aX m c (ix2 (at' t r) k)
  unfold aX at'
  blk_ext [iblk, V, idx t]

theorem row_p (c : Dev nD) (t : Fin cfg0.N) (r : Fin 1024) :
    row (show FVec Ideal S1024x256 .f32 from iblk m c 1 t) r = row (aP m c) (at' t r) := by
  funext k
  show (show FVec Ideal S1024x256 .f32 from iblk m c 1 t) (ix2 r k) = aP m c (ix2 (at' t r) k)
  unfold aP at'
  blk_ext [iblk, V, idx t]

theorem row_g (c : Dev nD) (t : Fin cfg0.N) :
    row (show FVec Ideal S1x1024 .f32 from iblk m c 2 t) 0 = fun k => aG m c (ix1 k) := by
  funext k
  show (show FVec Ideal S1x1024 .f32 from iblk m c 2 t) (ix2 0 k) = aG m c (ix1 k)
  unfold aG
  blk_point [iblk, V, idx t]

theorem row_w (c : Dev nD) (t : Fin cfg0.N) :
    row (show FVec Ideal S1024x1024 .bf16 from iblk m c 3 t) = row (aW m c) := by
  funext k j
  show (show FVec Ideal S1024x1024 .bf16 from iblk m c 3 t) (ix2 k j) = aW m c (ix2 k j)
  unfold aW
  blk_point [iblk, V, idx t]

theorem row_q (c : Dev nD) (t : Fin cfg0.N) :
    row (show FVec Ideal S256x1024 .bf16 from iblk m c 4 t) = row (aQ m c) := by
  funext k j
  show (show FVec Ideal S256x1024 .bf16 from iblk m c 4 t) (ix2 k j) = aQ m c (ix2 k j)
  unfold aQ
  blk_point [iblk, V, idx t]

/-- The result: the row plus its gated embedding. -/
def Y (c : Dev nD) : FVec Ideal S16384x1024 .f32 := fun i =>
  row (aX m c) (i 0) (i 1) + Ple.proj (row (aP m c) (i 0)) (row (aQ m c)) (i 1)
    * Ple.gate (row (aX m c) (i 0)) (fun k => aG m c (ix1 k)) (row (aW m c)) (i 1)

theorem point5 (c : Dev nD) (t : Fin cfg0.N) (r k : Fin 1024) :
    k0_pay1 (F := Ideal) (iblk m c 0 t) (iblk m c 2 t) (iblk m c 3 t) (iblk m c 1 t) (iblk m c 4 t) (ix2 r k)
      = Y m c (ix2 (at' t r) k) := by
  refine (Point.ple_at _ _ _ _ _ r k).trans ?_
  rw [row_x, row_p, row_g, row_w, row_q]
  rfl

theorem final5 (c : Dev nD) : (dats m 0 c).arrAt 5 (cfgs 0).N = Y m c := by
  refine (dats m 0 c).arrAt_eq_of_covers 5 _ (by decide +kernel) fun t _ y => ?_
  blk_simp
  rw [after0_5]
  have e := point5 m c t (y 0) (y 1)
  rw [← eq_ix2 (show S1024x1024.Idx from y)] at e
  have hp : (ix2 (at' t (y 0)) (y 1) : S16384x1024.Idx) = (win0_5.blk t).view.emb y := by
    unfold at'
    blk_ext [idx t]
  rw [hp] at e
  frame_out
  exact e

end Cert.Kernel7Ideal.Value

namespace Cert.PleFwd

theorem refFrame : Cert.quiescent_Reference7Ideal := fun m ρ _ =>
  (θ_run Cert.Reference7Ideal.defs _ _).mono (fun r h => ⟨fun c => (h c).2,
    sem_eq_zero_of_no_sems (by decide) r.2⟩) (Cert.Reference7Ideal.Value.run (F := Ideal) m ρ)

section
open Cert.Reference7Ideal Cert.Reference7Ideal.Read

variable (m : (ℓ : Loc Kernel7Ideal.nD Kernel7Ideal.τ Kernel7Ideal.sig) → Buf (Elt Ideal) ℓ) (c : Dev Kernel7Ideal.nD)

open Cert.Kernel7Ideal.Value (aX aP aG aW aQ Y)

theorem ref0 : val_main_v22 (F := Ideal) (aX m c) (aP m c) (aG m c) (aW m c) (aQ m c) = Y m c :=
  funext fun i => by
    rw [eq_ix2 i]
    generalize i 0 = r
    generalize i 1 = k
    pointwise [val_main_v22, val_main_v21, val_main_v20, val_main_v19, val_main_v18, val_main_v17, val_main_v16, val_main_v15,
      val_main_v14, val_main_v13, val_main_v12, val_main_v11, val_main_v10, val_main_v9, val_main_v8, val_main_v7, val_main_v6,
      val_main_v5, val_main_v4, val_main_v3, val_main_v2, val_main_v1, val_main_v0, val_main_cst, val_main_cst_0, val_main_cst_1,
      val_main_cst_2, val_main_cst_3]
    unfold Y Ple.gate
    rw [zero_sub]
    rfl

end

open Cert.Kernel7Ideal.Value in
/-- The kernel's result is the reference's, over the extended reals. -/
theorem values : Cert.algebraic_Kernel7Ideal_Reference7Ideal := by
  intro m g m' g' hpre hag
  refine ⟨fun c => Y m c, ?_, ?_⟩
  · refine (θ_run Kernel7Ideal.defs _ _).mono (fun r h c => ?_) (run_blocks m g)
    obtain ⟨h0, hr⟩ := h c
    exact ⟨h0.trans (final5 m c), hr⟩
  · refine (θ_run Reference7Ideal.defs _ _).mono (fun r h c => ?_) (Reference7Ideal.Value.run m' g')
    obtain ⟨h0, hr⟩ := h c
    obtain ⟨e0, e1, e2, e3, e4⟩ := hag c
    refine ⟨h0.trans ?_, hr⟩
    refine Eq.trans ?_ (ref0 m c)
    unfold aX aP aG aW aQ
    rw [← e0, ← e1, ← e2, ← e3, ← e4]
    rfl

end Cert.PleFwd

end

end
-- ==== Proof.FfnTaps.lean ====
/- A slab of 264 rows filled by two stores, and read back from a later row: rows of one store, then of the other. -/
module

public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.Taps

/-- The slabs' shape, and the shapes of what is stored. -/
abbrev Slabs : Shape := ⟨3, ![4, 264, 256]⟩
abbrev Rows (n : Nat) : Shape := ⟨2, ![n, 256]⟩

/-- Row `r` of the tile read `o` rows later: past its end, the rows of the `8` that follow it. -/
def later (o : Nat) (ho : o ≤ 8) (w : FVec Ideal (Rows 256) .f32) (c : FVec Ideal (Rows 8) .f32) :
    FVec Ideal (Rows 256) .f32 := fun y =>
  if h : (y 0).val + o < 256 then w (ix2 ⟨(y 0).val + o, h⟩ (y 1))
  else c (ix2 ⟨(y 0).val + o - 256, by have : (y 0).val < 256 := (y 0).isLt; omega⟩ (y 1))

/-- Row `r` of the tile read `o` rows earlier: before its start, the rows of the `8` that precede it. -/
def earlier (o : Nat) (ho : o ≤ 8) (w : FVec Ideal (Rows 256) .f32) (c : FVec Ideal (Rows 8) .f32) :
    FVec Ideal (Rows 256) .f32 := fun y =>
  if h : o ≤ (y 0).val then w (ix2 ⟨(y 0).val - o, by have : (y 0).val < 256 := (y 0).isLt; omega⟩ (y 1))
  else c (ix2 ⟨(y 0).val + 8 - o, by omega⟩ (y 1))

/-- A slab's rows from `a` on, within the slabs. -/
theorem piece_hit {n b a : Nat} {ib ia hs0 hs h₀ hR}
    (w : (Rect.unit (s := ⟨2, ![264, 256]⟩) ![a, 0] ![n, 256] ia).shape.Idx → Elt Ideal .f32)
    (L : List (View.Piece (Elt Ideal) Slabs .f32))
    (y : Slabs.Idx) (r : Fin n) (h0 : (y 0).val = b) (h1 : (y 1).val = a + r.val) :
    View.canon ((⟨(Rect.unit (s := Slabs) ![b, 0, 0] ![1, 264, 256] ib).within
        ((Rect.unit (s := ⟨2, ![264, 256]⟩) ![a, 0] ![n, 256] ia).consLift ![1, 264, 256] hs0 hs) h₀,
        Rect.payAlong (s₀ := (Rect.unit (s := Slabs) ![b, 0, 0] ![1, 264, 256] ib).shape) (r := Rect.unit (s := ⟨2, ![264, 256]⟩) ![a, 0] ![n, 256] ia) (R := (Rect.unit (s := ⟨2, ![264, 256]⟩) ![a, 0] ![n, 256] ia).consLift ![1, 264, 256] hs0 hs) hR w⟩ :
          View.Piece (Elt Ideal) Slabs .f32) :: L) y
      = w (show (⟨2, ![n, 256]⟩ : Shape).Idx from ix2 r (y 2)) := by
  have hy : y = (Rect.unit (s := Slabs) ![b, 0, 0] ![1, 264, 256] ib).emb
      (((Rect.unit (s := ⟨2, ![264, 256]⟩) ![a, 0] ![n, 256] ia).consLift ![1, 264, 256] hs0 hs).emb
        (show (⟨3, ![1, n, 256]⟩ : Shape).Idx from ix3 0 r (y 2))) := by
    funext i
    apply Fin.ext
    fin_cases i
    · show (y 0).val = _
      rw [h0]; rfl
    · show (y 1).val = _
      rw [h1]
      show a + r.val = 0 + 1 * (a + 1 * r.val)
      omega
    · show (y 2).val = 0 + 1 * (0 + 1 * (y 2).val)
      omega
  refine (congrArg (View.canon _) hy).trans ((View.canon_cons_within_emb _ _ _ _ _ _).trans ?_)
  refine Rect.payAlong_consLift (Rect.unit (s := ⟨2, ![264, 256]⟩) ![a, 0] ![n, 256] ia) ![1, 264, 256] hs0 hs _ _ _ _ ?_
  intro i
  fin_cases i <;> rfl

theorem piece_miss {n b a : Nat} {ib ia hs0 hs h₀ hR}
    (w : (Rect.unit (s := ⟨2, ![264, 256]⟩) ![a, 0] ![n, 256] ia).shape.Idx → Elt Ideal .f32)
    (L : List (View.Piece (Elt Ideal) Slabs .f32))
    (y : Slabs.Idx) (h1 : (y 1).val < a ∨ a + n ≤ (y 1).val) :
    View.canon ((⟨(Rect.unit (s := Slabs) ![b, 0, 0] ![1, 264, 256] ib).within
        ((Rect.unit (s := ⟨2, ![264, 256]⟩) ![a, 0] ![n, 256] ia).consLift ![1, 264, 256] hs0 hs) h₀,
        Rect.payAlong (s₀ := (Rect.unit (s := Slabs) ![b, 0, 0] ![1, 264, 256] ib).shape) (r := Rect.unit (s := ⟨2, ![264, 256]⟩) ![a, 0] ![n, 256] ia) (R := (Rect.unit (s := ⟨2, ![264, 256]⟩) ![a, 0] ![n, 256] ia).consLift ![1, 264, 256] hs0 hs) hR w⟩ :
          View.Piece (Elt Ideal) Slabs .f32) :: L) y
      = View.canon L y := by
  refine View.canon_cons_of_not_mem _ L fun hm => ?_
  obtain ⟨x, hx⟩ := LoadRect.exists_idx_of_mem (Rect.toLoadRect _) hm
  have e : (y 1).val = 0 + a + 1 * (x 1).val := by rw [← hx]; rfl
  have l : (x 1).val < n := (x 1).isLt
  omega

variable {sig : RefSig} {κ : Kind} {sp : Space}

/-- A tile stored at the slab's start and eight rows after it, read from row `o` on. -/
theorem read_later {b o : Nat} (ho : o ≤ 8) (v : View sig κ sp Slabs .f32) {ib ib' ib'' i8 i0 io hs0 hs hs0' hs' hs0'' hs'' h8 h0 ho' hR8 hR0 hRo}
    (w : (Rect.unit (s := ⟨2, ![264, 256]⟩) ![0, 0] ![256, 256] i0).shape.Idx → Elt Ideal .f32)
    (c : (Rect.unit (s := ⟨2, ![264, 256]⟩) ![256, 0] ![8, 256] i8).shape.Idx → Elt Ideal .f32)
    (L : List (View.Piece (Elt Ideal) Slabs .f32)) :
    LoadRect.valAlong (lr := (Rect.unit (s := ⟨2, ![264, 256]⟩) ![o, 0] ![256, 256] io).toLoadRect)
      (s₀ := (Rect.unit (s := Slabs) ![b, 0, 0] ![1, 264, 256] ib'').shape)
      (LR := (((Rect.unit (s := ⟨2, ![264, 256]⟩) ![o, 0] ![256, 256] io).toLoadRect).consLift ![1, 264, 256] hs0'' hs'')) hRo
      (v.readCov
        ((⟨(Rect.unit (s := Slabs) ![b, 0, 0] ![1, 264, 256] ib).within
          ((Rect.unit (s := ⟨2, ![264, 256]⟩) ![256, 0] ![8, 256] i8).consLift ![1, 264, 256] hs0 hs) h8,
          Rect.payAlong (s₀ := (Rect.unit (s := Slabs) ![b, 0, 0] ![1, 264, 256] ib).shape) (r := Rect.unit (s := ⟨2, ![264, 256]⟩) ![256, 0] ![8, 256] i8) (R := (Rect.unit (s := ⟨2, ![264, 256]⟩) ![256, 0] ![8, 256] i8).consLift ![1, 264, 256] hs0 hs) hR8 c⟩ : View.Piece (Elt Ideal) Slabs .f32) ::
        (⟨(Rect.unit (s := Slabs) ![b, 0, 0] ![1, 264, 256] ib').within
          ((Rect.unit (s := ⟨2, ![264, 256]⟩) ![0, 0] ![256, 256] i0).consLift ![1, 264, 256] hs0' hs') h0,
          Rect.payAlong (s₀ := (Rect.unit (s := Slabs) ![b, 0, 0] ![1, 264, 256] ib').shape) (r := Rect.unit (s := ⟨2, ![264, 256]⟩) ![0, 0] ![256, 256] i0) (R := (Rect.unit (s := ⟨2, ![264, 256]⟩) ![0, 0] ![256, 256] i0).consLift ![1, 264, 256] hs0' hs') hR0 w⟩ : View.Piece (Elt Ideal) Slabs .f32) :: L)
        ((Rect.unit (s := Slabs) ![b, 0, 0] ![1, 264, 256] ib'').withinL
        (((Rect.unit (s := ⟨2, ![264, 256]⟩) ![o, 0] ![256, 256] io).toLoadRect).consLift ![1, 264, 256] hs0'' hs'') ho'))
      = later o ho w c := by
  rw [View.readCov_eq_canon']
  funext x
  have e : Shape.reshapeEquiv hRo x = Fin.cons ⟨0, Nat.one_pos⟩ x := Shape.reshapeEquiv_cons_one _ _
  show View.canon _ (((Rect.unit (s := Slabs) ![b, 0, 0] ![1, 264, 256] ib'').withinL
        (((Rect.unit (s := ⟨2, ![264, 256]⟩) ![o, 0] ![256, 256] io).toLoadRect).consLift ![1, 264, 256] hs0'' hs'') ho').idx
        (Shape.reshapeEquiv hRo x)) = _
  generalize hz : ((Rect.unit (s := Slabs) ![b, 0, 0] ![1, 264, 256] ib'').withinL
        (((Rect.unit (s := ⟨2, ![264, 256]⟩) ![o, 0] ![256, 256] io).toLoadRect).consLift ![1, 264, 256] hs0'' hs'') ho').idx
        (Shape.reshapeEquiv hRo x) = z
  rw [e] at hz
  have z0 : (z 0).val = b := by rw [← hz]; rfl
  have z1 : (z 1).val = (x 0).val + o := by
    rw [← hz]
    show 0 + o + 1 * (x 0).val = _
    omega
  have z2 : z 2 = (show Fin 256 from x 1) := by
    apply Fin.ext
    rw [← hz]
    exact (show 0 + 0 + 1 * (x 1).val = (x 1).val by omega)
  have hx : (x 0).val < 256 := (x 0).isLt
  unfold later
  by_cases h : (x 0).val + o < 256
  · rw [dif_pos h, piece_miss _ _ _ (Or.inl (by rw [z1]; exact h))]
    rw [piece_hit _ _ _ ⟨(x 0).val + o, h⟩ z0 (by rw [z1]; exact (Nat.zero_add _).symm)]
    exact congrArg (fun k => w (ix2 ⟨(x 0).val + o, h⟩ k)) z2
  · rw [dif_neg h, piece_hit _ _ _ ⟨(x 0).val + o - 256, by omega⟩ z0 (by rw [z1]; show (x 0).val + o = 256 + ((x 0).val + o - 256); omega)]
    exact congrArg (fun k => c (ix2 ⟨(x 0).val + o - 256, by omega⟩ k)) z2

/-- Eight rows stored at the slab's start and a tile after them, read from row `8 - o` on. -/
theorem read_earlier {b o p : Nat} (ho : o ≤ 8) (hp : p + o = 8) (v : View sig κ sp Slabs .f32) {ib ib' ib'' i8 i0 io hs0 hs hs0' hs' hs0'' hs'' h8 h0 ho' hR8 hR0 hRo}
    (c : (Rect.unit (s := ⟨2, ![264, 256]⟩) ![0, 0] ![8, 256] i0).shape.Idx → Elt Ideal .f32)
    (w : (Rect.unit (s := ⟨2, ![264, 256]⟩) ![8, 0] ![256, 256] i8).shape.Idx → Elt Ideal .f32)
    (L : List (View.Piece (Elt Ideal) Slabs .f32)) :
    LoadRect.valAlong (lr := (Rect.unit (s := ⟨2, ![264, 256]⟩) ![p, 0] ![256, 256] io).toLoadRect)
      (s₀ := (Rect.unit (s := Slabs) ![b, 0, 0] ![1, 264, 256] ib'').shape)
      (LR := (((Rect.unit (s := ⟨2, ![264, 256]⟩) ![p, 0] ![256, 256] io).toLoadRect).consLift ![1, 264, 256] hs0'' hs'')) hRo
      (v.readCov
        ((⟨(Rect.unit (s := Slabs) ![b, 0, 0] ![1, 264, 256] ib).within
          ((Rect.unit (s := ⟨2, ![264, 256]⟩) ![8, 0] ![256, 256] i8).consLift ![1, 264, 256] hs0 hs) h8,
          Rect.payAlong (s₀ := (Rect.unit (s := Slabs) ![b, 0, 0] ![1, 264, 256] ib).shape) (r := Rect.unit (s := ⟨2, ![264, 256]⟩) ![8, 0] ![256, 256] i8) (R := (Rect.unit (s := ⟨2, ![264, 256]⟩) ![8, 0] ![256, 256] i8).consLift ![1, 264, 256] hs0 hs) hR8 w⟩ : View.Piece (Elt Ideal) Slabs .f32) ::
        (⟨(Rect.unit (s := Slabs) ![b, 0, 0] ![1, 264, 256] ib').within
          ((Rect.unit (s := ⟨2, ![264, 256]⟩) ![0, 0] ![8, 256] i0).consLift ![1, 264, 256] hs0' hs') h0,
          Rect.payAlong (s₀ := (Rect.unit (s := Slabs) ![b, 0, 0] ![1, 264, 256] ib').shape) (r := Rect.unit (s := ⟨2, ![264, 256]⟩) ![0, 0] ![8, 256] i0) (R := (Rect.unit (s := ⟨2, ![264, 256]⟩) ![0, 0] ![8, 256] i0).consLift ![1, 264, 256] hs0' hs') hR0 c⟩ : View.Piece (Elt Ideal) Slabs .f32) :: L)
        ((Rect.unit (s := Slabs) ![b, 0, 0] ![1, 264, 256] ib'').withinL
        (((Rect.unit (s := ⟨2, ![264, 256]⟩) ![p, 0] ![256, 256] io).toLoadRect).consLift ![1, 264, 256] hs0'' hs'') ho'))
      = earlier o ho w c := by
  rw [View.readCov_eq_canon']
  funext x
  have e : Shape.reshapeEquiv hRo x = Fin.cons ⟨0, Nat.one_pos⟩ x := Shape.reshapeEquiv_cons_one _ _
  show View.canon _ (((Rect.unit (s := Slabs) ![b, 0, 0] ![1, 264, 256] ib'').withinL
        (((Rect.unit (s := ⟨2, ![264, 256]⟩) ![p, 0] ![256, 256] io).toLoadRect).consLift ![1, 264, 256] hs0'' hs'') ho').idx
        (Shape.reshapeEquiv hRo x)) = _
  generalize hz : ((Rect.unit (s := Slabs) ![b, 0, 0] ![1, 264, 256] ib'').withinL
        (((Rect.unit (s := ⟨2, ![264, 256]⟩) ![p, 0] ![256, 256] io).toLoadRect).consLift ![1, 264, 256] hs0'' hs'') ho').idx
        (Shape.reshapeEquiv hRo x) = z
  rw [e] at hz
  have z0 : (z 0).val = b := by rw [← hz]; rfl
  have z1 : (z 1).val = (x 0).val + p := by
    rw [← hz]
    show 0 + p + 1 * (x 0).val = _
    omega
  have z2 : z 2 = (show Fin 256 from x 1) := by
    apply Fin.ext
    rw [← hz]
    exact (show 0 + 0 + 1 * (x 1).val = (x 1).val by omega)
  have hx : (x 0).val < 256 := (x 0).isLt
  unfold earlier
  by_cases h : o ≤ (x 0).val
  · rw [dif_pos h, piece_hit _ _ _ ⟨(x 0).val - o, by omega⟩ z0 (by rw [z1]; show (x 0).val + p = 8 + ((x 0).val - o); omega)]
    exact congrArg (fun k => w (ix2 ⟨(x 0).val - o, by omega⟩ k)) z2
  · rw [dif_neg h, piece_miss _ _ _ (Or.inl (by rw [z1]; omega))]
    rw [piece_hit _ _ _ ⟨(x 0).val + 8 - o, by omega⟩ z0 (by rw [z1]; show (x 0).val + p = 0 + ((x 0).val + 8 - o); omega)]
    exact congrArg (fun k => c (ix2 ⟨(x 0).val + 8 - o, by omega⟩ k)) z2

/-- A rectangle of these sizes lies within the array. -/
theorem inb {A B n w a c : Nat} (ha : a + n ≤ A) (hc : c + w ≤ B) :
    ∀ k, (![a, c] : Fin 2 → Nat) k + (![n, w] : Fin 2 → Nat) k ≤ (⟨2, ![A, B]⟩ : Shape).size k := by
  intro k
  fin_cases k
  · exact ha
  · exact hc

/-- The load of `n` rows and `w` columns from row `a` and column `c` on. -/
def cut {α : Type} {A B : Nat} (X : (⟨2, ![A, B]⟩ : Shape).Idx → α) (a c n w : Nat) (ha : a + n ≤ A) (hc : c + w ≤ B) :
    (⟨2, ![n, w]⟩ : Shape).Idx → α :=
  fun x => X ((Rect.unit (s := ⟨2, ![A, B]⟩) ![a, c] ![n, w] (inb ha hc)).idx x)

theorem cut_at {α : Type} {A B : Nat} (X : (⟨2, ![A, B]⟩ : Shape).Idx → α) (a c n w : Nat) (ha : a + n ≤ A) (hc : c + w ≤ B)
    (r : Fin n) (j : Fin w) :
    cut X a c n w ha hc (ix2 r j) = X (ix2 ⟨a + r.val, by omega⟩ ⟨c + j.val, by omega⟩) := by
  refine congrArg X (funext fun k => Fin.ext ?_)
  fin_cases k
  · exact (show a + 1 * r.val = a + r.val by omega)
  · exact (show c + 1 * j.val = c + j.val by omega)

/-- Where a stored rectangle's element lies. -/
theorem emb_at {A B : Nat} (a c n w : Nat) (i) (x : (⟨2, ![n, w]⟩ : Shape).Idx) :
    (Rect.unit (s := ⟨2, ![A, B]⟩) ![a, c] ![n, w] i).idx x
      = ix2 ⟨a + (x 0).val, Nat.lt_of_lt_of_le (Nat.add_lt_add_left (x 0).isLt a) (i 0)⟩
          ⟨c + (x 1).val, Nat.lt_of_lt_of_le (Nat.add_lt_add_left (x 1).isLt c) (i 1)⟩ := by
  funext k
  apply Fin.ext
  fin_cases k
  · exact (show a + 1 * (x 0).val = a + (x 0).val by omega)
  · exact (show c + 1 * (x 1).val = c + (x 1).val by omega)

/-- Stores that tile the shape and are blocks of `G` leave `G`, whatever was there before. -/
theorem tiles {S : Shape} {e : EltTy} (n : Nat) (G : S.Idx → Elt Ideal e) (r : Rect S) (w : r.shape.Idx → Elt Ideal e)
    (L : List (View.Piece (Elt Ideal) S e))
    (h : View.PiecesOf G ((⟨r, w⟩ : View.Piece (Elt Ideal) S e) :: L.take n))
    (hc : View.Piece.tiled ((⟨r, w⟩ : View.Piece (Elt Ideal) S e) :: L.take n) r.size = true) :
    View.canon ((⟨r, w⟩ : View.Piece (Elt Ideal) S e) :: L) = G := by
  funext y
  have e := View.canon_append_of_piecesOf G (L.drop n) _ h y (View.cover_of_tiled _ r.size hc y)
  rwa [List.cons_append, List.take_append_drop] at e

end Cert.Taps
end
end
-- ==== Proof.FfnFwdBlock.lean ====
/- The forward pass of the feed-forward layer: the kernel's results index by index. -/
module

public import proofs.«01_k».proof.Defs
public import proofs.«01_k».proof.Proof.RowNorm
public import proofs.«01_k».proof.Proof.FfnTaps
public import proofs.«01_k».proof.Proof.Gen.Kernel8Ideal.Frame
public import proofs.«01_k».proof.Proof.Gen.Kernel8Ideal.Value
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.Row (row)

namespace Cert.Kernel8Ideal.Point
open Cert.Kernel8Ideal Cert.Kernel8Ideal.Gen Cert.Taps

/-- A slab of the up-projection. -/
def proj (x : FVec Ideal S256x1024 .bf16) (w : FVec Ideal S1024x256 .bf16) : FVec Ideal S256x256 .f32 :=
  matmul dot_S256x1024_S1024x256_S256x256_1_0_0_1_n_n none (shapeCast S256x1024 x shapeCasts_S256x1024_S256x1024)
    (shapeCast S1024x256 w shapeCasts_S1024x256_S1024x256) (constant S256x256 .f32 0x00000000#32)

/-- A slab of the convolution, from the three rows it reads. -/
def conv (b c2 : FVec Ideal S1x256 .f32) (u : FVec Ideal S256x256 .f32) (c0 : FVec Ideal S1x256 .f32) (x0 : FVec Ideal S256x256 .f32)
    (c1 : FVec Ideal S1x256 .f32) (x1 : FVec Ideal S256x256 .f32) : FVec Ideal S256x256 .f32 :=
  addf (addf (addf (broadcastTo S256x256 (shapeCast S1x256 b shapeCasts_S1x256_S1x256) broadcasts_S1x256_S256x256)
    (mulf (broadcastTo S256x256 c2 broadcasts_S1x256_S256x256) u)) (mulf (broadcastTo S256x256 c0 broadcasts_S1x256_S256x256) x0))
    (mulf (broadcastTo S256x256 c1 broadcasts_S1x256_S256x256) x1)

/-- The last eight rows of a slab. -/
def tail (u : FVec Ideal S256x256 .f32) : FVec Ideal S8x256 .f32 :=
  shapeCast S8x256 (extractStridedSlice S8x256 ![248, 0] u slices_S256x256_o248_0_S8x256) shapeCasts_S8x256_S8x256

/-- The gate's activation times the value. -/
def gated (g v : FVec Ideal S256x256 .f32) : FVec Ideal S256x256 .bf16 :=
  truncf .bf16 (mulf (mulf (mulf (broadcast S256x256 (Scalar.ofBits (F := Ideal) .f32 0x3F000000#32)) g)
    (addf (broadcast S256x256 (Scalar.ofBits (F := Ideal) .f32 0x3F800000#32))
      (tanh (mulf (broadcast S256x256 (Scalar.ofBits (F := Ideal) .f32 0x3F4C422A#32))
        (addf g (mulf (mulf (mulf (broadcast S256x256 (Scalar.ofBits (F := Ideal) .f32 0x3D372713#32)) g) g) g)))))) v)

/-- One slab's share of the down-projection. -/
def step (acc : FVec Ideal S256x1024 .f32) (g v : FVec Ideal S256x256 .f32) (w : FVec Ideal S256x1024 .bf16) : FVec Ideal S256x1024 .f32 :=
  addf acc (matmul dot_S256x256_S256x1024_S256x1024_1_0_0_1_n_n none (gated g v) (shapeCast S256x1024 w shapeCasts_S256x1024_S256x1024)
    (constant S256x1024 .f32 0x00000000#32))

theorem proj_at (x : FVec Ideal S256x1024 .bf16) (w : FVec Ideal S1024x256 .bf16) (r j : Fin 256) :
    proj x w (ix2 r j) = ∑ k : Fin 1024, x (ix2 r k) * w (ix2 k j) := by
  pointwise [proj]

theorem conv_at (b c2 : FVec Ideal S1x256 .f32) (u : FVec Ideal S256x256 .f32) (c0 : FVec Ideal S1x256 .f32) (x0 : FVec Ideal S256x256 .f32)
    (c1 : FVec Ideal S1x256 .f32) (x1 : FVec Ideal S256x256 .f32) (r j : Fin 256) :
    conv b c2 u c0 x0 c1 x1 (ix2 r j)
      = b (ix2 0 j) + c2 (ix2 0 j) * u (ix2 r j) + c0 (ix2 0 j) * x0 (ix2 r j) + c1 (ix2 0 j) * x1 (ix2 r j) := by
  pointwise [conv]

theorem tail_at (u : FVec Ideal S256x256 .f32) (r : Fin 8) (j : Fin 256) :
    tail u (ix2 r j) = u (ix2 ⟨248 + r.val, by omega⟩ j) := by
  pointwise [tail]

/-- The activation, as the kernel spells it. -/
def act (x : EReal) : EReal :=
  FloatOps.ofBits (F := Ideal) .f32 0x3F000000#32 * x * (FloatOps.ofBits (F := Ideal) .f32 0x3F800000#32
    + FloatOps.tanh (F := Ideal) (φ := .f32) (FloatOps.ofBits (F := Ideal) .f32 0x3F4C422A#32
      * (x + FloatOps.ofBits (F := Ideal) .f32 0x3D372713#32 * x * x * x)))

theorem gated_at (g v : FVec Ideal S256x256 .f32) (r j : Fin 256) :
    gated g v (ix2 r j) = act (g (ix2 r j)) * v (ix2 r j) := by
  unfold act
  pointwise [gated]

theorem step_at (acc : FVec Ideal S256x1024 .f32) (g v : FVec Ideal S256x256 .f32) (w : FVec Ideal S256x1024 .bf16) (r : Fin 256) (k : Fin 1024) :
    step acc g v w (ix2 r k) = acc (ix2 r k) + ∑ j : Fin 256, act (g (ix2 r j)) * v (ix2 r j) * w (ix2 j k) := by
  simp only [← gated_at]
  unfold step
  generalize gated g v = q
  pointwise

end Cert.Kernel8Ideal.Point

namespace Cert.Kernel8Ideal.Value
open Cert.Kernel8Ideal Cert.Kernel8Ideal.Gen Cert.Kernel8Ideal.Point Cert.Taps

variable (m : (ℓ : Loc nD τ sig) → Buf (Elt Ideal) ℓ)

theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0]
    ∧ win0_6.index t = ![t.val, 0] ∧ win0_7.index t = ![t.val, 0] ∧ win0_8.index t = ![t.val, 0] ∧ win0_9.index t = ![t.val, 0] :=
  (by decide +kernel : ∀ t : Fin grid0.N, _)

/-- The arguments of the call at a device. -/
def aH (c : Dev nD) : FVec Ideal S16384x1024 .f32 := m ((c : Thread nD τ).loc main_arg0)
def aN (c : Dev nD) : FVec Ideal S16384x1024 .f32 := m ((c : Thread nD τ).loc main_arg1)
def aW (c : Dev nD) : FVec Ideal S1024x5632 .f32 := m ((c : Thread nD τ).loc main_arg2)
def aC (c : Dev nD) : FVec Ideal S3x5632 .f32 := m ((c : Thread nD τ).loc main_arg3)
def aB (c : Dev nD) : FVec Ideal S5632 .f32 := m ((c : Thread nD τ).loc main_arg4)
def aD (c : Dev nD) : FVec Ideal S2816x1024 .f32 := m ((c : Thread nD τ).loc main_arg5)

/-- Row `r` of block `t`, among all rows. -/
def at' (t : Fin cfg0.N) (r : Fin 256) : Fin 16384 := ⟨t.val * 256 + r.val, by have := t.isLt; have : cfg0.N = 64 := N_0; omega⟩

/-- A point's blocks of the arguments. -/
def bH (c : Dev nD) (t : Fin cfg0.N) : FVec Ideal S256x1024 .f32 := iblk m c 0 t
def bN (c : Dev nD) (t : Fin cfg0.N) : FVec Ideal S256x1024 .bf16 := iblk m c 1 t
def bW (c : Dev nD) (t : Fin cfg0.N) : FVec Ideal S1024x5632 .bf16 := iblk m c 2 t
def bC (c : Dev nD) (t : Fin cfg0.N) : FVec Ideal S3x5632 .f32 := iblk m c 3 t
def bB (c : Dev nD) (t : Fin cfg0.N) : FVec Ideal S1x5632 .f32 := iblk m c 4 t
def bD (c : Dev nD) (t : Fin cfg0.N) : FVec Ideal S2816x1024 .bf16 := iblk m c 5 t

theorem row_h (c : Dev nD) (t : Fin cfg0.N) (r : Fin 256) (k : Fin 1024) :
    bH m c t (ix2 r k) = aH m c (ix2 (at' t r) k) := by
  unfold aH at' bH
  blk_ext [iblk, V, idx t]

theorem row_n (c : Dev nD) (t : Fin cfg0.N) (r : Fin 256) (k : Fin 1024) :
    bN m c t (ix2 r k) = aN m c (ix2 (at' t r) k) := by
  unfold aN at' bN
  blk_point [iblk, V, idx t]

theorem all_w (c : Dev nD) (t : Fin cfg0.N) (k : Fin 1024) (j : Fin 5632) :
    bW m c t (ix2 k j) = aW m c (ix2 k j) := by
  unfold aW bW
  blk_point [iblk, V, idx t]

theorem all_c (c : Dev nD) (t : Fin cfg0.N) (k : Fin 3) (j : Fin 5632) :
    bC m c t (ix2 k j) = aC m c (ix2 k j) := by
  unfold aC bC
  blk_ext [iblk, V, idx t]

theorem all_b (c : Dev nD) (t : Fin cfg0.N) (j : Fin 5632) :
    bB m c t (ix2 0 j) = aB m c (ix1 j) := by
  unfold aB bB
  blk_point [iblk, V, idx t]

theorem all_d (c : Dev nD) (t : Fin cfg0.N) (k : Fin 2816) (j : Fin 1024) :
    bD m c t (ix2 k j) = aD m c (ix2 k j) := by
  unfold aD bD
  blk_point [iblk, V, idx t]

/-- The up-projection, and its rows counted from eight rows of zeros on. -/
def U (c : Dev nD) : FVec Ideal S16384x5632 .f32 := fun i => ∑ k : Fin 1024, aN m c (ix2 (i 0) k) * aW m c (ix2 k (i 1))
def UZ (c : Dev nD) (n : ℕ) (j : Fin 5632) : EReal :=
  if h : 8 ≤ n ∧ n - 8 < 16384 then U m c (ix2 ⟨n - 8, h.2⟩ j) else 0

/-- The convolution, the layer's activation, and its result. -/
def Pre (c : Dev nD) : FVec Ideal S16384x5632 .f32 := fun i =>
  aB m c (ix1 (i 1)) + aC m c (ix2 2 (i 1)) * UZ m c ((i 0).val + 8) (i 1) + aC m c (ix2 0 (i 1)) * UZ m c ((i 0).val + 6) (i 1)
    + aC m c (ix2 1 (i 1)) * UZ m c ((i 0).val + 7) (i 1)
def Act (c : Dev nD) : FVec Ideal S16384x2816 .bf16 := fun i =>
  act (Pre m c (ix2 (i 0) ⟨(i 1).val, Nat.lt_trans (i 1).isLt (by decide)⟩))
    * Pre m c (ix2 (i 0) ⟨2816 + (i 1).val, Nat.add_lt_add_left (i 1).isLt 2816⟩)
def Out (c : Dev nD) : FVec Ideal S16384x1024 .f32 := fun i =>
  aH m c (ix2 (i 0) (i 1)) + ∑ k : Fin 2816, Act m c (ix2 (i 0) k) * aD m c (ix2 k (i 1))

/-- Columns `a` to `a + 255` of a point's part of the up-projection, of the convolution, and rows of the last weights. -/
def uT (c : Dev nD) (t : Fin cfg0.N) (a : ℕ) (ha : a + 256 ≤ 5632) : FVec Ideal S256x256 .f32 :=
  proj (bN m c t) (cut (bW m c t) 0 a 1024 256 (by decide) ha)
def preT (c : Dev nD) (t : Fin cfg0.N) (q : FVec Ideal S8x5632 .f32) (a : ℕ) (ha : a + 256 ≤ 5632) : FVec Ideal S256x256 .f32 :=
  conv (cut (bB m c t) 0 a 1 256 (by decide) ha)
    (cut (bC m c t) 2 a 1 256 (by decide) ha)
    (uT m c t a ha)
    (cut (bC m c t) 0 a 1 256 (by decide) ha)
    (earlier 2 (by decide) (shapeCast S256x256 (uT m c t a ha) shapeCasts_S256x256_S256x256)
      (shapeCast S8x256 (cut q 0 a 8 256 (by decide) ha) shapeCasts_S8x256_S8x256))
    (cut (bC m c t) 1 a 1 256 (by decide) ha)
    (earlier 1 (by decide) (shapeCast S256x256 (uT m c t a ha) shapeCasts_S256x256_S256x256)
      (shapeCast S8x256 (cut q 0 a 8 256 (by decide) ha) shapeCasts_S8x256_S8x256))
def wdT (c : Dev nD) (t : Fin cfg0.N) (a : ℕ) (ha : a + 256 ≤ 2816) : FVec Ideal S256x1024 .bf16 :=
  cut (bD m c t) a 0 256 1024 ha (by decide)

theorem uT_at (c : Dev nD) (t : Fin cfg0.N) (a : ℕ) (ha : a + 256 ≤ 5632) (r j : Fin 256) :
    uT m c t a ha (ix2 r j) = U m c (ix2 (at' t r) ⟨a + j.val, by omega⟩) := by
  unfold uT U
  rw [proj_at]
  refine Finset.sum_congr rfl fun k _ => congrArg₂ (· * ·) (row_n m c t r k) ?_
  refine (cut_at _ _ _ _ _ _ _ k j).trans ?_
  refine Eq.trans ?_ (all_w m c t k ⟨a + j.val, by omega⟩)
  exact congrArg _ (congrArg (fun k => ix2 k _) (Fin.ext (Nat.zero_add _)))

theorem uZ_at (c : Dev nD) (t : Fin cfg0.N) (a : ℕ) (ha : a + 256 ≤ 5632) (r j : Fin 256) :
    uT m c t a ha (ix2 r j) = UZ m c (256 * t.val + 8 + r.val) ⟨a + j.val, by omega⟩ := by
  have hN : cfg0.N = 64 := N_0
  have := t.isLt
  rw [uT_at]
  unfold UZ
  rw [dif_pos ⟨by omega, by omega⟩]
  unfold at'
  refine congrArg (U m c) (congrArg (fun k => ix2 k _) (Fin.ext ?_))
  show t.val * 256 + r.val = 256 * t.val + 8 + r.val - 8
  omega

/-- What a point finds in its scratch: the eight rows before its block. -/
def Before (c : Dev nD) (t : Fin cfg0.N) (q : FVec Ideal S8x5632 .f32) : Prop :=
  ∀ (s : Fin 8) (j : Fin 5632), q (ix2 s j) = UZ m c (256 * t.val + s.val) j

theorem tap_at (c : Dev nD) (t : Fin cfg0.N) (q : FVec Ideal S8x5632 .f32) (hq : Before m c t q) (o : ℕ) (ho : o ≤ 8)
    (a : ℕ) (ha : a + 256 ≤ 5632) (r j : Fin 256) :
    earlier o ho (shapeCast S256x256 (uT m c t a ha) shapeCasts_S256x256_S256x256)
      (shapeCast S8x256 (cut q 0 a 8 256 (by decide) ha) shapeCasts_S8x256_S8x256) (ix2 r j)
      = UZ m c (256 * t.val + r.val + 8 - o) ⟨a + j.val, by omega⟩ := by
  rw [shapeCast_self, shapeCast_self]
  unfold earlier
  by_cases h : o ≤ r.val
  · refine (dif_pos h).trans ((uZ_at m c t a ha _ _).trans ?_)
    exact congrArg (fun n => UZ m c n _) (by show 256 * t.val + 8 + (r.val - o) = _; omega)
  · refine (dif_neg h).trans ((cut_at q _ _ _ _ _ _ _ _).trans ((hq _ _).trans ?_))
    exact congrArg (fun n => UZ m c n _) (by show 256 * t.val + (0 + (r.val + 8 - o)) = _; omega)

theorem c_at (c : Dev nD) (t : Fin cfg0.N) (k : ℕ) (hk : k < 3) (a : ℕ) (ha : a + 256 ≤ 5632) (j : Fin 256) :
    cut (bC m c t) k a 1 256 hk ha (ix2 0 j)
      = aC m c (ix2 ⟨k, hk⟩ ⟨a + j.val, by omega⟩) :=
  (cut_at _ _ _ _ _ _ _ 0 j).trans (all_c m c t ⟨k, hk⟩ ⟨a + j.val, by omega⟩)

theorem preT_at (c : Dev nD) (t : Fin cfg0.N) (q : FVec Ideal S8x5632 .f32) (hq : Before m c t q) (a : ℕ) (ha : a + 256 ≤ 5632) (r j : Fin 256) :
    preT m c t q a ha (ix2 r j) = Pre m c (ix2 (at' t r) ⟨a + j.val, by omega⟩) := by
  have e (o n : ℕ) (h : 256 * t.val + r.val + 8 - o = n) (h' : n = (at' t r).val + (8 - o)) (j : Fin 5632) :
      UZ m c (256 * t.val + r.val + 8 - o) j = UZ m c ((at' t r).val + (8 - o)) j := by rw [h, h']
  have hv : (at' t r).val = t.val * 256 + r.val := rfl
  unfold preT
  rw [conv_at, tap_at m c t q hq, tap_at m c t q hq, uZ_at]
  unfold Pre
  refine congrArg₂ (· + ·) (congrArg₂ (· + ·) (congrArg₂ (· + ·) ?_ ?_) ?_) ?_
  · refine (cut_at _ _ _ _ _ _ _ 0 j).trans (all_b m c t ⟨a + j.val, by omega⟩)
  · refine congrArg₂ (· * ·) (c_at m c t 2 (by decide) a ha j) (congrArg (fun n => UZ m c n _) ?_)
    show _ = (at' t r).val + 8
    omega
  · refine congrArg₂ (· * ·) (c_at m c t 0 (by decide) a ha j) (congrArg (fun n => UZ m c n _) ?_)
    show _ = (at' t r).val + 6
    omega
  · refine congrArg₂ (· * ·) (c_at m c t 1 (by decide) a ha j) (congrArg (fun n => UZ m c n _) ?_)
    show _ = (at' t r).val + 7
    omega

end Cert.Kernel8Ideal.Value
end
end
-- ==== Proof.FfnFwdPiece.lean ====
/- The forward pass of the feed-forward layer: what each grid point stores. -/
module

public import proofs.«01_k».proof.Defs
public import proofs.«01_k».proof.Proof.FfnFwdBlock
public import proofs.«01_k».proof.Proof.Gen.Kernel8Ideal.Frame
public import proofs.«01_k».proof.Proof.Gen.Kernel8Ideal.Value
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.Row (row)

namespace Cert.Kernel8Ideal.Value
open Cert.Kernel8Ideal Cert.Kernel8Ideal.Gen Cert.Kernel8Ideal.Point Cert.Taps

variable (m : (ℓ : Loc nD τ sig) → Buf (Elt Ideal) ℓ)

/-- A point's blocks of the results, and the rows it leaves for the next point. -/
def UpB (c : Dev nD) (t : Fin cfg0.N) : FVec Ideal S256x5632 .bf16 := fun y => U m c (ix2 (at' t (y 0)) (y 1))
def PreB (c : Dev nD) (t : Fin cfg0.N) : FVec Ideal S256x5632 .f32 := fun y => Pre m c (ix2 (at' t (y 0)) (y 1))
def ActB (c : Dev nD) (t : Fin cfg0.N) : FVec Ideal S256x2816 .bf16 := fun y => Act m c (ix2 (at' t (y 0)) (y 1))
def Left (c : Dev nD) (t : Fin cfg0.N) : FVec Ideal S8x5632 .f32 := fun y => UZ m c (256 * (t.val + 1) + (y 0).val) (y 1)

theorem before_zero (c : Dev nD) (t : Fin cfg0.N) (h0 : t.val % 64 = 0) : Before m c t (k0_pay3 (F := Ideal)) := by
  intro s j
  have hN : cfg0.N = 64 := N_0
  have := t.isLt
  unfold UZ
  rw [dif_neg (by omega)]
  pointwise [k0_pay3]

/-- A stored slab of each result is its block's. -/
theorem piece_up (c : Dev nD) (t : Fin cfg0.N) (a : ℕ) (ha : a + 256 ≤ 5632) (x : S256x256.Idx) :
    uT m c t a ha x = UpB m c t ((Rect.unit (s := S256x5632) ![0, a] ![256, 256] (inb (by decide) ha)).idx x) := by
  obtain ⟨r, j, rfl⟩ : ∃ r j : Fin 256, x = ix2 r j := ⟨x 0, x 1, eq_ix2 x⟩
  rw [emb_at, uT_at]
  unfold UpB
  refine congrArg (fun r => U m c (ix2 (at' t r) _)) (Fin.ext ?_)
  exact (Nat.zero_add _).symm

theorem piece_pre (c : Dev nD) (t : Fin cfg0.N) (q : FVec Ideal S8x5632 .f32) (hq : Before m c t q) (a : ℕ) (ha : a + 256 ≤ 5632)
    (x : S256x256.Idx) : preT m c t q a ha x = PreB m c t ((Rect.unit (s := S256x5632) ![0, a] ![256, 256] (inb (by decide) ha)).idx x) := by
  obtain ⟨r, j, rfl⟩ : ∃ r j : Fin 256, x = ix2 r j := ⟨x 0, x 1, eq_ix2 x⟩
  rw [emb_at, preT_at m c t q hq]
  unfold PreB
  refine congrArg (fun r => Pre m c (ix2 (at' t r) _)) (Fin.ext ?_)
  exact (Nat.zero_add _).symm

theorem act_at (c : Dev nD) (t : Fin cfg0.N) (q : FVec Ideal S8x5632 .f32) (hq : Before m c t q) (a : ℕ) (ha : a + 256 ≤ 2816)
    (ha' : 2816 + a + 256 ≤ 5632) (r j : Fin 256) :
    act (preT m c t q a (by omega) (ix2 r j)) * preT m c t q (2816 + a) ha' (ix2 r j)
      = Act m c (ix2 (at' t r) ⟨a + j.val, by omega⟩) := by
  rw [preT_at m c t q hq, preT_at m c t q hq]
  unfold Act
  refine congrArg₂ (· * ·) rfl (congrArg (fun k => Pre m c (ix2 (at' t r) k)) (Fin.ext ?_))
  exact Nat.add_assoc _ _ _

theorem piece_act (c : Dev nD) (t : Fin cfg0.N) (q : FVec Ideal S8x5632 .f32) (hq : Before m c t q) (a : ℕ) (ha : a + 256 ≤ 2816)
    (x : S256x256.Idx) : gated (preT m c t q a (by omega)) (preT m c t q (2816 + a) (by omega)) x
      = ActB m c t ((Rect.unit (s := S256x2816) ![0, a] ![256, 256] (inb (by decide) ha)).idx x) := by
  obtain ⟨r, j, rfl⟩ : ∃ r j : Fin 256, x = ix2 r j := ⟨x 0, x 1, eq_ix2 x⟩
  rw [emb_at, gated_at, act_at m c t q hq a ha]
  unfold ActB
  refine congrArg (fun r => Act m c (ix2 (at' t r) _)) (Fin.ext ?_)
  exact (Nat.zero_add _).symm

theorem piece_left (c : Dev nD) (t : Fin cfg0.N) (a : ℕ) (ha : a + 256 ≤ 5632) (x : S8x256.Idx) :
    tail (uT m c t a ha) x = Left m c t ((Rect.unit (s := S8x5632) ![0, a] ![8, 256] (inb (by decide) ha)).idx x) := by
  obtain ⟨r, j, rfl⟩ : ∃ (r : Fin 8) (j : Fin 256), x = ix2 r j := ⟨x 0, x 1, eq_ix2 x⟩
  rw [emb_at, tail_at, uZ_at]
  unfold Left
  refine congrArg (fun n => UZ m c n _) ?_
  show 256 * t.val + 8 + (248 + r.val) = 256 * (t.val + 1) + (0 + r.val)
  omega

/-- The result's rows after `n` of the point's eleven slabs. -/
def accs (c : Dev nD) (t : Fin cfg0.N) (q : FVec Ideal S8x5632 .f32) : (n : ℕ) → n ≤ 11 → FVec Ideal S256x1024 .f32
  | 0, _ => bH m c t
  | n + 1, h => step (accs c t q n (Nat.le_of_succ_le h)) (preT m c t q (256 * n) (by omega)) (preT m c t q (2816 + 256 * n) (by omega))
      (wdT m c t (256 * n) (by omega))

theorem accs_at (c : Dev nD) (t : Fin cfg0.N) (q : FVec Ideal S8x5632 .f32) (hq : Before m c t q) (r : Fin 256) (k : Fin 1024) :
    ∀ (n : ℕ) (h : n ≤ 11), accs m c t q n h (ix2 r k) = aH m c (ix2 (at' t r) k)
      + ∑ s : Fin n, ∑ j : Fin 256, Act m c (ix2 (at' t r) ⟨256 * s.val + j.val, by omega⟩) * aD m c (ix2 ⟨256 * s.val + j.val, by omega⟩ k)
  | 0, h => (row_h m c t r k).trans (by rw [Fin.sum_univ_zero, add_zero])
  | n + 1, h => by
    unfold accs
    rw [step_at, accs_at c t q hq r k n, Fin.sum_univ_castSucc (n := n), ← add_assoc]
    refine congrArg₂ (· + ·) rfl (Finset.sum_congr rfl fun j _ => congrArg₂ (· * ·) (act_at m c t q hq (256 * n) (by omega) (by omega) r j) ?_)
    unfold wdT
    rw [cut_at]
    refine (all_d m c t _ _).trans (congrArg (fun k => aD m c (ix2 _ k)) (Fin.ext ?_))
    exact Nat.zero_add _

theorem accs_all (c : Dev nD) (t : Fin cfg0.N) (q : FVec Ideal S8x5632 .f32) (hq : Before m c t q) :
    accs m c t q 11 (by decide) = fun y => Out m c (ix2 (at' t (y 0)) (y 1)) := by
  funext y
  obtain ⟨r, k, rfl⟩ : ∃ (r : Fin 256) (k : Fin 1024), y = ix2 r k := ⟨y 0, y 1, eq_ix2 y⟩
  rw [accs_at m c t q hq]
  unfold Out
  refine congrArg₂ (· + ·) rfl ?_
  refine Fin.sum_mul_add_congr fun s j hl => ?_
  have e : (⟨256 * s.val + j.val, by omega⟩ : Fin 2816) = ⟨s.val * 256 + j.val, hl⟩ := Fin.ext (by show 256 * s.val + j.val = s.val * 256 + j.val; omega)
  rw [e]
  rfl

end Cert.Kernel8Ideal.Value
end
end
-- ==== Proof.FfnFwdPoint.lean ====
/- The forward pass of the feed-forward layer: the stores of a grid point are blocks of the results. -/
module

public import proofs.«01_k».proof.Defs
public import proofs.«01_k».proof.Proof.FfnFwdPiece
public import proofs.«01_k».proof.Proof.Gen.Kernel8Ideal.Frame
public import proofs.«01_k».proof.Proof.Gen.Kernel8Ideal.Value
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.Row (row)

namespace Cert.Kernel8Ideal.Value
open Cert.Kernel8Ideal Cert.Kernel8Ideal.Gen Cert.Kernel8Ideal.Point Cert.Taps

variable (m : (ℓ : Loc nD τ sig) → Buf (Elt Ideal) ℓ)

set_option maxHeartbeats 4000000 in
theorem leftA (c : Dev nD) (t : Fin cfg0.N) (h0 : t.val % 64 = 0) :
    (outsAt0 m c t.val t.isLt).2.2.2.2 = Left m c t := by
  rw [outsAt0_A m c t h0]
  frame_out
  refine tiles 21 _ _ _ _ ⟨fun x => (congrFun ?_ x).trans (piece_left m c t 5376 (by decide) x),
      fun x => (congrFun ?_ x).trans (piece_left m c t 2560 (by decide) x),
      fun x => (congrFun ?_ x).trans (piece_left m c t 5120 (by decide) x),
      fun x => (congrFun ?_ x).trans (piece_left m c t 2304 (by decide) x),
      fun x => (congrFun ?_ x).trans (piece_left m c t 4864 (by decide) x),
      fun x => (congrFun ?_ x).trans (piece_left m c t 2048 (by decide) x),
      fun x => (congrFun ?_ x).trans (piece_left m c t 4608 (by decide) x),
      fun x => (congrFun ?_ x).trans (piece_left m c t 1792 (by decide) x),
      fun x => (congrFun ?_ x).trans (piece_left m c t 4352 (by decide) x),
      fun x => (congrFun ?_ x).trans (piece_left m c t 1536 (by decide) x),
      fun x => (congrFun ?_ x).trans (piece_left m c t 4096 (by decide) x),
      fun x => (congrFun ?_ x).trans (piece_left m c t 1280 (by decide) x),
      fun x => (congrFun ?_ x).trans (piece_left m c t 3840 (by decide) x),
      fun x => (congrFun ?_ x).trans (piece_left m c t 1024 (by decide) x),
      fun x => (congrFun ?_ x).trans (piece_left m c t 3584 (by decide) x),
      fun x => (congrFun ?_ x).trans (piece_left m c t 768 (by decide) x),
      fun x => (congrFun ?_ x).trans (piece_left m c t 3328 (by decide) x),
      fun x => (congrFun ?_ x).trans (piece_left m c t 512 (by decide) x),
      fun x => (congrFun ?_ x).trans (piece_left m c t 3072 (by decide) x),
      fun x => (congrFun ?_ x).trans (piece_left m c t 256 (by decide) x),
      fun x => (congrFun ?_ x).trans (piece_left m c t 2816 (by decide) x),
      fun x => (congrFun ?_ x).trans (piece_left m c t 0 (by decide) x), trivial⟩ rfl
  all_goals rfl

set_option maxHeartbeats 4000000 in
theorem upA (c : Dev nD) (t : Fin cfg0.N) (h0 : t.val % 64 = 0) :
    (outsAt0 m c t.val t.isLt).2.2.2.1 = UpB m c t := by
  rw [outsAt0_A m c t h0]
  frame_out
  refine tiles 21 _ _ _ _ ⟨fun x => (congrFun ?_ x).trans (piece_up m c t 5376 (by decide) x),
      fun x => (congrFun ?_ x).trans (piece_up m c t 2560 (by decide) x),
      fun x => (congrFun ?_ x).trans (piece_up m c t 5120 (by decide) x),
      fun x => (congrFun ?_ x).trans (piece_up m c t 2304 (by decide) x),
      fun x => (congrFun ?_ x).trans (piece_up m c t 4864 (by decide) x),
      fun x => (congrFun ?_ x).trans (piece_up m c t 2048 (by decide) x),
      fun x => (congrFun ?_ x).trans (piece_up m c t 4608 (by decide) x),
      fun x => (congrFun ?_ x).trans (piece_up m c t 1792 (by decide) x),
      fun x => (congrFun ?_ x).trans (piece_up m c t 4352 (by decide) x),
      fun x => (congrFun ?_ x).trans (piece_up m c t 1536 (by decide) x),
      fun x => (congrFun ?_ x).trans (piece_up m c t 4096 (by decide) x),
      fun x => (congrFun ?_ x).trans (piece_up m c t 1280 (by decide) x),
      fun x => (congrFun ?_ x).trans (piece_up m c t 3840 (by decide) x),
      fun x => (congrFun ?_ x).trans (piece_up m c t 1024 (by decide) x),
      fun x => (congrFun ?_ x).trans (piece_up m c t 3584 (by decide) x),
      fun x => (congrFun ?_ x).trans (piece_up m c t 768 (by decide) x),
      fun x => (congrFun ?_ x).trans (piece_up m c t 3328 (by decide) x),
      fun x => (congrFun ?_ x).trans (piece_up m c t 512 (by decide) x),
      fun x => (congrFun ?_ x).trans (piece_up m c t 3072 (by decide) x),
      fun x => (congrFun ?_ x).trans (piece_up m c t 256 (by decide) x),
      fun x => (congrFun ?_ x).trans (piece_up m c t 2816 (by decide) x),
      fun x => (congrFun ?_ x).trans (piece_up m c t 0 (by decide) x), trivial⟩ rfl
  all_goals rfl

set_option maxHeartbeats 4000000 in
theorem actA (c : Dev nD) (t : Fin cfg0.N) (h0 : t.val % 64 = 0) :
    (outsAt0 m c t.val t.isLt).2.1 = ActB m c t := by
  rw [outsAt0_A m c t h0]
  frame_out
  simp only [Taps.read_earlier (o := 2) (p := 6) (by decide) (by decide), Taps.read_earlier (o := 1) (p := 7) (by decide) (by decide)]
  simp (decide := true) only [View.readCov_skip, View.readCov_fill]
  refine tiles 10 _ _ _ _ ⟨fun x => (congrFun ?_ x).trans (piece_act m c t (k0_pay3 (F := Ideal)) (before_zero m c t h0) 2560 (by decide) x),
      fun x => (congrFun ?_ x).trans (piece_act m c t (k0_pay3 (F := Ideal)) (before_zero m c t h0) 2304 (by decide) x),
      fun x => (congrFun ?_ x).trans (piece_act m c t (k0_pay3 (F := Ideal)) (before_zero m c t h0) 2048 (by decide) x),
      fun x => (congrFun ?_ x).trans (piece_act m c t (k0_pay3 (F := Ideal)) (before_zero m c t h0) 1792 (by decide) x),
      fun x => (congrFun ?_ x).trans (piece_act m c t (k0_pay3 (F := Ideal)) (before_zero m c t h0) 1536 (by decide) x),
      fun x => (congrFun ?_ x).trans (piece_act m c t (k0_pay3 (F := Ideal)) (before_zero m c t h0) 1280 (by decide) x),
      fun x => (congrFun ?_ x).trans (piece_act m c t (k0_pay3 (F := Ideal)) (before_zero m c t h0) 1024 (by decide) x),
      fun x => (congrFun ?_ x).trans (piece_act m c t (k0_pay3 (F := Ideal)) (before_zero m c t h0) 768 (by decide) x),
      fun x => (congrFun ?_ x).trans (piece_act m c t (k0_pay3 (F := Ideal)) (before_zero m c t h0) 512 (by decide) x),
      fun x => (congrFun ?_ x).trans (piece_act m c t (k0_pay3 (F := Ideal)) (before_zero m c t h0) 256 (by decide) x),
      fun x => (congrFun ?_ x).trans (piece_act m c t (k0_pay3 (F := Ideal)) (before_zero m c t h0) 0 (by decide) x), trivial⟩ rfl
  all_goals rfl

set_option maxHeartbeats 4000000 in
theorem preA (c : Dev nD) (t : Fin cfg0.N) (h0 : t.val % 64 = 0) :
    (outsAt0 m c t.val t.isLt).2.2.1 = PreB m c t := by
  rw [outsAt0_A m c t h0]
  frame_out
  simp only [Taps.read_earlier (o := 2) (p := 6) (by decide) (by decide), Taps.read_earlier (o := 1) (p := 7) (by decide) (by decide)]
  simp (decide := true) only [View.readCov_skip, View.readCov_fill]
  refine tiles 21 _ _ _ _ ⟨fun x => (congrFun ?_ x).trans (piece_pre m c t (k0_pay3 (F := Ideal)) (before_zero m c t h0) 5376 (by decide) x),
      fun x => (congrFun ?_ x).trans (piece_pre m c t (k0_pay3 (F := Ideal)) (before_zero m c t h0) 2560 (by decide) x),
      fun x => (congrFun ?_ x).trans (piece_pre m c t (k0_pay3 (F := Ideal)) (before_zero m c t h0) 5120 (by decide) x),
      fun x => (congrFun ?_ x).trans (piece_pre m c t (k0_pay3 (F := Ideal)) (before_zero m c t h0) 2304 (by decide) x),
      fun x => (congrFun ?_ x).trans (piece_pre m c t (k0_pay3 (F := Ideal)) (before_zero m c t h0) 4864 (by decide) x),
      fun x => (congrFun ?_ x).trans (piece_pre m c t (k0_pay3 (F := Ideal)) (before_zero m c t h0) 2048 (by decide) x),
      fun x => (congrFun ?_ x).trans (piece_pre m c t (k0_pay3 (F := Ideal)) (before_zero m c t h0) 4608 (by decide) x),
      fun x => (congrFun ?_ x).trans (piece_pre m c t (k0_pay3 (F := Ideal)) (before_zero m c t h0) 1792 (by decide) x),
      fun x => (congrFun ?_ x).trans (piece_pre m c t (k0_pay3 (F := Ideal)) (before_zero m c t h0) 4352 (by decide) x),
      fun x => (congrFun ?_ x).trans (piece_pre m c t (k0_pay3 (F := Ideal)) (before_zero m c t h0) 1536 (by decide) x),
      fun x => (congrFun ?_ x).trans (piece_pre m c t (k0_pay3 (F := Ideal)) (before_zero m c t h0) 4096 (by decide) x),
      fun x => (congrFun ?_ x).trans (piece_pre m c t (k0_pay3 (F := Ideal)) (before_zero m c t h0) 1280 (by decide) x),
      fun x => (congrFun ?_ x).trans (piece_pre m c t (k0_pay3 (F := Ideal)) (before_zero m c t h0) 3840 (by decide) x),
      fun x => (congrFun ?_ x).trans (piece_pre m c t (k0_pay3 (F := Ideal)) (before_zero m c t h0) 1024 (by decide) x),
      fun x => (congrFun ?_ x).trans (piece_pre m c t (k0_pay3 (F := Ideal)) (before_zero m c t h0) 3584 (by decide) x),
      fun x => (congrFun ?_ x).trans (piece_pre m c t (k0_pay3 (F := Ideal)) (before_zero m c t h0) 768 (by decide) x),
      fun x => (congrFun ?_ x).trans (piece_pre m c t (k0_pay3 (F := Ideal)) (before_zero m c t h0) 3328 (by decide) x),
      fun x => (congrFun ?_ x).trans (piece_pre m c t (k0_pay3 (F := Ideal)) (before_zero m c t h0) 512 (by decide) x),
      fun x => (congrFun ?_ x).trans (piece_pre m c t (k0_pay3 (F := Ideal)) (before_zero m c t h0) 3072 (by decide) x),
      fun x => (congrFun ?_ x).trans (piece_pre m c t (k0_pay3 (F := Ideal)) (before_zero m c t h0) 256 (by decide) x),
      fun x => (congrFun ?_ x).trans (piece_pre m c t (k0_pay3 (F := Ideal)) (before_zero m c t h0) 2816 (by decide) x),
      fun x => (congrFun ?_ x).trans (piece_pre m c t (k0_pay3 (F := Ideal)) (before_zero m c t h0) 0 (by decide) x), trivial⟩ rfl
  all_goals rfl

set_option maxHeartbeats 4000000 in
theorem outA (c : Dev nD) (t : Fin cfg0.N) (h0 : t.val % 64 = 0) :
    (outsAt0 m c t.val t.isLt).1 = fun y => Out m c (ix2 (at' t (y 0)) (y 1)) := by
  rw [outsAt0_A m c t h0]
  frame_out
  simp only [Taps.read_earlier (o := 2) (p := 6) (by decide) (by decide), Taps.read_earlier (o := 1) (p := 7) (by decide) (by decide)]
  simp (decide := true) only [View.readCov_skip, View.readCov_fill]
  refine Eq.trans (b := accs m c t (k0_pay3 (F := Ideal)) 11 (by decide)) ?_ (accs_all m c t _ (before_zero m c t h0))
  rfl

set_option maxHeartbeats 4000000 in
theorem leftB (c : Dev nD) (t : Fin cfg0.N) (h0 : ¬ t.val % 64 = 0) :
    (outsAt0 m c t.val t.isLt).2.2.2.2 = Left m c t := by
  rw [outsAt0_B m c t h0]
  frame_out
  refine tiles 21 _ _ _ _ ⟨fun x => (congrFun ?_ x).trans (piece_left m c t 5376 (by decide) x),
      fun x => (congrFun ?_ x).trans (piece_left m c t 2560 (by decide) x),
      fun x => (congrFun ?_ x).trans (piece_left m c t 5120 (by decide) x),
      fun x => (congrFun ?_ x).trans (piece_left m c t 2304 (by decide) x),
      fun x => (congrFun ?_ x).trans (piece_left m c t 4864 (by decide) x),
      fun x => (congrFun ?_ x).trans (piece_left m c t 2048 (by decide) x),
      fun x => (congrFun ?_ x).trans (piece_left m c t 4608 (by decide) x),
      fun x => (congrFun ?_ x).trans (piece_left m c t 1792 (by decide) x),
      fun x => (congrFun ?_ x).trans (piece_left m c t 4352 (by decide) x),
      fun x => (congrFun ?_ x).trans (piece_left m c t 1536 (by decide) x),
      fun x => (congrFun ?_ x).trans (piece_left m c t 4096 (by decide) x),
      fun x => (congrFun ?_ x).trans (piece_left m c t 1280 (by decide) x),
      fun x => (congrFun ?_ x).trans (piece_left m c t 3840 (by decide) x),
      fun x => (congrFun ?_ x).trans (piece_left m c t 1024 (by decide) x),
      fun x => (congrFun ?_ x).trans (piece_left m c t 3584 (by decide) x),
      fun x => (congrFun ?_ x).trans (piece_left m c t 768 (by decide) x),
      fun x => (congrFun ?_ x).trans (piece_left m c t 3328 (by decide) x),
      fun x => (congrFun ?_ x).trans (piece_left m c t 512 (by decide) x),
      fun x => (congrFun ?_ x).trans (piece_left m c t 3072 (by decide) x),
      fun x => (congrFun ?_ x).trans (piece_left m c t 256 (by decide) x),
      fun x => (congrFun ?_ x).trans (piece_left m c t 2816 (by decide) x),
      fun x => (congrFun ?_ x).trans (piece_left m c t 0 (by decide) x), trivial⟩ rfl
  all_goals rfl

set_option maxHeartbeats 4000000 in
theorem upB (c : Dev nD) (t : Fin cfg0.N) (h0 : ¬ t.val % 64 = 0) :
    (outsAt0 m c t.val t.isLt).2.2.2.1 = UpB m c t := by
  rw [outsAt0_B m c t h0]
  frame_out
  refine tiles 21 _ _ _ _ ⟨fun x => (congrFun ?_ x).trans (piece_up m c t 5376 (by decide) x),
      fun x => (congrFun ?_ x).trans (piece_up m c t 2560 (by decide) x),
      fun x => (congrFun ?_ x).trans (piece_up m c t 5120 (by decide) x),
      fun x => (congrFun ?_ x).trans (piece_up m c t 2304 (by decide) x),
      fun x => (congrFun ?_ x).trans (piece_up m c t 4864 (by decide) x),
      fun x => (congrFun ?_ x).trans (piece_up m c t 2048 (by decide) x),
      fun x => (congrFun ?_ x).trans (piece_up m c t 4608 (by decide) x),
      fun x => (congrFun ?_ x).trans (piece_up m c t 1792 (by decide) x),
      fun x => (congrFun ?_ x).trans (piece_up m c t 4352 (by decide) x),
      fun x => (congrFun ?_ x).trans (piece_up m c t 1536 (by decide) x),
      fun x => (congrFun ?_ x).trans (piece_up m c t 4096 (by decide) x),
      fun x => (congrFun ?_ x).trans (piece_up m c t 1280 (by decide) x),
      fun x => (congrFun ?_ x).trans (piece_up m c t 3840 (by decide) x),
      fun x => (congrFun ?_ x).trans (piece_up m c t 1024 (by decide) x),
      fun x => (congrFun ?_ x).trans (piece_up m c t 3584 (by decide) x),
      fun x => (congrFun ?_ x).trans (piece_up m c t 768 (by decide) x),
      fun x => (congrFun ?_ x).trans (piece_up m c t 3328 (by decide) x),
      fun x => (congrFun ?_ x).trans (piece_up m c t 512 (by decide) x),
      fun x => (congrFun ?_ x).trans (piece_up m c t 3072 (by decide) x),
      fun x => (congrFun ?_ x).trans (piece_up m c t 256 (by decide) x),
      fun x => (congrFun ?_ x).trans (piece_up m c t 2816 (by decide) x),
      fun x => (congrFun ?_ x).trans (piece_up m c t 0 (by decide) x), trivial⟩ rfl
  all_goals rfl

set_option maxHeartbeats 4000000 in
theorem actB (c : Dev nD) (t : Fin cfg0.N) (h0 : ¬ t.val % 64 = 0) (hq : Before m c t ((outsAt0 m c (t.val - 1) (Nat.lt_of_le_of_lt (Nat.sub_le _ _) t.isLt)).2.2.2.2)) :
    (outsAt0 m c t.val t.isLt).2.1 = ActB m c t := by
  rw [outsAt0_B m c t h0]
  frame_out
  simp only [Taps.read_earlier (o := 2) (p := 6) (by decide) (by decide), Taps.read_earlier (o := 1) (p := 7) (by decide) (by decide)]
  simp only [read_unread_whole]
  refine tiles 10 _ _ _ _ ⟨fun x => (congrFun ?_ x).trans (piece_act m c t ((outsAt0 m c (t.val - 1) (Nat.lt_of_le_of_lt (Nat.sub_le _ _) t.isLt)).2.2.2.2) hq 2560 (by decide) x),
      fun x => (congrFun ?_ x).trans (piece_act m c t ((outsAt0 m c (t.val - 1) (Nat.lt_of_le_of_lt (Nat.sub_le _ _) t.isLt)).2.2.2.2) hq 2304 (by decide) x),
      fun x => (congrFun ?_ x).trans (piece_act m c t ((outsAt0 m c (t.val - 1) (Nat.lt_of_le_of_lt (Nat.sub_le _ _) t.isLt)).2.2.2.2) hq 2048 (by decide) x),
      fun x => (congrFun ?_ x).trans (piece_act m c t ((outsAt0 m c (t.val - 1) (Nat.lt_of_le_of_lt (Nat.sub_le _ _) t.isLt)).2.2.2.2) hq 1792 (by decide) x),
      fun x => (congrFun ?_ x).trans (piece_act m c t ((outsAt0 m c (t.val - 1) (Nat.lt_of_le_of_lt (Nat.sub_le _ _) t.isLt)).2.2.2.2) hq 1536 (by decide) x),
      fun x => (congrFun ?_ x).trans (piece_act m c t ((outsAt0 m c (t.val - 1) (Nat.lt_of_le_of_lt (Nat.sub_le _ _) t.isLt)).2.2.2.2) hq 1280 (by decide) x),
      fun x => (congrFun ?_ x).trans (piece_act m c t ((outsAt0 m c (t.val - 1) (Nat.lt_of_le_of_lt (Nat.sub_le _ _) t.isLt)).2.2.2.2) hq 1024 (by decide) x),
      fun x => (congrFun ?_ x).trans (piece_act m c t ((outsAt0 m c (t.val - 1) (Nat.lt_of_le_of_lt (Nat.sub_le _ _) t.isLt)).2.2.2.2) hq 768 (by decide) x),
      fun x => (congrFun ?_ x).trans (piece_act m c t ((outsAt0 m c (t.val - 1) (Nat.lt_of_le_of_lt (Nat.sub_le _ _) t.isLt)).2.2.2.2) hq 512 (by decide) x),
      fun x => (congrFun ?_ x).trans (piece_act m c t ((outsAt0 m c (t.val - 1) (Nat.lt_of_le_of_lt (Nat.sub_le _ _) t.isLt)).2.2.2.2) hq 256 (by decide) x),
      fun x => (congrFun ?_ x).trans (piece_act m c t ((outsAt0 m c (t.val - 1) (Nat.lt_of_le_of_lt (Nat.sub_le _ _) t.isLt)).2.2.2.2) hq 0 (by decide) x), trivial⟩ rfl
  all_goals rfl

set_option maxHeartbeats 4000000 in
theorem preB (c : Dev nD) (t : Fin cfg0.N) (h0 : ¬ t.val % 64 = 0) (hq : Before m c t ((outsAt0 m c (t.val - 1) (Nat.lt_of_le_of_lt (Nat.sub_le _ _) t.isLt)).2.2.2.2)) :
    (outsAt0 m c t.val t.isLt).2.2.1 = PreB m c t := by
  rw [outsAt0_B m c t h0]
  frame_out
  simp only [Taps.read_earlier (o := 2) (p := 6) (by decide) (by decide), Taps.read_earlier (o := 1) (p := 7) (by decide) (by decide)]
  simp only [read_unread_whole]
  refine tiles 21 _ _ _ _ ⟨fun x => (congrFun ?_ x).trans (piece_pre m c t ((outsAt0 m c (t.val - 1) (Nat.lt_of_le_of_lt (Nat.sub_le _ _) t.isLt)).2.2.2.2) hq 5376 (by decide) x),
      fun x => (congrFun ?_ x).trans (piece_pre m c t ((outsAt0 m c (t.val - 1) (Nat.lt_of_le_of_lt (Nat.sub_le _ _) t.isLt)).2.2.2.2) hq 2560 (by decide) x),
      fun x => (congrFun ?_ x).trans (piece_pre m c t ((outsAt0 m c (t.val - 1) (Nat.lt_of_le_of_lt (Nat.sub_le _ _) t.isLt)).2.2.2.2) hq 5120 (by decide) x),
      fun x => (congrFun ?_ x).trans (piece_pre m c t ((outsAt0 m c (t.val - 1) (Nat.lt_of_le_of_lt (Nat.sub_le _ _) t.isLt)).2.2.2.2) hq 2304 (by decide) x),
      fun x => (congrFun ?_ x).trans (piece_pre m c t ((outsAt0 m c (t.val - 1) (Nat.lt_of_le_of_lt (Nat.sub_le _ _) t.isLt)).2.2.2.2) hq 4864 (by decide) x),
      fun x => (congrFun ?_ x).trans (piece_pre m c t ((outsAt0 m c (t.val - 1) (Nat.lt_of_le_of_lt (Nat.sub_le _ _) t.isLt)).2.2.2.2) hq 2048 (by decide) x),
      fun x => (congrFun ?_ x).trans (piece_pre m c t ((outsAt0 m c (t.val - 1) (Nat.lt_of_le_of_lt (Nat.sub_le _ _) t.isLt)).2.2.2.2) hq 4608 (by decide) x),
      fun x => (congrFun ?_ x).trans (piece_pre m c t ((outsAt0 m c (t.val - 1) (Nat.lt_of_le_of_lt (Nat.sub_le _ _) t.isLt)).2.2.2.2) hq 1792 (by decide) x),
      fun x => (congrFun ?_ x).trans (piece_pre m c t ((outsAt0 m c (t.val - 1) (Nat.lt_of_le_of_lt (Nat.sub_le _ _) t.isLt)).2.2.2.2) hq 4352 (by decide) x),
      fun x => (congrFun ?_ x).trans (piece_pre m c t ((outsAt0 m c (t.val - 1) (Nat.lt_of_le_of_lt (Nat.sub_le _ _) t.isLt)).2.2.2.2) hq 1536 (by decide) x),
      fun x => (congrFun ?_ x).trans (piece_pre m c t ((outsAt0 m c (t.val - 1) (Nat.lt_of_le_of_lt (Nat.sub_le _ _) t.isLt)).2.2.2.2) hq 4096 (by decide) x),
      fun x => (congrFun ?_ x).trans (piece_pre m c t ((outsAt0 m c (t.val - 1) (Nat.lt_of_le_of_lt (Nat.sub_le _ _) t.isLt)).2.2.2.2) hq 1280 (by decide) x),
      fun x => (congrFun ?_ x).trans (piece_pre m c t ((outsAt0 m c (t.val - 1) (Nat.lt_of_le_of_lt (Nat.sub_le _ _) t.isLt)).2.2.2.2) hq 3840 (by decide) x),
      fun x => (congrFun ?_ x).trans (piece_pre m c t ((outsAt0 m c (t.val - 1) (Nat.lt_of_le_of_lt (Nat.sub_le _ _) t.isLt)).2.2.2.2) hq 1024 (by decide) x),
      fun x => (congrFun ?_ x).trans (piece_pre m c t ((outsAt0 m c (t.val - 1) (Nat.lt_of_le_of_lt (Nat.sub_le _ _) t.isLt)).2.2.2.2) hq 3584 (by decide) x),
      fun x => (congrFun ?_ x).trans (piece_pre m c t ((outsAt0 m c (t.val - 1) (Nat.lt_of_le_of_lt (Nat.sub_le _ _) t.isLt)).2.2.2.2) hq 768 (by decide) x),
      fun x => (congrFun ?_ x).trans (piece_pre m c t ((outsAt0 m c (t.val - 1) (Nat.lt_of_le_of_lt (Nat.sub_le _ _) t.isLt)).2.2.2.2) hq 3328 (by decide) x),
      fun x => (congrFun ?_ x).trans (piece_pre m c t ((outsAt0 m c (t.val - 1) (Nat.lt_of_le_of_lt (Nat.sub_le _ _) t.isLt)).2.2.2.2) hq 512 (by decide) x),
      fun x => (congrFun ?_ x).trans (piece_pre m c t ((outsAt0 m c (t.val - 1) (Nat.lt_of_le_of_lt (Nat.sub_le _ _) t.isLt)).2.2.2.2) hq 3072 (by decide) x),
      fun x => (congrFun ?_ x).trans (piece_pre m c t ((outsAt0 m c (t.val - 1) (Nat.lt_of_le_of_lt (Nat.sub_le _ _) t.isLt)).2.2.2.2) hq 256 (by decide) x),
      fun x => (congrFun ?_ x).trans (piece_pre m c t ((outsAt0 m c (t.val - 1) (Nat.lt_of_le_of_lt (Nat.sub_le _ _) t.isLt)).2.2.2.2) hq 2816 (by decide) x),
      fun x => (congrFun ?_ x).trans (piece_pre m c t ((outsAt0 m c (t.val - 1) (Nat.lt_of_le_of_lt (Nat.sub_le _ _) t.isLt)).2.2.2.2) hq 0 (by decide) x), trivial⟩ rfl
  all_goals rfl

set_option maxHeartbeats 4000000 in
theorem outB (c : Dev nD) (t : Fin cfg0.N) (h0 : ¬ t.val % 64 = 0) (hq : Before m c t ((outsAt0 m c (t.val - 1) (Nat.lt_of_le_of_lt (Nat.sub_le _ _) t.isLt)).2.2.2.2)) :
    (outsAt0 m c t.val t.isLt).1 = fun y => Out m c (ix2 (at' t (y 0)) (y 1)) := by
  rw [outsAt0_B m c t h0]
  frame_out
  simp only [Taps.read_earlier (o := 2) (p := 6) (by decide) (by decide), Taps.read_earlier (o := 1) (p := 7) (by decide) (by decide)]
  simp only [read_unread_whole]
  refine Eq.trans (b := accs m c t ((outsAt0 m c (t.val - 1) (Nat.lt_of_le_of_lt (Nat.sub_le _ _) t.isLt)).2.2.2.2) 11 (by decide)) ?_ (accs_all m c t _ hq)
  rfl

end Cert.Kernel8Ideal.Value
end
end
-- ==== Proof.FfnFwd.lean ====
/- The forward pass of the feed-forward layer: the kernel's results are the reference's. -/
module

public import proofs.«01_k».proof.Defs
public import proofs.«01_k».proof.Proof.FfnFwdPoint
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.Row (row)

namespace Cert.Kernel8Ideal.Value
open Cert.Kernel8Ideal Cert.Kernel8Ideal.Gen Cert.Kernel8Ideal.Point Cert.Taps

variable (m : (ℓ : Loc nD τ sig) → Buf (Elt Ideal) ℓ)

theorem left_all (c : Dev nD) (t : Fin cfg0.N) : (outsAt0 m c t.val t.isLt).2.2.2.2 = Left m c t := by
  by_cases h0 : t.val % 64 = 0
  · exact leftA m c t h0
  · exact leftB m c t h0

/-- Every point but the first finds the last rows of the block before. -/
theorem before_succ (c : Dev nD) (t : Fin cfg0.N) (h0 : ¬ t.val % 64 = 0) :
    Before m c t (outsAt0 m c (t.val - 1) (Nat.lt_of_le_of_lt (Nat.sub_le _ _) t.isLt)).2.2.2.2 := by
  intro s j
  rw [left_all m c ⟨t.val - 1, Nat.lt_of_le_of_lt (Nat.sub_le _ _) t.isLt⟩]
  unfold Left
  refine congrArg (fun n => UZ m c n j) ?_
  show 256 * (t.val - 1 + 1) + s.val = 256 * t.val + s.val
  rw [Nat.sub_add_cancel (by omega)]

theorem out_all (c : Dev nD) (t : Fin cfg0.N) : (outsAt0 m c t.val t.isLt).1 = fun y => Out m c (ix2 (at' t (y 0)) (y 1)) := by
  by_cases h0 : t.val % 64 = 0
  · exact outA m c t h0
  · exact outB m c t h0 (before_succ m c t h0)

theorem whole6 (c : Dev nD) : (dats m 0 c).arrAt 6 (cfgs 0).N = Out m c := by
  refine (dats m 0 c).arrAt_eq_of_covers 6 _ (by decide +kernel) fun t _ y => ?_
  blk_simp
  rw [after0_6, out_all]

  refine congrArg (Out m c) ?_
  unfold at'
  blk_ext [idx t]

theorem act_all (c : Dev nD) (t : Fin cfg0.N) : (outsAt0 m c t.val t.isLt).2.1 = ActB m c t := by
  by_cases h0 : t.val % 64 = 0
  · exact actA m c t h0
  · exact actB m c t h0 (before_succ m c t h0)

theorem whole7 (c : Dev nD) : (dats m 0 c).arrAt 7 (cfgs 0).N = Act m c := by
  refine (dats m 0 c).arrAt_eq_of_covers 7 _ (by decide +kernel) fun t _ y => ?_
  blk_simp
  rw [after0_7, act_all]
  unfold ActB
  refine congrArg (Act m c) ?_
  unfold at'
  blk_ext [idx t]

theorem pre_all (c : Dev nD) (t : Fin cfg0.N) : (outsAt0 m c t.val t.isLt).2.2.1 = PreB m c t := by
  by_cases h0 : t.val % 64 = 0
  · exact preA m c t h0
  · exact preB m c t h0 (before_succ m c t h0)

theorem whole8 (c : Dev nD) : (dats m 0 c).arrAt 8 (cfgs 0).N = Pre m c := by
  refine (dats m 0 c).arrAt_eq_of_covers 8 _ (by decide +kernel) fun t _ y => ?_
  blk_simp
  rw [after0_8, pre_all]
  unfold PreB
  refine congrArg (Pre m c) ?_
  unfold at'
  blk_ext [idx t]

theorem up_all (c : Dev nD) (t : Fin cfg0.N) : (outsAt0 m c t.val t.isLt).2.2.2.1 = UpB m c t := by
  by_cases h0 : t.val % 64 = 0
  · exact upA m c t h0
  · exact upB m c t h0

theorem whole9 (c : Dev nD) : (dats m 0 c).arrAt 9 (cfgs 0).N = U m c := by
  refine (dats m 0 c).arrAt_eq_of_covers 9 _ (by decide +kernel) fun t _ y => ?_
  blk_simp
  rw [after0_9, up_all]
  unfold UpB
  refine congrArg (U m c) ?_
  unfold at'
  blk_ext [idx t]

end Cert.Kernel8Ideal.Value

namespace Cert.FfnFwd

/-! ## The reference -/

theorem refFrame : Cert.quiescent_Reference8Ideal := fun m ρ _ =>
  (θ_run Cert.Reference8Ideal.defs _ _).mono (fun r h => ⟨fun c => (h c).2.2.2.2,
    sem_eq_zero_of_no_sems (by decide) r.2⟩) (Cert.Reference8Ideal.Value.run (F := Ideal) m ρ)

section
open Cert.Reference8Ideal Cert.Reference8Ideal.Read

variable (m : (ℓ : Loc Kernel8Ideal.nD Kernel8Ideal.τ Kernel8Ideal.sig) → Buf (Elt Ideal) ℓ) (c : Dev Kernel8Ideal.nD)

open Cert.Kernel8Ideal.Value (aH aN aW aC aB aD U UZ Pre Act Out)

theorem ref_up (r : Fin 16384) (j : Fin 5632) : val_main_v0 (F := Ideal) (aN m c) (aW m c) (ix2 r j) = U m c (ix2 r j) := by
  unfold U
  pointwise [val_main_v0]

/-- The up-projection behind two rows of zeros. -/
theorem ref_pad (r : Fin 16386) (j : Fin 5632) : val_main_v2 (F := Ideal) (aN m c) (aW m c) (ix2 r j) = UZ m c (r.val + 6) j := by
  unfold UZ
  by_cases h : r.val < 2
  · rw [dif_neg (by omega)]
    generalize hv : val_main_v0 (F := Ideal) (aN m c) (aW m c) = v
    pointwise [val_main_v2, hv, val_main_v1, val_main_cst]
    rw [dif_pos h]
  · rw [dif_pos ⟨by omega, by omega⟩, ← ref_up]
    generalize hv : val_main_v0 (F := Ideal) (aN m c) (aW m c) = v
    pointwise [val_main_v2, hv, val_main_v1, val_main_cst]
    rw [dif_neg h]
    exact congrArg (fun k => v (ix2 k j)) (Fin.ext (by show r.val - 2 = r.val + 6 - 8; omega))

theorem ref_pre (r : Fin 16384) (j : Fin 5632) :
    val_main_v25 (F := Ideal) (aN m c) (aW m c) (aC m c) (aB m c) (ix2 r j) = Pre m c (ix2 r j) := by
  have h0 : val_main_v3 (F := Ideal) (aN m c) (aW m c) (ix2 r j) = UZ m c (r.val + 6) j := by
    pointwise [val_main_v3, ref_pad]
  have h1 : val_main_v12 (F := Ideal) (aN m c) (aW m c) (ix2 r j) = UZ m c (r.val + 7) j := by
    pointwise [val_main_v12, ref_pad]
    exact congrArg (fun n => UZ m c n j) (by omega)
  have h2 : val_main_v19 (F := Ideal) (aN m c) (aW m c) (ix2 r j) = UZ m c (r.val + 8) j := by
    pointwise [val_main_v19, ref_pad]
    exact congrArg (fun n => UZ m c n j) (by omega)
  have e0 : val_main_v7 (F := Ideal) (aC m c) (ix2 r j) = aC m c (ix2 0 j) := by
    pointwise [val_main_v7, val_main_v6, val_main_v5, val_main_v4]
  have e1 : val_main_v16 (F := Ideal) (aC m c) (ix2 r j) = aC m c (ix2 1 j) := by
    pointwise [val_main_v16, val_main_v15, val_main_v14, val_main_v13]
  have e2 : val_main_v23 (F := Ideal) (aC m c) (ix2 r j) = aC m c (ix2 2 j) := by
    pointwise [val_main_v23, val_main_v22, val_main_v21, val_main_v20]
  have eb : val_main_v10 (F := Ideal) (aB m c) (ix2 r j) = aB m c (ix1 j) := by
    pointwise [val_main_v10, val_main_v9]
  rw [val_main_v25_apply, val_main_v18_apply, val_main_v11_apply, val_main_v8_apply, val_main_v17_apply, val_main_v24_apply,
    h0, h1, h2, e0, e1, e2, eb]
  unfold Pre
  show aB m c (ix1 j) + UZ m c (r.val + 6) j * aC m c (ix2 0 j) + UZ m c (r.val + 7) j * aC m c (ix2 1 j) + UZ m c (r.val + 8) j * aC m c (ix2 2 j)
    = aB m c (ix1 j) + aC m c (ix2 2 j) * UZ m c (r.val + 8) j + aC m c (ix2 0 j) * UZ m c (r.val + 6) j + aC m c (ix2 1 j) * UZ m c (r.val + 7) j
  rw [mul_comm (aC m c (ix2 2 j)), mul_comm (aC m c (ix2 0 j)), mul_comm (aC m c (ix2 1 j)), add_right_comm _ (UZ m c (r.val + 8) j * _),
    add_right_comm _ (UZ m c (r.val + 8) j * _)]

/-- The activation as the reference spells it. -/
theorem act_eq (x : EReal) :
    x * (FloatOps.ofBits (F := Ideal) .f32 0x3F000000#32 * (FloatOps.ofBits (F := Ideal) .f32 0x3F800000#32
      + FloatOps.tanh (F := Ideal) (φ := .f32) (FloatOps.ofBits (F := Ideal) .f32 0x3F4C422A#32
        * (x + FloatOps.ofBits (F := Ideal) .f32 0x3D372713#32 * (x * x * x))))) = Kernel8Ideal.Point.act x := by
  unfold Kernel8Ideal.Point.act
  rw [← mul_assoc x, mul_comm x, ← mul_assoc, ← mul_assoc]

theorem ref_act (r : Fin 16384) (j : Fin 2816) :
    val_main_v41 (F := Ideal) (aN m c) (aW m c) (aC m c) (aB m c) (ix2 r j) = Act m c (ix2 r j) := by
  have hg : val_main_v26 (F := Ideal) (aN m c) (aW m c) (aC m c) (aB m c) (ix2 r j) = Pre m c (ix2 r ⟨j.val, by omega⟩) := by
    pointwise [val_main_v26, ref_pre]
  have hv : val_main_v27 (F := Ideal) (aN m c) (aW m c) (aC m c) (aB m c) (ix2 r j) = Pre m c (ix2 r ⟨2816 + j.val, by omega⟩) := by
    pointwise [val_main_v27, ref_pre]
  rw [val_main_v41_apply, val_main_v40_apply, val_main_v39_apply, val_main_v37_apply, val_main_v35_apply, val_main_v34_apply,
    val_main_v32_apply, val_main_v31_apply, val_main_v29_apply, val_main_v28_apply, hg, hv]
  unfold Act
  refine congrArg₂ (· * ·) ?_ rfl
  refine Eq.trans ?_ (act_eq _)
  pointwise [val_main_v38, val_main_v36, val_main_v33, val_main_v30, val_main_cst_0, val_main_cst_1, val_main_cst_2, val_main_cst_3]

theorem ref0 : val_main_v43 (F := Ideal) (aH m c) (aN m c) (aW m c) (aC m c) (aB m c) (aD m c) = Out m c :=
  funext fun i => by
    rw [eq_ix2 i]
    generalize i 0 = r
    generalize i 1 = k
    unfold Out
    rw [val_main_v43_apply]
    refine congrArg₂ (· + ·) rfl ?_
    rw [val_main_v42_apply]
    refine Finset.sum_congr rfl fun j _ => ?_
    refine congrArg₂ (· * ·) (Eq.trans (congrArg _ ?_) (ref_act m c r j)) (congrArg _ ?_)
    · funext a; fin_cases a <;> rfl
    · funext a; fin_cases a <;> rfl

theorem ref1 : val_main_v44 (F := Ideal) (aN m c) (aW m c) (aC m c) (aB m c) = Act m c :=
  funext fun i => by
    obtain ⟨r, j, rfl⟩ : ∃ (r : Fin 16384) (j : Fin 2816), i = ix2 r j := ⟨i 0, i 1, eq_ix2 i⟩
    exact ref_act m c r j

theorem ref2 : val_main_v25 (F := Ideal) (aN m c) (aW m c) (aC m c) (aB m c) = Pre m c :=
  funext fun i => by
    obtain ⟨r, j, rfl⟩ : ∃ (r : Fin 16384) (j : Fin 5632), i = ix2 r j := ⟨i 0, i 1, eq_ix2 i⟩
    exact ref_pre m c r j

theorem ref3 : val_main_v45 (F := Ideal) (aN m c) (aW m c) = U m c :=
  funext fun i => by
    obtain ⟨r, j, rfl⟩ : ∃ (r : Fin 16384) (j : Fin 5632), i = ix2 r j := ⟨i 0, i 1, eq_ix2 i⟩
    exact ref_up m c r j

end

/-! ## The claim -/

open Cert.Kernel8Ideal Cert.Kernel8Ideal.Gen Cert.Kernel8Ideal.Value

theorem values : Cert.algebraic_Kernel8Ideal_Reference8Ideal := by
  intro m g m' g' hpre hag
  refine ⟨fun c => Out m c, fun c => Act m c, fun c => Pre m c, fun c => U m c, ?_, ?_⟩
  · refine (θ_run Kernel8Ideal.defs _ _).mono (fun r h c => ?_) (run_blocks m g)
    obtain ⟨h0, h1, h2, h3, hr⟩ := h c
    exact ⟨h0.trans (whole6 m c), h1.trans (whole7 m c), h2.trans (whole8 m c), h3.trans (whole9 m c), hr⟩
  · refine (θ_run Reference8Ideal.defs _ _).mono (fun r h c => ?_) (Reference8Ideal.Value.run m' g')
    obtain ⟨h0, h1, h2, h3, hr⟩ := h c
    obtain ⟨e0, e1, e2, e3, e4, e5⟩ := hag c
    refine ⟨h0.trans ?_, h1.trans ?_, h2.trans ?_, h3.trans ?_, hr⟩
    · refine Eq.trans ?_ (ref0 m c)
      unfold aH aN aW aC aB aD
      rw [← e0, ← e1, ← e2, ← e3, ← e4, ← e5]
      rfl
    · refine Eq.trans ?_ (ref1 m c)
      unfold aN aW aC aB
      rw [← e1, ← e2, ← e3, ← e4]
      rfl
    · refine Eq.trans ?_ (ref2 m c)
      unfold aN aW aC aB
      rw [← e1, ← e2, ← e3, ← e4]
      rfl
    · refine Eq.trans ?_ (ref3 m c)
      unfold aN aW
      rw [← e1, ← e2]
      rfl

end Cert.FfnFwd

end

end
-- ==== Proof.FfnBwdBlock.lean ====
/- The backward pass of the feed-forward layer: the kernel's results index by index. -/
module

public import proofs.«01_k».proof.Defs
public import proofs.«01_k».proof.Proof.RowNorm
public import proofs.«01_k».proof.Proof.FfnTaps
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.Row (row)

namespace Cert.Kernel9Ideal.Point
open Cert.Kernel9Ideal Cert.Kernel9Ideal.Gen Cert.Taps

/-- The gradient at a slab of the activation. -/
def dact (x : FVec Ideal S256x1024 .f32) (w : FVec Ideal S1024x256 .bf16) : FVec Ideal S256x256 .f32 :=
  matmul dot_S256x1024_S1024x256_S256x256_1_0_0_1_n_n none (truncf .bf16 x bitsLt_bf16_f32)
    (shapeCast S1024x256 w shapeCasts_S1024x256_S1024x256) (constant S256x256 .f32 0x00000000#32)

def same (x : FVec Ideal S256x256 .f32) : FVec Ideal S256x256 .f32 := shapeCast S256x256 x shapeCasts_S256x256_S256x256

/-- The hyperbolic tangent of a slab of the gate. -/
def slope (g : FVec Ideal S256x256 .f32) : FVec Ideal S256x256 .f32 :=
  tanh (mulf (broadcast S256x256 (Scalar.ofBits (F := Ideal) .f32 0x3F4C422A#32))
    (addf (same g) (mulf (mulf (mulf (broadcast S256x256 (Named.named (F := Ideal) κ "gelu_a" 0x3D372713#32)) (same g)) (same g)) (same g))))

/-- The gradient at a slab of the gate, and at a slab of the value. -/
def dgate (d g v : FVec Ideal S256x256 .f32) : FVec Ideal S256x256 .f32 :=
  mulf (mulf d (same v)) (addf
    (mulf (broadcast S256x256 (Scalar.ofBits (F := Ideal) .f32 0x3F000000#32))
      (addf (broadcast S256x256 (Scalar.ofBits (F := Ideal) .f32 0x3F800000#32)) (slope g)))
    (mulf (mulf (mulf (mulf (broadcast S256x256 (Scalar.ofBits (F := Ideal) .f32 0x3F000000#32)) (same g))
        (subf (broadcast S256x256 (Scalar.ofBits (F := Ideal) .f32 0x3F800000#32)) (mulf (slope g) (slope g))))
        (broadcast S256x256 (Scalar.ofBits (F := Ideal) .f32 0x3F4C422A#32)))
      (addf (broadcast S256x256 (Scalar.ofBits (F := Ideal) .f32 0x3F800000#32))
        (mulf (mulf (broadcast S256x256 (Named.named (F := Ideal) κ "gelu_3a" 0x3E095D4F#32)) (same g)) (same g)))))
def dval (d g : FVec Ideal S256x256 .f32) : FVec Ideal S256x256 .f32 :=
  mulf d (mulf (mulf (broadcast S256x256 (Scalar.ofBits (F := Ideal) .f32 0x3F000000#32)) (same g))
    (addf (broadcast S256x256 (Scalar.ofBits (F := Ideal) .f32 0x3F800000#32)) (slope g)))

/-- The first eight rows of a slab. -/
def head (p : FVec Ideal S256x256 .f32) : FVec Ideal S8x256 .f32 :=
  shapeCast S8x256 (extractStridedSlice S8x256 ![0, 0] p slices_S256x256_o0_0_S8x256) shapeCasts_S8x256_S8x256

/-- A slab's column sums, added to what was there. -/
def colsum (acc : FVec Ideal S1x256 .f32) (p : FVec Ideal S256x256 .f32) : FVec Ideal S1x256 .f32 :=
  addf (shapeCast S1x256 acc shapeCasts_S1x256_S1x256)
    (shapeCast S1x256 (multiReduction .add [0] S256 p 0x00000000#32 reduces_S256x256_S256 (.inl rfl) rfl) shapeCasts_S256_S1x256)

/-- The gradients of the three taps over a slab, added to what was there. -/
def taps (acc : FVec Ideal S3x256 .f32) (s2 s1 p : FVec Ideal S256x256 .f32) (x : FVec Ideal S256x256 .bf16) : FVec Ideal S3x256 .f32 :=
  addf (shapeCast S3x256 acc shapeCasts_S3x256_S3x256)
    (concatenate S3x256 0
      [⟨S1x256, shapeCast S1x256 (multiReduction .add [0] S256 (mulf s2 (extf .f32 (shapeCast S256x256 x shapeCasts_S256x256_S256x256) bitsLt_bf16_f32))
          0x00000000#32 reduces_S256x256_S256 (.inl rfl) rfl) shapeCasts_S256_S1x256⟩,
       ⟨S1x256, shapeCast S1x256 (multiReduction .add [0] S256 (mulf s1 (extf .f32 (shapeCast S256x256 x shapeCasts_S256x256_S256x256) bitsLt_bf16_f32))
          0x00000000#32 reduces_S256x256_S256 (.inl rfl) rfl) shapeCasts_S256_S1x256⟩,
       ⟨S1x256, shapeCast S1x256 (multiReduction .add [0] S256 (mulf p (extf .f32 (shapeCast S256x256 x shapeCasts_S256x256_S256x256) bitsLt_bf16_f32))
          0x00000000#32 reduces_S256x256_S256 (.inl rfl) rfl) shapeCasts_S256_S1x256⟩]
      concatenates_S1x256_S1x256_S1x256_S3x256_d0)

/-- The gradient at a slab of the up-projection: the convolution turned round. -/
def dup (c0 : FVec Ideal S1x256 .f32) (s2 : FVec Ideal S256x256 .f32) (c1 : FVec Ideal S1x256 .f32) (s1 : FVec Ideal S256x256 .f32)
    (c2 : FVec Ideal S1x256 .f32) (p : FVec Ideal S256x256 .f32) : FVec Ideal S256x256 .bf16 :=
  truncf .bf16 (addf (addf (mulf (broadcastTo S256x256 c0 broadcasts_S1x256_S256x256) s2)
    (mulf (broadcastTo S256x256 c1 broadcasts_S1x256_S256x256) s1))
    (mulf (broadcastTo S256x256 c2 broadcasts_S1x256_S256x256) p)) bitsLt_bf16_f32

/-- One slab's share of the gradient at the normalised rows. -/
def more (acc : FVec Ideal S256x1024 .f32) (u : FVec Ideal S256x256 .bf16) (w : FVec Ideal S256x1024 .bf16) : FVec Ideal S256x1024 .f32 :=
  addf acc (matmul dot_S256x256_S256x1024_S256x1024_1_0_0_1_n_n none u (shapeCast S256x1024 w shapeCasts_S256x1024_S256x1024)
    (constant S256x1024 .f32 0x00000000#32))

/-- The gradient at the rows, from the gradient `d` at the normalised rows. -/
def gained (d : FVec Ideal S256x1024 .f32) (g : FVec Ideal S1x1024 .f32) : FVec Ideal S256x1024 .f32 :=
  mulf d (broadcastTo S256x1024 (shapeCast S1x1024 g shapeCasts_S1x1024_S1x1024) broadcasts_S1x1024_S256x1024)
def rows (h x : FVec Ideal S256x1024 .f32) (g : FVec Ideal S1x1024 .f32) (d : FVec Ideal S256x1024 .f32) : FVec Ideal S256x1024 .f32 :=
  k0_pay1 (F := Ideal) h (k0_pay321 x) (k0_pay322 x) (gained d g)
    (k0_pay325 (multiReduction .add [1] S256 (mulf (gained d g) (k0_pay322 x)) 0x00000000#32 reduces_S256x1024_S256 (.inl rfl) rfl))

theorem dact_at (x : FVec Ideal S256x1024 .f32) (w : FVec Ideal S1024x256 .bf16) (r j : Fin 256) :
    dact x w (ix2 r j) = ∑ k : Fin 1024, x (ix2 r k) * w (ix2 k j) := by
  pointwise [dact]

/-- The tangent, and the two gradients, of one entry. -/
def th (g : EReal) : EReal :=
  FloatOps.tanh (F := Ideal) (φ := .f32) (FloatOps.ofBits (F := Ideal) .f32 0x3F4C422A#32
    * (g + Named.named (F := Ideal) κ "gelu_a" (φ := .f32) 0x3D372713#32 * g * g * g))
def gateOf (d g v : EReal) : EReal :=
  d * v * (FloatOps.ofBits (F := Ideal) .f32 0x3F000000#32 * (FloatOps.ofBits (F := Ideal) .f32 0x3F800000#32 + th g)
    + FloatOps.ofBits (F := Ideal) .f32 0x3F000000#32 * g * (FloatOps.ofBits (F := Ideal) .f32 0x3F800000#32 - th g * th g)
      * FloatOps.ofBits (F := Ideal) .f32 0x3F4C422A#32
      * (FloatOps.ofBits (F := Ideal) .f32 0x3F800000#32 + Named.named (F := Ideal) κ "gelu_3a" (φ := .f32) 0x3E095D4F#32 * g * g))
def valOf (d g : EReal) : EReal :=
  d * (FloatOps.ofBits (F := Ideal) .f32 0x3F000000#32 * g * (FloatOps.ofBits (F := Ideal) .f32 0x3F800000#32 + th g))

theorem slope_at (g : FVec Ideal S256x256 .f32) (r j : Fin 256) : slope g (ix2 r j) = th (g (ix2 r j)) := by
  unfold th
  pointwise [slope, same]

theorem dgate_at (d g v : FVec Ideal S256x256 .f32) (r j : Fin 256) :
    dgate d g v (ix2 r j) = gateOf (d (ix2 r j)) (g (ix2 r j)) (v (ix2 r j)) := by
  unfold gateOf
  pointwise [dgate, slope_at, same]

theorem dval_at (d g : FVec Ideal S256x256 .f32) (r j : Fin 256) :
    dval d g (ix2 r j) = valOf (d (ix2 r j)) (g (ix2 r j)) := by
  unfold valOf
  pointwise [dval, slope_at, same]

theorem head_at (p : FVec Ideal S256x256 .f32) (r : Fin 8) (j : Fin 256) :
    head p (ix2 r j) = p (ix2 ⟨r.val, by omega⟩ j) := by
  pointwise [head]

theorem colsum_at (acc : FVec Ideal S1x256 .f32) (p : FVec Ideal S256x256 .f32) (i : Fin 1) (j : Fin 256) :
    colsum acc p (ix2 i j) = acc (ix2 i j) + ∑ r : Fin 256, p (ix2 r j) := by
  pointwise [colsum]

theorem taps_at (acc : FVec Ideal S3x256 .f32) (s : Fin 3 → FVec Ideal S256x256 .f32) (x : FVec Ideal S256x256 .bf16) (k : Fin 3) (j : Fin 256) :
    taps acc (s 0) (s 1) (s 2) x (ix2 k j) = acc (ix2 k j) + ∑ r : Fin 256, s k (ix2 r j) * x (ix2 r j) := by
  fin_cases k
  · pointwise [taps]
  · pointwise [taps]
  · pointwise [taps]

theorem dup_at (c0 : FVec Ideal S1x256 .f32) (s2 : FVec Ideal S256x256 .f32) (c1 : FVec Ideal S1x256 .f32) (s1 : FVec Ideal S256x256 .f32)
    (c2 : FVec Ideal S1x256 .f32) (p : FVec Ideal S256x256 .f32) (r j : Fin 256) :
    dup c0 s2 c1 s1 c2 p (ix2 r j)
      = c0 (ix2 0 j) * s2 (ix2 r j) + c1 (ix2 0 j) * s1 (ix2 r j) + c2 (ix2 0 j) * p (ix2 r j) := by
  pointwise [dup]

theorem more_at (acc : FVec Ideal S256x1024 .f32) (u : FVec Ideal S256x256 .bf16) (w : FVec Ideal S256x1024 .bf16) (r : Fin 256) (k : Fin 1024) :
    more acc u w (ix2 r k) = acc (ix2 r k) + ∑ j : Fin 256, u (ix2 r j) * w (ix2 j k) := by
  pointwise [more]

theorem rr_at (x : FVec Ideal S256x1024 .f32) (r : Fin 256) (c : Fin 1) : k0_pay321 (F := Ideal) x (ix2 r c) = Row.rr (row x r) := by
  pointwise [k0_pay321]
  rfl

theorem hat_at (x : FVec Ideal S256x1024 .f32) (r : Fin 256) (k : Fin 1024) : k0_pay322 (F := Ideal) x (ix2 r k) = Row.hat (row x r) k := by
  pointwise [k0_pay322, rr_at]
  rfl

theorem rows_at (h x : FVec Ideal S256x1024 .f32) (g : FVec Ideal S1x1024 .f32) (d : FVec Ideal S256x1024 .f32) (r : Fin 256) (k : Fin 1024) :
    rows h x g d (ix2 r k) = row h r k + Row.back (row x r) (row g 0) (row d r) k := by
  pointwise [rows, k0_pay1, k0_pay325, gained, hat_at, rr_at]
  rfl

theorem gain_at (x d : FVec Ideal S256x1024 .f32) (acc : FVec Ideal S1x1024 .f32) (i : Fin 1) (k : Fin 1024) :
    k0_pay2 (F := Ideal) d (k0_pay322 x) acc (ix2 i k) = acc (ix2 i k) + ∑ r : Fin 256, row d r k * Row.hat (row x r) k := by
  pointwise [k0_pay2, hat_at]

end Cert.Kernel9Ideal.Point

namespace Cert.Kernel9Ideal.Value
open Cert.Kernel9Ideal Cert.Kernel9Ideal.Gen Cert.Kernel9Ideal.Point Cert.Taps

variable (m : (ℓ : Loc nD τ sig) → Buf (Elt Ideal) ℓ)

theorem idx : ∀ t : Fin cfg0.N, win0_0.index t = ![63 - t.val, 0] ∧ win0_1.index t = ![63 - t.val, 0] ∧ win0_2.index t = ![63 - t.val, 0]
    ∧ win0_3.index t = ![63 - t.val, 0] ∧ win0_4.index t = ![0, 0] ∧ win0_5.index t = ![0, 0] ∧ win0_6.index t = ![0, 0] ∧ win0_7.index t = ![0, 0]
    ∧ win0_8.index t = ![63 - t.val, 0] ∧ win0_9.index t = ![63 - t.val, 0] ∧ win0_10.index t = ![0, 0] ∧ win0_11.index t = ![0, 0]
    ∧ win0_12.index t = ![0, 0] :=
  (by decide +kernel : ∀ t : Fin grid0.N, _)

/-- The arguments of the call at a device. -/
def aH (c : Dev nD) : FVec Ideal S16384x1024 .f32 := m ((c : Thread nD τ).loc main_arg0)
def aX (c : Dev nD) : FVec Ideal S16384x1024 .f32 := m ((c : Thread nD τ).loc main_arg1)
def aG (c : Dev nD) : FVec Ideal S1024 .f32 := m ((c : Thread nD τ).loc main_arg2)
def aW (c : Dev nD) : FVec Ideal S1024x5632 .f32 := m ((c : Thread nD τ).loc main_arg3)
def aC (c : Dev nD) : FVec Ideal S3x5632 .f32 := m ((c : Thread nD τ).loc main_arg4)
def aB (c : Dev nD) : FVec Ideal S5632 .f32 := m ((c : Thread nD τ).loc main_arg5)
def aD (c : Dev nD) : FVec Ideal S2816x1024 .f32 := m ((c : Thread nD τ).loc main_arg6)

/-- The forward pass's up-projection and its convolution, which host code computes by the reference's lines. -/
def Up (c : Dev nD) : FVec Ideal S16384x5632 .f32 := Cert.Reference9Ideal.Read.val_main_v16 (F := Ideal) (aX m c) (aG m c) (aW m c)
def Pre (c : Dev nD) : FVec Ideal S16384x5632 .f32 :=
  Cert.Reference9Ideal.Read.val_main_v42 (F := Ideal) (aX m c) (aG m c) (aW m c) (aC m c) (aB m c)

theorem host_up (c : Dev nD) : V m c main_v39 = Up m c := by
  unfold V
  after_results_simp
  rfl

theorem host_pre (c : Dev nD) : V m c main_v38 = Pre m c := by
  unfold V
  after_results_simp
  rfl

/-- Row `r` of the block of point `t`, among all rows: the last block comes first. -/
def at' (t : Fin cfg0.N) (r : Fin 256) : Fin 16384 := ⟨(63 - t.val) * 256 + r.val, by omega⟩

/-- A point's blocks of the arguments. -/
def bH (c : Dev nD) (t : Fin cfg0.N) : FVec Ideal S256x1024 .f32 := iblk m c 0 t
def bU (c : Dev nD) (t : Fin cfg0.N) : FVec Ideal S256x5632 .bf16 := iblk m c 1 t
def bP (c : Dev nD) (t : Fin cfg0.N) : FVec Ideal S256x5632 .f32 := iblk m c 2 t
def bX (c : Dev nD) (t : Fin cfg0.N) : FVec Ideal S256x1024 .f32 := iblk m c 3 t
def bG (c : Dev nD) (t : Fin cfg0.N) : FVec Ideal S1x1024 .f32 := iblk m c 4 t
def bV (c : Dev nD) (t : Fin cfg0.N) : FVec Ideal S1024x2816 .bf16 := iblk m c 5 t
def bW (c : Dev nD) (t : Fin cfg0.N) : FVec Ideal S5632x1024 .bf16 := iblk m c 6 t
def bC (c : Dev nD) (t : Fin cfg0.N) : FVec Ideal S3x5632 .f32 := iblk m c 7 t

theorem row_h (c : Dev nD) (t : Fin cfg0.N) (r : Fin 256) (k : Fin 1024) : bH m c t (ix2 r k) = aH m c (ix2 (at' t r) k) := by
  unfold aH at' bH
  blk_ext [iblk, V, idx t]

theorem row_u (c : Dev nD) (t : Fin cfg0.N) (r : Fin 256) (j : Fin 5632) : bU m c t (ix2 r j) = Up m c (ix2 (at' t r) j) := by
  unfold bU
  rw [← host_up]
  unfold at'
  blk_ext [iblk, idx t]

theorem row_p (c : Dev nD) (t : Fin cfg0.N) (r : Fin 256) (j : Fin 5632) : bP m c t (ix2 r j) = Pre m c (ix2 (at' t r) j) := by
  unfold bP
  rw [← host_pre]
  unfold at'
  blk_ext [iblk, idx t]

theorem row_x (c : Dev nD) (t : Fin cfg0.N) (r : Fin 256) (k : Fin 1024) : bX m c t (ix2 r k) = aX m c (ix2 (at' t r) k) := by
  unfold aX at' bX
  blk_ext [iblk, V, idx t]

theorem all_g (c : Dev nD) (t : Fin cfg0.N) (k : Fin 1024) : bG m c t (ix2 0 k) = aG m c (ix1 k) := by
  unfold aG bG
  blk_point [iblk, V, idx t]

theorem all_v (c : Dev nD) (t : Fin cfg0.N) (k : Fin 1024) (j : Fin 2816) : bV m c t (ix2 k j) = aD m c (ix2 j k) := by
  unfold aD bV
  blk_point [iblk, V, idx t]

theorem all_w (c : Dev nD) (t : Fin cfg0.N) (j : Fin 5632) (k : Fin 1024) : bW m c t (ix2 j k) = aW m c (ix2 k j) := by
  unfold aW bW
  blk_point [iblk, V, idx t]

theorem all_c (c : Dev nD) (t : Fin cfg0.N) (k : Fin 3) (j : Fin 5632) : bC m c t (ix2 k j) = aC m c (ix2 k j) := by
  unfold aC bC
  blk_ext [iblk, V, idx t]

/-- The gradient at the activation, at the convolution, and its rows with zeros behind them. -/
def DA (c : Dev nD) : FVec Ideal Cert.Reference9Ideal.S16384x2816 .f32 := fun i => ∑ k : Fin 1024, aH m c (ix2 (i 0) k) * aD m c (ix2 (i 1) k)
def DP (c : Dev nD) : FVec Ideal S16384x5632 .f32 := fun i =>
  if h : (i 1).val < 2816 then
    gateOf (DA m c (ix2 (i 0) ⟨(i 1).val, h⟩)) (Pre m c (ix2 (i 0) (i 1))) (Pre m c (ix2 (i 0) ⟨2816 + (i 1).val, Nat.add_lt_add_left h 2816⟩))
  else
    valOf (DA m c (ix2 (i 0) ⟨(i 1).val - 2816, by have : (i 1).val < 5632 := (i 1).isLt; omega⟩))
      (Pre m c (ix2 (i 0) ⟨(i 1).val - 2816, by have : (i 1).val < 5632 := (i 1).isLt; omega⟩))
def DZ (c : Dev nD) (n : ℕ) (j : Fin 5632) : EReal := if h : n < 16384 then DP m c (ix2 ⟨n, h⟩ j) else 0

/-- The six gradients' formulas. -/
def Dup (c : Dev nD) : FVec Ideal S16384x5632 .bf16 := fun i =>
  aC m c (ix2 0 (i 1)) * DZ m c ((i 0).val + 2) (i 1) + aC m c (ix2 1 (i 1)) * DZ m c ((i 0).val + 1) (i 1) + aC m c (ix2 2 (i 1)) * DP m c i
def Dcw (c : Dev nD) : FVec Ideal S3x5632 .f32 := fun i =>
  ∑ r : Fin 16384, DZ m c (r.val + (2 - (i 0).val)) (i 1) * Up m c (ix2 r (i 1))
def Dcb (c : Dev nD) : FVec Ideal S1x5632 .f32 := fun i => ∑ r : Fin 16384, DP m c (ix2 r (i 1))
def Dn (c : Dev nD) : FVec Ideal S16384x1024 .f32 := fun i => ∑ j : Fin 5632, Dup m c (ix2 (i 0) j) * aW m c (ix2 (i 1) j)
def Dh (c : Dev nD) : FVec Ideal S16384x1024 .f32 := fun i =>
  row (aH m c) (i 0) (i 1) + Row.back (row (aX m c) (i 0)) (fun k => aG m c (ix1 k)) (row (Dn m c) (i 0)) (i 1)
def Dg (c : Dev nD) : FVec Ideal S1x1024 .f32 := fun i =>
  ∑ r : Fin 16384, row (Dn m c) r (i 1) * Row.hat (row (aX m c) r) (i 1)

/-- Columns `a` to `a + 255` of a point's gradients: at the activation, at the gate, and at the value. -/
def actT (c : Dev nD) (t : Fin cfg0.N) (a : ℕ) (ha : a + 256 ≤ 2816) : FVec Ideal S256x256 .f32 :=
  dact (bH m c t) (cut (bV m c t) 0 a 1024 256 (by decide) ha)
def preT (c : Dev nD) (t : Fin cfg0.N) (a : ℕ) (ha : a + 256 ≤ 5632) : FVec Ideal S256x256 .f32 := cut (bP m c t) 0 a 256 256 (by decide) ha
def gateT (c : Dev nD) (t : Fin cfg0.N) (a : ℕ) (ha : a + 256 ≤ 2816) : FVec Ideal S256x256 .f32 :=
  dgate (actT m c t a ha) (preT m c t a (by omega)) (preT m c t (2816 + a) (by omega))
def valT (c : Dev nD) (t : Fin cfg0.N) (a : ℕ) (ha : a + 256 ≤ 2816) : FVec Ideal S256x256 .f32 :=
  dval (actT m c t a ha) (preT m c t a (by omega))

/-- A slab holds columns `a` to `a + 255` of the point's rows of the gradient at the convolution. -/
def Slab (c : Dev nD) (t : Fin cfg0.N) (a : ℕ) (ha : a + 256 ≤ 5632) (p : FVec Ideal S256x256 .f32) : Prop :=
  ∀ r j : Fin 256, p (ix2 r j) = DP m c (ix2 (at' t r) ⟨a + j.val, by omega⟩)

theorem actT_at (c : Dev nD) (t : Fin cfg0.N) (a : ℕ) (ha : a + 256 ≤ 2816) (r j : Fin 256) :
    actT m c t a ha (ix2 r j) = DA m c (ix2 (at' t r) ⟨a + j.val, by omega⟩) := by
  unfold actT DA
  rw [dact_at]
  refine Finset.sum_congr rfl fun k _ => congrArg₂ (· * ·) (row_h m c t r k) ?_
  refine (cut_at _ _ _ _ _ _ _ k j).trans ?_
  refine Eq.trans ?_ (all_v m c t k ⟨a + j.val, by omega⟩)
  exact congrArg _ (congrArg (fun k => ix2 k _) (Fin.ext (Nat.zero_add _)))

theorem preT_at (c : Dev nD) (t : Fin cfg0.N) (a : ℕ) (ha : a + 256 ≤ 5632) (r j : Fin 256) :
    preT m c t a ha (ix2 r j) = Pre m c (ix2 (at' t r) ⟨a + j.val, by omega⟩) := by
  refine (cut_at _ _ _ _ _ _ _ r j).trans ((row_p m c t _ _).trans ?_)
  exact congrArg (fun r => Pre m c (ix2 (at' t r) _)) (Fin.ext (Nat.zero_add _))

theorem gate_slab (c : Dev nD) (t : Fin cfg0.N) (a : ℕ) (ha : a + 256 ≤ 2816) (ha' : a + 256 ≤ 5632) : Slab m c t a ha' (gateT m c t a ha) := by
  intro r j
  unfold gateT
  rw [dgate_at, actT_at, preT_at, preT_at]
  unfold DP
  refine Eq.symm ((dif_pos (show a + j.val < 2816 by omega)).trans ?_)
  refine congrArg (gateOf _ _) (congrArg (fun k => Pre m c (ix2 _ k)) (Fin.ext ?_))
  exact (Nat.add_assoc _ _ _).symm

theorem val_slab (c : Dev nD) (t : Fin cfg0.N) (a : ℕ) (ha : a + 256 ≤ 2816) (ha' : 2816 + a + 256 ≤ 5632) :
    Slab m c t (2816 + a) ha' (valT m c t a ha) := by
  intro r j
  unfold valT
  rw [dval_at, actT_at, preT_at]
  unfold DP
  refine Eq.symm ((dif_neg (show ¬ 2816 + a + j.val < 2816 by omega)).trans ?_)
  refine congrArg₂ valOf (congrArg (fun k => DA m c (ix2 _ k)) (Fin.ext ?_)) (congrArg (fun k => Pre m c (ix2 _ k)) (Fin.ext ?_))
  · show 2816 + a + j.val - 2816 = a + j.val
    omega
  · show 2816 + a + j.val - 2816 = a + j.val
    omega

/-- What a point finds in its scratch: the eight rows behind its block. -/
def Before (c : Dev nD) (t : Fin cfg0.N) (q : FVec Ideal S8x5632 .f32) : Prop :=
  ∀ (s : Fin 8) (j : Fin 5632), q (ix2 s j) = DZ m c (256 * (64 - t.val) + s.val) j

theorem dp_eq (c : Dev nD) (t : Fin cfg0.N) (r : Fin 256) (j : Fin 5632) (n : ℕ) (h : n = 256 * (63 - t.val) + r.val) :
    DP m c (ix2 (at' t r) j) = DZ m c n j := by
  subst h
  unfold DZ
  rw [dif_pos (by omega)]
  unfold at'
  exact congrArg (fun k => DP m c (ix2 k j)) (Fin.ext (by show (63 - t.val) * 256 + r.val = 256 * (63 - t.val) + r.val; omega))

/-- A slab read `o` rows later. -/
def tap (q : FVec Ideal S8x5632 .f32) (o : ℕ) (ho : o ≤ 8) (a : ℕ) (ha : a + 256 ≤ 5632)
    (p : FVec Ideal S256x256 .f32) : FVec Ideal S256x256 .f32 :=
  later o ho (shapeCast S256x256 p shapeCasts_S256x256_S256x256)
    (shapeCast S8x256 (cut q 0 a 8 256 (by decide) ha) shapeCasts_S8x256_S8x256)

theorem tap_at (c : Dev nD) (t : Fin cfg0.N) (q : FVec Ideal S8x5632 .f32) (hq : Before m c t q) (o : ℕ) (ho : o ≤ 8)
    (a : ℕ) (ha : a + 256 ≤ 5632) (p : FVec Ideal S256x256 .f32) (hp : Slab m c t a ha p) (r j : Fin 256) :
    tap q o ho a ha p (ix2 r j) = DZ m c ((at' t r).val + o) ⟨a + j.val, by omega⟩ := by
  have hN : cfg0.N = 64 := N_0
  have ht := t.isLt
  have hv : (at' t r).val = (63 - t.val) * 256 + r.val := rfl
  unfold tap
  rw [shapeCast_self, shapeCast_self]
  unfold later
  by_cases h : r.val + o < 256
  · refine (dif_pos h).trans ((hp ⟨r.val + o, h⟩ j).trans ?_)
    exact dp_eq m c t _ _ _ (by show _ = 256 * (63 - t.val) + (r.val + o); omega)
  · refine (dif_neg h).trans ((cut_at q _ _ _ _ _ _ _ _).trans ((hq _ _).trans ?_))
    exact congrArg (fun n => DZ m c n _) (by show 256 * (64 - t.val) + (0 + (r.val + o - 256)) = _; omega)

theorem c_at (c : Dev nD) (t : Fin cfg0.N) (k : ℕ) (hk : k < 3) (a : ℕ) (ha : a + 256 ≤ 5632) (j : Fin 256) :
    cut (bC m c t) k a 1 256 hk ha (ix2 0 j) = aC m c (ix2 ⟨k, hk⟩ ⟨a + j.val, by omega⟩) :=
  (cut_at _ _ _ _ _ _ _ 0 j).trans (all_c m c t ⟨k, hk⟩ ⟨a + j.val, by omega⟩)

/-- A slab of the gradient at the up-projection. -/
def dupT (c : Dev nD) (t : Fin cfg0.N) (q : FVec Ideal S8x5632 .f32) (a : ℕ) (ha : a + 256 ≤ 5632) (p : FVec Ideal S256x256 .f32) :
    FVec Ideal S256x256 .bf16 :=
  dup (cut (bC m c t) 0 a 1 256 (by decide) ha) (tap q 2 (by decide) a ha p) (cut (bC m c t) 1 a 1 256 (by decide) ha)
    (tap q 1 (by decide) a ha p) (cut (bC m c t) 2 a 1 256 (by decide) ha) p

theorem dupT_at (c : Dev nD) (t : Fin cfg0.N) (q : FVec Ideal S8x5632 .f32) (hq : Before m c t q) (a : ℕ) (ha : a + 256 ≤ 5632)
    (p : FVec Ideal S256x256 .f32) (hp : Slab m c t a ha p) (r j : Fin 256) :
    dupT m c t q a ha p (ix2 r j) = Dup m c (ix2 (at' t r) ⟨a + j.val, by omega⟩) := by
  unfold dupT
  rw [dup_at, tap_at m c t q hq _ _ _ _ _ hp, tap_at m c t q hq _ _ _ _ _ hp, hp r j]
  unfold Dup
  exact congrArg₂ (· + ·) (congrArg₂ (· + ·) (congrArg₂ (· * ·) (c_at m c t 0 (by decide) a ha j) rfl)
    (congrArg₂ (· * ·) (c_at m c t 1 (by decide) a ha j) rfl)) (congrArg₂ (· * ·) (c_at m c t 2 (by decide) a ha j) rfl)

end Cert.Kernel9Ideal.Value
end
end
-- ==== Proof.FfnBwdPiece.lean ====
/- The backward pass of the feed-forward layer: what each grid point stores. -/
module

public import proofs.«01_k».proof.Defs
public import proofs.«01_k».proof.Proof.FfnBwdBlock
public import proofs.«01_k».proof.Proof.Gen.Kernel9Ideal.Frame
public import proofs.«01_k».proof.Proof.Gen.Kernel9Ideal.Value
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.Row (row)

namespace Cert.Kernel9Ideal.Value
open Cert.Kernel9Ideal Cert.Kernel9Ideal.Gen Cert.Kernel9Ideal.Point Cert.Taps

variable (m : (ℓ : Loc nD τ sig) → Buf (Elt Ideal) ℓ)

/-- A point's block of the gradient at the up-projection, and the rows it leaves for the next point. -/
def DupB (c : Dev nD) (t : Fin cfg0.N) : FVec Ideal S256x5632 .bf16 := fun y => Dup m c (ix2 (at' t (y 0)) (y 1))
def Left (c : Dev nD) (t : Fin cfg0.N) : FVec Ideal S8x5632 .f32 := fun y => DZ m c (256 * (63 - t.val) + (y 0).val) (y 1)

/-- A point's shares of the gradients of the taps, of the bias and of the gain, and what it leaves of each. -/
def cwPart (c : Dev nD) (t : Fin cfg0.N) (y : S3x5632.Idx) : EReal :=
  ∑ r : Fin 256, DZ m c ((at' t r).val + (2 - (y 0).val)) (y 1) * Up m c (ix2 (at' t r) (y 1))
def cbPart (c : Dev nD) (t : Fin cfg0.N) (y : S1x5632.Idx) : EReal := ∑ r : Fin 256, DP m c (ix2 (at' t r) (y 1))
def gPart (c : Dev nD) (t : Fin cfg0.N) (y : S1x1024.Idx) : EReal :=
  ∑ r : Fin 256, row (Dn m c) (at' t r) (y 1) * Row.hat (row (aX m c) (at' t r)) (y 1)
def CwB (c : Dev nD) (t : Fin cfg0.N) (acc : FVec Ideal S3x5632 .f32) : FVec Ideal S3x5632 .f32 := fun y => acc y + cwPart m c t y
def CbB (c : Dev nD) (t : Fin cfg0.N) (acc : FVec Ideal S1x5632 .f32) : FVec Ideal S1x5632 .f32 := fun y => acc y + cbPart m c t y
def GB (c : Dev nD) (t : Fin cfg0.N) (acc : FVec Ideal S1x1024 .f32) : FVec Ideal S1x1024 .f32 := fun y => acc y + gPart m c t y

theorem before_zero (c : Dev nD) (t : Fin cfg0.N) (h0 : t.val % 64 = 0) : Before m c t (k0_pay6 (F := Ideal)) := by
  intro s j
  have hN : cfg0.N = 64 := N_0
  have := t.isLt
  unfold DZ
  rw [dif_neg (by omega)]
  pointwise [k0_pay6]

/-- A stored slab of each result is its block's. -/
theorem piece_dup (c : Dev nD) (t : Fin cfg0.N) (q : FVec Ideal S8x5632 .f32) (hq : Before m c t q) (a : ℕ) (ha : a + 256 ≤ 5632)
    (p : FVec Ideal S256x256 .f32) (hp : Slab m c t a ha p) (x : S256x256.Idx) :
    dupT m c t q a ha p x = DupB m c t ((Rect.unit (s := S256x5632) ![0, a] ![256, 256] (inb (by decide) ha)).idx x) := by
  obtain ⟨r, j, rfl⟩ : ∃ r j : Fin 256, x = ix2 r j := ⟨x 0, x 1, eq_ix2 x⟩
  rw [emb_at, dupT_at m c t q hq a ha p hp]
  unfold DupB
  refine congrArg (fun r => Dup m c (ix2 (at' t r) _)) (Fin.ext ?_)
  exact (Nat.zero_add _).symm

theorem piece_left (c : Dev nD) (t : Fin cfg0.N) (a : ℕ) (ha : a + 256 ≤ 5632)
    (p : FVec Ideal S256x256 .f32) (hp : Slab m c t a ha p) (x : S8x256.Idx) :
    head p x = Left m c t ((Rect.unit (s := S8x5632) ![0, a] ![8, 256] (inb (by decide) ha)).idx x) := by
  obtain ⟨r, j, rfl⟩ : ∃ (r : Fin 8) (j : Fin 256), x = ix2 r j := ⟨x 0, x 1, eq_ix2 x⟩
  rw [emb_at, head_at, hp _ j]
  unfold Left
  refine dp_eq m c t _ _ _ ?_
  show 256 * (63 - t.val) + (0 + r.val) = 256 * (63 - t.val) + r.val
  omega

theorem piece_cb (c : Dev nD) (t : Fin cfg0.N) (acc : FVec Ideal S1x5632 .f32) (a : ℕ) (ha : a + 256 ≤ 5632)
    (p : FVec Ideal S256x256 .f32) (hp : Slab m c t a ha p) (x : S1x256.Idx) :
    colsum (cut acc 0 a 1 256 (by decide) ha) p x
      = CbB m c t acc ((Rect.unit (s := S1x5632) ![0, a] ![1, 256] (inb (by decide) ha)).idx x) := by
  obtain ⟨i, j, rfl⟩ : ∃ (i : Fin 1) (j : Fin 256), x = ix2 i j := ⟨x 0, x 1, eq_ix2 x⟩
  rw [emb_at, colsum_at]
  exact congrArg₂ (· + ·) (cut_at acc _ _ _ _ _ _ i j) (Finset.sum_congr rfl fun r _ => hp r j)

theorem u_at (c : Dev nD) (t : Fin cfg0.N) (a : ℕ) (ha : a + 256 ≤ 5632) (r j : Fin 256) :
    cut (bU m c t) 0 a 256 256 (by decide) ha (ix2 r j) = Up m c (ix2 (at' t r) ⟨a + j.val, by omega⟩) := by
  refine (cut_at _ _ _ _ _ _ _ r j).trans ((row_u m c t _ _).trans ?_)
  exact congrArg (fun r => Up m c (ix2 (at' t r) _)) (Fin.ext (Nat.zero_add _))

theorem piece_cw (c : Dev nD) (t : Fin cfg0.N) (acc : FVec Ideal S3x5632 .f32) (q : FVec Ideal S8x5632 .f32) (hq : Before m c t q)
    (a : ℕ) (ha : a + 256 ≤ 5632) (p : FVec Ideal S256x256 .f32) (hp : Slab m c t a ha p) (x : S3x256.Idx) :
    taps (cut acc 0 a 3 256 (by decide) ha) (tap q 2 (by decide) a ha p) (tap q 1 (by decide) a ha p) p
        (cut (bU m c t) 0 a 256 256 (by decide) ha) x
      = CwB m c t acc ((Rect.unit (s := S3x5632) ![0, a] ![3, 256] (inb (by decide) ha)).idx x) := by
  obtain ⟨k, j, rfl⟩ : ∃ (k : Fin 3) (j : Fin 256), x = ix2 k j := ⟨x 0, x 1, eq_ix2 x⟩
  rw [emb_at]
  refine (taps_at _ ![tap q 2 (by decide) a ha p, tap q 1 (by decide) a ha p, p] _ k j).trans ?_
  refine congrArg₂ (· + ·) (cut_at acc _ _ _ _ _ _ k j) (Finset.sum_congr rfl fun r _ => congrArg₂ (· * ·) ?_ (u_at m c t a ha r j))
  fin_cases k
  · exact tap_at m c t q hq 2 (by decide) a ha p hp r j
  · exact tap_at m c t q hq 1 (by decide) a ha p hp r j
  · refine (hp r j).trans (dp_eq m c t r _ _ ?_)
    show (63 - t.val) * 256 + r.val + (2 - (0 + 2)) = _
    omega

/-- The gradient at the normalised rows after `n` of the point's eleven pairs of slabs. -/
def accs (c : Dev nD) (t : Fin cfg0.N) (q : FVec Ideal S8x5632 .f32) : (n : ℕ) → n ≤ 11 → FVec Ideal S256x1024 .f32
  | 0, _ => k0_pay8 (F := Ideal)
  | n + 1, h => more (more (accs c t q n (Nat.le_of_succ_le h))
        (dupT m c t q (256 * n) (by omega) (gateT m c t (256 * n) (by omega)))
        (cut (bW m c t) (256 * n) 0 256 1024 (by omega) (by decide)))
      (dupT m c t q (2816 + 256 * n) (by omega) (valT m c t (256 * n) (by omega)))
      (cut (bW m c t) (2816 + 256 * n) 0 256 1024 (by omega) (by decide))

theorem w_at (c : Dev nD) (t : Fin cfg0.N) (a : ℕ) (ha : a + 256 ≤ 5632) (j : Fin 256) (k : Fin 1024) :
    cut (bW m c t) a 0 256 1024 ha (by decide) (ix2 j k) = aW m c (ix2 k ⟨a + j.val, by omega⟩) := by
  refine (cut_at _ _ _ _ _ _ _ j k).trans ((all_w m c t _ _).trans ?_)
  exact congrArg (fun k => aW m c (ix2 k _)) (Fin.ext (Nat.zero_add _))

theorem accs_at (c : Dev nD) (t : Fin cfg0.N) (q : FVec Ideal S8x5632 .f32) (hq : Before m c t q) (r : Fin 256) (k : Fin 1024) :
    ∀ (n : ℕ) (h : n ≤ 11), accs m c t q n h (ix2 r k)
      = ∑ s : Fin n, ((∑ j : Fin 256, Dup m c (ix2 (at' t r) ⟨256 * s.val + j.val, by omega⟩) * aW m c (ix2 k ⟨256 * s.val + j.val, by omega⟩))
        + ∑ j : Fin 256, Dup m c (ix2 (at' t r) ⟨2816 + 256 * s.val + j.val, by omega⟩) * aW m c (ix2 k ⟨2816 + 256 * s.val + j.val, by omega⟩))
  | 0, h => by
    rw [Fin.sum_univ_zero]
    unfold accs
    pointwise [k0_pay8]
  | n + 1, h => by
    unfold accs
    rw [more_at, more_at, accs_at c t q hq r k n, Fin.sum_univ_castSucc (n := n), add_assoc]
    refine congrArg₂ (· + ·) rfl (congrArg₂ (· + ·) (Finset.sum_congr rfl fun j _ => congrArg₂ (· * ·) ?_ (w_at m c t _ _ j k))
      (Finset.sum_congr rfl fun j _ => congrArg₂ (· * ·) ?_ (w_at m c t _ _ j k)))
    · exact dupT_at m c t q hq _ _ _ (gate_slab m c t _ _ _) r j
    · exact dupT_at m c t q hq _ _ _ (val_slab m c t _ _ _) r j

theorem accs_all (c : Dev nD) (t : Fin cfg0.N) (q : FVec Ideal S8x5632 .f32) (hq : Before m c t q) (r : Fin 256) (k : Fin 1024) :
    accs m c t q 11 (by decide) (ix2 r k) = Dn m c (ix2 (at' t r) k) := by
  rw [accs_at m c t q hq]
  unfold Dn
  rw [Finset.sum_add_distrib]
  refine Eq.symm ((Fin.sum_univ_add (a := 2816) (b := 2816) _).trans (congrArg₂ (· + ·) (Eq.symm ?_) (Eq.symm ?_)))
  · refine Fin.sum_mul_add_congr fun s j hl => ?_
    have e : (⟨256 * s.val + j.val, by omega⟩ : Fin 5632) = Fin.castAdd 2816 ⟨s.val * 256 + j.val, hl⟩ :=
      Fin.ext (by show 256 * s.val + j.val = s.val * 256 + j.val; omega)
    rw [e]
    rfl
  · refine Fin.sum_mul_add_congr fun s j hl => ?_
    have e : (⟨2816 + 256 * s.val + j.val, by omega⟩ : Fin 5632) = Fin.natAdd 2816 ⟨s.val * 256 + j.val, hl⟩ :=
      Fin.ext (by show 2816 + 256 * s.val + j.val = 2816 + (s.val * 256 + j.val); omega)
    rw [e]
    rfl

theorem rows_all (c : Dev nD) (t : Fin cfg0.N) (q : FVec Ideal S8x5632 .f32) (hq : Before m c t q) :
    rows (bH m c t) (bX m c t) (bG m c t) (accs m c t q 11 (by decide)) = fun y => Dh m c (ix2 (at' t (y 0)) (y 1)) := by
  funext y
  obtain ⟨r, k, rfl⟩ : ∃ (r : Fin 256) (k : Fin 1024), y = ix2 r k := ⟨y 0, y 1, eq_ix2 y⟩
  rw [rows_at]
  have e1 : row (bX m c t) r = row (aX m c) (at' t r) := funext fun k => row_x m c t r k
  have e2 : row (bG m c t) 0 = fun k => aG m c (ix1 k) := funext fun k => all_g m c t k
  have e3 : row (accs m c t q 11 (by decide)) r = row (Dn m c) (at' t r) := funext fun k => accs_all m c t q hq r k
  rw [e1, e2, e3]
  exact congrArg (· + _) (row_h m c t r k)

theorem gain_all (c : Dev nD) (t : Fin cfg0.N) (q : FVec Ideal S8x5632 .f32) (hq : Before m c t q) (acc : FVec Ideal S1x1024 .f32) :
    k0_pay2 (F := Ideal) (accs m c t q 11 (by decide)) (k0_pay322 (bX m c t)) acc = GB m c t acc := by
  funext y
  obtain ⟨i, k, rfl⟩ : ∃ (i : Fin 1) (k : Fin 1024), y = ix2 i k := ⟨y 0, y 1, eq_ix2 y⟩
  rw [gain_at]
  refine congrArg (acc _ + ·) (Finset.sum_congr rfl fun r _ => congrArg₂ (· * ·) (accs_all m c t q hq r k) ?_)
  have e1 : row (bX m c t) r = row (aX m c) (at' t r) := funext fun k => row_x m c t r k
  rw [e1]
  rfl

end Cert.Kernel9Ideal.Value
end
end
-- ==== Proof.FfnBwdPointA.lean ====
/- The backward pass of the feed-forward layer: the stores of a grid point are blocks of the results (the sums of the bias, and the rows left). -/
module

public import proofs.«01_k».proof.Defs
public import proofs.«01_k».proof.Proof.FfnBwdPiece
public import proofs.«01_k».proof.Proof.Gen.Kernel9Ideal.Frame
public import proofs.«01_k».proof.Proof.Gen.Kernel9Ideal.Value
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.Row (row)

namespace Cert.Kernel9Ideal.Value
open Cert.Kernel9Ideal Cert.Kernel9Ideal.Gen Cert.Kernel9Ideal.Point Cert.Taps

variable (m : (ℓ : Loc nD τ sig) → Buf (Elt Ideal) ℓ)

set_option maxHeartbeats 4000000 in
theorem leftA (c : Dev nD) (t : Fin cfg0.N) (h0 : t.val % 64 = 0) :
    (outsAt0 m c t.val t.isLt).2.2.2.2.2 = Left m c t := by
  rw [outsAt0_A m c t h0]
  frame_out
  refine tiles 21 _ _ _ _ ⟨fun x => (congrFun ?_ x).trans (piece_left m c t 5376 (by decide) _ (val_slab m c t 2560 (by decide) (by decide)) x),
      fun x => (congrFun ?_ x).trans (piece_left m c t 2560 (by decide) _ (gate_slab m c t 2560 (by decide) (by decide)) x),
      fun x => (congrFun ?_ x).trans (piece_left m c t 5120 (by decide) _ (val_slab m c t 2304 (by decide) (by decide)) x),
      fun x => (congrFun ?_ x).trans (piece_left m c t 2304 (by decide) _ (gate_slab m c t 2304 (by decide) (by decide)) x),
      fun x => (congrFun ?_ x).trans (piece_left m c t 4864 (by decide) _ (val_slab m c t 2048 (by decide) (by decide)) x),
      fun x => (congrFun ?_ x).trans (piece_left m c t 2048 (by decide) _ (gate_slab m c t 2048 (by decide) (by decide)) x),
      fun x => (congrFun ?_ x).trans (piece_left m c t 4608 (by decide) _ (val_slab m c t 1792 (by decide) (by decide)) x),
      fun x => (congrFun ?_ x).trans (piece_left m c t 1792 (by decide) _ (gate_slab m c t 1792 (by decide) (by decide)) x),
      fun x => (congrFun ?_ x).trans (piece_left m c t 4352 (by decide) _ (val_slab m c t 1536 (by decide) (by decide)) x),
      fun x => (congrFun ?_ x).trans (piece_left m c t 1536 (by decide) _ (gate_slab m c t 1536 (by decide) (by decide)) x),
      fun x => (congrFun ?_ x).trans (piece_left m c t 4096 (by decide) _ (val_slab m c t 1280 (by decide) (by decide)) x),
      fun x => (congrFun ?_ x).trans (piece_left m c t 1280 (by decide) _ (gate_slab m c t 1280 (by decide) (by decide)) x),
      fun x => (congrFun ?_ x).trans (piece_left m c t 3840 (by decide) _ (val_slab m c t 1024 (by decide) (by decide)) x),
      fun x => (congrFun ?_ x).trans (piece_left m c t 1024 (by decide) _ (gate_slab m c t 1024 (by decide) (by decide)) x),
      fun x => (congrFun ?_ x).trans (piece_left m c t 3584 (by decide) _ (val_slab m c t 768 (by decide) (by decide)) x),
      fun x => (congrFun ?_ x).trans (piece_left m c t 768 (by decide) _ (gate_slab m c t 768 (by decide) (by decide)) x),
      fun x => (congrFun ?_ x).trans (piece_left m c t 3328 (by decide) _ (val_slab m c t 512 (by decide) (by decide)) x),
      fun x => (congrFun ?_ x).trans (piece_left m c t 512 (by decide) _ (gate_slab m c t 512 (by decide) (by decide)) x),
      fun x => (congrFun ?_ x).trans (piece_left m c t 3072 (by decide) _ (val_slab m c t 256 (by decide) (by decide)) x),
      fun x => (congrFun ?_ x).trans (piece_left m c t 256 (by decide) _ (gate_slab m c t 256 (by decide) (by decide)) x),
      fun x => (congrFun ?_ x).trans (piece_left m c t 2816 (by decide) _ (val_slab m c t 0 (by decide) (by decide)) x),
      fun x => (congrFun ?_ x).trans (piece_left m c t 0 (by decide) _ (gate_slab m c t 0 (by decide) (by decide)) x), trivial⟩ rfl
  all_goals rfl

set_option maxHeartbeats 4000000 in
theorem leftB (c : Dev nD) (t : Fin cfg0.N) (h0 : ¬ t.val % 64 = 0) :
    (outsAt0 m c t.val t.isLt).2.2.2.2.2 = Left m c t := by
  rw [outsAt0_B m c t h0]
  frame_out
  refine tiles 21 _ _ _ _ ⟨fun x => (congrFun ?_ x).trans (piece_left m c t 5376 (by decide) _ (val_slab m c t 2560 (by decide) (by decide)) x),
      fun x => (congrFun ?_ x).trans (piece_left m c t 2560 (by decide) _ (gate_slab m c t 2560 (by decide) (by decide)) x),
      fun x => (congrFun ?_ x).trans (piece_left m c t 5120 (by decide) _ (val_slab m c t 2304 (by decide) (by decide)) x),
      fun x => (congrFun ?_ x).trans (piece_left m c t 2304 (by decide) _ (gate_slab m c t 2304 (by decide) (by decide)) x),
      fun x => (congrFun ?_ x).trans (piece_left m c t 4864 (by decide) _ (val_slab m c t 2048 (by decide) (by decide)) x),
      fun x => (congrFun ?_ x).trans (piece_left m c t 2048 (by decide) _ (gate_slab m c t 2048 (by decide) (by decide)) x),
      fun x => (congrFun ?_ x).trans (piece_left m c t 4608 (by decide) _ (val_slab m c t 1792 (by decide) (by decide)) x),
      fun x => (congrFun ?_ x).trans (piece_left m c t 1792 (by decide) _ (gate_slab m c t 1792 (by decide) (by decide)) x),
      fun x => (congrFun ?_ x).trans (piece_left m c t 4352 (by decide) _ (val_slab m c t 1536 (by decide) (by decide)) x),
      fun x => (congrFun ?_ x).trans (piece_left m c t 1536 (by decide) _ (gate_slab m c t 1536 (by decide) (by decide)) x),
      fun x => (congrFun ?_ x).trans (piece_left m c t 4096 (by decide) _ (val_slab m c t 1280 (by decide) (by decide)) x),
      fun x => (congrFun ?_ x).trans (piece_left m c t 1280 (by decide) _ (gate_slab m c t 1280 (by decide) (by decide)) x),
      fun x => (congrFun ?_ x).trans (piece_left m c t 3840 (by decide) _ (val_slab m c t 1024 (by decide) (by decide)) x),
      fun x => (congrFun ?_ x).trans (piece_left m c t 1024 (by decide) _ (gate_slab m c t 1024 (by decide) (by decide)) x),
      fun x => (congrFun ?_ x).trans (piece_left m c t 3584 (by decide) _ (val_slab m c t 768 (by decide) (by decide)) x),
      fun x => (congrFun ?_ x).trans (piece_left m c t 768 (by decide) _ (gate_slab m c t 768 (by decide) (by decide)) x),
      fun x => (congrFun ?_ x).trans (piece_left m c t 3328 (by decide) _ (val_slab m c t 512 (by decide) (by decide)) x),
      fun x => (congrFun ?_ x).trans (piece_left m c t 512 (by decide) _ (gate_slab m c t 512 (by decide) (by decide)) x),
      fun x => (congrFun ?_ x).trans (piece_left m c t 3072 (by decide) _ (val_slab m c t 256 (by decide) (by decide)) x),
      fun x => (congrFun ?_ x).trans (piece_left m c t 256 (by decide) _ (gate_slab m c t 256 (by decide) (by decide)) x),
      fun x => (congrFun ?_ x).trans (piece_left m c t 2816 (by decide) _ (val_slab m c t 0 (by decide) (by decide)) x),
      fun x => (congrFun ?_ x).trans (piece_left m c t 0 (by decide) _ (gate_slab m c t 0 (by decide) (by decide)) x), trivial⟩ rfl
  all_goals rfl

set_option maxHeartbeats 4000000 in
theorem cbA (c : Dev nD) (t : Fin cfg0.N) (h0 : t.val % 64 = 0) :
    (outsAt0 m c t.val t.isLt).2.2.2.1 = CbB m c t (k0_pay4 (F := Ideal)) := by
  rw [outsAt0_A m c t h0]
  frame_out
  simp (decide := true) only [View.readCov_skip, View.readCov_fill]
  refine tiles 21 _ _ _ _ ⟨fun x => (congrFun ?_ x).trans (piece_cb m c t (k0_pay4 (F := Ideal)) 5376 (by decide) _ (val_slab m c t 2560 (by decide) (by decide)) x),
      fun x => (congrFun ?_ x).trans (piece_cb m c t (k0_pay4 (F := Ideal)) 2560 (by decide) _ (gate_slab m c t 2560 (by decide) (by decide)) x),
      fun x => (congrFun ?_ x).trans (piece_cb m c t (k0_pay4 (F := Ideal)) 5120 (by decide) _ (val_slab m c t 2304 (by decide) (by decide)) x),
      fun x => (congrFun ?_ x).trans (piece_cb m c t (k0_pay4 (F := Ideal)) 2304 (by decide) _ (gate_slab m c t 2304 (by decide) (by decide)) x),
      fun x => (congrFun ?_ x).trans (piece_cb m c t (k0_pay4 (F := Ideal)) 4864 (by decide) _ (val_slab m c t 2048 (by decide) (by decide)) x),
      fun x => (congrFun ?_ x).trans (piece_cb m c t (k0_pay4 (F := Ideal)) 2048 (by decide) _ (gate_slab m c t 2048 (by decide) (by decide)) x),
      fun x => (congrFun ?_ x).trans (piece_cb m c t (k0_pay4 (F := Ideal)) 4608 (by decide) _ (val_slab m c t 1792 (by decide) (by decide)) x),
      fun x => (congrFun ?_ x).trans (piece_cb m c t (k0_pay4 (F := Ideal)) 1792 (by decide) _ (gate_slab m c t 1792 (by decide) (by decide)) x),
      fun x => (congrFun ?_ x).trans (piece_cb m c t (k0_pay4 (F := Ideal)) 4352 (by decide) _ (val_slab m c t 1536 (by decide) (by decide)) x),
      fun x => (congrFun ?_ x).trans (piece_cb m c t (k0_pay4 (F := Ideal)) 1536 (by decide) _ (gate_slab m c t 1536 (by decide) (by decide)) x),
      fun x => (congrFun ?_ x).trans (piece_cb m c t (k0_pay4 (F := Ideal)) 4096 (by decide) _ (val_slab m c t 1280 (by decide) (by decide)) x),
      fun x => (congrFun ?_ x).trans (piece_cb m c t (k0_pay4 (F := Ideal)) 1280 (by decide) _ (gate_slab m c t 1280 (by decide) (by decide)) x),
      fun x => (congrFun ?_ x).trans (piece_cb m c t (k0_pay4 (F := Ideal)) 3840 (by decide) _ (val_slab m c t 1024 (by decide) (by decide)) x),
      fun x => (congrFun ?_ x).trans (piece_cb m c t (k0_pay4 (F := Ideal)) 1024 (by decide) _ (gate_slab m c t 1024 (by decide) (by decide)) x),
      fun x => (congrFun ?_ x).trans (piece_cb m c t (k0_pay4 (F := Ideal)) 3584 (by decide) _ (val_slab m c t 768 (by decide) (by decide)) x),
      fun x => (congrFun ?_ x).trans (piece_cb m c t (k0_pay4 (F := Ideal)) 768 (by decide) _ (gate_slab m c t 768 (by decide) (by decide)) x),
      fun x => (congrFun ?_ x).trans (piece_cb m c t (k0_pay4 (F := Ideal)) 3328 (by decide) _ (val_slab m c t 512 (by decide) (by decide)) x),
      fun x => (congrFun ?_ x).trans (piece_cb m c t (k0_pay4 (F := Ideal)) 512 (by decide) _ (gate_slab m c t 512 (by decide) (by decide)) x),
      fun x => (congrFun ?_ x).trans (piece_cb m c t (k0_pay4 (F := Ideal)) 3072 (by decide) _ (val_slab m c t 256 (by decide) (by decide)) x),
      fun x => (congrFun ?_ x).trans (piece_cb m c t (k0_pay4 (F := Ideal)) 256 (by decide) _ (gate_slab m c t 256 (by decide) (by decide)) x),
      fun x => (congrFun ?_ x).trans (piece_cb m c t (k0_pay4 (F := Ideal)) 2816 (by decide) _ (val_slab m c t 0 (by decide) (by decide)) x),
      fun x => (congrFun ?_ x).trans (piece_cb m c t (k0_pay4 (F := Ideal)) 0 (by decide) _ (gate_slab m c t 0 (by decide) (by decide)) x), trivial⟩ rfl
  all_goals rfl

set_option maxHeartbeats 4000000 in
theorem cbB (c : Dev nD) (t : Fin cfg0.N) (h0 : ¬ t.val % 64 = 0) :
    (outsAt0 m c t.val t.isLt).2.2.2.1 = CbB m c t ((outsAt0 m c (t.val - 1) (Nat.lt_of_le_of_lt (Nat.sub_le _ _) t.isLt)).2.2.2.1) := by
  rw [outsAt0_B m c t h0]
  frame_out
  refine tiles 21 _ _ _ _ ⟨fun x => (congrFun ?_ x).trans (piece_cb m c t ((outsAt0 m c (t.val - 1) (Nat.lt_of_le_of_lt (Nat.sub_le _ _) t.isLt)).2.2.2.1) 5376 (by decide) _ (val_slab m c t 2560 (by decide) (by decide)) x),
      fun x => (congrFun ?_ x).trans (piece_cb m c t ((outsAt0 m c (t.val - 1) (Nat.lt_of_le_of_lt (Nat.sub_le _ _) t.isLt)).2.2.2.1) 2560 (by decide) _ (gate_slab m c t 2560 (by decide) (by decide)) x),
      fun x => (congrFun ?_ x).trans (piece_cb m c t ((outsAt0 m c (t.val - 1) (Nat.lt_of_le_of_lt (Nat.sub_le _ _) t.isLt)).2.2.2.1) 5120 (by decide) _ (val_slab m c t 2304 (by decide) (by decide)) x),
      fun x => (congrFun ?_ x).trans (piece_cb m c t ((outsAt0 m c (t.val - 1) (Nat.lt_of_le_of_lt (Nat.sub_le _ _) t.isLt)).2.2.2.1) 2304 (by decide) _ (gate_slab m c t 2304 (by decide) (by decide)) x),
      fun x => (congrFun ?_ x).trans (piece_cb m c t ((outsAt0 m c (t.val - 1) (Nat.lt_of_le_of_lt (Nat.sub_le _ _) t.isLt)).2.2.2.1) 4864 (by decide) _ (val_slab m c t 2048 (by decide) (by decide)) x),
      fun x => (congrFun ?_ x).trans (piece_cb m c t ((outsAt0 m c (t.val - 1) (Nat.lt_of_le_of_lt (Nat.sub_le _ _) t.isLt)).2.2.2.1) 2048 (by decide) _ (gate_slab m c t 2048 (by decide) (by decide)) x),
      fun x => (congrFun ?_ x).trans (piece_cb m c t ((outsAt0 m c (t.val - 1) (Nat.lt_of_le_of_lt (Nat.sub_le _ _) t.isLt)).2.2.2.1) 4608 (by decide) _ (val_slab m c t 1792 (by decide) (by decide)) x),
      fun x => (congrFun ?_ x).trans (piece_cb m c t ((outsAt0 m c (t.val - 1) (Nat.lt_of_le_of_lt (Nat.sub_le _ _) t.isLt)).2.2.2.1) 1792 (by decide) _ (gate_slab m c t 1792 (by decide) (by decide)) x),
      fun x => (congrFun ?_ x).trans (piece_cb m c t ((outsAt0 m c (t.val - 1) (Nat.lt_of_le_of_lt (Nat.sub_le _ _) t.isLt)).2.2.2.1) 4352 (by decide) _ (val_slab m c t 1536 (by decide) (by decide)) x),
      fun x => (congrFun ?_ x).trans (piece_cb m c t ((outsAt0 m c (t.val - 1) (Nat.lt_of_le_of_lt (Nat.sub_le _ _) t.isLt)).2.2.2.1) 1536 (by decide) _ (gate_slab m c t 1536 (by decide) (by decide)) x),
      fun x => (congrFun ?_ x).trans (piece_cb m c t ((outsAt0 m c (t.val - 1) (Nat.lt_of_le_of_lt (Nat.sub_le _ _) t.isLt)).2.2.2.1) 4096 (by decide) _ (val_slab m c t 1280 (by decide) (by decide)) x),
      fun x => (congrFun ?_ x).trans (piece_cb m c t ((outsAt0 m c (t.val - 1) (Nat.lt_of_le_of_lt (Nat.sub_le _ _) t.isLt)).2.2.2.1) 1280 (by decide) _ (gate_slab m c t 1280 (by decide) (by decide)) x),
      fun x => (congrFun ?_ x).trans (piece_cb m c t ((outsAt0 m c (t.val - 1) (Nat.lt_of_le_of_lt (Nat.sub_le _ _) t.isLt)).2.2.2.1) 3840 (by decide) _ (val_slab m c t 1024 (by decide) (by decide)) x),
      fun x => (congrFun ?_ x).trans (piece_cb m c t ((outsAt0 m c (t.val - 1) (Nat.lt_of_le_of_lt (Nat.sub_le _ _) t.isLt)).2.2.2.1) 1024 (by decide) _ (gate_slab m c t 1024 (by decide) (by decide)) x),
      fun x => (congrFun ?_ x).trans (piece_cb m c t ((outsAt0 m c (t.val - 1) (Nat.lt_of_le_of_lt (Nat.sub_le _ _) t.isLt)).2.2.2.1) 3584 (by decide) _ (val_slab m c t 768 (by decide) (by decide)) x),
      fun x => (congrFun ?_ x).trans (piece_cb m c t ((outsAt0 m c (t.val - 1) (Nat.lt_of_le_of_lt (Nat.sub_le _ _) t.isLt)).2.2.2.1) 768 (by decide) _ (gate_slab m c t 768 (by decide) (by decide)) x),
      fun x => (congrFun ?_ x).trans (piece_cb m c t ((outsAt0 m c (t.val - 1) (Nat.lt_of_le_of_lt (Nat.sub_le _ _) t.isLt)).2.2.2.1) 3328 (by decide) _ (val_slab m c t 512 (by decide) (by decide)) x),
      fun x => (congrFun ?_ x).trans (piece_cb m c t ((outsAt0 m c (t.val - 1) (Nat.lt_of_le_of_lt (Nat.sub_le _ _) t.isLt)).2.2.2.1) 512 (by decide) _ (gate_slab m c t 512 (by decide) (by decide)) x),
      fun x => (congrFun ?_ x).trans (piece_cb m c t ((outsAt0 m c (t.val - 1) (Nat.lt_of_le_of_lt (Nat.sub_le _ _) t.isLt)).2.2.2.1) 3072 (by decide) _ (val_slab m c t 256 (by decide) (by decide)) x),
      fun x => (congrFun ?_ x).trans (piece_cb m c t ((outsAt0 m c (t.val - 1) (Nat.lt_of_le_of_lt (Nat.sub_le _ _) t.isLt)).2.2.2.1) 256 (by decide) _ (gate_slab m c t 256 (by decide) (by decide)) x),
      fun x => (congrFun ?_ x).trans (piece_cb m c t ((outsAt0 m c (t.val - 1) (Nat.lt_of_le_of_lt (Nat.sub_le _ _) t.isLt)).2.2.2.1) 2816 (by decide) _ (val_slab m c t 0 (by decide) (by decide)) x),
      fun x => (congrFun ?_ x).trans (piece_cb m c t ((outsAt0 m c (t.val - 1) (Nat.lt_of_le_of_lt (Nat.sub_le _ _) t.isLt)).2.2.2.1) 0 (by decide) _ (gate_slab m c t 0 (by decide) (by decide)) x), trivial⟩ rfl
  all_goals rfl

end Cert.Kernel9Ideal.Value
end
end
-- ==== Proof.FfnBwdPointB.lean ====
/- The backward pass of the feed-forward layer: the stores of a grid point are blocks of the results (the gradient at the up-projection). -/
module

public import proofs.«01_k».proof.Defs
public import proofs.«01_k».proof.Proof.FfnBwdPiece
public import proofs.«01_k».proof.Proof.Gen.Kernel9Ideal.Frame
public import proofs.«01_k».proof.Proof.Gen.Kernel9Ideal.Value
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.Row (row)

namespace Cert.Kernel9Ideal.Value
open Cert.Kernel9Ideal Cert.Kernel9Ideal.Gen Cert.Kernel9Ideal.Point Cert.Taps

variable (m : (ℓ : Loc nD τ sig) → Buf (Elt Ideal) ℓ)

set_option maxHeartbeats 4000000 in
theorem dupA (c : Dev nD) (t : Fin cfg0.N) (h0 : t.val % 64 = 0) :
    (outsAt0 m c t.val t.isLt).2.1 = DupB m c t := by
  rw [outsAt0_A m c t h0]
  frame_out
  simp only [Taps.read_later (o := 2) (by decide), Taps.read_later (o := 1) (by decide)]
  simp (decide := true) only [View.readCov_skip, View.readCov_fill]
  refine tiles 21 _ _ _ _ ⟨fun x => (congrFun ?_ x).trans (piece_dup m c t (k0_pay6 (F := Ideal)) (before_zero m c t h0) 5376 (by decide) _ (val_slab m c t 2560 (by decide) (by decide)) x),
      fun x => (congrFun ?_ x).trans (piece_dup m c t (k0_pay6 (F := Ideal)) (before_zero m c t h0) 2560 (by decide) _ (gate_slab m c t 2560 (by decide) (by decide)) x),
      fun x => (congrFun ?_ x).trans (piece_dup m c t (k0_pay6 (F := Ideal)) (before_zero m c t h0) 5120 (by decide) _ (val_slab m c t 2304 (by decide) (by decide)) x),
      fun x => (congrFun ?_ x).trans (piece_dup m c t (k0_pay6 (F := Ideal)) (before_zero m c t h0) 2304 (by decide) _ (gate_slab m c t 2304 (by decide) (by decide)) x),
      fun x => (congrFun ?_ x).trans (piece_dup m c t (k0_pay6 (F := Ideal)) (before_zero m c t h0) 4864 (by decide) _ (val_slab m c t 2048 (by decide) (by decide)) x),
      fun x => (congrFun ?_ x).trans (piece_dup m c t (k0_pay6 (F := Ideal)) (before_zero m c t h0) 2048 (by decide) _ (gate_slab m c t 2048 (by decide) (by decide)) x),
      fun x => (congrFun ?_ x).trans (piece_dup m c t (k0_pay6 (F := Ideal)) (before_zero m c t h0) 4608 (by decide) _ (val_slab m c t 1792 (by decide) (by decide)) x),
      fun x => (congrFun ?_ x).trans (piece_dup m c t (k0_pay6 (F := Ideal)) (before_zero m c t h0) 1792 (by decide) _ (gate_slab m c t 1792 (by decide) (by decide)) x),
      fun x => (congrFun ?_ x).trans (piece_dup m c t (k0_pay6 (F := Ideal)) (before_zero m c t h0) 4352 (by decide) _ (val_slab m c t 1536 (by decide) (by decide)) x),
      fun x => (congrFun ?_ x).trans (piece_dup m c t (k0_pay6 (F := Ideal)) (before_zero m c t h0) 1536 (by decide) _ (gate_slab m c t 1536 (by decide) (by decide)) x),
      fun x => (congrFun ?_ x).trans (piece_dup m c t (k0_pay6 (F := Ideal)) (before_zero m c t h0) 4096 (by decide) _ (val_slab m c t 1280 (by decide) (by decide)) x),
      fun x => (congrFun ?_ x).trans (piece_dup m c t (k0_pay6 (F := Ideal)) (before_zero m c t h0) 1280 (by decide) _ (gate_slab m c t 1280 (by decide) (by decide)) x),
      fun x => (congrFun ?_ x).trans (piece_dup m c t (k0_pay6 (F := Ideal)) (before_zero m c t h0) 3840 (by decide) _ (val_slab m c t 1024 (by decide) (by decide)) x),
      fun x => (congrFun ?_ x).trans (piece_dup m c t (k0_pay6 (F := Ideal)) (before_zero m c t h0) 1024 (by decide) _ (gate_slab m c t 1024 (by decide) (by decide)) x),
      fun x => (congrFun ?_ x).trans (piece_dup m c t (k0_pay6 (F := Ideal)) (before_zero m c t h0) 3584 (by decide) _ (val_slab m c t 768 (by decide) (by decide)) x),
      fun x => (congrFun ?_ x).trans (piece_dup m c t (k0_pay6 (F := Ideal)) (before_zero m c t h0) 768 (by decide) _ (gate_slab m c t 768 (by decide) (by decide)) x),
      fun x => (congrFun ?_ x).trans (piece_dup m c t (k0_pay6 (F := Ideal)) (before_zero m c t h0) 3328 (by decide) _ (val_slab m c t 512 (by decide) (by decide)) x),
      fun x => (congrFun ?_ x).trans (piece_dup m c t (k0_pay6 (F := Ideal)) (before_zero m c t h0) 512 (by decide) _ (gate_slab m c t 512 (by decide) (by decide)) x),
      fun x => (congrFun ?_ x).trans (piece_dup m c t (k0_pay6 (F := Ideal)) (before_zero m c t h0) 3072 (by decide) _ (val_slab m c t 256 (by decide) (by decide)) x),
      fun x => (congrFun ?_ x).trans (piece_dup m c t (k0_pay6 (F := Ideal)) (before_zero m c t h0) 256 (by decide) _ (gate_slab m c t 256 (by decide) (by decide)) x),
      fun x => (congrFun ?_ x).trans (piece_dup m c t (k0_pay6 (F := Ideal)) (before_zero m c t h0) 2816 (by decide) _ (val_slab m c t 0 (by decide) (by decide)) x),
      fun x => (congrFun ?_ x).trans (piece_dup m c t (k0_pay6 (F := Ideal)) (before_zero m c t h0) 0 (by decide) _ (gate_slab m c t 0 (by decide) (by decide)) x), trivial⟩ rfl
  all_goals rfl

set_option maxHeartbeats 4000000 in
theorem dupB (c : Dev nD) (t : Fin cfg0.N) (h0 : ¬ t.val % 64 = 0) (hq : Before m c t ((outsAt0 m c (t.val - 1) (Nat.lt_of_le_of_lt (Nat.sub_le _ _) t.isLt)).2.2.2.2.2)) :
    (outsAt0 m c t.val t.isLt).2.1 = DupB m c t := by
  rw [outsAt0_B m c t h0]
  frame_out
  simp only [Taps.read_later (o := 2) (by decide), Taps.read_later (o := 1) (by decide)]
  simp only [read_unread_whole]
  refine tiles 21 _ _ _ _ ⟨fun x => (congrFun ?_ x).trans (piece_dup m c t ((outsAt0 m c (t.val - 1) (Nat.lt_of_le_of_lt (Nat.sub_le _ _) t.isLt)).2.2.2.2.2) hq 5376 (by decide) _ (val_slab m c t 2560 (by decide) (by decide)) x),
      fun x => (congrFun ?_ x).trans (piece_dup m c t ((outsAt0 m c (t.val - 1) (Nat.lt_of_le_of_lt (Nat.sub_le _ _) t.isLt)).2.2.2.2.2) hq 2560 (by decide) _ (gate_slab m c t 2560 (by decide) (by decide)) x),
      fun x => (congrFun ?_ x).trans (piece_dup m c t ((outsAt0 m c (t.val - 1) (Nat.lt_of_le_of_lt (Nat.sub_le _ _) t.isLt)).2.2.2.2.2) hq 5120 (by decide) _ (val_slab m c t 2304 (by decide) (by decide)) x),
      fun x => (congrFun ?_ x).trans (piece_dup m c t ((outsAt0 m c (t.val - 1) (Nat.lt_of_le_of_lt (Nat.sub_le _ _) t.isLt)).2.2.2.2.2) hq 2304 (by decide) _ (gate_slab m c t 2304 (by decide) (by decide)) x),
      fun x => (congrFun ?_ x).trans (piece_dup m c t ((outsAt0 m c (t.val - 1) (Nat.lt_of_le_of_lt (Nat.sub_le _ _) t.isLt)).2.2.2.2.2) hq 4864 (by decide) _ (val_slab m c t 2048 (by decide) (by decide)) x),
      fun x => (congrFun ?_ x).trans (piece_dup m c t ((outsAt0 m c (t.val - 1) (Nat.lt_of_le_of_lt (Nat.sub_le _ _) t.isLt)).2.2.2.2.2) hq 2048 (by decide) _ (gate_slab m c t 2048 (by decide) (by decide)) x),
      fun x => (congrFun ?_ x).trans (piece_dup m c t ((outsAt0 m c (t.val - 1) (Nat.lt_of_le_of_lt (Nat.sub_le _ _) t.isLt)).2.2.2.2.2) hq 4608 (by decide) _ (val_slab m c t 1792 (by decide) (by decide)) x),
      fun x => (congrFun ?_ x).trans (piece_dup m c t ((outsAt0 m c (t.val - 1) (Nat.lt_of_le_of_lt (Nat.sub_le _ _) t.isLt)).2.2.2.2.2) hq 1792 (by decide) _ (gate_slab m c t 1792 (by decide) (by decide)) x),
      fun x => (congrFun ?_ x).trans (piece_dup m c t ((outsAt0 m c (t.val - 1) (Nat.lt_of_le_of_lt (Nat.sub_le _ _) t.isLt)).2.2.2.2.2) hq 4352 (by decide) _ (val_slab m c t 1536 (by decide) (by decide)) x),
      fun x => (congrFun ?_ x).trans (piece_dup m c t ((outsAt0 m c (t.val - 1) (Nat.lt_of_le_of_lt (Nat.sub_le _ _) t.isLt)).2.2.2.2.2) hq 1536 (by decide) _ (gate_slab m c t 1536 (by decide) (by decide)) x),
      fun x => (congrFun ?_ x).trans (piece_dup m c t ((outsAt0 m c (t.val - 1) (Nat.lt_of_le_of_lt (Nat.sub_le _ _) t.isLt)).2.2.2.2.2) hq 4096 (by decide) _ (val_slab m c t 1280 (by decide) (by decide)) x),
      fun x => (congrFun ?_ x).trans (piece_dup m c t ((outsAt0 m c (t.val - 1) (Nat.lt_of_le_of_lt (Nat.sub_le _ _) t.isLt)).2.2.2.2.2) hq 1280 (by decide) _ (gate_slab m c t 1280 (by decide) (by decide)) x),
      fun x => (congrFun ?_ x).trans (piece_dup m c t ((outsAt0 m c (t.val - 1) (Nat.lt_of_le_of_lt (Nat.sub_le _ _) t.isLt)).2.2.2.2.2) hq 3840 (by decide) _ (val_slab m c t 1024 (by decide) (by decide)) x),
      fun x => (congrFun ?_ x).trans (piece_dup m c t ((outsAt0 m c (t.val - 1) (Nat.lt_of_le_of_lt (Nat.sub_le _ _) t.isLt)).2.2.2.2.2) hq 1024 (by decide) _ (gate_slab m c t 1024 (by decide) (by decide)) x),
      fun x => (congrFun ?_ x).trans (piece_dup m c t ((outsAt0 m c (t.val - 1) (Nat.lt_of_le_of_lt (Nat.sub_le _ _) t.isLt)).2.2.2.2.2) hq 3584 (by decide) _ (val_slab m c t 768 (by decide) (by decide)) x),
      fun x => (congrFun ?_ x).trans (piece_dup m c t ((outsAt0 m c (t.val - 1) (Nat.lt_of_le_of_lt (Nat.sub_le _ _) t.isLt)).2.2.2.2.2) hq 768 (by decide) _ (gate_slab m c t 768 (by decide) (by decide)) x),
      fun x => (congrFun ?_ x).trans (piece_dup m c t ((outsAt0 m c (t.val - 1) (Nat.lt_of_le_of_lt (Nat.sub_le _ _) t.isLt)).2.2.2.2.2) hq 3328 (by decide) _ (val_slab m c t 512 (by decide) (by decide)) x),
      fun x => (congrFun ?_ x).trans (piece_dup m c t ((outsAt0 m c (t.val - 1) (Nat.lt_of_le_of_lt (Nat.sub_le _ _) t.isLt)).2.2.2.2.2) hq 512 (by decide) _ (gate_slab m c t 512 (by decide) (by decide)) x),
      fun x => (congrFun ?_ x).trans (piece_dup m c t ((outsAt0 m c (t.val - 1) (Nat.lt_of_le_of_lt (Nat.sub_le _ _) t.isLt)).2.2.2.2.2) hq 3072 (by decide) _ (val_slab m c t 256 (by decide) (by decide)) x),
      fun x => (congrFun ?_ x).trans (piece_dup m c t ((outsAt0 m c (t.val - 1) (Nat.lt_of_le_of_lt (Nat.sub_le _ _) t.isLt)).2.2.2.2.2) hq 256 (by decide) _ (gate_slab m c t 256 (by decide) (by decide)) x),
      fun x => (congrFun ?_ x).trans (piece_dup m c t ((outsAt0 m c (t.val - 1) (Nat.lt_of_le_of_lt (Nat.sub_le _ _) t.isLt)).2.2.2.2.2) hq 2816 (by decide) _ (val_slab m c t 0 (by decide) (by decide)) x),
      fun x => (congrFun ?_ x).trans (piece_dup m c t ((outsAt0 m c (t.val - 1) (Nat.lt_of_le_of_lt (Nat.sub_le _ _) t.isLt)).2.2.2.2.2) hq 0 (by decide) _ (gate_slab m c t 0 (by decide) (by decide)) x), trivial⟩ rfl
  all_goals rfl

end Cert.Kernel9Ideal.Value
end
end
-- ==== Proof.FfnBwdPointC.lean ====
/- The backward pass of the feed-forward layer: the stores of a grid point are blocks of the results (the sums of the taps). -/
module

public import proofs.«01_k».proof.Defs
public import proofs.«01_k».proof.Proof.FfnBwdPiece
public import proofs.«01_k».proof.Proof.Gen.Kernel9Ideal.Frame
public import proofs.«01_k».proof.Proof.Gen.Kernel9Ideal.Value
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.Row (row)

namespace Cert.Kernel9Ideal.Value
open Cert.Kernel9Ideal Cert.Kernel9Ideal.Gen Cert.Kernel9Ideal.Point Cert.Taps

/-- Three rows, one below the other. -/
def three (a b c : FVec Ideal S1x256 .f32) : FVec Ideal S3x256 .f32 :=
  concatenate S3x256 0 [⟨S1x256, a⟩, ⟨S1x256, b⟩, ⟨S1x256, c⟩] concatenates_S1x256_S1x256_S1x256_S3x256_d0

theorem three_eq (a b c : FVec Ideal S1x256 .f32) (h : Shape.Concatenates [S1x256, S1x256, S1x256] S3x256 0) :
    concatenate S3x256 0 [⟨S1x256, a⟩, ⟨S1x256, b⟩, ⟨S1x256, c⟩] h = three a b c := rfl

variable (m : (ℓ : Loc nD τ sig) → Buf (Elt Ideal) ℓ)

set_option maxHeartbeats 4000000 in
theorem cwA (c : Dev nD) (t : Fin cfg0.N) (h0 : t.val % 64 = 0) :
    (outsAt0 m c t.val t.isLt).2.2.1 = CwB m c t (k0_pay3 (F := Ideal)) := by
  rw [outsAt0_A m c t h0]
  frame_out
  simp only [three_eq]
  frame_out
  simp only [Taps.read_later (o := 2) (by decide), Taps.read_later (o := 1) (by decide)]
  simp (decide := true) only [View.readCov_skip, View.readCov_fill]
  refine tiles 21 _ _ _ _ ⟨fun x => (congrFun ?_ x).trans (piece_cw m c t (k0_pay3 (F := Ideal)) (k0_pay6 (F := Ideal)) (before_zero m c t h0) 5376 (by decide) _ (val_slab m c t 2560 (by decide) (by decide)) x),
      fun x => (congrFun ?_ x).trans (piece_cw m c t (k0_pay3 (F := Ideal)) (k0_pay6 (F := Ideal)) (before_zero m c t h0) 2560 (by decide) _ (gate_slab m c t 2560 (by decide) (by decide)) x),
      fun x => (congrFun ?_ x).trans (piece_cw m c t (k0_pay3 (F := Ideal)) (k0_pay6 (F := Ideal)) (before_zero m c t h0) 5120 (by decide) _ (val_slab m c t 2304 (by decide) (by decide)) x),
      fun x => (congrFun ?_ x).trans (piece_cw m c t (k0_pay3 (F := Ideal)) (k0_pay6 (F := Ideal)) (before_zero m c t h0) 2304 (by decide) _ (gate_slab m c t 2304 (by decide) (by decide)) x),
      fun x => (congrFun ?_ x).trans (piece_cw m c t (k0_pay3 (F := Ideal)) (k0_pay6 (F := Ideal)) (before_zero m c t h0) 4864 (by decide) _ (val_slab m c t 2048 (by decide) (by decide)) x),
      fun x => (congrFun ?_ x).trans (piece_cw m c t (k0_pay3 (F := Ideal)) (k0_pay6 (F := Ideal)) (before_zero m c t h0) 2048 (by decide) _ (gate_slab m c t 2048 (by decide) (by decide)) x),
      fun x => (congrFun ?_ x).trans (piece_cw m c t (k0_pay3 (F := Ideal)) (k0_pay6 (F := Ideal)) (before_zero m c t h0) 4608 (by decide) _ (val_slab m c t 1792 (by decide) (by decide)) x),
      fun x => (congrFun ?_ x).trans (piece_cw m c t (k0_pay3 (F := Ideal)) (k0_pay6 (F := Ideal)) (before_zero m c t h0) 1792 (by decide) _ (gate_slab m c t 1792 (by decide) (by decide)) x),
      fun x => (congrFun ?_ x).trans (piece_cw m c t (k0_pay3 (F := Ideal)) (k0_pay6 (F := Ideal)) (before_zero m c t h0) 4352 (by decide) _ (val_slab m c t 1536 (by decide) (by decide)) x),
      fun x => (congrFun ?_ x).trans (piece_cw m c t (k0_pay3 (F := Ideal)) (k0_pay6 (F := Ideal)) (before_zero m c t h0) 1536 (by decide) _ (gate_slab m c t 1536 (by decide) (by decide)) x),
      fun x => (congrFun ?_ x).trans (piece_cw m c t (k0_pay3 (F := Ideal)) (k0_pay6 (F := Ideal)) (before_zero m c t h0) 4096 (by decide) _ (val_slab m c t 1280 (by decide) (by decide)) x),
      fun x => (congrFun ?_ x).trans (piece_cw m c t (k0_pay3 (F := Ideal)) (k0_pay6 (F := Ideal)) (before_zero m c t h0) 1280 (by decide) _ (gate_slab m c t 1280 (by decide) (by decide)) x),
      fun x => (congrFun ?_ x).trans (piece_cw m c t (k0_pay3 (F := Ideal)) (k0_pay6 (F := Ideal)) (before_zero m c t h0) 3840 (by decide) _ (val_slab m c t 1024 (by decide) (by decide)) x),
      fun x => (congrFun ?_ x).trans (piece_cw m c t (k0_pay3 (F := Ideal)) (k0_pay6 (F := Ideal)) (before_zero m c t h0) 1024 (by decide) _ (gate_slab m c t 1024 (by decide) (by decide)) x),
      fun x => (congrFun ?_ x).trans (piece_cw m c t (k0_pay3 (F := Ideal)) (k0_pay6 (F := Ideal)) (before_zero m c t h0) 3584 (by decide) _ (val_slab m c t 768 (by decide) (by decide)) x),
      fun x => (congrFun ?_ x).trans (piece_cw m c t (k0_pay3 (F := Ideal)) (k0_pay6 (F := Ideal)) (before_zero m c t h0) 768 (by decide) _ (gate_slab m c t 768 (by decide) (by decide)) x),
      fun x => (congrFun ?_ x).trans (piece_cw m c t (k0_pay3 (F := Ideal)) (k0_pay6 (F := Ideal)) (before_zero m c t h0) 3328 (by decide) _ (val_slab m c t 512 (by decide) (by decide)) x),
      fun x => (congrFun ?_ x).trans (piece_cw m c t (k0_pay3 (F := Ideal)) (k0_pay6 (F := Ideal)) (before_zero m c t h0) 512 (by decide) _ (gate_slab m c t 512 (by decide) (by decide)) x),
      fun x => (congrFun ?_ x).trans (piece_cw m c t (k0_pay3 (F := Ideal)) (k0_pay6 (F := Ideal)) (before_zero m c t h0) 3072 (by decide) _ (val_slab m c t 256 (by decide) (by decide)) x),
      fun x => (congrFun ?_ x).trans (piece_cw m c t (k0_pay3 (F := Ideal)) (k0_pay6 (F := Ideal)) (before_zero m c t h0) 256 (by decide) _ (gate_slab m c t 256 (by decide) (by decide)) x),
      fun x => (congrFun ?_ x).trans (piece_cw m c t (k0_pay3 (F := Ideal)) (k0_pay6 (F := Ideal)) (before_zero m c t h0) 2816 (by decide) _ (val_slab m c t 0 (by decide) (by decide)) x),
      fun x => (congrFun ?_ x).trans (piece_cw m c t (k0_pay3 (F := Ideal)) (k0_pay6 (F := Ideal)) (before_zero m c t h0) 0 (by decide) _ (gate_slab m c t 0 (by decide) (by decide)) x), trivial⟩ rfl
  all_goals rfl

set_option maxHeartbeats 4000000 in
theorem cwB (c : Dev nD) (t : Fin cfg0.N) (h0 : ¬ t.val % 64 = 0) (hq : Before m c t ((outsAt0 m c (t.val - 1) (Nat.lt_of_le_of_lt (Nat.sub_le _ _) t.isLt)).2.2.2.2.2)) :
    (outsAt0 m c t.val t.isLt).2.2.1 = CwB m c t ((outsAt0 m c (t.val - 1) (Nat.lt_of_le_of_lt (Nat.sub_le _ _) t.isLt)).2.2.1) := by
  rw [outsAt0_B m c t h0]
  frame_out
  simp only [three_eq]
  frame_out
  simp only [Taps.read_later (o := 2) (by decide), Taps.read_later (o := 1) (by decide)]
  simp only [read_unread_whole]
  refine tiles 21 _ _ _ _ ⟨fun x => (congrFun ?_ x).trans (piece_cw m c t ((outsAt0 m c (t.val - 1) (Nat.lt_of_le_of_lt (Nat.sub_le _ _) t.isLt)).2.2.1) ((outsAt0 m c (t.val - 1) (Nat.lt_of_le_of_lt (Nat.sub_le _ _) t.isLt)).2.2.2.2.2) hq 5376 (by decide) _ (val_slab m c t 2560 (by decide) (by decide)) x),
      fun x => (congrFun ?_ x).trans (piece_cw m c t ((outsAt0 m c (t.val - 1) (Nat.lt_of_le_of_lt (Nat.sub_le _ _) t.isLt)).2.2.1) ((outsAt0 m c (t.val - 1) (Nat.lt_of_le_of_lt (Nat.sub_le _ _) t.isLt)).2.2.2.2.2) hq 2560 (by decide) _ (gate_slab m c t 2560 (by decide) (by decide)) x),
      fun x => (congrFun ?_ x).trans (piece_cw m c t ((outsAt0 m c (t.val - 1) (Nat.lt_of_le_of_lt (Nat.sub_le _ _) t.isLt)).2.2.1) ((outsAt0 m c (t.val - 1) (Nat.lt_of_le_of_lt (Nat.sub_le _ _) t.isLt)).2.2.2.2.2) hq 5120 (by decide) _ (val_slab m c t 2304 (by decide) (by decide)) x),
      fun x => (congrFun ?_ x).trans (piece_cw m c t ((outsAt0 m c (t.val - 1) (Nat.lt_of_le_of_lt (Nat.sub_le _ _) t.isLt)).2.2.1) ((outsAt0 m c (t.val - 1) (Nat.lt_of_le_of_lt (Nat.sub_le _ _) t.isLt)).2.2.2.2.2) hq 2304 (by decide) _ (gate_slab m c t 2304 (by decide) (by decide)) x),
      fun x => (congrFun ?_ x).trans (piece_cw m c t ((outsAt0 m c (t.val - 1) (Nat.lt_of_le_of_lt (Nat.sub_le _ _) t.isLt)).2.2.1) ((outsAt0 m c (t.val - 1) (Nat.lt_of_le_of_lt (Nat.sub_le _ _) t.isLt)).2.2.2.2.2) hq 4864 (by decide) _ (val_slab m c t 2048 (by decide) (by decide)) x),
      fun x => (congrFun ?_ x).trans (piece_cw m c t ((outsAt0 m c (t.val - 1) (Nat.lt_of_le_of_lt (Nat.sub_le _ _) t.isLt)).2.2.1) ((outsAt0 m c (t.val - 1) (Nat.lt_of_le_of_lt (Nat.sub_le _ _) t.isLt)).2.2.2.2.2) hq 2048 (by decide) _ (gate_slab m c t 2048 (by decide) (by decide)) x),
      fun x => (congrFun ?_ x).trans (piece_cw m c t ((outsAt0 m c (t.val - 1) (Nat.lt_of_le_of_lt (Nat.sub_le _ _) t.isLt)).2.2.1) ((outsAt0 m c (t.val - 1) (Nat.lt_of_le_of_lt (Nat.sub_le _ _) t.isLt)).2.2.2.2.2) hq 4608 (by decide) _ (val_slab m c t 1792 (by decide) (by decide)) x),
      fun x => (congrFun ?_ x).trans (piece_cw m c t ((outsAt0 m c (t.val - 1) (Nat.lt_of_le_of_lt (Nat.sub_le _ _) t.isLt)).2.2.1) ((outsAt0 m c (t.val - 1) (Nat.lt_of_le_of_lt (Nat.sub_le _ _) t.isLt)).2.2.2.2.2) hq 1792 (by decide) _ (gate_slab m c t 1792 (by decide) (by decide)) x),
      fun x => (congrFun ?_ x).trans (piece_cw m c t ((outsAt0 m c (t.val - 1) (Nat.lt_of_le_of_lt (Nat.sub_le _ _) t.isLt)).2.2.1) ((outsAt0 m c (t.val - 1) (Nat.lt_of_le_of_lt (Nat.sub_le _ _) t.isLt)).2.2.2.2.2) hq 4352 (by decide) _ (val_slab m c t 1536 (by decide) (by decide)) x),
      fun x => (congrFun ?_ x).trans (piece_cw m c t ((outsAt0 m c (t.val - 1) (Nat.lt_of_le_of_lt (Nat.sub_le _ _) t.isLt)).2.2.1) ((outsAt0 m c (t.val - 1) (Nat.lt_of_le_of_lt (Nat.sub_le _ _) t.isLt)).2.2.2.2.2) hq 1536 (by decide) _ (gate_slab m c t 1536 (by decide) (by decide)) x),
      fun x => (congrFun ?_ x).trans (piece_cw m c t ((outsAt0 m c (t.val - 1) (Nat.lt_of_le_of_lt (Nat.sub_le _ _) t.isLt)).2.2.1) ((outsAt0 m c (t.val - 1) (Nat.lt_of_le_of_lt (Nat.sub_le _ _) t.isLt)).2.2.2.2.2) hq 4096 (by decide) _ (val_slab m c t 1280 (by decide) (by decide)) x),
      fun x => (congrFun ?_ x).trans (piece_cw m c t ((outsAt0 m c (t.val - 1) (Nat.lt_of_le_of_lt (Nat.sub_le _ _) t.isLt)).2.2.1) ((outsAt0 m c (t.val - 1) (Nat.lt_of_le_of_lt (Nat.sub_le _ _) t.isLt)).2.2.2.2.2) hq 1280 (by decide) _ (gate_slab m c t 1280 (by decide) (by decide)) x),
      fun x => (congrFun ?_ x).trans (piece_cw m c t ((outsAt0 m c (t.val - 1) (Nat.lt_of_le_of_lt (Nat.sub_le _ _) t.isLt)).2.2.1) ((outsAt0 m c (t.val - 1) (Nat.lt_of_le_of_lt (Nat.sub_le _ _) t.isLt)).2.2.2.2.2) hq 3840 (by decide) _ (val_slab m c t 1024 (by decide) (by decide)) x),
      fun x => (congrFun ?_ x).trans (piece_cw m c t ((outsAt0 m c (t.val - 1) (Nat.lt_of_le_of_lt (Nat.sub_le _ _) t.isLt)).2.2.1) ((outsAt0 m c (t.val - 1) (Nat.lt_of_le_of_lt (Nat.sub_le _ _) t.isLt)).2.2.2.2.2) hq 1024 (by decide) _ (gate_slab m c t 1024 (by decide) (by decide)) x),
      fun x => (congrFun ?_ x).trans (piece_cw m c t ((outsAt0 m c (t.val - 1) (Nat.lt_of_le_of_lt (Nat.sub_le _ _) t.isLt)).2.2.1) ((outsAt0 m c (t.val - 1) (Nat.lt_of_le_of_lt (Nat.sub_le _ _) t.isLt)).2.2.2.2.2) hq 3584 (by decide) _ (val_slab m c t 768 (by decide) (by decide)) x),
      fun x => (congrFun ?_ x).trans (piece_cw m c t ((outsAt0 m c (t.val - 1) (Nat.lt_of_le_of_lt (Nat.sub_le _ _) t.isLt)).2.2.1) ((outsAt0 m c (t.val - 1) (Nat.lt_of_le_of_lt (Nat.sub_le _ _) t.isLt)).2.2.2.2.2) hq 768 (by decide) _ (gate_slab m c t 768 (by decide) (by decide)) x),
      fun x => (congrFun ?_ x).trans (piece_cw m c t ((outsAt0 m c (t.val - 1) (Nat.lt_of_le_of_lt (Nat.sub_le _ _) t.isLt)).2.2.1) ((outsAt0 m c (t.val - 1) (Nat.lt_of_le_of_lt (Nat.sub_le _ _) t.isLt)).2.2.2.2.2) hq 3328 (by decide) _ (val_slab m c t 512 (by decide) (by decide)) x),
      fun x => (congrFun ?_ x).trans (piece_cw m c t ((outsAt0 m c (t.val - 1) (Nat.lt_of_le_of_lt (Nat.sub_le _ _) t.isLt)).2.2.1) ((outsAt0 m c (t.val - 1) (Nat.lt_of_le_of_lt (Nat.sub_le _ _) t.isLt)).2.2.2.2.2) hq 512 (by decide) _ (gate_slab m c t 512 (by decide) (by decide)) x),
      fun x => (congrFun ?_ x).trans (piece_cw m c t ((outsAt0 m c (t.val - 1) (Nat.lt_of_le_of_lt (Nat.sub_le _ _) t.isLt)).2.2.1) ((outsAt0 m c (t.val - 1) (Nat.lt_of_le_of_lt (Nat.sub_le _ _) t.isLt)).2.2.2.2.2) hq 3072 (by decide) _ (val_slab m c t 256 (by decide) (by decide)) x),
      fun x => (congrFun ?_ x).trans (piece_cw m c t ((outsAt0 m c (t.val - 1) (Nat.lt_of_le_of_lt (Nat.sub_le _ _) t.isLt)).2.2.1) ((outsAt0 m c (t.val - 1) (Nat.lt_of_le_of_lt (Nat.sub_le _ _) t.isLt)).2.2.2.2.2) hq 256 (by decide) _ (gate_slab m c t 256 (by decide) (by decide)) x),
      fun x => (congrFun ?_ x).trans (piece_cw m c t ((outsAt0 m c (t.val - 1) (Nat.lt_of_le_of_lt (Nat.sub_le _ _) t.isLt)).2.2.1) ((outsAt0 m c (t.val - 1) (Nat.lt_of_le_of_lt (Nat.sub_le _ _) t.isLt)).2.2.2.2.2) hq 2816 (by decide) _ (val_slab m c t 0 (by decide) (by decide)) x),
      fun x => (congrFun ?_ x).trans (piece_cw m c t ((outsAt0 m c (t.val - 1) (Nat.lt_of_le_of_lt (Nat.sub_le _ _) t.isLt)).2.2.1) ((outsAt0 m c (t.val - 1) (Nat.lt_of_le_of_lt (Nat.sub_le _ _) t.isLt)).2.2.2.2.2) hq 0 (by decide) _ (gate_slab m c t 0 (by decide) (by decide)) x), trivial⟩ rfl
  all_goals rfl

end Cert.Kernel9Ideal.Value
end
end
-- ==== Proof.FfnBwdPointD.lean ====
/- The backward pass of the feed-forward layer: the stores of a grid point are blocks of the results (the gradients at the rows and of the gain). -/
module

public import proofs.«01_k».proof.Defs
public import proofs.«01_k».proof.Proof.FfnBwdPiece
public import proofs.«01_k».proof.Proof.Gen.Kernel9Ideal.Frame
public import proofs.«01_k».proof.Proof.Gen.Kernel9Ideal.Value
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.Row (row)

namespace Cert.Kernel9Ideal.Value
open Cert.Kernel9Ideal Cert.Kernel9Ideal.Gen Cert.Kernel9Ideal.Point Cert.Taps

variable (m : (ℓ : Loc nD τ sig) → Buf (Elt Ideal) ℓ)

set_option maxHeartbeats 4000000 in
theorem outA (c : Dev nD) (t : Fin cfg0.N) (h0 : t.val % 64 = 0) :
    (outsAt0 m c t.val t.isLt).1 = fun y => Dh m c (ix2 (at' t (y 0)) (y 1)) := by
  rw [outsAt0_A m c t h0]
  frame_out
  simp only [Taps.read_later (o := 2) (by decide), Taps.read_later (o := 1) (by decide)]
  simp (decide := true) only [View.readCov_skip, View.readCov_fill]
  refine Eq.trans (b := rows (bH m c t) (bX m c t) (bG m c t) (accs m c t (k0_pay6 (F := Ideal)) 11 (by decide))) ?_ (rows_all m c t _ (before_zero m c t h0))
  rfl

set_option maxHeartbeats 4000000 in
theorem outB (c : Dev nD) (t : Fin cfg0.N) (h0 : ¬ t.val % 64 = 0) (hq : Before m c t ((outsAt0 m c (t.val - 1) (Nat.lt_of_le_of_lt (Nat.sub_le _ _) t.isLt)).2.2.2.2.2)) :
    (outsAt0 m c t.val t.isLt).1 = fun y => Dh m c (ix2 (at' t (y 0)) (y 1)) := by
  rw [outsAt0_B m c t h0]
  frame_out
  simp only [Taps.read_later (o := 2) (by decide), Taps.read_later (o := 1) (by decide)]
  simp only [read_unread_whole]
  refine Eq.trans (b := rows (bH m c t) (bX m c t) (bG m c t) (accs m c t ((outsAt0 m c (t.val - 1) (Nat.lt_of_le_of_lt (Nat.sub_le _ _) t.isLt)).2.2.2.2.2) 11 (by decide))) ?_ (rows_all m c t _ hq)
  rfl

set_option maxHeartbeats 4000000 in
theorem gainA (c : Dev nD) (t : Fin cfg0.N) (h0 : t.val % 64 = 0) :
    (outsAt0 m c t.val t.isLt).2.2.2.2.1 = GB m c t (k0_pay5 (F := Ideal)) := by
  rw [outsAt0_A m c t h0]
  frame_out
  simp only [Taps.read_later (o := 2) (by decide), Taps.read_later (o := 1) (by decide)]
  simp (decide := true) only [View.readCov_skip, View.readCov_fill]
  refine Eq.trans (b := k0_pay2 (F := Ideal) (accs m c t (k0_pay6 (F := Ideal)) 11 (by decide)) (k0_pay322 (bX m c t)) (k0_pay5 (F := Ideal))) ?_ (gain_all m c t _ (before_zero m c t h0) _)
  rfl

set_option maxHeartbeats 4000000 in
theorem gainB (c : Dev nD) (t : Fin cfg0.N) (h0 : ¬ t.val % 64 = 0) (hq : Before m c t ((outsAt0 m c (t.val - 1) (Nat.lt_of_le_of_lt (Nat.sub_le _ _) t.isLt)).2.2.2.2.2)) :
    (outsAt0 m c t.val t.isLt).2.2.2.2.1 = GB m c t ((outsAt0 m c (t.val - 1) (Nat.lt_of_le_of_lt (Nat.sub_le _ _) t.isLt)).2.2.2.2.1) := by
  rw [outsAt0_B m c t h0]
  frame_out
  simp only [Taps.read_later (o := 2) (by decide), Taps.read_later (o := 1) (by decide)]
  simp only [read_unread_whole]
  refine Eq.trans (b := k0_pay2 (F := Ideal) (accs m c t ((outsAt0 m c (t.val - 1) (Nat.lt_of_le_of_lt (Nat.sub_le _ _) t.isLt)).2.2.2.2.2) 11 (by decide)) (k0_pay322 (bX m c t)) ((outsAt0 m c (t.val - 1) (Nat.lt_of_le_of_lt (Nat.sub_le _ _) t.isLt)).2.2.2.2.1)) ?_ (gain_all m c t _ hq _)
  rfl

end Cert.Kernel9Ideal.Value
end
end
-- ==== Proof.FfnBwdGelu.lean ====
/- The derivative of the gated activation: the kernel's formula is the plain derivative's, over real numbers. -/
module

public import proofs.«01_k».proof.Defs
public import proofs.«01_k».proof.Proof.Reals
public import proofs.«01_k».proof.Proof.FfnBwdBlock
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.Row (row)

namespace Cert.FfnBwd
open Cert.Kernel9Ideal.Point (th gateOf valOf)

theorem half_eq : Ideal.ofBits .f32 0x3F000000#32 = ((1 / 2 : ℝ) : EReal) := by
  simp [Ideal.ofBits, Ideal.ieee]
  rw [← EReal.coe_mul]
  norm_num

theorem one_eq : Ideal.ofBits .f32 0x3F800000#32 = ((1 : ℝ) : EReal) := by
  simp [Ideal.ofBits, Ideal.ieee]
  rw [← EReal.coe_mul]
  norm_num

theorem three_eq : Ideal.ofBits .f32 0x40400000#32 = ((3 : ℝ) : EReal) := by
  simp [Ideal.ofBits, Ideal.ieee]
  rw [← EReal.coe_mul]
  norm_num

theorem scale_eq : Ideal.ofBits .f32 0x3F4C422A#32 = ((13386282 / 2 ^ 24 : ℝ) : EReal) := by
  simp [Ideal.ofBits, Ideal.ieee]
  rw [← EReal.coe_mul]
  norm_num

theorem num_eq : Ideal.ofBits .f32 0x460BBC00#32 = ((8943 : ℝ) : EReal) := by
  simp [Ideal.ofBits, Ideal.ieee]
  rw [← EReal.coe_mul]
  norm_num

theorem den_eq : Ideal.ofBits .f32 0x48435000#32 = ((200000 : ℝ) : EReal) := by
  simp [Ideal.ofBits, Ideal.ieee]
  rw [← EReal.coe_mul]
  norm_num

/-- The cubic's coefficient as the reference writes it: a quotient. -/
def cubic : EReal := Ideal.div (Ideal.ofBits .f32 0x460BBC00#32) (Ideal.ofBits .f32 0x48435000#32)

theorem cubic_eq : cubic = ((8943 / 200000 : ℝ) : EReal) := by
  unfold cubic
  rw [num_eq, den_eq, Ideal.div_coe (by norm_num), ← EReal.coe_mul]
  norm_num

theorem named_a : Named.named (F := Ideal) Cert.Kernel9Ideal.κ "gelu_a" (φ := .f32) 0x3D372713#32 = ((8943 / 200000 : ℝ) : EReal) :=
  IdealRules.named_const.ideal_named_scalar Cert.Kernel9Ideal.κ "gelu_a" (φ := .f32) _ _ rfl

theorem named_3a : Named.named (F := Ideal) Cert.Kernel9Ideal.κ "gelu_3a" (φ := .f32) 0x3E095D4F#32 = ((26829 / 200000 : ℝ) : EReal) :=
  IdealRules.named_const.ideal_named_scalar Cert.Kernel9Ideal.κ "gelu_3a" (φ := .f32) _ _ rfl

/-- The tangent as the reference writes it. -/
def thR (g : EReal) : EReal := Ideal.tanh (Ideal.ofBits .f32 0x3F4C422A#32 * (g + cubic * (g * g * g)))

theorem th_eq (g : EReal) : thR g = th g := by
  unfold thR th
  rw [named_a, ← cubic_eq, mul_assoc cubic g g, mul_assoc cubic (g * g) g]
  rfl

theorem th_real (g : ℝ) : ∃ t : ℝ, th (g : EReal) = (t : EReal) := by
  refine ⟨Real.tanh (13386282 / 2 ^ 24 * (g + 8943 / 200000 * (g * g * g))), ?_⟩
  rw [← th_eq]
  unfold thR
  rw [cubic_eq, scale_eq]
  simp only [← EReal.coe_mul, ← EReal.coe_add]
  exact Ideal.tanh_coe _

/-- The gradient at the gate as the plain derivative writes it. -/
def gateR (d g v : EReal) : EReal :=
  d * v * (Ideal.ofBits .f32 0x3F000000#32 * (Ideal.ofBits .f32 0x3F800000#32 + thR g))
    + Ideal.ofBits .f32 0x3F4C422A#32 * (Ideal.ofBits .f32 0x3F000000#32 * (g * (d * v))
        * ((Ideal.ofBits .f32 0x3F800000#32 + thR g) * (Ideal.ofBits .f32 0x3F800000#32 - thR g)))
    + cubic * (Ideal.ofBits .f32 0x3F4C422A#32 * (Ideal.ofBits .f32 0x3F000000#32 * (g * (d * v))
        * ((Ideal.ofBits .f32 0x3F800000#32 + thR g) * (Ideal.ofBits .f32 0x3F800000#32 - thR g))))
      * (Ideal.ofBits .f32 0x40400000#32 * (g * g))

theorem gate_eq (d g v : ℝ) : gateR d g v = gateOf d g v := by
  obtain ⟨t, ht⟩ := th_real g
  unfold gateR gateOf
  rw [th_eq, ht, cubic_eq, named_3a]
  show _ = (d : EReal) * v * (Ideal.ofBits .f32 0x3F000000#32 * (Ideal.ofBits .f32 0x3F800000#32 + t)
    + Ideal.ofBits .f32 0x3F000000#32 * g * (Ideal.ofBits .f32 0x3F800000#32 - t * t) * Ideal.ofBits .f32 0x3F4C422A#32
      * (Ideal.ofBits .f32 0x3F800000#32 + ((26829 / 200000 : ℝ) : EReal) * g * g))
  rw [half_eq, one_eq, three_eq, scale_eq]
  simp only [← EReal.coe_mul, ← EReal.coe_add, ← EReal.coe_sub]
  congr 1
  ring

theorem gate_real (d g v : ℝ) : ∃ r : ℝ, gateOf (d : EReal) g v = (r : EReal) := by
  obtain ⟨t, ht⟩ := th_real g
  rw [← gate_eq]
  unfold gateR
  rw [th_eq, ht, cubic_eq, half_eq, one_eq, three_eq, scale_eq]
  simp only [← EReal.coe_mul, ← EReal.coe_add, ← EReal.coe_sub]
  exact ⟨_, rfl⟩

theorem val_eq (d g : EReal) : g * (Ideal.ofBits .f32 0x3F000000#32 * (Ideal.ofBits .f32 0x3F800000#32 + thR g)) * d = valOf d g := by
  unfold valOf
  rw [th_eq, mul_comm _ d, ← mul_assoc g, mul_comm g]
  rfl

theorem val_real (d g : ℝ) : ∃ r : ℝ, valOf (d : EReal) g = (r : EReal) := by
  obtain ⟨t, ht⟩ := th_real g
  rw [← val_eq, th_eq, ht, half_eq, one_eq]
  simp only [← EReal.coe_mul, ← EReal.coe_add]
  exact ⟨_, rfl⟩

end Cert.FfnBwd
end
end
-- ==== Proof.FfnBwdRef.lean ====
/- The backward pass of the feed-forward layer: the reference's values index by index. -/
module

public import proofs.«01_k».proof.Defs
public import proofs.«01_k».proof.Proof.Reals
public import proofs.«01_k».proof.Proof.FfnBwdBlock
public import proofs.«01_k».proof.Proof.FfnBwdGelu
public import proofs.«01_k».proof.Proof.Gen.Reference9Ideal
public import proofs.«01_k».proof.Proof.Gen.Reference9Ideal.Read
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.Row (row)

namespace Cert.Reals

theorem real_add {ι : Type} {f g : ι → EReal} (hf : Real' f) (hg : Real' g) : Real' fun i => f i + g i := by
  obtain ⟨f, rfl⟩ := hf
  obtain ⟨g, rfl⟩ := hg
  exact ⟨fun i => f i + g i, funext fun i => (EReal.coe_add _ _).symm⟩

/-- Entries that are real numbers one by one. -/
theorem of_each {ι : Type} {f : ι → EReal} (h : ∀ i, ∃ r : ℝ, f i = (r : EReal)) : Real' f :=
  ⟨fun i => (h i).choose, funext fun i => (h i).choose_spec⟩

theorem at_each {ι : Type} {f : ι → EReal} (h : Real' f) (i : ι) : ∃ r : ℝ, f i = (r : EReal) := by
  obtain ⟨f, rfl⟩ := h
  exact ⟨f i, rfl⟩

/-- A matrix whose rows are real. -/
theorem of_rows {n k : ℕ} {f : (⟨2, ![n, k]⟩ : Shape).Idx → EReal} (h : ∀ r, Real' (Row.row f r)) : Real' f :=
  of_each fun i => by
    obtain ⟨r, hr⟩ := at_each (h (i 0)) (i 1)
    exact ⟨r, (congrArg f (eq_ix2 i)).trans hr⟩

end Cert.Reals

namespace Cert.FfnBwd
open Cert.Reals

/-- A sum against rows moved `s` later is the sum with the other factor moved `s` earlier. -/
theorem sum_shift (n s : ℕ) (hs : s ≤ n) (u p : Fin n → EReal) :
    ∑ i : Fin n, (if h : i.val < s then 0 else u ⟨i.val - s, by omega⟩) * p i
      = ∑ r : Fin n, (if h : r.val + s < n then p ⟨r.val + s, h⟩ else 0) * u r := by
  let G : ℕ → EReal := fun r => if h : r + s < n then p ⟨r + s, h⟩ * u ⟨r, by omega⟩ else 0
  have e1 : ∀ i : Fin n, (if h : i.val < s then 0 else u ⟨i.val - s, by omega⟩) * p i = if i.val < s then 0 else G (i.val - s) := fun i => by
    by_cases h : i.val < s
    · rw [dif_pos h, if_pos h, zero_mul]
    · rw [dif_neg h, if_neg h]
      show _ = dite _ _ _
      rw [dif_pos (show i.val - s + s < n by omega), mul_comm]
      exact congrArg (fun k => p k * _) (Fin.ext (by show i.val = i.val - s + s; omega))
  have e2 : ∀ r : Fin n, (if h : r.val + s < n then p ⟨r.val + s, h⟩ else 0) * u r = G r.val := fun r => by
    show _ = dite _ _ _
    by_cases h : r.val + s < n
    · rw [dif_pos h, dif_pos h]
    · rw [dif_neg h, dif_neg h, zero_mul]
  rw [Finset.sum_congr rfl fun i _ => e1 i, Finset.sum_congr rfl fun r _ => e2 r,
    Fin.sum_univ_eq_sum_range (fun i => if i < s then 0 else G (i - s)) n, Fin.sum_univ_eq_sum_range G n]
  obtain ⟨d, rfl⟩ := Nat.exists_eq_add_of_le hs
  rw [Finset.sum_range_add, Finset.sum_eq_zero (s := Finset.range s) fun i hi => if_pos (Finset.mem_range.mp hi), zero_add,
    Nat.add_comm s d, Finset.sum_range_add, Finset.sum_eq_zero (s := Finset.range s) (fun i _ => dif_neg (show ¬ d + i + s < s + d by omega)), add_zero]
  refine Finset.sum_congr rfl fun i _ => ?_
  rw [if_neg (by omega), Nat.add_sub_cancel_left]

section
open Cert.Reference9Ideal Cert.Reference9Ideal.Read

variable (m : (ℓ : Loc Kernel9Ideal.nD Kernel9Ideal.τ Kernel9Ideal.sig) → Buf (Elt Ideal) ℓ) (c : Dev Kernel9Ideal.nD)

open Cert.Kernel9Ideal.Value (aH aX aG aW aC aB aD Up Pre DA DP DZ Dup Dcw Dcb Dn Dh Dg)
open Cert.Kernel9Ideal.Point (gateOf valOf)

/-- Every argument the gradients depend on is real. -/
def RealArgs : Prop := Real' (aH m c) ∧ Real' (aX m c) ∧ Real' (aG m c) ∧ Real' (aW m c) ∧ Real' (aC m c) ∧ Real' (aB m c) ∧ Real' (aD m c)

theorem ref_rr (r : Fin 16384) (k : Fin 1) : val_main_v7 (F := Ideal) (aX m c) (ix2 r k) = Row.rr (Row.row (aX m c) r) := by
  pointwise [val_main_v7, val_main_v6, val_main_v5, val_main_v4, val_main_v3, val_main_v2, val_main_v1, val_main_v0, val_main_cst, val_main_cst_0, val_main_cst_1]
  rfl

theorem ref_up (r : Fin 16384) (j : Fin 5632) :
    Up m c (ix2 r j) = ∑ k : Fin 1024, Row.nrm (Row.row (aX m c) r) (fun k => aG m c (ix1 k)) k * aW m c (ix2 k j) := by
  unfold Up
  pointwise [val_main_v16, val_main_v15, val_main_v14, val_main_v13, val_main_v12, val_main_v11, ref_rr]
  rfl

theorem real_up (h : RealArgs m c) : Real' (Up m c) := by
  obtain ⟨_, hx, hg, hw, _⟩ := h
  refine of_rows fun r => ?_
  have e : Row.row (Up m c) r = fun j => ∑ k : Fin 1024, Row.nrm (Row.row (aX m c) r) (fun k => aG m c (ix1 k)) k * aW m c (ix2 k j) :=
    funext fun j => ref_up m c r j
  rw [e]
  exact real_sum _ fun j => real_mul (real_nrm (real_comp hx _) (real_comp hg _)) (real_comp hw _)

/-- The up-projection behind two rows of zeros. -/
theorem ref_pad (r : Fin 16386) (j : Fin 5632) :
    val_main_v18 (F := Ideal) (aX m c) (aG m c) (aW m c) (ix2 r j) = if h : r.val < 2 then 0 else Up m c (ix2 ⟨r.val - 2, by omega⟩ j) := by
  unfold Up
  generalize hv : val_main_v16 (F := Ideal) (aX m c) (aG m c) (aW m c) = v
  by_cases h : r.val < 2
  · rw [dif_pos h]
    pointwise [val_main_v18, hv, val_main_v17, val_main_cst_3]
    rw [dif_pos h]
  · rw [dif_neg h]
    pointwise [val_main_v18, hv, val_main_v17, val_main_cst_3]
    rw [dif_neg h]

theorem real_pad (h : RealArgs m c) (r : Fin 16386) (j : Fin 5632) : ∃ x : ℝ, val_main_v18 (F := Ideal) (aX m c) (aG m c) (aW m c) (ix2 r j) = (x : EReal) := by
  rw [ref_pad]
  by_cases hr : r.val < 2
  · exact ⟨0, by rw [dif_pos hr]; rfl⟩
  · rw [dif_neg hr]
    exact at_each (real_up m c h) _

theorem ref_u0 (r : Fin 16384) (j : Fin 5632) : val_main_v20 (F := Ideal) (aX m c) (aG m c) (aW m c) (ix2 r j) = val_main_v18 (F := Ideal) (aX m c) (aG m c) (aW m c) (ix2 ⟨r.val, by omega⟩ j) := by
  pointwise [val_main_v20]

theorem ref_u1 (r : Fin 16384) (j : Fin 5632) : val_main_v29 (F := Ideal) (aX m c) (aG m c) (aW m c) (ix2 r j) = val_main_v18 (F := Ideal) (aX m c) (aG m c) (aW m c) (ix2 ⟨r.val + 1, by omega⟩ j) := by
  pointwise [val_main_v29]
  exact congrArg (fun k => val_main_v18 (F := Ideal) (aX m c) (aG m c) (aW m c) (ix2 k j)) (Fin.ext (Nat.add_comm _ _))

theorem ref_u2 (r : Fin 16384) (j : Fin 5632) : val_main_v36 (F := Ideal) (aX m c) (aG m c) (aW m c) (ix2 r j) = val_main_v18 (F := Ideal) (aX m c) (aG m c) (aW m c) (ix2 ⟨r.val + 2, by omega⟩ j) := by
  pointwise [val_main_v36]
  exact congrArg (fun k => val_main_v18 (F := Ideal) (aX m c) (aG m c) (aW m c) (ix2 k j)) (Fin.ext (Nat.add_comm _ _))

theorem real_pre (h : RealArgs m c) : Real' (Pre m c) := by
  obtain ⟨_, _, _, _, hc, hb, _⟩ := id h
  refine of_each fun i => ?_
  obtain ⟨r, j, rfl⟩ : ∃ (r : Fin 16384) (j : Fin 5632), i = ix2 r j := ⟨i 0, i 1, eq_ix2 i⟩
  obtain ⟨u0, h0⟩ := real_pad m c h ⟨r.val, by omega⟩ j
  obtain ⟨u1, h1⟩ := real_pad m c h ⟨r.val + 1, by omega⟩ j
  obtain ⟨u2, h2⟩ := real_pad m c h ⟨r.val + 2, by omega⟩ j
  obtain ⟨c0, g0⟩ := at_each hc (ix2 0 j)
  obtain ⟨c1, g1⟩ := at_each hc (ix2 1 j)
  obtain ⟨c2, g2⟩ := at_each hc (ix2 2 j)
  obtain ⟨b, gb⟩ := at_each hb (ix1 j)
  have e0 : val_main_v24 (F := Ideal) (aC m c) (ix2 r j) = aC m c (ix2 0 j) := by
    pointwise [val_main_v24, val_main_v23, val_main_v22, val_main_v21]
  have e1 : val_main_v33 (F := Ideal) (aC m c) (ix2 r j) = aC m c (ix2 1 j) := by
    pointwise [val_main_v33, val_main_v32, val_main_v31, val_main_v30]
  have e2 : val_main_v40 (F := Ideal) (aC m c) (ix2 r j) = aC m c (ix2 2 j) := by
    pointwise [val_main_v40, val_main_v39, val_main_v38, val_main_v37]
  have eb : val_main_v27 (F := Ideal) (aB m c) (ix2 r j) = aB m c (ix1 j) := by
    pointwise [val_main_v27, val_main_v26]
  refine ⟨b + u0 * c0 + u1 * c1 + u2 * c2, ?_⟩
  unfold Pre
  rw [val_main_v42_apply, val_main_v35_apply, val_main_v28_apply, val_main_v25_apply, val_main_v34_apply, val_main_v41_apply, ref_u0, ref_u1, ref_u2,
    h0, h1, h2, e0, e1, e2, eb, g0, g1, g2, gb]
  show (b : EReal) + u0 * c0 + u1 * c1 + u2 * c2 = _
  simp only [EReal.coe_add, EReal.coe_mul]

theorem ref_g (r : Fin 16384) (j : Fin 2816) : val_main_v43 (F := Ideal) (aX m c) (aG m c) (aW m c) (aC m c) (aB m c) (ix2 r j) = Pre m c (ix2 r ⟨j.val, by omega⟩) := by
  unfold Pre
  pointwise [val_main_v43]

theorem ref_v (r : Fin 16384) (j : Fin 2816) : val_main_v44 (F := Ideal) (aX m c) (aG m c) (aW m c) (aC m c) (aB m c) (ix2 r j) = Pre m c (ix2 r ⟨2816 + j.val, by omega⟩) := by
  unfold Pre
  pointwise [val_main_v44]

theorem ref_da (r : Fin 16384) (j : Fin 2816) : val_main_v69 (F := Ideal) (aH m c) (aD m c) (ix2 r j) = DA m c (ix2 r j) := by
  unfold DA
  pointwise [val_main_v69]

theorem real_da (h : RealArgs m c) : Real' (DA m c) := by
  obtain ⟨hh, _, _, _, _, _, hd⟩ := h
  unfold DA
  exact real_sum _ fun i => real_mul (real_comp hh _) (real_comp hd _)

theorem ref_gate (r : Fin 16384) (j : Fin 2816) : val_main_v83 (F := Ideal) (aH m c) (aX m c) (aG m c) (aW m c) (aC m c) (aB m c) (aD m c) (ix2 r j)
      = gateR (DA m c (ix2 r j)) (Pre m c (ix2 r ⟨j.val, by omega⟩)) (Pre m c (ix2 r ⟨2816 + j.val, by omega⟩)) := by
  rw [← ref_da, ← ref_g, ← ref_v]
  generalize hd : val_main_v69 (F := Ideal) (aH m c) (aD m c) = d
  generalize hg : val_main_v43 (F := Ideal) (aX m c) (aG m c) (aW m c) (aC m c) (aB m c) = g
  generalize hv : val_main_v44 (F := Ideal) (aX m c) (aG m c) (aW m c) (aC m c) (aB m c) = v
  unfold gateR thR cubic
  pointwise [val_main_v83, val_main_v82, val_main_v81, val_main_v80, val_main_v79, val_main_v78, val_main_v77, val_main_v76, val_main_v75, val_main_v74, val_main_v73, val_main_v72, val_main_v71, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_cst_5, val_main_cst_6, val_main_cst_7, val_main_cst_8, val_main_cst_9, val_main_cst_10, val_main_cst_11, val_main_cst_12, val_main_cst_13, val_main_cst_14, hd, hg, hv]

theorem ref_val (r : Fin 16384) (j : Fin 2816) : val_main_v70 (F := Ideal) (aH m c) (aX m c) (aG m c) (aW m c) (aC m c) (aB m c) (aD m c) (ix2 r j)
      = valOf (DA m c (ix2 r j)) (Pre m c (ix2 r ⟨j.val, by omega⟩)) := by
  rw [← val_eq, ← ref_da, ← ref_g]
  generalize hd : val_main_v69 (F := Ideal) (aH m c) (aD m c) = d
  generalize hg : val_main_v43 (F := Ideal) (aX m c) (aG m c) (aW m c) (aC m c) (aB m c) = g
  unfold thR cubic
  pointwise [val_main_v70, val_main_v66, val_main_v65, val_main_v64, val_main_v63, val_main_v62, val_main_v56, val_main_v55, val_main_v54, val_main_v53, val_main_v52, val_main_v51, val_main_v47, val_main_v46, val_main_v45, val_main_cst_5, val_main_cst_6, val_main_cst_8, val_main_cst_11, val_main_cst_12, hd, hg]

/-- The gradient at the convolution. -/
theorem ref_dp (h : RealArgs m c) (r : Fin 16384) (j : Fin 5632) : val_main_v84 (F := Ideal) (aH m c) (aX m c) (aG m c) (aW m c) (aC m c) (aB m c) (aD m c) (ix2 r j) = DP m c (ix2 r j) := by
  have hs : val_main_v84 (F := Ideal) (aH m c) (aX m c) (aG m c) (aW m c) (aC m c) (aB m c) (aD m c) (ix2 r j)
      = if h : j.val < 2816 then val_main_v83 (F := Ideal) (aH m c) (aX m c) (aG m c) (aW m c) (aC m c) (aB m c) (aD m c) (ix2 r ⟨j.val, h⟩) else val_main_v70 (F := Ideal) (aH m c) (aX m c) (aG m c) (aW m c) (aC m c) (aB m c) (aD m c) (ix2 r ⟨j.val - 2816, by omega⟩) := by
    generalize ha : val_main_v83 (F := Ideal) (aH m c) (aX m c) (aG m c) (aW m c) (aC m c) (aB m c) (aD m c) = a
    generalize hb : val_main_v70 (F := Ideal) (aH m c) (aX m c) (aG m c) (aW m c) (aC m c) (aB m c) (aD m c) = b
    pointwise [val_main_v84, ha, hb]
  rw [hs]
  unfold DP
  by_cases hj : j.val < 2816
  · rw [dif_pos hj]
    refine Eq.trans ?_ (dif_pos hj).symm
    rw [ref_gate]
    obtain ⟨d, hd⟩ := at_each (real_da m c h) (ix2 r ⟨j.val, hj⟩)
    obtain ⟨g, hg⟩ := at_each (real_pre m c h) (ix2 r ⟨j.val, by omega⟩)
    obtain ⟨v, hv⟩ := at_each (real_pre m c h) (ix2 r ⟨2816 + j.val, by omega⟩)
    rw [hd, hg, hv, gate_eq]
    rw [← hd, ← hg, ← hv]
    rfl
  · rw [dif_neg hj]
    refine Eq.trans ?_ (dif_neg hj).symm
    rw [ref_val]
    rfl

theorem real_dp (h : RealArgs m c) : Real' (DP m c) := by
  refine of_each fun i => ?_
  unfold DP
  by_cases hj : (i 1).val < 2816
  · rw [dif_pos hj]
    obtain ⟨d, hd⟩ := at_each (real_da m c h) (ix2 (i 0) ⟨(i 1).val, hj⟩)
    obtain ⟨g, hg⟩ := at_each (real_pre m c h) (ix2 (i 0) (i 1))
    obtain ⟨v, hv⟩ := at_each (real_pre m c h) (ix2 (i 0) ⟨2816 + (i 1).val, Nat.add_lt_add_left hj 2816⟩)
    obtain ⟨x, hx⟩ := gate_real d g v
    exact ⟨x, Eq.trans (by rw [← hd, ← hg, ← hv]) hx⟩
  · rw [dif_neg hj]
    have hb : (i 1).val < 5632 := (i 1).isLt
    obtain ⟨d, hd⟩ := at_each (real_da m c h) (ix2 (i 0) ⟨(i 1).val - 2816, by omega⟩)
    obtain ⟨g, hg⟩ := at_each (real_pre m c h) (ix2 (i 0) ⟨(i 1).val - 2816, by omega⟩)
    obtain ⟨x, hx⟩ := val_real d g
    exact ⟨x, Eq.trans (by rw [← hd, ← hg]) hx⟩

theorem real_dz (h : RealArgs m c) (n : ℕ) (j : Fin 5632) : ∃ x : ℝ, DZ m c n j = (x : EReal) := by
  unfold DZ
  by_cases hn : n < 16384
  · rw [dif_pos hn]
    exact at_each (real_dp m c h) _
  · exact ⟨0, by rw [dif_neg hn]; rfl⟩

theorem real_dup (h : RealArgs m c) : Real' (Dup m c) := by
  obtain ⟨_, _, _, _, hc, _⟩ := id h
  unfold Dup
  exact real_add (real_add (real_mul (real_comp hc _) (of_each fun i => real_dz m c h _ _)) (real_mul (real_comp hc _) (of_each fun i => real_dz m c h _ _)))
    (real_mul (real_comp hc _) (real_dp m c h))

theorem real_dn (h : RealArgs m c) : Real' (Dn m c) := by
  obtain ⟨_, _, _, hw, _⟩ := id h
  unfold Dn
  exact real_sum _ fun i => real_mul (real_comp (real_dup m c h) _) (real_comp hw _)

/-- The gradient at the up-projection: three padded sums read from their third row on. -/
theorem ref_dup (h : RealArgs m c) (r : Fin 16384) (j : Fin 5632) : val_main_v120 (F := Ideal) (aH m c) (aX m c) (aG m c) (aW m c) (aC m c) (aB m c) (aD m c) (ix2 r j) = Dup m c (ix2 r j) := by
  have e0 : ∀ r : Fin 16384, val_main_v112 (F := Ideal) (aH m c) (aX m c) (aG m c) (aW m c) (aC m c) (aB m c) (aD m c) (ix2 r j) = aC m c (ix2 0 j) * DP m c (ix2 r j) := fun r => by
    rw [← ref_dp m c h, mul_comm]
    generalize hv : val_main_v84 (F := Ideal) (aH m c) (aX m c) (aG m c) (aW m c) (aC m c) (aB m c) (aD m c) = v
    pointwise [val_main_v112, hv, val_main_v111, val_main_v23, val_main_v22, val_main_v21]
  have e1 : ∀ r : Fin 16384, val_main_v98 (F := Ideal) (aH m c) (aX m c) (aG m c) (aW m c) (aC m c) (aB m c) (aD m c) (ix2 r j) = aC m c (ix2 1 j) * DP m c (ix2 r j) := fun r => by
    rw [← ref_dp m c h, mul_comm]
    generalize hv : val_main_v84 (F := Ideal) (aH m c) (aX m c) (aG m c) (aW m c) (aC m c) (aB m c) (aD m c) = v
    pointwise [val_main_v98, hv, val_main_v97, val_main_v32, val_main_v31, val_main_v30]
  have e2 : ∀ r : Fin 16384, val_main_v89 (F := Ideal) (aH m c) (aX m c) (aG m c) (aW m c) (aC m c) (aB m c) (aD m c) (ix2 r j) = aC m c (ix2 2 j) * DP m c (ix2 r j) := fun r => by
    rw [← ref_dp m c h, mul_comm]
    generalize hv : val_main_v84 (F := Ideal) (aH m c) (aX m c) (aG m c) (aW m c) (aC m c) (aB m c) (aD m c) = v
    pointwise [val_main_v89, hv, val_main_v88, val_main_v39, val_main_v38, val_main_v37]
  have p0 : val_main_v117 (F := Ideal) (aH m c) (aX m c) (aG m c) (aW m c) (aC m c) (aB m c) (aD m c) (ix2 ⟨r.val + 2, by omega⟩ j) = aC m c (ix2 0 j) * DZ m c (r.val + 2) j := by
    unfold DZ
    by_cases hr : r.val + 2 < 16384
    · rw [dif_pos hr, ← e0]
      generalize hv : val_main_v112 (F := Ideal) (aH m c) (aX m c) (aG m c) (aW m c) (aC m c) (aB m c) (aD m c) = v
      pointwise [val_main_v117, hv, val_main_cst_28]
      rw [dif_pos (by omega)]
    · rw [dif_neg hr, mul_zero]
      generalize hv : val_main_v112 (F := Ideal) (aH m c) (aX m c) (aG m c) (aW m c) (aC m c) (aB m c) (aD m c) = v
      pointwise [val_main_v117, hv, val_main_cst_28]
      rw [dif_neg (by omega)]
  have p1 : val_main_v103 (F := Ideal) (aH m c) (aX m c) (aG m c) (aW m c) (aC m c) (aB m c) (aD m c) (ix2 ⟨r.val + 2, by omega⟩ j) = aC m c (ix2 1 j) * DZ m c (r.val + 1) j := by
    unfold DZ
    by_cases hr : r.val + 1 < 16384
    · rw [dif_pos hr, ← e1]
      generalize hv : val_main_v98 (F := Ideal) (aH m c) (aX m c) (aG m c) (aW m c) (aC m c) (aB m c) (aD m c) = v
      pointwise [val_main_v103, hv, val_main_cst_22]
      rw [dif_pos (by omega)]
      exact congrArg (fun k => v (ix2 k j)) (Fin.ext (by show r.val + 2 - 1 = r.val + 1; omega))
    · rw [dif_neg hr, mul_zero]
      generalize hv : val_main_v98 (F := Ideal) (aH m c) (aX m c) (aG m c) (aW m c) (aC m c) (aB m c) (aD m c) = v
      pointwise [val_main_v103, hv, val_main_cst_22]
      rw [dif_neg (by omega)]
  have p2 : val_main_v93 (F := Ideal) (aH m c) (aX m c) (aG m c) (aW m c) (aC m c) (aB m c) (aD m c) (ix2 ⟨r.val + 2, by omega⟩ j) = aC m c (ix2 2 j) * DP m c (ix2 r j) := by
    rw [← e2]
    generalize hv : val_main_v89 (F := Ideal) (aH m c) (aX m c) (aG m c) (aW m c) (aC m c) (aB m c) (aD m c) = v
    pointwise [val_main_v93, hv, val_main_cst_18]
    rw [dif_pos (by omega)]
    exact congrArg (fun k => v (ix2 k j)) (Fin.ext (by show r.val + 2 - 2 = r.val; omega))
  have hs : val_main_v120 (F := Ideal) (aH m c) (aX m c) (aG m c) (aW m c) (aC m c) (aB m c) (aD m c) (ix2 r j) = val_main_v118 (F := Ideal) (aH m c) (aX m c) (aG m c) (aW m c) (aC m c) (aB m c) (aD m c) (ix2 ⟨r.val + 2, by omega⟩ j) := by
    generalize hv : val_main_v118 (F := Ideal) (aH m c) (aX m c) (aG m c) (aW m c) (aC m c) (aB m c) (aD m c) = v
    pointwise [val_main_v120, hv]
    exact congrArg (fun k => v (ix2 k j)) (Fin.ext (Nat.add_comm _ _))
  rw [hs, val_main_v118_apply, val_main_v104_apply, p0, p1, p2]
  unfold Dup
  show aC m c (ix2 2 j) * DP m c (ix2 r j) + aC m c (ix2 1 j) * DZ m c (r.val + 1) j + aC m c (ix2 0 j) * DZ m c (r.val + 2) j
    = aC m c (ix2 0 j) * DZ m c (r.val + 2) j + aC m c (ix2 1 j) * DZ m c (r.val + 1) j + aC m c (ix2 2 j) * DP m c (ix2 r j)
  rw [add_comm (aC m c (ix2 2 j) * _), add_comm _ (aC m c (ix2 0 j) * _), add_assoc]

/-- A tap's sum over all rows, the up-projection `2 - k` rows earlier. -/
theorem ref_tap (h : RealArgs m c) (j : Fin 5632) (k : ℕ) (hk : k ≤ 2) (hb : ∀ r : Fin 16384, r.val + k < 16386) :
    ∑ r : Fin 16384, val_main_v18 (F := Ideal) (aX m c) (aG m c) (aW m c) (ix2 ⟨r.val + k, hb r⟩ j) * val_main_v84 (F := Ideal) (aH m c) (aX m c) (aG m c) (aW m c) (aC m c) (aB m c) (aD m c) (ix2 r j)
      = ∑ r : Fin 16384, DZ m c (r.val + (2 - k)) j * Up m c (ix2 r j) := by
  refine Eq.trans (Finset.sum_congr rfl fun r _ => congrArg₂ (· * ·) (Eq.trans (ref_pad m c _ j) ?_) (ref_dp m c h r j))
    ((sum_shift 16384 (2 - k) (by omega) (fun r => Up m c (ix2 r j)) (fun r => DP m c (ix2 r j))).trans ?_)
  · by_cases hr : r.val < 2 - k
    · rw [dif_pos hr, dif_pos (show r.val + k < 2 by omega)]
    · rw [dif_neg hr, dif_neg (show ¬ r.val + k < 2 by omega)]
      exact congrArg (fun r => Up m c (ix2 r j)) (Fin.ext (by show r.val + k - 2 = r.val - (2 - k); omega))
  · rfl

theorem ref_cw (h : RealArgs m c) (k : Fin 3) (j : Fin 5632) : val_main_v116 (F := Ideal) (aH m c) (aX m c) (aG m c) (aW m c) (aC m c) (aB m c) (aD m c) (ix2 k j) = Dcw m c (ix2 k j) := by
  have t0 : val_main_v114 (F := Ideal) (aH m c) (aX m c) (aG m c) (aW m c) (aC m c) (aB m c) (aD m c) (ix2 0 j) = Dcw m c (ix2 0 j) := by
    refine Eq.trans ?_ (ref_tap m c h j 0 (by decide) fun r => by omega)
    generalize hv : val_main_v84 (F := Ideal) (aH m c) (aX m c) (aG m c) (aW m c) (aC m c) (aB m c) (aD m c) = v
    generalize hu : val_main_v18 (F := Ideal) (aX m c) (aG m c) (aW m c) = u
    pointwise [val_main_v114, val_main_v113, val_main_v110, val_main_v109, val_main_v108, val_main_v20, val_main_cst_25, val_main_cst_26, hv, hu]
    simp only [Finset.univ_unique, Finset.sum_singleton, zero_add]
  have t1 : val_main_v100 (F := Ideal) (aH m c) (aX m c) (aG m c) (aW m c) (aC m c) (aB m c) (aD m c) (ix2 0 j) = Dcw m c (ix2 1 j) := by
    refine Eq.trans ?_ (ref_tap m c h j 1 (by decide) fun r => by omega)
    generalize hv : val_main_v84 (F := Ideal) (aH m c) (aX m c) (aG m c) (aW m c) (aC m c) (aB m c) (aD m c) = v
    generalize hu : val_main_v18 (F := Ideal) (aX m c) (aG m c) (aW m c) = u
    pointwise [val_main_v100, val_main_v99, val_main_v96, val_main_v95, val_main_v94, val_main_v29, val_main_cst_19, val_main_cst_20, hv, hu]
    simp only [Finset.univ_unique, Finset.sum_singleton, zero_add]
    exact Finset.sum_congr rfl fun r _ => congrArg (fun k => u (ix2 k j) * v (ix2 r j)) (Fin.ext (Nat.add_comm _ _))
  have t2 : val_main_v91 (F := Ideal) (aH m c) (aX m c) (aG m c) (aW m c) (aC m c) (aB m c) (aD m c) (ix2 0 j) = Dcw m c (ix2 2 j) := by
    refine Eq.trans ?_ (ref_tap m c h j 2 (by decide) fun r => by omega)
    generalize hv : val_main_v84 (F := Ideal) (aH m c) (aX m c) (aG m c) (aW m c) (aC m c) (aB m c) (aD m c) = v
    generalize hu : val_main_v18 (F := Ideal) (aX m c) (aG m c) (aW m c) = u
    pointwise [val_main_v91, val_main_v90, val_main_v87, val_main_v86, val_main_v85, val_main_v36, val_main_cst_15, val_main_cst_16, hv, hu]
    simp only [Finset.univ_unique, Finset.sum_singleton, zero_add]
    exact Finset.sum_congr rfl fun r _ => congrArg (fun k => u (ix2 k j) * v (ix2 r j)) (Fin.ext (Nat.add_comm _ _))
  generalize hv0 : val_main_v114 (F := Ideal) (aH m c) (aX m c) (aG m c) (aW m c) (aC m c) (aB m c) (aD m c) = v0 at t0
  generalize hv1 : val_main_v100 (F := Ideal) (aH m c) (aX m c) (aG m c) (aW m c) (aC m c) (aB m c) (aD m c) = v1 at t1
  generalize hv2 : val_main_v91 (F := Ideal) (aH m c) (aX m c) (aG m c) (aW m c) (aC m c) (aB m c) (aD m c) = v2 at t2
  fin_cases k
  · refine Eq.trans ?_ t0
    pointwise [val_main_v116, val_main_v115, val_main_v102, val_main_v101, val_main_v92, val_main_cst_17, val_main_cst_21, val_main_cst_27, hv0, hv1, hv2]
  · refine Eq.trans ?_ t1
    pointwise [val_main_v116, val_main_v115, val_main_v102, val_main_v101, val_main_v92, val_main_cst_17, val_main_cst_21, val_main_cst_27, hv0, hv1, hv2]
  · refine Eq.trans ?_ t2
    pointwise [val_main_v116, val_main_v115, val_main_v102, val_main_v101, val_main_v92, val_main_cst_17, val_main_cst_21, val_main_cst_27, hv0, hv1, hv2]

theorem ref_cb (h : RealArgs m c) (i : Fin 1) (j : Fin 5632) : val_main_v144 (F := Ideal) (aH m c) (aX m c) (aG m c) (aW m c) (aC m c) (aB m c) (aD m c) (ix2 i j) = Dcb m c (ix2 i j) := by
  refine Eq.trans ?_ (Finset.sum_congr rfl fun r _ => ref_dp m c h r j)
  generalize hv : val_main_v84 (F := Ideal) (aH m c) (aX m c) (aG m c) (aW m c) (aC m c) (aB m c) (aD m c) = v
  pointwise [val_main_v144, val_main_v107, val_main_v106, val_main_v105, val_main_cst_23, val_main_cst_24, hv]
  simp only [Finset.univ_unique, Finset.sum_singleton, zero_add]

theorem ref_dn (h : RealArgs m c) (r : Fin 16384) (k : Fin 1024) : val_main_v121 (F := Ideal) (aH m c) (aX m c) (aG m c) (aW m c) (aC m c) (aB m c) (aD m c) (ix2 r k) = Dn m c (ix2 r k) := by
  refine Eq.trans ?_ (Finset.sum_congr rfl fun j _ => congrArg (· * aW m c (ix2 k j)) (ref_dup m c h r j))
  generalize hv : val_main_v120 (F := Ideal) (aH m c) (aX m c) (aG m c) (aW m c) (aC m c) (aB m c) (aD m c) = v
  pointwise [val_main_v121, hv]

theorem ref_dg (h : RealArgs m c) (i : Fin 1) (k : Fin 1024) : val_main_v145 (F := Ideal) (aH m c) (aX m c) (aG m c) (aW m c) (aC m c) (aB m c) (aD m c) (ix2 i k) = Dg m c (ix2 i k) := by
  refine Eq.trans ?_ (Finset.sum_congr rfl fun r _ => congrArg (· * Row.hat (Row.row (aX m c) r) k) (ref_dn m c h r k))
  generalize hv : val_main_v121 (F := Ideal) (aH m c) (aX m c) (aG m c) (aW m c) (aC m c) (aB m c) (aD m c) = v
  pointwise [val_main_v145, val_main_v127, val_main_v124, val_main_v123, val_main_v122, val_main_v12, val_main_v11, ref_rr, val_main_cst_29, val_main_cst_30, hv]
  simp only [Finset.univ_unique, Finset.sum_singleton, zero_add]
  exact Finset.sum_congr rfl fun r _ => mul_comm _ _

theorem ref_dh (h : RealArgs m c) (r : Fin 16384) (k : Fin 1024) : val_main_v142 (F := Ideal) (aH m c) (aX m c) (aG m c) (aW m c) (aC m c) (aB m c) (aD m c) (ix2 r k) = Dh m c (ix2 r k) := by
  obtain ⟨_, hx, hg, _⟩ := id h
  have e : Row.row (val_main_v121 (F := Ideal) (aH m c) (aX m c) (aG m c) (aW m c) (aC m c) (aB m c) (aD m c)) r = Row.row (Dn m c) r := funext fun k => ref_dn m c h r k
  refine Eq.trans ?_ (congrArg (aH m c (ix2 r k) + ·) (backR_eq (Row.row (aX m c) r) (fun k => aG m c (ix1 k)) (Row.row (Dn m c) r)
    (real_comp hx _) (real_comp hg _) (real_comp (real_dn m c h) _) k))
  rw [← e]
  generalize hv : val_main_v121 (F := Ideal) (aH m c) (aX m c) (aG m c) (aW m c) (aC m c) (aB m c) (aD m c) = v
  pointwise [val_main_v142, val_main_v141, val_main_v140, val_main_v139, val_main_v138, val_main_v137, val_main_v136, val_main_v135, val_main_v134, val_main_v133, val_main_v132, val_main_v131, val_main_v130, val_main_v129, val_main_v128, val_main_v126, val_main_v125, val_main_v13, hv, ref_rr, val_main_v10, val_main_v9, val_main_v8, val_main_v7, val_main_v6, val_main_v5, val_main_v4, val_main_v3, val_main_v2, val_main_v1, val_main_v0, val_main_cst, val_main_cst_0, val_main_cst_1, val_main_cst_2, val_main_cst_31, val_main_cst_32, val_main_cst_33]
  simp only [Finset.univ_unique, Finset.sum_singleton, zero_add]
  unfold Reals.backR
  rfl

end

end Cert.FfnBwd

end

end
-- ==== Proof.FfnBwd.lean ====
/- The backward pass of the feed-forward layer: the kernel's results are the reference's. -/
module

public import proofs.«01_k».proof.Defs
public import proofs.«01_k».proof.Proof.Finite
public import proofs.«01_k».proof.Pre_finite3
public import proofs.«01_k».proof.Proof.Gen.Pre_finite3
public import proofs.«01_k».proof.Proof.FfnBwdPointA
public import proofs.«01_k».proof.Proof.FfnBwdPointB
public import proofs.«01_k».proof.Proof.FfnBwdPointC
public import proofs.«01_k».proof.Proof.FfnBwdPointD
public import proofs.«01_k».proof.Proof.FfnBwdRef
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.Row (row)

namespace Cert.Kernel9Ideal.Value
open Cert.Kernel9Ideal Cert.Kernel9Ideal.Gen Cert.Kernel9Ideal.Point Cert.Taps

variable (m : (ℓ : Loc nD τ sig) → Buf (Elt Ideal) ℓ)

theorem left_all (c : Dev nD) (t : Fin cfg0.N) : (outsAt0 m c t.val t.isLt).2.2.2.2.2 = Left m c t := by
  by_cases h0 : t.val % 64 = 0
  · exact leftA m c t h0
  · exact leftB m c t h0

/-- Every point but the first finds the first rows of the block behind its own. -/
theorem before_succ (c : Dev nD) (t : Fin cfg0.N) (h0 : ¬ t.val % 64 = 0) :
    Before m c t (outsAt0 m c (t.val - 1) (Nat.lt_of_le_of_lt (Nat.sub_le _ _) t.isLt)).2.2.2.2.2 := by
  intro s j
  have hN : cfg0.N = 64 := N_0
  have ht := t.isLt
  rw [left_all m c ⟨t.val - 1, Nat.lt_of_le_of_lt (Nat.sub_le _ _) t.isLt⟩]
  unfold Left
  refine congrArg (fun n => DZ m c n j) ?_
  show 256 * (63 - (t.val - 1)) + s.val = 256 * (64 - t.val) + s.val
  omega

theorem out_all (c : Dev nD) (t : Fin cfg0.N) : (outsAt0 m c t.val t.isLt).1 = fun y => Dh m c (ix2 (at' t (y 0)) (y 1)) := by
  by_cases h0 : t.val % 64 = 0
  · exact outA m c t h0
  · exact outB m c t h0 (before_succ m c t h0)

theorem dup_all (c : Dev nD) (t : Fin cfg0.N) : (outsAt0 m c t.val t.isLt).2.1 = DupB m c t := by
  by_cases h0 : t.val % 64 = 0
  · exact dupA m c t h0
  · exact dupB m c t h0 (before_succ m c t h0)

theorem whole8 (c : Dev nD) : (dats m 0 c).arrAt 8 (cfgs 0).N = Dh m c := by
  refine (dats m 0 c).arrAt_eq_of_covers 8 _ (by decide +kernel) fun t _ y => ?_
  blk_simp
  rw [after0_8, out_all]
  refine congrArg (Dh m c) ?_
  unfold at'
  blk_ext [idx t]

theorem whole9 (c : Dev nD) : (dats m 0 c).arrAt 9 (cfgs 0).N = Dup m c := by
  refine (dats m 0 c).arrAt_eq_of_covers 9 _ (by decide +kernel) fun t _ y => ?_
  blk_simp
  rw [after0_9, dup_all]
  unfold DupB
  refine congrArg (Dup m c) ?_
  unfold at'
  blk_ext [idx t]

/-- The points' blocks, last rows first, are all the rows. -/
theorem sum_rows (f : Fin 16384 → EReal) (t : Fin cfg0.N) (h : ∀ s : Fin 64, 64 * (t.val / 64) + s.val < cfg0.N) :
    ∑ s : Fin 64, ∑ r : Fin 256, f (at' ⟨64 * (t.val / 64) + s.val, h s⟩ r) = ∑ i : Fin 16384, f i := by
  rw [← Equiv.sum_comp Fin.revPerm]
  refine Fin.sum_mul_add_congr fun s k hl => congrArg f (Fin.ext ?_)
  have := t.isLt
  have hN : cfg0.N = 64 := N_0
  show (63 - (64 * (t.val / 64) + (Fin.rev s).val)) * 256 + k.val = s.val * 256 + k.val
  rw [Fin.val_rev]
  omega

theorem zero10 (i : Fin 3) (j : Fin 5632) : k0_pay3 (F := Ideal) (ix2 i j) = 0 := by pointwise [k0_pay3]
theorem zero11 (i : Fin 1) (j : Fin 5632) : k0_pay4 (F := Ideal) (ix2 i j) = 0 := by pointwise [k0_pay4]
theorem zero12 (i : Fin 1) (k : Fin 1024) : k0_pay5 (F := Ideal) (ix2 i k) = 0 := by pointwise [k0_pay5]

theorem whole10 (c : Dev nD) : (dats m 0 c).arrAt 10 (cfgs 0).N = Dcw m c := by
  refine (dats m 0 c).arrAt_eq_of_covers 10 _ (by decide +kernel) fun t hf y => ?_
  blk_simp
  rw [after0_10, Pipeline.eq_sum_fin_of_reset_step_apply_of_flush (fun n h => (outsAt0 m c n h).2.2.1) 64 (fun _ => 0) (cwPart m c)
    (fun t h j => (congrFun (cwA m c t h) j).trans (congrArg (· + _) (by rw [eq_ix2 j]; exact zero10 _ _)))
    (fun t h j => congrFun (cwB m c t h (before_succ m c t h)) j)
    t ((flush0_10 t).mp hf) _, zero_add]
  have hp : (win0_10.blk t).view.emb y = (show S3x5632.Idx from y) := by blk_ext [idx t]
  rw [hp]
  exact sum_rows (fun i => DZ m c (i.val + (2 - (y 0).val)) (y 1) * Up m c (ix2 i (y 1))) t _

theorem whole11 (c : Dev nD) : (dats m 0 c).arrAt 11 (cfgs 0).N = Dcb m c := by
  refine (dats m 0 c).arrAt_eq_of_covers 11 _ (by decide +kernel) fun t hf y => ?_
  blk_simp
  rw [after0_11, Pipeline.eq_sum_fin_of_reset_step_apply_of_flush (fun n h => (outsAt0 m c n h).2.2.2.1) 64 (fun _ => 0) (cbPart m c)
    (fun t h j => (congrFun (cbA m c t h) j).trans (congrArg (· + _) (by rw [eq_ix2 j]; exact zero11 _ _)))
    (fun t h j => congrFun (cbB m c t h) j)
    t ((flush0_11 t).mp hf) _, zero_add]
  have hp : (win0_11.blk t).view.emb y = (show S1x5632.Idx from y) := by blk_ext [idx t]
  rw [hp]
  exact sum_rows (fun i => DP m c (ix2 i (y 1))) t _

theorem whole12 (c : Dev nD) : (dats m 0 c).arrAt 12 (cfgs 0).N = Dg m c := by
  refine (dats m 0 c).arrAt_eq_of_covers 12 _ (by decide +kernel) fun t hf y => ?_
  blk_simp
  rw [after0_12, Pipeline.eq_sum_fin_of_reset_step_apply_of_flush (fun n h => (outsAt0 m c n h).2.2.2.2.1) 64 (fun _ => 0) (gPart m c)
    (fun t h j => (congrFun (gainA m c t h) j).trans (congrArg (· + _) (by rw [eq_ix2 j]; exact zero12 _ _)))
    (fun t h j => congrFun (gainB m c t h (before_succ m c t h)) j)
    t ((flush0_12 t).mp hf) _, zero_add]
  have hp : (win0_12.blk t).view.emb y = (show S1x1024.Idx from y) := by blk_ext [idx t]
  rw [hp]
  exact sum_rows (fun i => row (Dn m c) i (y 1) * Row.hat (row (aX m c) i) (y 1)) t _

end Cert.Kernel9Ideal.Value

namespace Cert.FfnBwd

theorem refFrame : Cert.quiescent_Reference9Ideal := fun m ρ _ =>
  (θ_run Cert.Reference9Ideal.defs _ _).mono (fun r h => ⟨fun c => (h c).2.2.2.2.2,
    sem_eq_zero_of_no_sems (by decide) r.2⟩) (Cert.Reference9Ideal.Value.run (F := Ideal) m ρ)

theorem refFrame' : Cert.quiescent_Reference9Ideal_pre_finite3 := fun m ρ _ => refFrame m ρ trivial

/-- The kernel's two named literals stand for their real numbers. -/
theorem preserves : Cert.preserves_Kernel9_Kernel9Ideal :=
  ⟨IdealRules.named_const.statement Cert.Kernel9Ideal.κ "gelu_a" .f32 0x3D372713#32 ((8943 / 200000 : ℝ) : EReal) rfl,
   IdealRules.named_const.statement Cert.Kernel9Ideal.κ "gelu_3a" .f32 0x3E095D4F#32 ((26829 / 200000 : ℝ) : EReal) rfl⟩

/-- The precondition's seven conjuncts. -/
theorem finite_args (h x g w cw cb d) (hf : Cert.Pre_finite3.fn (F := Ideal) h x g w cw cb d = fun _ => 1#1) :
    Reals.Real' h ∧ Reals.Real' x ∧ Reals.Real' g ∧ Reals.Real' w ∧ Reals.Real' cw ∧ Reals.Real' cb ∧ Reals.Real' d := by
  have h0 := congrFun hf (fun a => a.elim0)
  unfold Cert.Pre_finite3.fn Cert.Pre_finite3.fn_part1 at h0
  dsimp only at h0
  simp only [andi, IntOp.andi_eq_one] at h0
  obtain ⟨⟨⟨⟨⟨⟨h1, h2⟩, h3⟩, h4⟩, h5⟩, h6⟩, h7⟩ := h0
  exact ⟨Finite.real_of_all _ _ _ _ _ _ _ h1, Finite.real_of_all _ _ _ _ _ _ _ h2, Finite.real_of_all _ _ _ _ _ _ _ h3,
    Finite.real_of_all _ _ _ _ _ _ _ h4, Finite.real_of_all _ _ _ _ _ _ _ h5, Finite.real_of_all _ _ _ _ _ _ _ h6,
    Finite.real_of_all _ _ _ _ _ _ _ h7⟩

section
open Cert.Reference9Ideal Cert.Reference9Ideal.Read

variable (m : (ℓ : Loc Kernel9Ideal.nD Kernel9Ideal.τ Kernel9Ideal.sig) → Buf (Elt Ideal) ℓ) (c : Dev Kernel9Ideal.nD)

open Cert.Kernel9Ideal.Value (aH aX aG aW aC aB aD Dup Dcw Dcb Dh Dg)

theorem real_args (h : Cert.Pre_finite3.fn (F := Ideal) (aH m c) (aX m c) (aG m c) (aW m c) (aC m c) (aB m c) (aD m c) = fun _ => 1#1) :
    RealArgs m c := finite_args _ _ _ _ _ _ _ h

theorem ref0 (h : RealArgs m c) : val_main_v142 (F := Ideal) (aH m c) (aX m c) (aG m c) (aW m c) (aC m c) (aB m c) (aD m c) = Dh m c :=
  funext fun i => by rw [eq_ix2 i]; exact ref_dh m c h (i 0) (i 1)

theorem ref1 (h : RealArgs m c) : val_main_v143 (F := Ideal) (aH m c) (aX m c) (aG m c) (aW m c) (aC m c) (aB m c) (aD m c) = Dup m c :=
  funext fun i => by rw [eq_ix2 i]; exact ref_dup m c h (i 0) (i 1)

theorem ref2 (h : RealArgs m c) : val_main_v116 (F := Ideal) (aH m c) (aX m c) (aG m c) (aW m c) (aC m c) (aB m c) (aD m c) = Dcw m c :=
  funext fun i => by rw [eq_ix2 i]; exact ref_cw m c h (i 0) (i 1)

theorem ref3 (h : RealArgs m c) : val_main_v144 (F := Ideal) (aH m c) (aX m c) (aG m c) (aW m c) (aC m c) (aB m c) (aD m c) = Dcb m c :=
  funext fun i => by rw [eq_ix2 i]; exact ref_cb m c h (i 0) (i 1)

theorem ref4 (h : RealArgs m c) : val_main_v145 (F := Ideal) (aH m c) (aX m c) (aG m c) (aW m c) (aC m c) (aB m c) (aD m c) = Dg m c :=
  funext fun i => by rw [eq_ix2 i]; exact ref_dg m c h (i 0) (i 1)

end

open Cert.Kernel9Ideal.Value in
/-- The kernel's five results are the reference's, over the extended reals. -/
theorem values : Cert.algebraic_Kernel9Ideal_Reference9Ideal_pre_finite3 := by
  intro m g m' g' hpre hag
  refine ⟨fun c => Dh m c, fun c => Dup m c, fun c => Dcw m c, fun c => Dcb m c, fun c => Dg m c, ?_, ?_⟩
  · refine (θ_run Kernel9Ideal.defs _ _).mono (fun r h c => ?_) (run_blocks m g)
    obtain ⟨h0, h1, h2, h3, h4, hr⟩ := h c
    exact ⟨h0.trans (whole8 m c), h1.trans (whole9 m c), h2.trans (whole10 m c), h3.trans (whole11 m c), h4.trans (whole12 m c), hr⟩
  · refine (θ_run Reference9Ideal.defs _ _).mono (fun r h c => ?_) (Reference9Ideal.Value.run m' g')
    obtain ⟨h0, h1, h2, h3, h4, hr⟩ := h c
    obtain ⟨e0, e1, e2, e3, e4, e5, e6⟩ := hag c
    have hf := real_args m c (hpre c)
    refine ⟨h0.trans ?_, h1.trans ?_, h2.trans ?_, h3.trans ?_, h4.trans ?_, hr⟩
    · refine Eq.trans ?_ (ref0 m c hf)
      unfold aH aX aG aW aC aB aD
      rw [← e0, ← e1, ← e2, ← e3, ← e4, ← e5, ← e6]
      rfl
    · refine Eq.trans ?_ (ref1 m c hf)
      unfold aH aX aG aW aC aB aD
      rw [← e0, ← e1, ← e2, ← e3, ← e4, ← e5, ← e6]
      rfl
    · refine Eq.trans ?_ (ref2 m c hf)
      unfold aH aX aG aW aC aB aD
      rw [← e0, ← e1, ← e2, ← e3, ← e4, ← e5, ← e6]
      rfl
    · refine Eq.trans ?_ (ref3 m c hf)
      unfold aH aX aG aW aC aB aD
      rw [← e0, ← e1, ← e2, ← e3, ← e4, ← e5, ← e6]
      rfl
    · refine Eq.trans ?_ (ref4 m c hf)
      unfold aH aX aG aW aC aB aD
      rw [← e0, ← e1, ← e2, ← e3, ← e4, ← e5, ← e6]
      rfl

end Cert.FfnBwd

end

end
-- ==== Proof.PoolSum.lean ====
/- Running sums along the rows, and the difference of two of them: the sum of the last `w` rows. -/
module

public import proofs.«01_k».proof.Proof.Reals
public import Idealize.ShloMosaic.Lib.Pipeline.ValueKit
public import Idealize.ShloMosaic.Lib.Pipeline.ReadBack
public import Idealize.ShloMosaic.Lib.KernelVsHost
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.Pool

/-- The row `d` rows before row `t`: zero before the first row. -/
def past (U : ℕ → EReal) (t d : ℕ) : EReal := if d ≤ t then U (t - d) else 0

/-- The sum of the `w` rows that end at row `t`. -/
def win (U : ℕ → EReal) (w t : ℕ) : EReal := ∑ d ∈ Finset.range w, past U t d

theorem past_real {U : ℕ → EReal} (hU : ∀ n, ∃ r : ℝ, U n = (r : EReal)) (t d : ℕ) : ∃ r : ℝ, past U t d = (r : EReal) := by
  unfold past
  by_cases h : d ≤ t
  · rw [if_pos h]; exact hU _
  · rw [if_neg h]; exact ⟨0, rfl⟩

theorem sum_real {f : ℕ → EReal} (hf : ∀ n, ∃ r : ℝ, f n = (r : EReal)) (s : Finset ℕ) : ∃ r : ℝ, ∑ d ∈ s, f d = (r : EReal) := by
  choose g hg using hf
  exact ⟨∑ d ∈ s, g d, by rw [Reals.coe_sum]; exact Finset.sum_congr rfl fun d _ => hg d⟩

/-- The running sum up to row `t`, less the running sum up to row `t - w`, is the sum of the last `w` rows. -/
theorem diff_eq {U : ℕ → EReal} (hU : ∀ n, ∃ r : ℝ, U n = (r : EReal)) {N w t : ℕ} (hw : w ≤ N) (ht : t < N) :
    win U N t - (if w ≤ t then win U N (t - w) else 0) = win U w t := by
  obtain ⟨n, rfl⟩ := Nat.exists_eq_add_of_le hw
  have hB : (if w ≤ t then win U (w + n) (t - w) else 0) = ∑ k ∈ Finset.range n, past U t (w + k) := by
    by_cases h : w ≤ t
    · rw [if_pos h]
      unfold win
      rw [Nat.add_comm w n, Finset.sum_range_add]
      have hz : ∑ x ∈ Finset.range w, past U (t - w) (n + x) = 0 :=
        Finset.sum_eq_zero fun x _ => by unfold past; rw [if_neg (by omega)]
      rw [hz, add_zero]
      refine Finset.sum_congr rfl fun k _ => ?_
      unfold past
      by_cases hk : k ≤ t - w
      · rw [if_pos hk, if_pos (by omega)]
        exact congrArg U (by omega)
      · rw [if_neg hk, if_neg (by omega)]
    · rw [if_neg h]
      exact (Finset.sum_eq_zero fun k _ => by unfold past; rw [if_neg (by omega)]).symm
  rw [hB]
  obtain ⟨b, hb⟩ := sum_real (fun k => past_real hU t (w + k)) (Finset.range n)
  unfold win
  rw [Finset.sum_range_add, hb]
  exact EReal.add_sub_cancel_right

theorem foldl_add {ι : Type} (l : List ι) (g : ι → EReal) (a : EReal) : l.foldl (fun r n => r + g n) a = a + (l.map g).sum := by
  induction l generalizing a with
  | nil => simp
  | cons x l ih => rw [List.foldl_cons, ih, List.map_cons, List.sum_cons, add_assoc]

/-- The shape of the windows of a running sum, and its positions counted backwards. -/
abbrev Wd (N : ℕ) : Shape := ⟨4, ![1, N, 1, 1]⟩

def backwards (N : ℕ) : (Wd N).Idx ≃ Fin N where
  toFun i := Fin.rev (show Fin N from i 1)
  invFun d := ix4 0 (Fin.rev d) 0 0
  left_inv i := by
    funext a
    apply Fin.ext
    fin_cases a
    · have h : (i 0).val < 1 := (i 0).isLt
      exact (show 0 = (i 0).val by omega)
    · exact congrArg Fin.val (Fin.rev_rev (show Fin N from i 1))
    · have h : (i 2).val < 1 := (i 2).isLt
      exact (show 0 = (i 2).val by omega)
    · have h : (i 3).val < 1 := (i 3).isLt
      exact (show 0 = (i 3).val by omega)
  right_inv d := Fin.rev_rev d

/-- A running sum along the rows, row by row. -/
theorem running {N M A B : ℕ} (hM : M + 1 = N) (x : FVec Ideal ⟨4, ![1, N, A, B]⟩ .f32) {u : Shape} (z : FVec Ideal u .f32) (h) (hu)
    (hz : z (Shape.Idx.first hu) = 0) (t : Fin N) (g : Fin A) (l : Fin B) :
    Host.reduceWindowAdd (s := ⟨4, ![1, N, A, B]⟩) (t := ⟨4, ![1, N, A, B]⟩) ![1, N, 1, 1] ![1, 1, 1, 1] ![0, M, 0, 0] ![0, 0, 0, 0] x z h hu
        (ix4 0 t g l)
      = win (fun n => if hn : n < N then x (ix4 0 ⟨n, hn⟩ g l) else 0) N t.val := by
  unfold win
  rw [Finset.sum_range]
  set G : (Wd N).Idx → EReal := fun i => past (fun n => if hn : n < N then x (ix4 0 ⟨n, hn⟩ g l) else 0) t.val (backwards N i).val with hG
  have e : Host.reduceWindowAdd (s := ⟨4, ![1, N, A, B]⟩) (t := ⟨4, ![1, N, A, B]⟩) ![1, N, 1, 1] ![1, 1, 1, 1] ![0, M, 0, 0] ![0, 0, 0, 0] x z h hu
        (ix4 0 t g l)
      = (List.finRange (Wd N).numel).foldl (fun r n => r + G ((Wd N).rowMajor.symm n)) (z (Shape.Idx.first hu)) := by
    show (List.finRange (Wd N).numel).foldl _ (z (Shape.Idx.first hu)) = _
    refine congrArg (fun f => (List.finRange (Wd N).numel).foldl f (z (Shape.Idx.first hu))) ?_
    funext r n
    refine congrArg (fun y => r + y) ?_
    have i0 : ((Wd N).rowMajor.symm n 0).val < 1 := ((Wd N).rowMajor.symm n 0).isLt
    have i1 : ((Wd N).rowMajor.symm n 1).val < N := ((Wd N).rowMajor.symm n 1).isLt
    have i2 : ((Wd N).rowMajor.symm n 2).val < 1 := ((Wd N).rowMajor.symm n 2).isLt
    have i3 : ((Wd N).rowMajor.symm n 3).val < 1 := ((Wd N).rowMajor.symm n 3).isLt
    have hb : (backwards N ((Wd N).rowMajor.symm n)).val = N - (((Wd N).rowMajor.symm n 1).val + 1) := rfl
    have ht := t.isLt
    rw [hG]
    simp only [past, hb]
    by_cases hd : N - (((Wd N).rowMajor.symm n 1).val + 1) ≤ t.val
    · rw [if_pos hd, dif_pos (show t.val - (N - (((Wd N).rowMajor.symm n 1).val + 1)) < N by omega)]
      have hin : ∀ a : Fin 4, (![0, M, 0, 0] : Fin 4 → ℕ) a ≤ ((ix4 (0 : Fin 1) t g l : (⟨4, ![1, N, A, B]⟩ : Shape).Idx) a).val * (![1, 1, 1, 1] : Fin 4 → ℕ) a + ((Wd N).rowMajor.symm n a).val
          ∧ ((ix4 (0 : Fin 1) t g l : (⟨4, ![1, N, A, B]⟩ : Shape).Idx) a).val * (![1, 1, 1, 1] : Fin 4 → ℕ) a + ((Wd N).rowMajor.symm n a).val - (![0, M, 0, 0] : Fin 4 → ℕ) a < (![1, N, A, B] : Fin 4 → ℕ) a := by
        intro a
        fin_cases a
        · exact (show 0 ≤ 0 * 1 + ((Wd N).rowMajor.symm n 0).val ∧ 0 * 1 + ((Wd N).rowMajor.symm n 0).val - 0 < 1 by omega)
        · exact (show M ≤ t.val * 1 + ((Wd N).rowMajor.symm n 1).val ∧ t.val * 1 + ((Wd N).rowMajor.symm n 1).val - M < N by omega)
        · have := g.isLt
          exact (show 0 ≤ g.val * 1 + ((Wd N).rowMajor.symm n 2).val ∧ g.val * 1 + ((Wd N).rowMajor.symm n 2).val - 0 < A by omega)
        · have := l.isLt
          exact (show 0 ≤ l.val * 1 + ((Wd N).rowMajor.symm n 3).val ∧ l.val * 1 + ((Wd N).rowMajor.symm n 3).val - 0 < B by omega)
      refine (dif_pos hin).trans (congrArg x ?_)
      funext a
      apply Fin.ext
      fin_cases a
      · exact (show 0 * 1 + ((Wd N).rowMajor.symm n 0).val - 0 = 0 by omega)
      · exact (show t.val * 1 + ((Wd N).rowMajor.symm n 1).val - M = t.val - (N - (((Wd N).rowMajor.symm n 1).val + 1)) by omega)
      · exact (show g.val * 1 + ((Wd N).rowMajor.symm n 2).val - 0 = g.val by omega)
      · exact (show l.val * 1 + ((Wd N).rowMajor.symm n 3).val - 0 = l.val by omega)
    · rw [if_neg hd]
      refine (dif_neg fun hin => ?_).trans hz
      have h1 : M ≤ t.val * 1 + ((Wd N).rowMajor.symm n 1).val := (hin 1).1
      omega
  rw [e, foldl_add, hz, zero_add, ← Fin.sum_univ_def, Equiv.sum_comp (Wd N).rowMajor.symm G]
  exact Fintype.sum_equiv (backwards N) _ _ fun i => rfl

/-- Row `r` of the tile read `o` rows earlier, from column `q` on: before its start, the rows of the `16` that precede it. -/
def back (o q : ℕ) (ho : o ≤ 16) (hq : q + 128 ≤ 512) (w : FVec Ideal ⟨2, ![512, 512]⟩ .f32) (c : FVec Ideal ⟨2, ![16, 512]⟩ .f32) :
    FVec Ideal ⟨2, ![512, 128]⟩ .f32 := fun y =>
  have h1 : (y 1).val < 128 := (y 1).isLt
  if h : o ≤ (y 0).val then w (ix2 ⟨(y 0).val - o, by have : (y 0).val < 512 := (y 0).isLt; omega⟩ ⟨q + (y 1).val, by omega⟩)
  else c (ix2 ⟨(y 0).val + 16 - o, by omega⟩ ⟨q + (y 1).val, by omega⟩)

theorem hit {n a : ℕ} {ia} (w : (Rect.unit (s := ⟨2, ![528, 512]⟩) ![a, 0] ![n, 512] ia).shape.Idx → Elt Ideal .f32)
    (L : List (View.Piece (Elt Ideal) ⟨2, ![528, 512]⟩ .f32)) (y : (⟨2, ![528, 512]⟩ : Shape).Idx) (r : Fin n) (h : (y 0).val = a + r.val) :
    View.canon ((⟨Rect.unit (s := ⟨2, ![528, 512]⟩) ![a, 0] ![n, 512] ia, w⟩ : View.Piece (Elt Ideal) ⟨2, ![528, 512]⟩ .f32) :: L) y
      = w (show (⟨2, ![n, 512]⟩ : Shape).Idx from ix2 r (y 1)) := by
  have hy : y = (Rect.unit (s := ⟨2, ![528, 512]⟩) ![a, 0] ![n, 512] ia).emb (show (⟨2, ![n, 512]⟩ : Shape).Idx from ix2 r (y 1)) := by
    funext i
    apply Fin.ext
    fin_cases i
    · show (y 0).val = a + 1 * r.val
      omega
    · show (y 1).val = 0 + 1 * (y 1).val
      omega
  refine (congrArg (View.canon _) hy).trans ?_
  exact View.canon_cons_emb _ _ _ _

theorem miss {n a : ℕ} {ia} (w : (Rect.unit (s := ⟨2, ![528, 512]⟩) ![a, 0] ![n, 512] ia).shape.Idx → Elt Ideal .f32)
    (L : List (View.Piece (Elt Ideal) ⟨2, ![528, 512]⟩ .f32)) (y : (⟨2, ![528, 512]⟩ : Shape).Idx) (h : (y 0).val < a ∨ a + n ≤ (y 0).val) :
    View.canon ((⟨Rect.unit (s := ⟨2, ![528, 512]⟩) ![a, 0] ![n, 512] ia, w⟩ : View.Piece (Elt Ideal) ⟨2, ![528, 512]⟩ .f32) :: L) y
      = View.canon L y := by
  refine View.canon_cons_of_not_mem _ L fun hm => ?_
  obtain ⟨x, hx⟩ := LoadRect.exists_idx_of_mem (Rect.toLoadRect _) hm
  have e : (y 0).val = a + 1 * (x 0).val := by rw [← hx]; rfl
  have l : (x 0).val < n := (x 0).isLt
  omega

variable {sig : RefSig} {κ : Kind} {sp : Space}

/-- Sixteen rows stored at the start and a tile after them, read from row `16 - o` and column `q` on. -/
theorem read_back {o p q : ℕ} (ho : o ≤ 16) (hp : p + o = 16) (hq : q + 128 ≤ 512) (v : View sig κ sp ⟨2, ![528, 512]⟩ .f32) {ia ib io}
    (w : (Rect.unit (s := ⟨2, ![528, 512]⟩) ![16, 0] ![512, 512] ia).shape.Idx → Elt Ideal .f32)
    (c : (Rect.unit (s := ⟨2, ![528, 512]⟩) ![0, 0] ![16, 512] ib).shape.Idx → Elt Ideal .f32)
    (L : List (View.Piece (Elt Ideal) ⟨2, ![528, 512]⟩ .f32)) :
    v.readCov ((⟨Rect.unit (s := ⟨2, ![528, 512]⟩) ![16, 0] ![512, 512] ia, w⟩ : View.Piece (Elt Ideal) ⟨2, ![528, 512]⟩ .f32)
        :: (⟨Rect.unit (s := ⟨2, ![528, 512]⟩) ![0, 0] ![16, 512] ib, c⟩ : View.Piece (Elt Ideal) ⟨2, ![528, 512]⟩ .f32) :: L)
      (Rect.unit (s := ⟨2, ![528, 512]⟩) ![p, q] ![512, 128] io).toLoadRect = back o q ho hq w c := by
  rw [View.readCov_eq_canon']
  funext x
  show View.canon _ ((Rect.unit (s := ⟨2, ![528, 512]⟩) ![p, q] ![512, 128] io).toLoadRect.idx x) = _
  generalize hz : (Rect.unit (s := ⟨2, ![528, 512]⟩) ![p, q] ![512, 128] io).toLoadRect.idx x = z
  have z0 : (z 0).val = p + (x 0).val := by
    rw [← hz]
    show p + 1 * (x 0).val = _
    omega
  have x1 : (x 1).val < 128 := (x 1).isLt
  have z1 : z 1 = (⟨q + (x 1).val, by omega⟩ : Fin 512) := by
    apply Fin.ext
    rw [← hz]
    exact (show q + 1 * (x 1).val = q + (x 1).val by omega)
  have hx : (x 0).val < 512 := (x 0).isLt
  unfold back
  by_cases h : o ≤ (x 0).val
  · refine Eq.trans ?_ (dif_pos h).symm
    rw [hit _ _ _ ⟨(x 0).val - o, by omega⟩ (by rw [z0]; show p + (x 0).val = 16 + ((x 0).val - o); omega)]
    exact congrArg (fun k => w (ix2 ⟨(x 0).val - o, by omega⟩ k)) z1
  · refine Eq.trans ?_ (dif_neg h).symm
    rw [miss _ _ _ (Or.inl (by rw [z0]; omega))]
    rw [hit _ _ _ ⟨(x 0).val + 16 - o, by omega⟩ (by rw [z0]; show p + (x 0).val = 0 + ((x 0).val + 16 - o); omega)]
    exact congrArg (fun k => c (ix2 ⟨(x 0).val + 16 - o, by omega⟩ k)) z1

end Cert.Pool

end

end
-- ==== Proof.MixPoint.lean ====
/- The forward pass of the pooled mixer: one tile's pooled rows, its mixed rows and its results, index by index. -/
module

public import proofs.«01_k».proof.Defs
public import proofs.«01_k».proof.Proof.RowNorm
public import proofs.«01_k».proof.Proof.PoolSum
public import proofs.«01_k».proof.Proof.Gen.Kernel10Ideal.Frame
public import proofs.«01_k».proof.Proof.Gen.Kernel10Ideal.Value
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.Row (row)

namespace Cert.Kernel10Ideal.Point
open Cert.Kernel10Ideal Cert.Kernel10Ideal.Gen

/-- How many rows end at row `t`. -/
def pos (t : ℕ) : EReal := ((t + 1 : ℝ) : EReal)

/-- The widths of the four windows. -/
def wd2 : EReal := Ideal.ofBits .f32 0x40000000#32
def wd4 : EReal := Ideal.ofBits .f32 0x40800000#32
def wd8 : EReal := Ideal.ofBits .f32 0x41000000#32
def wd16 : EReal := Ideal.ofBits .f32 0x41800000#32

theorem pos_at (i : grid0.Coords) (r : Fin 512) : k0_pay4 (F := Ideal) i (ix2 r 0) = pos ((i 0).val * 512 + r.val) := by
  have hi : (i 0).val < 32 := (i 0).isLt
  have hr := r.isLt
  pointwise [k0_pay4]
  show (((BitVec.ofNat 32 (i 0).val * 512#32 + 1#32 + BitVec.ofNat 32 r.val).toInt : ℝ) : EReal) = _
  have e : (BitVec.ofNat 32 (i 0).val * 512#32 + 1#32 + BitVec.ofNat 32 r.val).toInt = (((i 0).val * 512 + r.val + 1 : ℕ) : ℤ) := by
    have hn : (BitVec.ofNat 32 (i 0).val * 512#32 + 1#32 + BitVec.ofNat 32 r.val).toNat = (i 0).val * 512 + r.val + 1 := by
      simp only [BitVec.toNat_add, BitVec.toNat_mul, BitVec.toNat_ofNat]
      omega
    rw [BitVec.toInt_eq_toNat_of_lt (by omega), hn]
  rw [e]
  unfold pos
  push_cast
  rfl

/-- The row's number as a host's iota counts it, from one. -/
theorem pos_host (t : ℕ) (ht : t < 16384) :
    FloatOps.ofBits (F := Ideal) .f32 0x3F800000#32 + FloatOps.sitofp (F := Ideal) .f32 (BitVec.ofNat 32 t) = pos t := by
  have h1 : FloatOps.ofBits (F := Ideal) .f32 0x3F800000#32 = ((1 : ℝ) : EReal) := by
    show Ideal.ofBits .f32 0x3F800000#32 = _
    simp [Ideal.ofBits, Ideal.ieee]
    rw [← EReal.coe_mul]
    norm_num
  have h2 : FloatOps.sitofp (F := Ideal) .f32 (BitVec.ofNat 32 t) = ((t : ℝ) : EReal) := by
    show (((BitVec.ofNat 32 t).toInt : ℝ) : EReal) = _
    have hn : (BitVec.ofNat 32 t).toNat = t := by
      simp only [BitVec.toNat_ofNat]
      omega
    rw [BitVec.toInt_eq_toNat_of_lt (by omega), hn]
    rfl
  rw [h1, h2]
  unfold pos
  exact (EReal.coe_add _ _).symm.trans (congrArg _ (add_comm _ _))

theorem pool2_at (i : grid0.Coords) (u : FVec Ideal S512x512 .f32) (b1 : FVec Ideal S512x128 .f32) (r : Fin 512) (k : Fin 128) :
    k0_pay6 (F := Ideal) i u b1 (ix2 r k)
      = Ideal.div (u (ix2 r ⟨0 + k.val, by omega⟩) + b1 (ix2 r k)) (min (k0_pay4 (F := Ideal) i (ix2 r 0)) wd2)
          - u (ix2 r ⟨0 + k.val, by omega⟩) := by
  unfold wd2 k0_pay6
  generalize k0_pay4 (F := Ideal) i = p
  pointwise

theorem pool4_at (i : grid0.Coords) (u : FVec Ideal S512x512 .f32) (b1 b2 b3 : FVec Ideal S512x128 .f32) (r : Fin 512) (k : Fin 128) :
    k0_pay8 (F := Ideal) u (k0_pay4 (F := Ideal) i) (k0_pay7 (F := Ideal) u b1 b2) b3 (ix2 r k)
      = Ideal.div (u (ix2 r ⟨128 + k.val, by omega⟩) + b1 (ix2 r k) + b2 (ix2 r k) + b3 (ix2 r k))
          (min (k0_pay4 (F := Ideal) i (ix2 r 0)) wd4) - u (ix2 r ⟨128 + k.val, by omega⟩) := by
  generalize k0_pay4 (F := Ideal) i = p
  unfold wd4
  pointwise [k0_pay8, k0_pay7]
  try rfl

theorem pool8_at (i : grid0.Coords) (u : FVec Ideal S512x512 .f32) (b1 b2 b3 b4 b5 b6 b7 : FVec Ideal S512x128 .f32) (r : Fin 512) (k : Fin 128) :
    k0_pay9 (F := Ideal) u (k0_pay4 (F := Ideal) i) b1 b2 b3 b4 b5 b6 b7 (ix2 r k)
      = Ideal.div (u (ix2 r ⟨256 + k.val, by omega⟩) + b1 (ix2 r k) + b2 (ix2 r k) + b3 (ix2 r k) + b4 (ix2 r k) + b5 (ix2 r k) + b6 (ix2 r k) + b7 (ix2 r k))
          (min (k0_pay4 (F := Ideal) i (ix2 r 0)) wd8) - u (ix2 r ⟨256 + k.val, by omega⟩) := by
  generalize k0_pay4 (F := Ideal) i = p
  unfold wd8
  pointwise [k0_pay9]
  try rfl

theorem pool16_at (i : grid0.Coords) (u : FVec Ideal S512x512 .f32) (b1 b2 b3 b4 b5 b6 b7 b8 b9 b10 b11 b12 b13 b14 b15 : FVec Ideal S512x128 .f32) (r : Fin 512) (k : Fin 128) :
    k0_pay11 (F := Ideal) u (k0_pay4 (F := Ideal) i) (k0_pay10 (F := Ideal) u b1 b2 b3) b4 b5 b6 b7 b8 b9 b10 b11 b12 b13 b14 b15 (ix2 r k)
      = Ideal.div (u (ix2 r ⟨384 + k.val, by omega⟩) + b1 (ix2 r k) + b2 (ix2 r k) + b3 (ix2 r k) + b4 (ix2 r k) + b5 (ix2 r k) + b6 (ix2 r k) + b7 (ix2 r k) + b8 (ix2 r k) + b9 (ix2 r k) + b10 (ix2 r k) + b11 (ix2 r k) + b12 (ix2 r k) + b13 (ix2 r k) + b14 (ix2 r k) + b15 (ix2 r k))
          (min (k0_pay4 (F := Ideal) i (ix2 r 0)) wd16) - u (ix2 r ⟨384 + k.val, by omega⟩) := by
  generalize k0_pay4 (F := Ideal) i = p
  unfold wd16
  pointwise [k0_pay11, k0_pay10]
  try rfl

theorem halo_at (i : grid0.Coords) (h : FVec Ideal S16x512 .f32) (r : Fin 16) (j : Fin 512) :
    k0_pay2 (F := Ideal) i h (ix2 r j) = if (i 0).val = 0 then 0 else h (ix2 r j) := by
  have hi : (i 0).val < 32 := (i 0).isLt
  pointwise [k0_pay2]
  by_cases h0 : (i 0).val = 0
  · rw [if_pos h0, h0]
    rfl
  · rw [if_neg h0]
    have hc : Scalar.cmpi .eq (BitVec.ofNat 32 (i 0).val) 0#32 = 0#1 := by
      have hne : BitVec.ofNat 32 (i 0).val ≠ 0#32 := fun e => h0 (by
        have := congrArg BitVec.toNat e
        simp only [BitVec.toNat_ofNat] at this
        omega)
      show BitVec.ofBool (decide (BitVec.ofNat 32 (i 0).val = 0#32)) = 0#1
      rw [decide_eq_false hne]
      rfl
    rw [hc]
    rfl

theorem tile_at (u : FVec Ideal S512x512 .f32) (r : Fin 512) (j : Fin 512) : k0_pay3 (F := Ideal) u (ix2 r j) = u (ix2 r j) := by
  pointwise [k0_pay3]

theorem scale_at (s : FVec Ideal S1x512 .f32) (r : Fin 1) (j : Fin 512) : k0_pay5 (F := Ideal) s (ix2 r j) = s (ix2 r j) := by
  pointwise [k0_pay5]

/-- One group's mixed rows: the pooled rows through the group's matrix, scaled column by column. -/
def part (p : FVec Ideal S512x128 .f32) (w : FVec Ideal S1x128x128 .bf16) (s : FVec Ideal S1x512 .f32) (q : ℕ) (hq : q + 128 ≤ 512)
    (r : Fin 512) (l : Fin 128) : EReal :=
  (∑ k : Fin 128, p (ix2 r k) * w (ix3 0 k l)) * s (ix2 0 ⟨q + l.val, by omega⟩)

theorem mix_at (s : FVec Ideal S1x512 .f32) (y : FVec Ideal S512x512 .f32) (p0 p1 p2 p3 : FVec Ideal S512x128 .f32)
    (w0 w1 w2 w3 : FVec Ideal S1x128x128 .bf16) (r : Fin 512) (j : Fin 1024) :
    k0_pay13 (F := Ideal) s y p1 p2 p3 (k0_pay12 (F := Ideal) p0) w0 w1 w2 w3 (ix2 r j)
      = if h : j.val < 512 then y (ix2 r ⟨j.val, h⟩)
        else if h : j.val - 512 < 128 then part p0 w0 s 0 (by decide) r ⟨j.val - 512, h⟩
        else if h : j.val - 512 - 128 < 128 then part p1 w1 s 128 (by decide) r ⟨j.val - 512 - 128, h⟩
        else if h : j.val - 512 - 128 - 128 < 128 then part p2 w2 s 256 (by decide) r ⟨j.val - 512 - 128 - 128, h⟩
        else part p3 w3 s 384 (by decide) r ⟨j.val - 512 - 128 - 128 - 128, by omega⟩ := by
  unfold part
  pointwise [k0_pay13, k0_pay12]

theorem out_at (s : FVec Ideal S1x512 .f32) (y : FVec Ideal S512x512 .f32) (p1 p2 p3 : FVec Ideal S512x128 .f32)
    (p0 : FVec Ideal S512x128 .bf16) (w0 w1 w2 w3 : FVec Ideal S1x128x128 .bf16) (h : FVec Ideal S512x1024 .f32)
    (w : FVec Ideal S1024x1024 .bf16) (r : Fin 512) (j : Fin 1024) :
    k0_pay14 (F := Ideal) s y p1 p2 p3 p0 w0 w1 w2 w3 h w (ix2 r j)
      = h (ix2 r j) + ∑ k : Fin 1024, k0_pay13 (F := Ideal) s y p1 p2 p3 p0 w0 w1 w2 w3 (ix2 r k) * w (ix2 k j) := by
  unfold k0_pay14
  generalize k0_pay13 (F := Ideal) s y p1 p2 p3 p0 w0 w1 w2 w3 = q
  pointwise

theorem norm_at (h : FVec Ideal S512x1024 .f32) (g : FVec Ideal S1x1024 .f32) (r : Fin 512) (j : Fin 1024) :
    k0_pay1 (F := Ideal) h (mulf h h) g (ix2 r j) = Row.nrm (row h r) (row g 0) j := by
  pointwise [k0_pay1]
  rfl

end Cert.Kernel10Ideal.Point

end

end
-- ==== Proof.MixBlock.lean ====
/- The forward pass of the pooled mixer: what each tile reads, and its rows among all rows. -/
module

public import proofs.«01_k».proof.Defs
public import proofs.«01_k».proof.Proof.MixPoint
public import proofs.«01_k».proof.Proof.Gen.Kernel10Ideal.Frame
public import proofs.«01_k».proof.Proof.Gen.Kernel10Ideal.Value
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.Row (row)

namespace Cert.Kernel10Ideal.Value
open Cert.Kernel10Ideal Cert.Kernel10Ideal.Gen Cert.Kernel10Ideal.Point Cert.Pool

variable (m : (ℓ : Loc nD τ sig) → Buf (Elt Ideal) ℓ)

theorem idx : ∀ t : Fin cfg0.N, win0_0.index t = ![t.val, 0] ∧ win0_1.index t = ![t.val, 0] ∧ win0_2.index t = ![t.val, 3]
    ∧ win0_3.index t = ![t.val * 32 - 1, 3] ∧ win0_4.index t = ![0, 0, 0] ∧ win0_5.index t = ![0, 0] ∧ win0_6.index t = ![0, 0]
    ∧ win0_7.index t = ![0, 0] ∧ win0_8.index t = ![t.val, 0] ∧ win0_9.index t = ![t.val, 0] ∧ win0_10.index t = ![t.val, 0] :=
  (by decide +kernel : ∀ t : Fin grid0.N, _)

theorem coord : ∀ t : Fin cfg0.N, ((cfg0.grid.coords t) 0).val = t.val :=
  (by decide +kernel : ∀ t : Fin grid0.N, _)

/-- The arguments of the call at a device. -/
def aH (c : Dev nD) : FVec Ideal S16384x1024 .f32 := m ((c : Thread nD τ).loc main_arg0)
def aY (c : Dev nD) : FVec Ideal S16384x512 .f32 := m ((c : Thread nD τ).loc main_arg1)
def aP (c : Dev nD) : FVec Ideal S16384x2176 .f32 := m ((c : Thread nD τ).loc main_arg2)
def aQ (c : Dev nD) : FVec Ideal S4x128x128 .f32 := m ((c : Thread nD τ).loc main_arg3)
def aS (c : Dev nD) : FVec Ideal S512 .f32 := m ((c : Thread nD τ).loc main_arg4)
def aW (c : Dev nD) : FVec Ideal S1024x1024 .f32 := m ((c : Thread nD τ).loc main_arg5)
def aG (c : Dev nD) : FVec Ideal S1024 .f32 := m ((c : Thread nD τ).loc main_arg6)

/-- Row `r` of block `t`, among all rows. -/
def at' (t : Fin cfg0.N) (r : Fin 512) : Fin 16384 := ⟨t.val * 512 + r.val, by have := t.isLt; have : cfg0.N = 32 := N_0; omega⟩

theorem row_h (c : Dev nD) (t : Fin cfg0.N) (r : Fin 512) (j : Fin 1024) :
    (show FVec Ideal S512x1024 .f32 from iblk m c 0 t) (ix2 r j) = aH m c (ix2 (at' t r) j) := by
  unfold aH at'
  blk_ext [iblk, V, idx t]

theorem row_y (c : Dev nD) (t : Fin cfg0.N) (r : Fin 512) (j : Fin 512) :
    (show FVec Ideal S512x512 .f32 from iblk m c 1 t) (ix2 r j) = aY m c (ix2 (at' t r) j) := by
  unfold aY at'
  blk_ext [iblk, V, idx t]

theorem row_u (c : Dev nD) (t : Fin cfg0.N) (r : Fin 512) (j : Fin 512) :
    (show FVec Ideal S512x512 .f32 from X0_2 m c t) (ix2 r j) = aP m c (ix2 (at' t r) ⟨1536 + j.val, by omega⟩) := by
  unfold aP at'
  show X0_2 m c t (ix2 r j) = _
  unfold X0_2 Pipeline.Window.fill
  rw [dif_pos (moved0_2 t _)]
  blk_ext [iblk, V, idx t]

theorem row_halo (c : Dev nD) (t : Fin cfg0.N) (r : Fin 16) (j : Fin 512) (n : Fin 16384) (h : n.val + 16 = t.val * 512 + r.val) :
    (show FVec Ideal S16x512 .f32 from X0_3 m c t) (ix2 r j) = aP m c (ix2 n ⟨1536 + j.val, by omega⟩) := by
  unfold aP
  show X0_3 m c t (ix2 r j) = _
  unfold X0_3 Pipeline.Window.fill
  rw [dif_pos (moved0_3 t _)]
  blk_ext [iblk, V, idx t]

theorem row_q (c : Dev nD) (t : Fin cfg0.N) (g : Fin 4) (k l : Fin 128) :
    (show FVec Ideal S4x128x128 .bf16 from iblk m c 4 t) (ix3 g k l) = aQ m c (ix3 g k l) := by
  unfold aQ
  blk_point [iblk, V, idx t]

theorem row_s (c : Dev nD) (t : Fin cfg0.N) (j : Fin 512) :
    (show FVec Ideal S1x512 .f32 from iblk m c 5 t) (ix2 0 j) = aS m c (ix1 j) := by
  unfold aS
  blk_point [iblk, V, idx t]

theorem row_w (c : Dev nD) (t : Fin cfg0.N) (k j : Fin 1024) :
    (show FVec Ideal S1024x1024 .bf16 from iblk m c 6 t) (ix2 k j) = aW m c (ix2 k j) := by
  unfold aW
  blk_point [iblk, V, idx t]

theorem row_g (c : Dev nD) (t : Fin cfg0.N) (j : Fin 1024) :
    (show FVec Ideal S1x1024 .f32 from iblk m c 7 t) (ix2 0 j) = aG m c (ix1 j) := by
  unfold aG
  blk_point [iblk, V, idx t]

/-- A pooled column's rows: zero past the last row. -/
def U (c : Dev nD) (j : Fin 512) (n : ℕ) : EReal := if h : n < 16384 then aP m c (ix2 ⟨n, h⟩ ⟨1536 + j.val, by omega⟩) else 0

/-- Row `t` of a pooled column: the mean of the last `w` rows, less the row. -/
def Pooled (c : Dev nD) (w : ℕ) (wd : EReal) (t : ℕ) (j : Fin 512) : EReal :=
  Ideal.div (win (U m c j) w t) (min (pos t) wd) - U m c j t

/-- The four groups of columns, each with its own window. -/
def Group (c : Dev nD) (t : ℕ) (g : Fin 4) (k : Fin 128) : EReal :=
  match g with
  | 0 => Pooled m c 2 wd2 t ⟨0 + k.val, by omega⟩
  | 1 => Pooled m c 4 wd4 t ⟨128 + k.val, by omega⟩
  | 2 => Pooled m c 8 wd8 t ⟨256 + k.val, by omega⟩
  | 3 => Pooled m c 16 wd16 t ⟨384 + k.val, by omega⟩

/-- The pooled branch: each group through its matrix, each column scaled. -/
def Branch (c : Dev nD) (t : ℕ) (j : Fin 512) : EReal :=
  (∑ k : Fin 128, Group m c t ⟨j.val / 128, by omega⟩ k * aQ m c (ix3 ⟨j.val / 128, by omega⟩ k ⟨j.val % 128, by omega⟩)) * aS m c (ix1 j)

/-- The three results: the mixed rows, the rows after the out-projection, and those normalised. -/
def Mix (c : Dev nD) : FVec Ideal S16384x1024 .bf16 := fun i =>
  if h : (i 1).val < 512 then aY m c (ix2 (i 0) ⟨(i 1).val, h⟩)
  else Branch m c (i 0).val ⟨(i 1).val - 512, by have : (i 1).val < 1024 := (i 1).isLt; omega⟩
def Out (c : Dev nD) : FVec Ideal S16384x1024 .f32 := fun i =>
  aH m c i + ∑ k : Fin 1024, Mix m c (ix2 (i 0) k) * aW m c (ix2 k (i 1))
def Nrm (c : Dev nD) : FVec Ideal S16384x1024 .bf16 := fun i =>
  Row.nrm (row (Out m c) (i 0)) (fun k => aG m c (ix1 k)) (i 1)

/-- A tile, and the rows before it as the point keeps them. -/
abbrev uT (c : Dev nD) (t : Fin cfg0.N) : FVec Ideal S512x512 .f32 := X0_2 m c t
abbrev hT (c : Dev nD) (t : Fin cfg0.N) : FVec Ideal S16x512 .f32 := k0_pay2 (F := Ideal) (grid0.coords t) (X0_3 m c t)

theorem tile_past (c : Dev nD) (t : Fin cfg0.N) (q : ℕ) (hq : q + 128 ≤ 512) (r : Fin 512) (k : Fin 128) :
    uT m c t (ix2 r ⟨q + k.val, by omega⟩) = past (U m c ⟨q + k.val, by omega⟩) (t.val * 512 + r.val) 0 := by
  refine (row_u m c t r _).trans ?_
  have := (at' t r).isLt
  unfold past U
  rw [if_pos (Nat.zero_le _), dif_pos (show t.val * 512 + r.val - 0 < 16384 from this)]
  rfl

theorem back_past (c : Dev nD) (t : Fin cfg0.N) (o q : ℕ) (ho : o ≤ 16) (hq : q + 128 ≤ 512) (r : Fin 512) (k : Fin 128) :
    back o q ho hq (k0_pay3 (F := Ideal) (uT m c t)) (hT m c t) (ix2 r k)
      = past (U m c ⟨q + k.val, by omega⟩) (t.val * 512 + r.val) o := by
  have hT' := (at' t r).isLt
  have hT'' : t.val * 512 + r.val < 16384 := hT'
  unfold back past
  by_cases h : o ≤ r.val
  · refine (dif_pos h).trans ?_
    rw [if_pos (by omega), tile_at]
    refine (row_u m c t _ _).trans ?_
    unfold U
    rw [dif_pos (by omega)]
    refine congrArg (fun n => aP m c (ix2 n _)) (Fin.ext ?_)
    show t.val * 512 + (r.val - o) = t.val * 512 + r.val - o
    omega
  · refine (dif_neg h).trans ?_
    refine (halo_at _ _ _ _).trans ?_
    have hc : ((grid0.coords t) 0).val = t.val := coord t
    rw [hc]
    by_cases h0 : t.val = 0
    · rw [if_pos h0, if_neg (by omega)]
    · rw [if_neg h0, if_pos (by omega)]
      unfold U
      rw [dif_pos (by omega)]
      refine row_halo m c t _ _ _ ?_
      show t.val * 512 + r.val - o + 16 = t.val * 512 + (r.val + 16 - o)
      omega

/-- A tile's pooled rows of group 0, as its point builds them. -/
def pT0 (c : Dev nD) (t : Fin cfg0.N) : FVec Ideal S512x128 .f32 :=
    k0_pay6 (F := Ideal) (grid0.coords t) (uT m c t)
      (back 1 0 (by decide) (by decide) (k0_pay3 (F := Ideal) (uT m c t)) (hT m c t))

theorem pT0_at (c : Dev nD) (t : Fin cfg0.N) (r : Fin 512) (k : Fin 128) :
    pT0 m c t (ix2 r k) = Group m c (t.val * 512 + r.val) 0 k := by
  unfold pT0
  refine (pool2_at _ _ _ r k).trans ?_
  rw [pos_at, coord t]
  simp only [back_past m c t _ _ _ _ r k]
  rw [tile_past m c t 0 (by decide) r k]
  show _ = Pooled m c 2 wd2 _ _
  unfold Pooled win
  simp only [Finset.sum_range_succ, Finset.sum_range_zero, zero_add]
  rfl

/-- A tile's pooled rows of group 1, as its point builds them. -/
def pT1 (c : Dev nD) (t : Fin cfg0.N) : FVec Ideal S512x128 .f32 :=
    k0_pay8 (F := Ideal) (uT m c t) (k0_pay4 (F := Ideal) (grid0.coords t)) (k0_pay7 (F := Ideal) (uT m c t)
      (back 1 128 (by decide) (by decide) (k0_pay3 (F := Ideal) (uT m c t)) (hT m c t))
      (back 2 128 (by decide) (by decide) (k0_pay3 (F := Ideal) (uT m c t)) (hT m c t)))
      (back 3 128 (by decide) (by decide) (k0_pay3 (F := Ideal) (uT m c t)) (hT m c t))

theorem pT1_at (c : Dev nD) (t : Fin cfg0.N) (r : Fin 512) (k : Fin 128) :
    pT1 m c t (ix2 r k) = Group m c (t.val * 512 + r.val) 1 k := by
  unfold pT1
  refine (pool4_at _ _ _ _ _ r k).trans ?_
  rw [pos_at, coord t]
  simp only [back_past m c t _ _ _ _ r k]
  rw [tile_past m c t 128 (by decide) r k]
  show _ = Pooled m c 4 wd4 _ _
  unfold Pooled win
  simp only [Finset.sum_range_succ, Finset.sum_range_zero, zero_add]
  rfl

/-- A tile's pooled rows of group 2, as its point builds them. -/
def pT2 (c : Dev nD) (t : Fin cfg0.N) : FVec Ideal S512x128 .f32 :=
    k0_pay9 (F := Ideal) (uT m c t) (k0_pay4 (F := Ideal) (grid0.coords t))
      (back 1 256 (by decide) (by decide) (k0_pay3 (F := Ideal) (uT m c t)) (hT m c t))
      (back 2 256 (by decide) (by decide) (k0_pay3 (F := Ideal) (uT m c t)) (hT m c t))
      (back 3 256 (by decide) (by decide) (k0_pay3 (F := Ideal) (uT m c t)) (hT m c t))
      (back 4 256 (by decide) (by decide) (k0_pay3 (F := Ideal) (uT m c t)) (hT m c t))
      (back 5 256 (by decide) (by decide) (k0_pay3 (F := Ideal) (uT m c t)) (hT m c t))
      (back 6 256 (by decide) (by decide) (k0_pay3 (F := Ideal) (uT m c t)) (hT m c t))
      (back 7 256 (by decide) (by decide) (k0_pay3 (F := Ideal) (uT m c t)) (hT m c t))

theorem pT2_at (c : Dev nD) (t : Fin cfg0.N) (r : Fin 512) (k : Fin 128) :
    pT2 m c t (ix2 r k) = Group m c (t.val * 512 + r.val) 2 k := by
  unfold pT2
  refine (pool8_at _ _ _ _ _ _ _ _ _ r k).trans ?_
  rw [pos_at, coord t]
  simp only [back_past m c t _ _ _ _ r k]
  rw [tile_past m c t 256 (by decide) r k]
  show _ = Pooled m c 8 wd8 _ _
  unfold Pooled win
  simp only [Finset.sum_range_succ, Finset.sum_range_zero, zero_add]
  rfl

/-- A tile's pooled rows of group 3, as its point builds them. -/
def pT3 (c : Dev nD) (t : Fin cfg0.N) : FVec Ideal S512x128 .f32 :=
    k0_pay11 (F := Ideal) (uT m c t) (k0_pay4 (F := Ideal) (grid0.coords t)) (k0_pay10 (F := Ideal) (uT m c t)
      (back 1 384 (by decide) (by decide) (k0_pay3 (F := Ideal) (uT m c t)) (hT m c t))
      (back 2 384 (by decide) (by decide) (k0_pay3 (F := Ideal) (uT m c t)) (hT m c t))
      (back 3 384 (by decide) (by decide) (k0_pay3 (F := Ideal) (uT m c t)) (hT m c t)))
      (back 4 384 (by decide) (by decide) (k0_pay3 (F := Ideal) (uT m c t)) (hT m c t))
      (back 5 384 (by decide) (by decide) (k0_pay3 (F := Ideal) (uT m c t)) (hT m c t))
      (back 6 384 (by decide) (by decide) (k0_pay3 (F := Ideal) (uT m c t)) (hT m c t))
      (back 7 384 (by decide) (by decide) (k0_pay3 (F := Ideal) (uT m c t)) (hT m c t))
      (back 8 384 (by decide) (by decide) (k0_pay3 (F := Ideal) (uT m c t)) (hT m c t))
      (back 9 384 (by decide) (by decide) (k0_pay3 (F := Ideal) (uT m c t)) (hT m c t))
      (back 10 384 (by decide) (by decide) (k0_pay3 (F := Ideal) (uT m c t)) (hT m c t))
      (back 11 384 (by decide) (by decide) (k0_pay3 (F := Ideal) (uT m c t)) (hT m c t))
      (back 12 384 (by decide) (by decide) (k0_pay3 (F := Ideal) (uT m c t)) (hT m c t))
      (back 13 384 (by decide) (by decide) (k0_pay3 (F := Ideal) (uT m c t)) (hT m c t))
      (back 14 384 (by decide) (by decide) (k0_pay3 (F := Ideal) (uT m c t)) (hT m c t))
      (back 15 384 (by decide) (by decide) (k0_pay3 (F := Ideal) (uT m c t)) (hT m c t))

theorem pT3_at (c : Dev nD) (t : Fin cfg0.N) (r : Fin 512) (k : Fin 128) :
    pT3 m c t (ix2 r k) = Group m c (t.val * 512 + r.val) 3 k := by
  unfold pT3
  refine (pool16_at _ _ _ _ _ _ _ _ _ _ _ _ _ _ _ _ _ r k).trans ?_
  rw [pos_at, coord t]
  simp only [back_past m c t _ _ _ _ r k]
  rw [tile_past m c t 384 (by decide) r k]
  show _ = Pooled m c 16 wd16 _ _
  unfold Pooled win
  simp only [Finset.sum_range_succ, Finset.sum_range_zero, zero_add]
  rfl

end Cert.Kernel10Ideal.Value

end

end
-- ==== Proof.MixStore.lean ====
/- The forward pass of the pooled mixer: the kernel's three results, index by index. -/
module

public import proofs.«01_k».proof.Defs
public import proofs.«01_k».proof.Proof.MixBlock
public import proofs.«01_k».proof.Proof.Gen.Kernel10Ideal.Frame
public import proofs.«01_k».proof.Proof.Gen.Kernel10Ideal.Value
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.Row (row)

namespace Cert.Kernel10Ideal.Value
open Cert.Kernel10Ideal Cert.Kernel10Ideal.Gen Cert.Kernel10Ideal.Point Cert.Pool

variable (m : (ℓ : Loc nD τ sig) → Buf (Elt Ideal) ℓ)

theorem inb4 (g : Fin 4) : ∀ k, (![g.val, 0, 0] : Fin 3 → ℕ) k + (![1, 128, 128] : Fin 3 → ℕ) k ≤ S4x128x128.size k := by
  have := g.isLt
  intro k
  fin_cases k
  · exact (show g.val + 1 ≤ 4 by omega)
  · exact (show 0 + 128 ≤ 128 by omega)
  · exact (show 0 + 128 ≤ 128 by omega)

/-- One group's matrix, as a point loads it. -/
def qT (c : Dev nD) (t : Fin cfg0.N) (g : Fin 4) : FVec Ideal S1x128x128 .bf16 := fun x =>
  (show FVec Ideal S4x128x128 .bf16 from iblk m c 4 t) ((Rect.unit (s := S4x128x128) ![g.val, 0, 0] ![1, 128, 128] (inb4 g)).idx x)

theorem qT_at (c : Dev nD) (t : Fin cfg0.N) (g : Fin 4) (k l : Fin 128) : qT m c t g (ix3 0 k l) = aQ m c (ix3 g k l) := by
  refine Eq.trans ?_ (row_q m c t g k l)
  unfold qT
  refine congrArg (show FVec Ideal S4x128x128 .bf16 from iblk m c 4 t) (funext fun a => Fin.ext ?_)
  fin_cases a
  · exact (show g.val + 1 * 0 = g.val by omega)
  · exact (show 0 + 1 * k.val = k.val by omega)
  · exact (show 0 + 1 * l.val = l.val by omega)

/-- What a point stores. -/
def mixT (c : Dev nD) (t : Fin cfg0.N) : FVec Ideal S512x1024 .bf16 :=
  k0_pay13 (F := Ideal) (k0_pay5 (F := Ideal) (iblk m c 5 t)) (iblk m c 1 t) (pT1 m c t) (pT2 m c t) (pT3 m c t)
    (k0_pay12 (F := Ideal) (pT0 m c t)) (qT m c t 0) (qT m c t 1) (qT m c t 2) (qT m c t 3)

def outT (c : Dev nD) (t : Fin cfg0.N) : FVec Ideal S512x1024 .f32 :=
  k0_pay14 (F := Ideal) (k0_pay5 (F := Ideal) (iblk m c 5 t)) (iblk m c 1 t) (pT1 m c t) (pT2 m c t) (pT3 m c t)
    (k0_pay12 (F := Ideal) (pT0 m c t)) (qT m c t 0) (qT m c t 1) (qT m c t 2) (qT m c t 3) (iblk m c 0 t) (iblk m c 6 t)

def nrmT (c : Dev nD) (t : Fin cfg0.N) : FVec Ideal S512x1024 .bf16 :=
  k0_pay1 (F := Ideal) (outT m c t) (mulf (outT m c t) (outT m c t)) (iblk m c 7 t)

theorem part_at (c : Dev nD) (t : Fin cfg0.N) (p : FVec Ideal S512x128 .f32) (g : Fin 4) (q : ℕ) (hq : q + 128 ≤ 512) (hg : q = 128 * g.val)
    (r : Fin 512) (l : Fin 128) (j : Fin 512) (hj : j.val = q + l.val)
    (hp : ∀ k, p (ix2 r k) = Group m c (t.val * 512 + r.val) g k) :
    part p (qT m c t g) (k0_pay5 (F := Ideal) (iblk m c 5 t)) q hq r l = Branch m c (t.val * 512 + r.val) j := by
  have e1 : (⟨j.val / 128, by omega⟩ : Fin 4) = g := Fin.ext (by show j.val / 128 = g.val; omega)
  have e2 : (⟨j.val % 128, by omega⟩ : Fin 128) = l := Fin.ext (by show j.val % 128 = l.val; omega)
  have e3 : (⟨q + l.val, by omega⟩ : Fin 512) = j := Fin.ext hj.symm
  unfold part Branch
  rw [e1, e2, e3, scale_at]
  refine congrArg₂ (· * ·) (Finset.sum_congr rfl fun k _ => ?_) (row_s m c t j)
  rw [hp, qT_at]

theorem mixT_at (c : Dev nD) (t : Fin cfg0.N) (r : Fin 512) (j : Fin 1024) : mixT m c t (ix2 r j) = Mix m c (ix2 (at' t r) j) := by
  refine (mix_at _ _ _ _ _ _ _ _ _ _ r j).trans ?_
  show _ = if h : j.val < 512 then aY m c (ix2 (at' t r) ⟨j.val, h⟩) else Branch m c (t.val * 512 + r.val) ⟨j.val - 512, by omega⟩
  by_cases h1 : j.val < 512
  · rw [dif_pos h1, dif_pos h1]
    exact row_y m c t r _
  rw [dif_neg h1, dif_neg h1]
  by_cases h2 : j.val - 512 < 128
  · rw [dif_pos h2]
    exact part_at m c t _ 0 _ _ rfl r _ _ (show j.val - 512 = 0 + (j.val - 512) by omega) (pT0_at m c t r)
  rw [dif_neg h2]
  by_cases h3 : j.val - 512 - 128 < 128
  · rw [dif_pos h3]
    exact part_at m c t _ 1 _ _ rfl r _ _ (show j.val - 512 = 128 + (j.val - 512 - 128) by omega) (pT1_at m c t r)
  rw [dif_neg h3]
  by_cases h4 : j.val - 512 - 128 - 128 < 128
  · rw [dif_pos h4]
    exact part_at m c t _ 2 _ _ rfl r _ _ (show j.val - 512 = 256 + (j.val - 512 - 128 - 128) by omega) (pT2_at m c t r)
  rw [dif_neg h4]
  exact part_at m c t _ 3 _ _ rfl r _ _ (show j.val - 512 = 384 + (j.val - 512 - 128 - 128 - 128) by omega) (pT3_at m c t r)

theorem outT_at (c : Dev nD) (t : Fin cfg0.N) (r : Fin 512) (j : Fin 1024) : outT m c t (ix2 r j) = Out m c (ix2 (at' t r) j) := by
  refine (out_at _ _ _ _ _ _ _ _ _ _ _ _ r j).trans ?_
  unfold Out
  exact congrArg₂ (· + ·) (row_h m c t r j) (Finset.sum_congr rfl fun k _ => congrArg₂ (· * ·) (mixT_at m c t r k) (row_w m c t k j))

theorem nrmT_at (c : Dev nD) (t : Fin cfg0.N) (r : Fin 512) (j : Fin 1024) : nrmT m c t (ix2 r j) = Nrm m c (ix2 (at' t r) j) := by
  refine (norm_at _ _ r j).trans ?_
  unfold Nrm
  have e1 : row (outT m c t) r = row (Out m c) (at' t r) := funext fun k => outT_at m c t r k
  have e2 : row (show FVec Ideal S1x1024 .f32 from iblk m c 7 t) 0 = fun k => aG m c (ix1 k) := funext fun k => row_g m c t k
  exact congrArg₂ (fun x g => Row.nrm x g j) e1 e2

set_option maxHeartbeats 1000000 in
theorem outs_mix (c : Dev nD) (t : Fin cfg0.N) : (outsAt0 m c t).2.1 = mixT m c t := by
  unfold outsAt0
  frame_out
  simp only [
    Pool.read_back (o := 1) (p := 15) (q := 0) (by decide) (by decide) (by decide),
    Pool.read_back (o := 1) (p := 15) (q := 128) (by decide) (by decide) (by decide),
    Pool.read_back (o := 2) (p := 14) (q := 128) (by decide) (by decide) (by decide),
    Pool.read_back (o := 3) (p := 13) (q := 128) (by decide) (by decide) (by decide),
    Pool.read_back (o := 1) (p := 15) (q := 256) (by decide) (by decide) (by decide),
    Pool.read_back (o := 2) (p := 14) (q := 256) (by decide) (by decide) (by decide),
    Pool.read_back (o := 3) (p := 13) (q := 256) (by decide) (by decide) (by decide),
    Pool.read_back (o := 4) (p := 12) (q := 256) (by decide) (by decide) (by decide),
    Pool.read_back (o := 5) (p := 11) (q := 256) (by decide) (by decide) (by decide),
    Pool.read_back (o := 6) (p := 10) (q := 256) (by decide) (by decide) (by decide),
    Pool.read_back (o := 7) (p := 9) (q := 256) (by decide) (by decide) (by decide),
    Pool.read_back (o := 1) (p := 15) (q := 384) (by decide) (by decide) (by decide),
    Pool.read_back (o := 2) (p := 14) (q := 384) (by decide) (by decide) (by decide),
    Pool.read_back (o := 3) (p := 13) (q := 384) (by decide) (by decide) (by decide),
    Pool.read_back (o := 4) (p := 12) (q := 384) (by decide) (by decide) (by decide),
    Pool.read_back (o := 5) (p := 11) (q := 384) (by decide) (by decide) (by decide),
    Pool.read_back (o := 6) (p := 10) (q := 384) (by decide) (by decide) (by decide),
    Pool.read_back (o := 7) (p := 9) (q := 384) (by decide) (by decide) (by decide),
    Pool.read_back (o := 8) (p := 8) (q := 384) (by decide) (by decide) (by decide),
    Pool.read_back (o := 9) (p := 7) (q := 384) (by decide) (by decide) (by decide),
    Pool.read_back (o := 10) (p := 6) (q := 384) (by decide) (by decide) (by decide),
    Pool.read_back (o := 11) (p := 5) (q := 384) (by decide) (by decide) (by decide),
    Pool.read_back (o := 12) (p := 4) (q := 384) (by decide) (by decide) (by decide),
    Pool.read_back (o := 13) (p := 3) (q := 384) (by decide) (by decide) (by decide),
    Pool.read_back (o := 14) (p := 2) (q := 384) (by decide) (by decide) (by decide),
    Pool.read_back (o := 15) (p := 1) (q := 384) (by decide) (by decide) (by decide)]
  rfl

set_option maxHeartbeats 1000000 in
theorem outs_out (c : Dev nD) (t : Fin cfg0.N) : (outsAt0 m c t).1 = outT m c t := by
  unfold outsAt0
  frame_out
  simp only [
    Pool.read_back (o := 1) (p := 15) (q := 0) (by decide) (by decide) (by decide),
    Pool.read_back (o := 1) (p := 15) (q := 128) (by decide) (by decide) (by decide),
    Pool.read_back (o := 2) (p := 14) (q := 128) (by decide) (by decide) (by decide),
    Pool.read_back (o := 3) (p := 13) (q := 128) (by decide) (by decide) (by decide),
    Pool.read_back (o := 1) (p := 15) (q := 256) (by decide) (by decide) (by decide),
    Pool.read_back (o := 2) (p := 14) (q := 256) (by decide) (by decide) (by decide),
    Pool.read_back (o := 3) (p := 13) (q := 256) (by decide) (by decide) (by decide),
    Pool.read_back (o := 4) (p := 12) (q := 256) (by decide) (by decide) (by decide),
    Pool.read_back (o := 5) (p := 11) (q := 256) (by decide) (by decide) (by decide),
    Pool.read_back (o := 6) (p := 10) (q := 256) (by decide) (by decide) (by decide),
    Pool.read_back (o := 7) (p := 9) (q := 256) (by decide) (by decide) (by decide),
    Pool.read_back (o := 1) (p := 15) (q := 384) (by decide) (by decide) (by decide),
    Pool.read_back (o := 2) (p := 14) (q := 384) (by decide) (by decide) (by decide),
    Pool.read_back (o := 3) (p := 13) (q := 384) (by decide) (by decide) (by decide),
    Pool.read_back (o := 4) (p := 12) (q := 384) (by decide) (by decide) (by decide),
    Pool.read_back (o := 5) (p := 11) (q := 384) (by decide) (by decide) (by decide),
    Pool.read_back (o := 6) (p := 10) (q := 384) (by decide) (by decide) (by decide),
    Pool.read_back (o := 7) (p := 9) (q := 384) (by decide) (by decide) (by decide),
    Pool.read_back (o := 8) (p := 8) (q := 384) (by decide) (by decide) (by decide),
    Pool.read_back (o := 9) (p := 7) (q := 384) (by decide) (by decide) (by decide),
    Pool.read_back (o := 10) (p := 6) (q := 384) (by decide) (by decide) (by decide),
    Pool.read_back (o := 11) (p := 5) (q := 384) (by decide) (by decide) (by decide),
    Pool.read_back (o := 12) (p := 4) (q := 384) (by decide) (by decide) (by decide),
    Pool.read_back (o := 13) (p := 3) (q := 384) (by decide) (by decide) (by decide),
    Pool.read_back (o := 14) (p := 2) (q := 384) (by decide) (by decide) (by decide),
    Pool.read_back (o := 15) (p := 1) (q := 384) (by decide) (by decide) (by decide)]
  rfl

set_option maxHeartbeats 1000000 in
theorem outs_nrm (c : Dev nD) (t : Fin cfg0.N) : (outsAt0 m c t).2.2 = nrmT m c t := by
  unfold outsAt0
  frame_out
  simp only [
    Pool.read_back (o := 1) (p := 15) (q := 0) (by decide) (by decide) (by decide),
    Pool.read_back (o := 1) (p := 15) (q := 128) (by decide) (by decide) (by decide),
    Pool.read_back (o := 2) (p := 14) (q := 128) (by decide) (by decide) (by decide),
    Pool.read_back (o := 3) (p := 13) (q := 128) (by decide) (by decide) (by decide),
    Pool.read_back (o := 1) (p := 15) (q := 256) (by decide) (by decide) (by decide),
    Pool.read_back (o := 2) (p := 14) (q := 256) (by decide) (by decide) (by decide),
    Pool.read_back (o := 3) (p := 13) (q := 256) (by decide) (by decide) (by decide),
    Pool.read_back (o := 4) (p := 12) (q := 256) (by decide) (by decide) (by decide),
    Pool.read_back (o := 5) (p := 11) (q := 256) (by decide) (by decide) (by decide),
    Pool.read_back (o := 6) (p := 10) (q := 256) (by decide) (by decide) (by decide),
    Pool.read_back (o := 7) (p := 9) (q := 256) (by decide) (by decide) (by decide),
    Pool.read_back (o := 1) (p := 15) (q := 384) (by decide) (by decide) (by decide),
    Pool.read_back (o := 2) (p := 14) (q := 384) (by decide) (by decide) (by decide),
    Pool.read_back (o := 3) (p := 13) (q := 384) (by decide) (by decide) (by decide),
    Pool.read_back (o := 4) (p := 12) (q := 384) (by decide) (by decide) (by decide),
    Pool.read_back (o := 5) (p := 11) (q := 384) (by decide) (by decide) (by decide),
    Pool.read_back (o := 6) (p := 10) (q := 384) (by decide) (by decide) (by decide),
    Pool.read_back (o := 7) (p := 9) (q := 384) (by decide) (by decide) (by decide),
    Pool.read_back (o := 8) (p := 8) (q := 384) (by decide) (by decide) (by decide),
    Pool.read_back (o := 9) (p := 7) (q := 384) (by decide) (by decide) (by decide),
    Pool.read_back (o := 10) (p := 6) (q := 384) (by decide) (by decide) (by decide),
    Pool.read_back (o := 11) (p := 5) (q := 384) (by decide) (by decide) (by decide),
    Pool.read_back (o := 12) (p := 4) (q := 384) (by decide) (by decide) (by decide),
    Pool.read_back (o := 13) (p := 3) (q := 384) (by decide) (by decide) (by decide),
    Pool.read_back (o := 14) (p := 2) (q := 384) (by decide) (by decide) (by decide),
    Pool.read_back (o := 15) (p := 1) (q := 384) (by decide) (by decide) (by decide)]
  rfl

theorem final8 (c : Dev nD) : (dats m 0 c).arrAt 8 (cfgs 0).N = Out m c := by
  refine (dats m 0 c).arrAt_eq_of_covers 8 _ (by decide +kernel) fun t _ y => ?_
  blk_simp
  rw [after0_8, outs_out]
  have e := outT_at m c t (y 0) (y 1)
  rw [← eq_ix2 (show S512x1024.Idx from y)] at e
  have hp : (ix2 (at' t (y 0)) (y 1) : S16384x1024.Idx) = (win0_8.blk t).view.emb y := by
    unfold at'
    blk_ext [idx t]
  rw [hp] at e
  exact e

theorem final9 (c : Dev nD) : (dats m 0 c).arrAt 9 (cfgs 0).N = Mix m c := by
  refine (dats m 0 c).arrAt_eq_of_covers 9 _ (by decide +kernel) fun t _ y => ?_
  blk_simp
  rw [after0_9, outs_mix]
  have e := mixT_at m c t (y 0) (y 1)
  rw [← eq_ix2 (show S512x1024.Idx from y)] at e
  have hp : (ix2 (at' t (y 0)) (y 1) : S16384x1024.Idx) = (win0_9.blk t).view.emb y := by
    unfold at'
    blk_ext [idx t]
  rw [hp] at e
  exact e

theorem final10 (c : Dev nD) : (dats m 0 c).arrAt 10 (cfgs 0).N = Nrm m c := by
  refine (dats m 0 c).arrAt_eq_of_covers 10 _ (by decide +kernel) fun t _ y => ?_
  blk_simp
  rw [after0_10, outs_nrm]
  have e := nrmT_at m c t (y 0) (y 1)
  rw [← eq_ix2 (show S512x1024.Idx from y)] at e
  have hp : (ix2 (at' t (y 0)) (y 1) : S16384x1024.Idx) = (win0_10.blk t).view.emb y := by
    unfold at'
    blk_ext [idx t]
  rw [hp] at e
  exact e

end Cert.Kernel10Ideal.Value

end

end
-- ==== Proof.MixRef.lean ====
/- The forward pass of the pooled mixer: the reference's three results, index by index. -/
module

public import proofs.«01_k».proof.Defs
public import proofs.«01_k».proof.Proof.MixBlock
public import proofs.«01_k».proof.Proof.Gen.Reference10Ideal
public import proofs.«01_k».proof.Proof.Gen.Reference10Ideal.Read
public import Idealize.ShloMosaic.Lib.Pipeline.ValueKit
public import Idealize.ShloMosaic.Lib.KernelVsHost
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.Row (row)

namespace Cert.Reference10Ideal.Point
open Cert.Reference10Ideal Cert.Reference10Ideal.Gen Cert.Reference10Ideal.Read
open Cert.Kernel10Ideal.Point (pos pos_host wd2 wd4 wd8 wd16)
open Cert.Pool

/-- A pooled column of the argument. -/
def col (x : FVec Ideal S16384x2176 .f32) (j : Fin 512) (n : ℕ) : EReal :=
  if h : n < 16384 then x (ix2 ⟨n, h⟩ ⟨1536 + j.val, by omega⟩) else 0

theorem v2_at (x : FVec Ideal S16384x2176 .f32) (t : Fin 16384) (g : Fin 4) (k : Fin 128) :
    val_main_v2 (F := Ideal) x (ix4 0 t g k) = col x ⟨g.val * 128 + k.val, by omega⟩ t.val := by
  unfold col
  rw [dif_pos t.isLt]
  pointwise [val_main_v2, val_main_v1, val_main_v0]

theorem v3_at (x : FVec Ideal S16384x2176 .f32) (t : Fin 16384) (g : Fin 4) (k : Fin 128) :
    val_main_v3 (F := Ideal) x (ix4 0 t g k) = win (col x ⟨g.val * 128 + k.val, by omega⟩) 16384 t.val := by
  unfold val_main_v3
  refine (running (M := 16383) rfl (val_main_v2 (F := Ideal) x) _ _ _ ?_ t g k).trans ?_
  · pointwise [val_main_call0_call0_v0, val_main_call0_call0_cst]
  · refine congrArg (fun U => win U 16384 t.val) (funext fun n => ?_)
    by_cases hn : n < 16384
    · rw [dif_pos hn, v2_at]
    · rw [dif_neg hn]
      unfold col
      rw [dif_neg hn]

theorem v6_at (t : Fin 16384) : val_main_v6 (F := Ideal) (ix1 t) = pos t.val := by
  rw [← pos_host t.val t.isLt]
  pointwise [val_main_v6, val_main_v5, val_main_v4, val_main_cst]

theorem zero_word : FloatOps.sitofp (F := Ideal) .f32 (0#32 : BitVec 32) = 0 := by
  show (((0#32 : BitVec 32).toInt : ℝ) : EReal) = 0
  simp

variable (x : FVec Ideal S16384x2176 .f32) (hx : ∀ j n, ∃ r : ℝ, col x j n = (r : EReal))

theorem run0_at (t : Fin 16384) (k : Fin 128) :
    val_main_v8 (F := Ideal) x (ix3 0 t k) = win (col x ⟨0 + k.val, by omega⟩) 16384 t.val := by
  refine Eq.trans ?_ (v3_at x t 0 k)
  generalize hv : val_main_v3 (F := Ideal) x = v
  pointwise [val_main_v8, val_main_v7, hv]

theorem lag0_at (t : Fin 16384) (k : Fin 128) :
    val_main_v10 (F := Ideal) x (ix3 0 t k) = if h : 2 ≤ t.val then val_main_v8 (F := Ideal) x (ix3 0 ⟨t.val - 2, by omega⟩ k) else 0 := by
  have ht := t.isLt
  generalize hv : val_main_v8 (F := Ideal) x = v
  pointwise [val_main_v10, val_main_v9, hv, val_main_call1_v0, val_main_c]
  by_cases h : 2 ≤ t.val
  · rw [dif_pos h, dif_pos ⟨h, by omega⟩]
  · rw [dif_neg h, dif_neg fun e => h e.1]
    exact zero_word

include hx in
theorem mean0_at (t : Fin 16384) (k : Fin 128) :
    val_main_v20 (F := Ideal) x (ix3 0 t k)
      = Ideal.div (win (col x ⟨0 + k.val, by omega⟩) 2 t.val) (min (pos t.val) wd2) - col x ⟨0 + k.val, by omega⟩ t.val := by
  have hd : val_main_v11 (F := Ideal) x (ix3 0 t k) = win (col x ⟨0 + k.val, by omega⟩) 2 t.val := by
    refine Eq.trans ?_ (diff_eq (hx _) (N := 16384) (w := 2) (by decide) t.isLt)
    show val_main_v8 (F := Ideal) x (ix3 0 t k) - val_main_v10 (F := Ideal) x (ix3 0 t k) = _
    rw [run0_at, lag0_at]
    refine congrArg (fun y => win _ 16384 t.val - y) ?_
    by_cases h : 2 ≤ t.val
    · rw [dif_pos h, if_pos h, run0_at]
    · rw [dif_neg h, if_neg h]
  have h2 := v2_at x t 0 k
  rw [← hd]
  refine Eq.trans ?_ (congrArg (fun y => Ideal.div (val_main_v11 (F := Ideal) x (ix3 0 t k)) (min (pos t.val) wd2) - y) h2)
  rw [← v6_at]
  unfold wd2
  generalize ha : val_main_v11 (F := Ideal) x = a
  generalize hb : val_main_v2 (F := Ideal) x = b
  generalize hp : val_main_v6 (F := Ideal) = p
  pointwise [val_main_v20, val_main_v17, val_main_v19, val_main_v18, val_main_v16, val_main_v15, val_main_v14, val_main_v13, val_main_v12, val_main_cst_0, ha, hb, hp]
  try rfl

theorem run1_at (t : Fin 16384) (k : Fin 128) :
    val_main_v22 (F := Ideal) x (ix3 0 t k) = win (col x ⟨128 + k.val, by omega⟩) 16384 t.val := by
  refine Eq.trans ?_ (v3_at x t 1 k)
  generalize hv : val_main_v3 (F := Ideal) x = v
  pointwise [val_main_v22, val_main_v21, hv]

theorem lag1_at (t : Fin 16384) (k : Fin 128) :
    val_main_v24 (F := Ideal) x (ix3 0 t k) = if h : 4 ≤ t.val then val_main_v22 (F := Ideal) x (ix3 0 ⟨t.val - 4, by omega⟩ k) else 0 := by
  have ht := t.isLt
  generalize hv : val_main_v22 (F := Ideal) x = v
  pointwise [val_main_v24, val_main_v23, hv, val_main_call2_v0, val_main_c_1]
  by_cases h : 4 ≤ t.val
  · rw [dif_pos h, dif_pos ⟨h, by omega⟩]
  · rw [dif_neg h, dif_neg fun e => h e.1]
    exact zero_word

include hx in
theorem mean1_at (t : Fin 16384) (k : Fin 128) :
    val_main_v34 (F := Ideal) x (ix3 0 t k)
      = Ideal.div (win (col x ⟨128 + k.val, by omega⟩) 4 t.val) (min (pos t.val) wd4) - col x ⟨128 + k.val, by omega⟩ t.val := by
  have hd : val_main_v25 (F := Ideal) x (ix3 0 t k) = win (col x ⟨128 + k.val, by omega⟩) 4 t.val := by
    refine Eq.trans ?_ (diff_eq (hx _) (N := 16384) (w := 4) (by decide) t.isLt)
    show val_main_v22 (F := Ideal) x (ix3 0 t k) - val_main_v24 (F := Ideal) x (ix3 0 t k) = _
    rw [run1_at, lag1_at]
    refine congrArg (fun y => win _ 16384 t.val - y) ?_
    by_cases h : 4 ≤ t.val
    · rw [dif_pos h, if_pos h, run1_at]
    · rw [dif_neg h, if_neg h]
  have h2 := v2_at x t 1 k
  rw [← hd]
  refine Eq.trans ?_ (congrArg (fun y => Ideal.div (val_main_v25 (F := Ideal) x (ix3 0 t k)) (min (pos t.val) wd4) - y) h2)
  rw [← v6_at]
  unfold wd4
  generalize ha : val_main_v25 (F := Ideal) x = a
  generalize hb : val_main_v2 (F := Ideal) x = b
  generalize hp : val_main_v6 (F := Ideal) = p
  pointwise [val_main_v34, val_main_v31, val_main_v33, val_main_v32, val_main_v30, val_main_v29, val_main_v28, val_main_v27, val_main_v26, val_main_cst_2, ha, hb, hp]
  try rfl

theorem run2_at (t : Fin 16384) (k : Fin 128) :
    val_main_v36 (F := Ideal) x (ix3 0 t k) = win (col x ⟨256 + k.val, by omega⟩) 16384 t.val := by
  refine Eq.trans ?_ (v3_at x t 2 k)
  generalize hv : val_main_v3 (F := Ideal) x = v
  pointwise [val_main_v36, val_main_v35, hv]

theorem lag2_at (t : Fin 16384) (k : Fin 128) :
    val_main_v38 (F := Ideal) x (ix3 0 t k) = if h : 8 ≤ t.val then val_main_v36 (F := Ideal) x (ix3 0 ⟨t.val - 8, by omega⟩ k) else 0 := by
  have ht := t.isLt
  generalize hv : val_main_v36 (F := Ideal) x = v
  pointwise [val_main_v38, val_main_v37, hv, val_main_call3_v0, val_main_c_3]
  by_cases h : 8 ≤ t.val
  · rw [dif_pos h, dif_pos ⟨h, by omega⟩]
  · rw [dif_neg h, dif_neg fun e => h e.1]
    exact zero_word

include hx in
theorem mean2_at (t : Fin 16384) (k : Fin 128) :
    val_main_v48 (F := Ideal) x (ix3 0 t k)
      = Ideal.div (win (col x ⟨256 + k.val, by omega⟩) 8 t.val) (min (pos t.val) wd8) - col x ⟨256 + k.val, by omega⟩ t.val := by
  have hd : val_main_v39 (F := Ideal) x (ix3 0 t k) = win (col x ⟨256 + k.val, by omega⟩) 8 t.val := by
    refine Eq.trans ?_ (diff_eq (hx _) (N := 16384) (w := 8) (by decide) t.isLt)
    show val_main_v36 (F := Ideal) x (ix3 0 t k) - val_main_v38 (F := Ideal) x (ix3 0 t k) = _
    rw [run2_at, lag2_at]
    refine congrArg (fun y => win _ 16384 t.val - y) ?_
    by_cases h : 8 ≤ t.val
    · rw [dif_pos h, if_pos h, run2_at]
    · rw [dif_neg h, if_neg h]
  have h2 := v2_at x t 2 k
  rw [← hd]
  refine Eq.trans ?_ (congrArg (fun y => Ideal.div (val_main_v39 (F := Ideal) x (ix3 0 t k)) (min (pos t.val) wd8) - y) h2)
  rw [← v6_at]
  unfold wd8
  generalize ha : val_main_v39 (F := Ideal) x = a
  generalize hb : val_main_v2 (F := Ideal) x = b
  generalize hp : val_main_v6 (F := Ideal) = p
  pointwise [val_main_v48, val_main_v45, val_main_v47, val_main_v46, val_main_v44, val_main_v43, val_main_v42, val_main_v41, val_main_v40, val_main_cst_4, ha, hb, hp]
  try rfl

theorem run3_at (t : Fin 16384) (k : Fin 128) :
    val_main_v50 (F := Ideal) x (ix3 0 t k) = win (col x ⟨384 + k.val, by omega⟩) 16384 t.val := by
  refine Eq.trans ?_ (v3_at x t 3 k)
  generalize hv : val_main_v3 (F := Ideal) x = v
  pointwise [val_main_v50, val_main_v49, hv]

theorem lag3_at (t : Fin 16384) (k : Fin 128) :
    val_main_v52 (F := Ideal) x (ix3 0 t k) = if h : 16 ≤ t.val then val_main_v50 (F := Ideal) x (ix3 0 ⟨t.val - 16, by omega⟩ k) else 0 := by
  have ht := t.isLt
  generalize hv : val_main_v50 (F := Ideal) x = v
  pointwise [val_main_v52, val_main_v51, hv, val_main_call4_v0, val_main_c_5]
  by_cases h : 16 ≤ t.val
  · rw [dif_pos h, dif_pos ⟨h, by omega⟩]
  · rw [dif_neg h, dif_neg fun e => h e.1]
    exact zero_word

include hx in
theorem mean3_at (t : Fin 16384) (k : Fin 128) :
    val_main_v62 (F := Ideal) x (ix3 0 t k)
      = Ideal.div (win (col x ⟨384 + k.val, by omega⟩) 16 t.val) (min (pos t.val) wd16) - col x ⟨384 + k.val, by omega⟩ t.val := by
  have hd : val_main_v53 (F := Ideal) x (ix3 0 t k) = win (col x ⟨384 + k.val, by omega⟩) 16 t.val := by
    refine Eq.trans ?_ (diff_eq (hx _) (N := 16384) (w := 16) (by decide) t.isLt)
    show val_main_v50 (F := Ideal) x (ix3 0 t k) - val_main_v52 (F := Ideal) x (ix3 0 t k) = _
    rw [run3_at, lag3_at]
    refine congrArg (fun y => win _ 16384 t.val - y) ?_
    by_cases h : 16 ≤ t.val
    · rw [dif_pos h, if_pos h, run3_at]
    · rw [dif_neg h, if_neg h]
  have h2 := v2_at x t 3 k
  rw [← hd]
  refine Eq.trans ?_ (congrArg (fun y => Ideal.div (val_main_v53 (F := Ideal) x (ix3 0 t k)) (min (pos t.val) wd16) - y) h2)
  rw [← v6_at]
  unfold wd16
  generalize ha : val_main_v53 (F := Ideal) x = a
  generalize hb : val_main_v2 (F := Ideal) x = b
  generalize hp : val_main_v6 (F := Ideal) = p
  pointwise [val_main_v62, val_main_v59, val_main_v61, val_main_v60, val_main_v58, val_main_v57, val_main_v56, val_main_v55, val_main_v54, val_main_cst_6, ha, hb, hp]
  try rfl

theorem v74_at (q : FVec Ideal S4x128x128 .f32) (s : FVec Ideal S512 .f32) (t : Fin 16384) (j : Fin 512) :
    val_main_v74 (F := Ideal) x q s (ix2 t j)
      = (∑ k : Fin 128, val_main_v67 (F := Ideal) x (ix4 0 t ⟨j.val / 128, by omega⟩ k) * q (ix3 ⟨j.val / 128, by omega⟩ k ⟨j.val % 128, by omega⟩))
        * s (ix1 j) := by
  generalize hv : val_main_v67 (F := Ideal) x = v
  pointwise [val_main_v74, val_main_v73, val_main_v72, val_main_v71, val_main_v70, val_main_v69, val_main_v68, hv]
  exact congrArg (fun y => y * s (ix1 j)) (Finset.sum_congr rfl fun k _ => mul_comm _ _)

theorem v67_at (t : Fin 16384) (g : Fin 4) (k : Fin 128) :
    val_main_v67 (F := Ideal) x (ix4 0 t g k) = ![val_main_v20 (F := Ideal) x, val_main_v34 (F := Ideal) x, val_main_v48 (F := Ideal) x, val_main_v62 (F := Ideal) x] g (ix3 0 t k) := by
  unfold val_main_v67 val_main_v63 val_main_v64 val_main_v65 val_main_v66
  generalize val_main_v20 (F := Ideal) x = a
  generalize val_main_v34 (F := Ideal) x = b
  generalize val_main_v48 (F := Ideal) x = c
  generalize val_main_v62 (F := Ideal) x = d
  fin_cases g <;> pointwise

variable (h : FVec Ideal S16384x1024 .f32) (y : FVec Ideal S16384x512 .f32) (q : FVec Ideal S4x128x128 .f32) (s : FVec Ideal S512 .f32)
  (w : FVec Ideal S1024x1024 .f32) (g : FVec Ideal S1024 .f32)

theorem v75_at (t : Fin 16384) (j : Fin 1024) :
    val_main_v75 (F := Ideal) y x q s (ix2 t j)
      = if h : j.val < 512 then y (ix2 t ⟨j.val, h⟩) else val_main_v74 (F := Ideal) x q s (ix2 t ⟨j.val - 512, by omega⟩) := by
  generalize hv : val_main_v74 (F := Ideal) x q s = v
  pointwise [val_main_v75, hv]

theorem v77_at (t : Fin 16384) (j : Fin 1024) :
    val_main_v77 (F := Ideal) h y x q s w (ix2 t j)
      = h (ix2 t j) + ∑ k : Fin 1024, val_main_v75 (F := Ideal) y x q s (ix2 t k) * w (ix2 k j) := by
  generalize hv : val_main_v75 (F := Ideal) y x q s = v
  pointwise [val_main_v77, val_main_v76, hv]

theorem v92_at (t : Fin 16384) (j : Fin 1024) :
    val_main_v92 (F := Ideal) h y x q s w g (ix2 t j)
      = Row.nrm (row (val_main_v77 (F := Ideal) h y x q s w) t) (fun k => g (ix1 k)) j := by
  generalize hv : val_main_v77 (F := Ideal) h y x q s w = v
  pointwise [val_main_v92, val_main_v91, val_main_v90, val_main_v89, val_main_v88, val_main_v87, val_main_v86, val_main_v85, val_main_v84,
    val_main_v83, val_main_v82, val_main_v81, val_main_v80, val_main_v79, val_main_cst_7, val_main_cst_8, val_main_cst_9, hv]
  rfl

end Cert.Reference10Ideal.Point

end

end
-- ==== Proof.MixOut.lean ====
/- The forward pass of the pooled mixer: the kernel's results are the reference's. -/
module

public import proofs.«01_k».proof.Defs
public import proofs.«01_k».proof.Proof.Finite
public import proofs.«01_k».proof.Pre_finite4
public import proofs.«01_k».proof.Proof.Gen.Pre_finite4
public import proofs.«01_k».proof.Proof.MixStore
public import proofs.«01_k».proof.Proof.MixRef
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.Row (row)

namespace Cert.MixOut

theorem refFrame : Cert.quiescent_Reference10Ideal := fun m ρ _ =>
  (θ_run Cert.Reference10Ideal.defs _ _).mono (fun r h => ⟨fun c => (h c).2.2.2,
    sem_eq_zero_of_no_sems (by decide) r.2⟩) (Cert.Reference10Ideal.Value.run (F := Ideal) m ρ)

theorem refFrame' : Cert.quiescent_Reference10Ideal_pre_finite4 := fun m ρ _ => refFrame m ρ trivial

theorem finite_args (h y x q s w g) (hf : Cert.Pre_finite4.fn (F := Ideal) h y x q s w g = fun _ => 1#1) : Reals.Real' x := by
  have h0 := congrFun hf (fun a => a.elim0)
  unfold Cert.Pre_finite4.fn at h0
  exact Finite.real_of_all _ _ _ _ _ _ _ h0

section
open Cert.Reference10Ideal Cert.Reference10Ideal.Read

variable (m : (ℓ : Loc Kernel10Ideal.nD Kernel10Ideal.τ Kernel10Ideal.sig) → Buf (Elt Ideal) ℓ) (c : Dev Kernel10Ideal.nD)

open Cert.Kernel10Ideal.Value (aH aY aP aQ aS aW aG U Group Branch Mix Out Nrm)
open Cert.Reference10Ideal.Point

theorem col_real (hx : Reals.Real' (aP m c)) (j : Fin 512) (n : ℕ) : ∃ r : ℝ, col (aP m c) j n = (r : EReal) := by
  obtain ⟨f, hf⟩ := hx
  unfold col
  by_cases h : n < 16384
  · rw [dif_pos h, hf]
    exact ⟨_, rfl⟩
  · rw [dif_neg h]
    exact ⟨0, rfl⟩

theorem ref_group (hx : Reals.Real' (aP m c)) (t : Fin 16384) (g : Fin 4) (k : Fin 128) :
    val_main_v67 (F := Ideal) (aP m c) (ix4 0 t g k) = Group m c t.val g k := by
  rw [v67_at]
  match g with
  | 0 => exact mean0_at _ (col_real m c hx) t k
  | 1 => exact mean1_at _ (col_real m c hx) t k
  | 2 => exact mean2_at _ (col_real m c hx) t k
  | 3 => exact mean3_at _ (col_real m c hx) t k

theorem ref_mix (hx : Reals.Real' (aP m c)) (t : Fin 16384) (j : Fin 1024) :
    val_main_v75 (F := Ideal) (aY m c) (aP m c) (aQ m c) (aS m c) (ix2 t j) = Mix m c (ix2 t j) := by
  rw [v75_at]
  show _ = if h : j.val < 512 then aY m c (ix2 t ⟨j.val, h⟩) else Branch m c t.val ⟨j.val - 512, by omega⟩
  by_cases h : j.val < 512
  · rw [dif_pos h, dif_pos h]
  · rw [dif_neg h, dif_neg h, v74_at]
    unfold Branch
    exact congrArg (fun y => y * aS m c (ix1 ⟨j.val - 512, by omega⟩)) (Finset.sum_congr rfl fun k _ => congrArg (fun y => y * _) (ref_group m c hx t _ k))

theorem ref_out (hx : Reals.Real' (aP m c)) (t : Fin 16384) (j : Fin 1024) :
    val_main_v77 (F := Ideal) (aH m c) (aY m c) (aP m c) (aQ m c) (aS m c) (aW m c) (ix2 t j) = Out m c (ix2 t j) := by
  rw [v77_at]
  unfold Out
  exact congrArg (fun y => aH m c (ix2 t j) + y) (Finset.sum_congr rfl fun k _ => congrArg (fun y => y * aW m c (ix2 k j)) (ref_mix m c hx t k))

theorem ref0 (hx : Reals.Real' (aP m c)) :
    val_main_v77 (F := Ideal) (aH m c) (aY m c) (aP m c) (aQ m c) (aS m c) (aW m c) = Out m c :=
  funext fun i => by rw [eq_ix2 i]; exact ref_out m c hx (i 0) (i 1)

theorem ref1 (hx : Reals.Real' (aP m c)) : val_main_v78 (F := Ideal) (aY m c) (aP m c) (aQ m c) (aS m c) = Mix m c :=
  funext fun i => by rw [eq_ix2 i]; exact ref_mix m c hx (i 0) (i 1)

theorem ref2 (hx : Reals.Real' (aP m c)) :
    val_main_v92 (F := Ideal) (aH m c) (aY m c) (aP m c) (aQ m c) (aS m c) (aW m c) (aG m c) = Nrm m c :=
  funext fun i => by
    rw [eq_ix2 i]
    refine (v92_at _ _ _ _ _ _ _ (i 0) (i 1)).trans ?_
    rw [ref0 m c hx]
    rfl

end

open Cert.Kernel10Ideal.Value in
/-- The kernel's results are the reference's, where the rows that are pooled are real. -/
theorem values : Cert.algebraic_Kernel10Ideal_Reference10Ideal_pre_finite4 := by
  intro m g m' g' hpre hag
  refine ⟨fun c => Out m c, fun c => Mix m c, fun c => Nrm m c, ?_, ?_⟩
  · refine (θ_run Kernel10Ideal.defs _ _).mono (fun r h c => ?_) (run_blocks m g)
    obtain ⟨h0, h1, h2, hr⟩ := h c
    exact ⟨h0.trans (final8 m c), h1.trans (final9 m c), h2.trans (final10 m c), hr⟩
  · refine (θ_run Reference10Ideal.defs _ _).mono (fun r h c => ?_) (Reference10Ideal.Value.run m' g')
    obtain ⟨h0, h1, h2, hr⟩ := h c
    obtain ⟨e0, e1, e2, e3, e4, e5, e6⟩ := hag c
    have hx : Reals.Real' (aP m c) := finite_args _ _ _ _ _ _ _ (hpre c)
    refine ⟨h0.trans ?_, h1.trans ?_, h2.trans ?_, hr⟩
    · refine Eq.trans ?_ (ref0 m c hx)
      unfold aH aY aP aQ aS aW
      rw [← e0, ← e1, ← e2, ← e3, ← e4, ← e5]
      rfl
    · refine Eq.trans ?_ (ref1 m c hx)
      unfold aY aP aQ aS
      rw [← e1, ← e2, ← e3, ← e4]
      rfl
    · refine Eq.trans ?_ (ref2 m c hx)
      unfold aH aY aP aQ aS aW aG
      rw [← e0, ← e1, ← e2, ← e3, ← e4, ← e5, ← e6]
      rfl

end Cert.MixOut

end

end
-- ==== Proof.PoolPoint.lean ====
/- The backward pass of the pooled mixer: what one tile computes, index by index. -/
module

public import proofs.«01_k».proof.Defs
public import proofs.«01_k».proof.Proof.MixPoint
public import proofs.«01_k».proof.Proof.Gen.Kernel11Ideal.Frame
public import proofs.«01_k».proof.Proof.Gen.Kernel11Ideal.Value
public import Idealize.ShloMosaic.Lib.Pipeline.ValueKit
public import Idealize.ShloMosaic.Lib.Pipeline.ReadBack
public import Idealize.ShloMosaic.Lib.Pointwise
public import Idealize.ShloMosaic.Lib.Claim
@[expose] public section

set_option maxRecDepth 16384

noncomputable section

open Idealize.ShloMosaic Idealize.ShloMosaic.TcCoe Idealize.SL.Sem
open Idealize.ShloMosaic.Pipeline (Dat)
open Cert.Row (row)

namespace Cert.Kernel11Ideal.Point
open Cert.Kernel11Ideal Cert.Kernel11Ideal.Gen
open Cert.Kernel10Ideal.Point (pos wd2 wd4 wd8 wd16)

theorem pos_at (i : grid0.Coords) (r : Fin 512) : k0_pay7 (F := Ideal) i (ix2 r 0) = pos ((i 0).val * 512 + r.val) := by
  have hi : (i 0).val < 32 := (i 0).isLt
  have hr := r.isLt
  pointwise [k0_pay7]
  show (((BitVec.ofNat 32 (i 0).val * 512#32 + 1#32 + BitVec.ofNat 32 r.val).toInt : ℝ) : EReal) = _
  have e : (BitVec.ofNat 32 (i 0).val * 512#32 + 1#32 + BitVec.ofNat 32 r.val).toInt = (((i 0).val * 512 + r.val + 1 : ℕ) : ℤ) := by
    have hn : (BitVec.ofNat 32 (i 0).val * 512#32 + 1#32 + BitVec.ofNat 32 r.val).toNat = (i 0).val * 512 + r.val + 1 := by
      simp only [BitVec.toNat_add, BitVec.toNat_mul, BitVec.toNat_ofNat]
      omega
    rw [BitVec.toInt_eq_toNat_of_lt (by omega), hn]
  rw [e]
  unfold pos
  push_cast
  rfl

theorem pool2_at (u : FVec Ideal S512x512 .f32) (p : FVec Ideal S512x1 .f32) (b1 : FVec Ideal S512x128 .f32) (r : Fin 512) (k : Fin 128) :
    k0_pay12 (F := Ideal) u p (k0_pay10 (F := Ideal) u b1) (k0_pay11 (F := Ideal)) (ix2 r k)
      = Ideal.div (u (ix2 r ⟨0 + k.val, by omega⟩) + b1 (ix2 r k))
          (min (p (ix2 r 0)) wd2) - u (ix2 r ⟨0 + k.val, by omega⟩) := by
  unfold wd2
  pointwise [k0_pay12, k0_pay10, k0_pay11]
  try rfl

theorem pool4_at (u : FVec Ideal S512x512 .f32) (p : FVec Ideal S512x1 .f32) (b1 b2 b3 : FVec Ideal S512x128 .f32) (r : Fin 512) (k : Fin 128) :
    k0_pay13 (F := Ideal) u p b1 b2 b3 (ix2 r k)
      = Ideal.div (u (ix2 r ⟨128 + k.val, by omega⟩) + b1 (ix2 r k) + b2 (ix2 r k) + b3 (ix2 r k))
          (min (p (ix2 r 0)) wd4) - u (ix2 r ⟨128 + k.val, by omega⟩) := by
  unfold wd4
  pointwise [k0_pay13]
  try rfl

theorem pool8_at (u : FVec Ideal S512x512 .f32) (p : FVec Ideal S512x1 .f32) (b1 b2 b3 b4 b5 b6 b7 : FVec Ideal S512x128 .f32) (r : Fin 512) (k : Fin 128) :
    k0_pay16 (F := Ideal) (k0_pay14 (F := Ideal) u p b1 b2 b3 b4 b5 b6 b7) (k0_pay15 (F := Ideal) u) (ix2 r k)
      = Ideal.div (u (ix2 r ⟨256 + k.val, by omega⟩) + b1 (ix2 r k) + b2 (ix2 r k) + b3 (ix2 r k) + b4 (ix2 r k) + b5 (ix2 r k) + b6 (ix2 r k) + b7 (ix2 r k))
          (min (p (ix2 r 0)) wd8) - u (ix2 r ⟨256 + k.val, by omega⟩) := by
  unfold wd8
  pointwise [k0_pay16, k0_pay14, k0_pay15]
  try rfl

theorem pool16_at (u : FVec Ideal S512x512 .f32) (p : FVec Ideal S512x1 .f32) (b1 b2 b3 b4 b5 b6 b7 b8 b9 b10 b11 b12 b13 b14 b15 : FVec Ideal S512x128 .f32) (r : Fin 512) (k : Fin 128) :
    k0_pay18 (F := Ideal) u p (k0_pay17 (F := Ideal) u b1 b2 b3 b4 b5 b6 b7 b8 b9 b10 b11 b12 b13 b14) b15 (ix2 r k)
      = Ideal.div (u (ix2 r ⟨384 + k.val, by omega⟩) + b1 (ix2 r k) + b2 (ix2 r k) + b3 (ix2 r k) + b4 (ix2 r k) + b5 (ix2 r k) + b6 (ix2 r k) + b7 (ix2 r k) + b8 (ix2 r k) + b9 (ix2 r k) + b10 (ix2 r k) + b11 (ix2 r k) + b12 (ix2 r k) + b13 (ix2 r k) + b14 (ix2 r k) + b15 (ix2 r k))
          (min (p (ix2 r 0)) wd16) - u (ix2 r ⟨384 + k.val, by omega⟩) := by
  unfold wd16
  pointwise [k0_pay18, k0_pay17]
  try rfl

theorem tile_at (u : FVec Ideal S512x512 .f32) (r : Fin 512) (j : Fin 512) : k0_pay6 (F := Ideal) u (ix2 r j) = u (ix2 r j) := by
  pointwise [k0_pay6]

theorem scale_at (s : FVec Ideal S1x512 .f32) (r : Fin 1) (j : Fin 512) : k0_pay8 (F := Ideal) s (ix2 r j) = s (ix2 r j) := by
  pointwise [k0_pay8]

theorem zero3_at (g : Fin 4) (k l : Fin 128) : k0_pay3 (F := Ideal) (ix3 g k l) = 0 := by
  pointwise [k0_pay3]

theorem zero4_at (r : Fin 1) (j : Fin 512) : k0_pay4 (F := Ideal) (ix2 r j) = 0 := by
  pointwise [k0_pay4]

theorem halo_at (i : grid0.Coords) (h : FVec Ideal S16x512 .f32) (r : Fin 16) (j : Fin 512) :
    k0_pay5 (F := Ideal) i h (ix2 r j) = if (i 0).val = 0 then 0 else h (ix2 r j) := by
  have hi : (i 0).val < 32 := (i 0).isLt
  pointwise [k0_pay5]
  by_cases h0 : (i 0).val = 0
  · rw [if_pos h0, h0]
    rfl
  · rw [if_neg h0]
    have hc : Scalar.cmpi .eq (BitVec.ofNat 32 (i 0).val) 0#32 = 0#1 := by
      have hne : BitVec.ofNat 32 (i 0).val ≠ 0#32 := fun e => h0 (by
        have := congrArg BitVec.toNat e
        simp only [BitVec.toNat_ofNat] at this
        omega)
      show BitVec.ofBool (decide (BitVec.ofNat 32 (i 0).val = 0#32)) = 0#1
      rw [decide_eq_false hne]
      rfl
    rw [hc]
    rfl

theorem next_at (i : grid0.Coords) (h : FVec Ideal S16x512 .f32) (r : Fin 16) (j : Fin 512) :
    k0_pay9 (F := Ideal) i h (ix2 r j) = if (i 0).val = 31 then 0 else h (ix2 r j) := by
  have hi : (i 0).val < 32 := (i 0).isLt
  pointwise [k0_pay9]
  by_cases h0 : (i 0).val = 31
  · rw [if_pos h0, h0]
    rfl
  · rw [if_neg h0]
    have hc : Scalar.cmpi .eq (BitVec.ofNat 32 (i 0).val) 31#32 = 0#1 := by
      have hne : BitVec.ofNat 32 (i 0).val ≠ 31#32 := fun e => h0 (by
        have := congrArg BitVec.toNat e
        simp only [BitVec.toNat_ofNat] at this
        omega)
      show BitVec.ofBool (decide (BitVec.ofNat 32 (i 0).val = 31#32)) = 0#1
      rw [decide_eq_false hne]
      rfl
    rw [hc]
    rfl

/-- One tile's gradient at a group's pooled rows, its share of the scale's gradient and its share of the group's matrix's gradient. -/
def grad {n : ℕ} (y : FVec Ideal ⟨2, ![n, 512]⟩ .f32) (s : FVec Ideal S1x512 .f32) (w : FVec Ideal S1x128x128 .bf16) (q : ℕ) (hq : q + 128 ≤ 512)
    (r : Fin n) (k : Fin 128) : EReal :=
  ∑ l : Fin 128, (y (ix2 r ⟨q + l.val, by omega⟩) * s (ix2 0 ⟨q + l.val, by omega⟩)) * w (ix3 0 l k)

def scaleShare (y : FVec Ideal S512x512 .f32) (p : FVec Ideal S512x128 .f32) (w : FVec Ideal S1x128x128 .bf16) (q : ℕ) (hq : q + 128 ≤ 512)
    (l : Fin 128) : EReal :=
  ∑ r : Fin 512, y (ix2 r ⟨q + l.val, by omega⟩) * ∑ k : Fin 128, p (ix2 r k) * w (ix3 0 k l)

def matShare (s : FVec Ideal S1x512 .f32) (y : FVec Ideal S512x512 .f32) (p : FVec Ideal S512x128 .f32) (q : ℕ) (hq : q + 128 ≤ 512)
    (k l : Fin 128) : EReal :=
  ∑ r : Fin 512, p (ix2 r k) * (y (ix2 r ⟨q + l.val, by omega⟩) * s (ix2 0 ⟨q + l.val, by omega⟩))

theorem scaleShare0_at (y : FVec Ideal S512x512 .f32) (p : FVec Ideal S512x128 .f32) (w : FVec Ideal S1x128x128 .bf16) (l : Fin 128) :
    k0_pay20 (F := Ideal) y p w (ix2 0 l) = scaleShare y p w 0 (by decide) l := by
  unfold scaleShare
  pointwise [k0_pay20, k0_pay19]
  try rfl

theorem matShare0_at (s : FVec Ideal S1x512 .f32) (y : FVec Ideal S512x512 .f32) (p : FVec Ideal S512x128 .f32) (a : FVec Ideal S1x128x128 .f32) (k l : Fin 128) :
    k0_pay22 (F := Ideal) s y p a (ix3 0 k l) = a (ix3 0 k l) + matShare s y p 0 (by decide) k l := by
  unfold matShare
  pointwise [k0_pay22, k0_pay21, k0_pay19]
  try rfl

theorem grad0_at (s : FVec Ideal S1x512 .f32) (y : FVec Ideal S512x512 .f32) (w : FVec Ideal S1x128x128 .bf16) (r : Fin 512) (k : Fin 128) :
    k0_pay23 (F := Ideal) s y w (ix2 r k) = grad y s w 0 (by decide) r k := by
  unfold grad
  pointwise [k0_pay23, k0_pay21]
  try rfl

theorem over0_at (n : FVec Ideal S512x1 .f32) (s : FVec Ideal S1x512 .f32) (y : FVec Ideal S512x512 .f32) (w : FVec Ideal S1x128x128 .bf16) (r : Fin 512) (k : Fin 128) :
    k0_pay26 (F := Ideal) n (k0_pay23 (F := Ideal) s y w) (ix2 r k) = Ideal.div (grad y s w 0 (by decide) r k) (min (n (ix2 r 0)) wd2) := by
  rw [← grad0_at s y w r k]
  unfold wd2 k0_pay26
  generalize k0_pay23 (F := Ideal) s y w = d
  pointwise
  try rfl

theorem tail0_at (s : FVec Ideal S1x512 .f32) (z : FVec Ideal S16x512 .f32) (w : FVec Ideal S1x128x128 .bf16) (r : Fin 16) (k : Fin 128) :
    k0_pay27 (F := Ideal) (k0_pay24 (F := Ideal) s z) (k0_pay25 (F := Ideal) w) (constant S16x128 .f32 0x00000000#32) (ix2 r k) = Ideal.div (grad z s w 0 (by decide) r k) wd2 := by
  unfold wd2 grad
  pointwise [k0_pay27, k0_pay24, k0_pay25]
  try rfl

theorem back0_at (d r0 r1 : FVec Ideal S512x128 .f32) (r : Fin 512) (k : Fin 128) :
    k0_pay28 (F := Ideal) d r0 r1 (ix2 r k) = 0 - d (ix2 r k) + r0 (ix2 r k) + r1 (ix2 r k) := by
  pointwise [k0_pay28]
  try rfl

theorem scaleShare1_at (y : FVec Ideal S512x512 .f32) (p : FVec Ideal S512x128 .f32) (w : FVec Ideal S1x128x128 .bf16) (l : Fin 128) :
    k0_pay30 (F := Ideal) y p w (ix2 0 l) = scaleShare y p w 128 (by decide) l := by
  unfold scaleShare
  pointwise [k0_pay30, k0_pay29]
  try rfl

theorem matShare1_at (s : FVec Ideal S1x512 .f32) (y : FVec Ideal S512x512 .f32) (p : FVec Ideal S512x128 .f32) (a : FVec Ideal S1x128x128 .f32) (k l : Fin 128) :
    k0_pay33 (F := Ideal) (k0_pay32 (F := Ideal) s y p a) (ix3 0 k l) = a (ix3 0 k l) + matShare s y p 128 (by decide) k l := by
  unfold matShare
  pointwise [k0_pay33, k0_pay32, k0_pay31, k0_pay29]
  try rfl

theorem grad1_at (s : FVec Ideal S1x512 .f32) (y : FVec Ideal S512x512 .f32) (w : FVec Ideal S1x128x128 .bf16) (r : Fin 512) (k : Fin 128) :
    k0_pay34 (F := Ideal) (k0_pay31 (F := Ideal) s y) w (ix2 r k) = grad y s w 128 (by decide) r k := by
  unfold grad
  pointwise [k0_pay34, k0_pay31]
  try rfl

theorem over1_at (n : FVec Ideal S512x1 .f32) (s : FVec Ideal S1x512 .f32) (y : FVec Ideal S512x512 .f32) (w : FVec Ideal S1x128x128 .bf16) (r : Fin 512) (k : Fin 128) :
    k0_pay35 (F := Ideal) n (k0_pay31 (F := Ideal) s y) w (ix2 r k) = Ideal.div (grad y s w 128 (by decide) r k) (min (n (ix2 r 0)) wd4) := by
  rw [← grad1_at s y w r k]
  unfold wd4 k0_pay35
  generalize k0_pay34 (F := Ideal) (k0_pay31 (F := Ideal) s y) w = d
  pointwise
  try rfl

theorem tail1_at (s : FVec Ideal S1x512 .f32) (z : FVec Ideal S16x512 .f32) (w : FVec Ideal S1x128x128 .bf16) (r : Fin 16) (k : Fin 128) :
    k0_pay36 (F := Ideal) s z w (ix2 r k) = Ideal.div (grad z s w 128 (by decide) r k) wd4 := by
  unfold wd4 grad
  pointwise [k0_pay36]
  try rfl

theorem back1_at (s : FVec Ideal S1x512 .f32) (y : FVec Ideal S512x512 .f32) (w : FVec Ideal S1x128x128 .bf16) (r0 r1 r2 r3 : FVec Ideal S512x128 .f32) (r : Fin 512) (k : Fin 128) :
    k0_pay38 (F := Ideal) (k0_pay37 (F := Ideal) (k0_pay31 (F := Ideal) s y) w r0 r1 r2) r3 (ix2 r k)
      = 0 - grad y s w 128 (by decide) r k + r0 (ix2 r k) + r1 (ix2 r k) + r2 (ix2 r k) + r3 (ix2 r k) := by
  rw [← grad1_at s y w r k]
  unfold k0_pay38 k0_pay37
  generalize k0_pay34 (F := Ideal) (k0_pay31 (F := Ideal) s y) w = d
  pointwise
  try rfl

theorem scaleShare2_at (y : FVec Ideal S512x512 .f32) (p : FVec Ideal S512x128 .f32) (w : FVec Ideal S1x128x128 .bf16) (l : Fin 128) :
    k0_pay40 (F := Ideal) y p w (ix2 0 l) = scaleShare y p w 256 (by decide) l := by
  unfold scaleShare
  pointwise [k0_pay40, k0_pay39]
  try rfl

theorem matShare2_at (s : FVec Ideal S1x512 .f32) (y : FVec Ideal S512x512 .f32) (p : FVec Ideal S512x128 .f32) (a : FVec Ideal S1x128x128 .f32) (k l : Fin 128) :
    k0_pay42 (F := Ideal) s y p a (ix3 0 k l) = a (ix3 0 k l) + matShare s y p 256 (by decide) k l := by
  unfold matShare
  pointwise [k0_pay42, k0_pay41, k0_pay39]
  try rfl

theorem grad2_at (s : FVec Ideal S1x512 .f32) (y : FVec Ideal S512x512 .f32) (w : FVec Ideal S1x128x128 .bf16) (r : Fin 512) (k : Fin 128) :
    k0_pay43 (F := Ideal) s y w (ix2 r k) = grad y s w 256 (by decide) r k := by
  unfold grad
  pointwise [k0_pay43, k0_pay41]
  try rfl

theorem over2_at (n : FVec Ideal S512x1 .f32) (s : FVec Ideal S1x512 .f32) (y : FVec Ideal S512x512 .f32) (w : FVec Ideal S1x128x128 .bf16) (r : Fin 512) (k : Fin 128) :
    k0_pay46 (F := Ideal) (k0_pay45 (F := Ideal) n s y w) (ix2 r k) = Ideal.div (grad y s w 256 (by decide) r k) (min (n (ix2 r 0)) wd8) := by
  rw [← grad2_at s y w r k]
  unfold wd8 k0_pay46 k0_pay45
  generalize k0_pay43 (F := Ideal) s y w = d
  pointwise
  try rfl

theorem tail2_at (s : FVec Ideal S1x512 .f32) (z : FVec Ideal S16x512 .f32) (w : FVec Ideal S1x128x128 .bf16) (r : Fin 16) (k : Fin 128) :
    k0_pay47 (F := Ideal) (k0_pay44 (F := Ideal) s z w) (ix2 r k) = Ideal.div (grad z s w 256 (by decide) r k) wd8 := by
  unfold wd8 grad
  pointwise [k0_pay47, k0_pay44]
  try rfl

theorem back2_at (d r0 r1 r2 r3 r4 r5 r6 r7 : FVec Ideal S512x128 .f32) (r : Fin 512) (k : Fin 128) :
    k0_pay48 (F := Ideal) d r0 r1 r2 r3 r4 r5 r6 r7 (ix2 r k) = 0 - d (ix2 r k) + r0 (ix2 r k) + r1 (ix2 r k) + r2 (ix2 r k) + r3 (ix2 r k) + r4 (ix2 r k) + r5 (ix2 r k) + r6 (ix2 r k) + r7 (ix2 r k) := by
  pointwise [k0_pay48]
  try rfl

theorem scaleShare3_at (y : FVec Ideal S512x512 .f32) (p : FVec Ideal S512x128 .f32) (w : FVec Ideal S1x128x128 .bf16) (l : Fin 128) :
    k0_pay51 (F := Ideal) (k0_pay50 (F := Ideal) y p w) (ix2 0 l) = scaleShare y p w 384 (by decide) l := by
  unfold scaleShare
  pointwise [k0_pay51, k0_pay50, k0_pay49]
  try rfl

theorem matShare3_at (s : FVec Ideal S1x512 .f32) (y : FVec Ideal S512x512 .f32) (p : FVec Ideal S512x128 .f32) (a : FVec Ideal S1x128x128 .f32) (k l : Fin 128) :
    k0_pay53 (F := Ideal) s y (k0_pay49 (F := Ideal) p) a (ix3 0 k l) = a (ix3 0 k l) + matShare s y p 384 (by decide) k l := by
  unfold matShare
  pointwise [k0_pay53, k0_pay52, k0_pay49]
  try rfl

theorem grad3_at (s : FVec Ideal S1x512 .f32) (y : FVec Ideal S512x512 .f32) (w : FVec Ideal S1x128x128 .bf16) (r : Fin 512) (k : Fin 128) :
    k0_pay54 (F := Ideal) s y w (ix2 r k) = grad y s w 384 (by decide) r k := by
  unfold grad
  pointwise [k0_pay54, k0_pay52]
  try rfl

theorem over3_at (n : FVec Ideal S512x1 .f32) (s : FVec Ideal S1x512 .f32) (y : FVec Ideal S512x512 .f32) (w : FVec Ideal S1x128x128 .bf16) (r : Fin 512) (k : Fin 128) :
    k0_pay55 (F := Ideal) n s y w (ix2 r k) = Ideal.div (grad y s w 384 (by decide) r k) (min (n (ix2 r 0)) wd16) := by
  rw [← grad3_at s y w r k]
  unfold wd16 k0_pay55
  generalize k0_pay54 (F := Ideal) s y w = d
  pointwise
  try rfl

theorem tail3_at (s : FVec Ideal S1x512 .f32) (z : FVec Ideal S16x512 .f32) (w : FVec Ideal S1x128x128 .bf16) (r : Fin 16) (k : Fin 128) :
    k0_pay57 (F := Ideal) (k0_pay56 (F := Ideal) s z w) (ix2 r k) = Ideal.div (grad z s w 384 (by decide) r k) wd16 := by
  unfold wd16 grad
  pointwise [k0_pay57, k0_pay56]
  try rfl

theorem back3_at (d r0 r1 r2 r3 r4 r5 r6 r7 r8 r9 r10 r11 r12 r13 r14 r15 : FVec Ideal S512x128 .f32) (r : Fin 512) (k : Fin 128) :
    addf (addf (addf (k0_pay58 (F := Ideal) d r0 r1 r2 r3 r4 r5 r6 r7 r8 r9 r10 r11 r12) r13) r14) r15 (ix2 r k) = 0 - d (ix2 r k) + r0 (ix2 r k) + r1 (ix2 r k) + r2 (ix2 r k) + r3 (ix2 r k) + r4 (ix2 r k) + r5 (ix2 r k) + r6 (ix2 r k) + r7 (ix2 r k) + r8 (ix2 r k) + r9 (ix2 r k) + r10 (ix2 r k) + r11 (ix2 r k) + r12 (ix2 r k) + r13 (ix2 r k) + r14 (ix2 r k) + r15 (ix2 r k) := by
  pointwise [k0_pay58]
  try rfl

theorem cols_at (d0 d1 d2 d3 r13 r14 r15 : FVec Ideal S512x128 .f32) (r : Fin 512) (j : Fin 512) :
    k0_pay1 (F := Ideal) d0 d1 d2 d3 r13 r14 r15 (ix2 r j)
      = if h : j.val < 128 then d0 (ix2 r ⟨j.val, h⟩)
        else if h : j.val - 128 < 128 then d1 (ix2 r ⟨j.val - 128, h⟩)
        else if h : j.val - 128 - 128 < 128 then d2 (ix2 r ⟨j.val - 128 - 128, h⟩)
        else addf (addf (addf d3 r13) r14) r15 (ix2 r ⟨j.val - 128 - 128 - 128, by omega⟩) := by
  pointwise [k0_pay1]

theorem sums_at (s0 s1 s2 s3 : FVec Ideal S1x128 .f32) (a : FVec Ideal S1x512 .f32) (j : Fin 512) :
    k0_pay2 (F := Ideal) s0 s1 s2 s3 a (ix2 0 j)
      = a (ix2 0 j) + if h : j.val < 128 then s0 (ix2 0 ⟨j.val, h⟩)
        else if h : j.val - 128 < 128 then s1 (ix2 0 ⟨j.val - 128, h⟩)
        else if h : j.val - 128 - 128 < 128 then s2 (ix2 0 ⟨j.val - 128 - 128, h⟩)
        else s3 (ix2 0 ⟨j.val - 128 - 128 - 128, by omega⟩) := by
  pointwise [k0_pay2]

end Cert.Kernel11Ideal.Point

end

end
-- ==== Proof.PoolAhead.lean ====
/- Running sums from a row to the last one, the difference of two of them, and rows read back ahead of a tile. -/
module

public import proofs.«01_k».proof.Proof.PoolSum
public import Idealize.ShloMosaic.Lib.Pipeline.ValueKit
public import Idealize.ShloMosaic.Lib.Pipeline.ReadBack
public import Idealize.ShloMosaic.Lib.KernelVsHost
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.Pool

/-- Rows that vanish from row `N` on: the rows from `t` on of each less the one `w` later sum to the `w` rows from `t` on. -/
theorem ahead_eq {G : ℕ → EReal} (hG : ∀ n, ∃ r : ℝ, G n = (r : EReal)) {N : ℕ} (h0 : ∀ n, N ≤ n → G n = 0) (w t : ℕ) :
    ∑ d ∈ Finset.range N, (G (t + d) + -G (t + d + w)) = ∑ d ∈ Finset.range w, G (t + d) := by
  choose g hg using hG
  have g0 : ∀ n, N ≤ n → g n = 0 := fun n h => EReal.coe_eq_zero.mp ((hg n).symm.trans (h0 n h))
  have hr : ∑ d ∈ Finset.range N, (g (t + d) + -g (t + d + w)) = ∑ d ∈ Finset.range w, g (t + d) := by
    have a : ∑ d ∈ Finset.range (N + w), g (t + d) = ∑ d ∈ Finset.range N, g (t + d) := by
      rw [Finset.sum_range_add]
      refine (congrArg _ (Finset.sum_eq_zero fun d _ => ?_)).trans (add_zero _)
      exact g0 _ (by omega)
    have b : ∑ d ∈ Finset.range (w + N), g (t + d) = ∑ d ∈ Finset.range w, g (t + d) + ∑ d ∈ Finset.range N, g (t + d + w) := by
      rw [Finset.sum_range_add]
      exact congrArg _ (Finset.sum_congr rfl fun d _ => congrArg g (by omega))
    rw [Finset.sum_add_distrib, Finset.sum_neg_distrib, ← a, Nat.add_comm N w, b]
    ring
  have e := congrArg (fun r : ℝ => (r : EReal)) hr
  simp only [Reals.coe_sum] at e
  refine Eq.trans (Finset.sum_congr rfl fun d _ => ?_) (e.trans (Finset.sum_congr rfl fun d _ => (hg _).symm))
  rw [hg, hg, EReal.coe_add, EReal.coe_neg]

/-- The windows of a running sum, counted forwards. -/
def forwards (N : ℕ) : (Wd N).Idx ≃ Fin N where
  toFun i := show Fin N from i 1
  invFun d := ix4 0 d 0 0
  left_inv i := by
    funext a
    apply Fin.ext
    fin_cases a
    · have h : (i 0).val < 1 := (i 0).isLt
      exact (show 0 = (i 0).val by omega)
    · rfl
    · have h : (i 2).val < 1 := (i 2).isLt
      exact (show 0 = (i 2).val by omega)
    · have h : (i 3).val < 1 := (i 3).isLt
      exact (show 0 = (i 3).val by omega)
  right_inv d := rfl

/-- A running sum from each row to the last, row by row. -/
theorem remaining {N M A B : ℕ} (hM : M + 1 = N) (x : FVec Ideal ⟨4, ![1, N, A, B]⟩ .f32) {u : Shape} (z : FVec Ideal u .f32) (h) (hu)
    (hz : z (Shape.Idx.first hu) = 0) (t : Fin N) (g : Fin A) (l : Fin B) :
    Host.reduceWindowAdd (s := ⟨4, ![1, N, A, B]⟩) (t := ⟨4, ![1, N, A, B]⟩) ![1, N, 1, 1] ![1, 1, 1, 1] ![0, 0, 0, 0] ![0, M, 0, 0] x z h hu
        (ix4 0 t g l)
      = ∑ d ∈ Finset.range N, if hn : t.val + d < N then x (ix4 0 ⟨t.val + d, hn⟩ g l) else 0 := by
  rw [Finset.sum_range]
  set G : (Wd N).Idx → EReal := fun i =>
    if hn : t.val + (forwards N i).val < N then x (ix4 0 ⟨t.val + (forwards N i).val, hn⟩ g l) else 0 with hG
  have e : Host.reduceWindowAdd (s := ⟨4, ![1, N, A, B]⟩) (t := ⟨4, ![1, N, A, B]⟩) ![1, N, 1, 1] ![1, 1, 1, 1] ![0, 0, 0, 0] ![0, M, 0, 0] x z h hu
        (ix4 0 t g l)
      = (List.finRange (Wd N).numel).foldl (fun r n => r + G ((Wd N).rowMajor.symm n)) (z (Shape.Idx.first hu)) := by
    show (List.finRange (Wd N).numel).foldl _ (z (Shape.Idx.first hu)) = _
    refine congrArg (fun f => (List.finRange (Wd N).numel).foldl f (z (Shape.Idx.first hu))) ?_
    funext r n
    refine congrArg (fun y => r + y) ?_
    have i0 : ((Wd N).rowMajor.symm n 0).val < 1 := ((Wd N).rowMajor.symm n 0).isLt
    have i2 : ((Wd N).rowMajor.symm n 2).val < 1 := ((Wd N).rowMajor.symm n 2).isLt
    have i3 : ((Wd N).rowMajor.symm n 3).val < 1 := ((Wd N).rowMajor.symm n 3).isLt
    have hb : (forwards N ((Wd N).rowMajor.symm n)).val = ((Wd N).rowMajor.symm n 1).val := rfl
    rw [hG]
    simp only [hb]
    by_cases hd : t.val + ((Wd N).rowMajor.symm n 1).val < N
    · rw [dif_pos hd]
      have hin : ∀ a : Fin 4, (![0, 0, 0, 0] : Fin 4 → ℕ) a ≤ ((ix4 (0 : Fin 1) t g l : (⟨4, ![1, N, A, B]⟩ : Shape).Idx) a).val * (![1, 1, 1, 1] : Fin 4 → ℕ) a + ((Wd N).rowMajor.symm n a).val
          ∧ ((ix4 (0 : Fin 1) t g l : (⟨4, ![1, N, A, B]⟩ : Shape).Idx) a).val * (![1, 1, 1, 1] : Fin 4 → ℕ) a + ((Wd N).rowMajor.symm n a).val - (![0, 0, 0, 0] : Fin 4 → ℕ) a < (![1, N, A, B] : Fin 4 → ℕ) a := by
        intro a
        fin_cases a
        · exact (show 0 ≤ 0 * 1 + ((Wd N).rowMajor.symm n 0).val ∧ 0 * 1 + ((Wd N).rowMajor.symm n 0).val - 0 < 1 by omega)
        · exact (show 0 ≤ t.val * 1 + ((Wd N).rowMajor.symm n 1).val ∧ t.val * 1 + ((Wd N).rowMajor.symm n 1).val - 0 < N by omega)
        · have := g.isLt
          exact (show 0 ≤ g.val * 1 + ((Wd N).rowMajor.symm n 2).val ∧ g.val * 1 + ((Wd N).rowMajor.symm n 2).val - 0 < A by omega)
        · have := l.isLt
          exact (show 0 ≤ l.val * 1 + ((Wd N).rowMajor.symm n 3).val ∧ l.val * 1 + ((Wd N).rowMajor.symm n 3).val - 0 < B by omega)
      refine (dif_pos hin).trans (congrArg x ?_)
      funext a
      apply Fin.ext
      fin_cases a
      · exact (show 0 * 1 + ((Wd N).rowMajor.symm n 0).val - 0 = 0 by omega)
      · exact (show t.val * 1 + ((Wd N).rowMajor.symm n 1).val - 0 = t.val + ((Wd N).rowMajor.symm n 1).val by omega)
      · exact (show g.val * 1 + ((Wd N).rowMajor.symm n 2).val - 0 = g.val by omega)
      · exact (show l.val * 1 + ((Wd N).rowMajor.symm n 3).val - 0 = l.val by omega)
    · rw [dif_neg hd]
      refine (dif_neg fun hin => ?_).trans hz
      have h1 : t.val * 1 + ((Wd N).rowMajor.symm n 1).val - 0 < N := (hin 1).2
      omega
  rw [e, foldl_add, hz, zero_add, ← Fin.sum_univ_def, Equiv.sum_comp (Wd N).rowMajor.symm G]
  exact Fintype.sum_equiv (forwards N) _ _ fun i => rfl

/-- Row `r` of a group's tile read `o` rows later: past its end, the sixteen rows that follow it. -/
def front (o : ℕ) (ho : o ≤ 16) (w : FVec Ideal ⟨2, ![512, 128]⟩ .f32) (c : FVec Ideal ⟨2, ![16, 128]⟩ .f32) : FVec Ideal ⟨2, ![512, 128]⟩ .f32 :=
  fun y =>
  have h0 : (y 0).val < 512 := (y 0).isLt
  if h : (y 0).val + o < 512 then w (ix2 ⟨(y 0).val + o, h⟩ (y 1)) else c (ix2 ⟨(y 0).val + o - 512, by omega⟩ (y 1))

theorem hitG {n a q : ℕ} {ia} (w : (Rect.unit (s := ⟨2, ![528, 512]⟩) ![a, q] ![n, 128] ia).shape.Idx → Elt Ideal .f32)
    (L : List (View.Piece (Elt Ideal) ⟨2, ![528, 512]⟩ .f32)) (y : (⟨2, ![528, 512]⟩ : Shape).Idx) (r : Fin n) (k : Fin 128)
    (h : (y 0).val = a + r.val) (hk : (y 1).val = q + k.val) :
    View.canon ((⟨Rect.unit (s := ⟨2, ![528, 512]⟩) ![a, q] ![n, 128] ia, w⟩ : View.Piece (Elt Ideal) ⟨2, ![528, 512]⟩ .f32) :: L) y
      = w (show (⟨2, ![n, 128]⟩ : Shape).Idx from ix2 r k) := by
  have hy : y = (Rect.unit (s := ⟨2, ![528, 512]⟩) ![a, q] ![n, 128] ia).emb (show (⟨2, ![n, 128]⟩ : Shape).Idx from ix2 r k) := by
    funext i
    apply Fin.ext
    fin_cases i
    · show (y 0).val = a + 1 * r.val
      omega
    · show (y 1).val = q + 1 * k.val
      omega
  refine (congrArg (View.canon _) hy).trans ?_
  exact View.canon_cons_emb _ _ _ _

theorem missG {n a q : ℕ} {ia} (w : (Rect.unit (s := ⟨2, ![528, 512]⟩) ![a, q] ![n, 128] ia).shape.Idx → Elt Ideal .f32)
    (L : List (View.Piece (Elt Ideal) ⟨2, ![528, 512]⟩ .f32)) (y : (⟨2, ![528, 512]⟩ : Shape).Idx) (h : (y 0).val < a ∨ a + n ≤ (y 0).val) :
    View.canon ((⟨Rect.unit (s := ⟨2, ![528, 512]⟩) ![a, q] ![n, 128] ia, w⟩ : View.Piece (Elt Ideal) ⟨2, ![528, 512]⟩ .f32) :: L) y
      = View.canon L y := by
  refine View.canon_cons_of_not_mem _ L fun hm => ?_
  obtain ⟨x, hx⟩ := LoadRect.exists_idx_of_mem (Rect.toLoadRect _) hm
  have e : (y 0).val = a + 1 * (x 0).val := by rw [← hx]; rfl
  have l : (x 0).val < n := (x 0).isLt
  omega

variable {sig : RefSig} {κ : Kind} {sp : Space}

/-- A group's tile stored at the start and sixteen rows after it, read from row `o` on. -/
theorem read_front {o q : ℕ} (ho : o ≤ 16) (v : View sig κ sp ⟨2, ![528, 512]⟩ .f32) {ia ib io}
    (w : (Rect.unit (s := ⟨2, ![528, 512]⟩) ![0, q] ![512, 128] ia).shape.Idx → Elt Ideal .f32)
    (c : (Rect.unit (s := ⟨2, ![528, 512]⟩) ![512, q] ![16, 128] ib).shape.Idx → Elt Ideal .f32)
    (L : List (View.Piece (Elt Ideal) ⟨2, ![528, 512]⟩ .f32)) :
    v.readCov ((⟨Rect.unit (s := ⟨2, ![528, 512]⟩) ![512, q] ![16, 128] ib, c⟩ : View.Piece (Elt Ideal) ⟨2, ![528, 512]⟩ .f32)
        :: (⟨Rect.unit (s := ⟨2, ![528, 512]⟩) ![0, q] ![512, 128] ia, w⟩ : View.Piece (Elt Ideal) ⟨2, ![528, 512]⟩ .f32) :: L)
      (Rect.unit (s := ⟨2, ![528, 512]⟩) ![o, q] ![512, 128] io).toLoadRect = front o ho w c := by
  rw [View.readCov_eq_canon']
  funext x
  show View.canon _ ((Rect.unit (s := ⟨2, ![528, 512]⟩) ![o, q] ![512, 128] io).toLoadRect.idx x) = _
  generalize hz : (Rect.unit (s := ⟨2, ![528, 512]⟩) ![o, q] ![512, 128] io).toLoadRect.idx x = z
  have z0 : (z 0).val = o + (x 0).val := by
    rw [← hz]
    show o + 1 * (x 0).val = _
    omega
  have z1 : (z 1).val = q + (x 1).val := by
    rw [← hz]
    exact (show q + 1 * (x 1).val = q + (x 1).val by omega)
  have hx : (x 0).val < 512 := (x 0).isLt
  unfold front
  by_cases h : (x 0).val + o < 512
  · refine Eq.trans ?_ (dif_pos h).symm
    rw [missG _ _ _ (Or.inl (by omega))]
    exact hitG _ _ _ ⟨(x 0).val + o, h⟩ (x 1) (by show (z 0).val = 0 + ((x 0).val + o); omega) z1
  · refine Eq.trans ?_ (dif_neg h).symm
    exact hitG _ _ _ ⟨(x 0).val + o - 512, by omega⟩ (x 1) (by show (z 0).val = 512 + ((x 0).val + o - 512); omega) z1

end Cert.Pool

end

end
-- ==== Proof.PoolGrad.lean ====
/- The backward pass of the pooled mixer: its three results as plain formulas in the arguments. -/
module

public import proofs.«01_k».proof.Defs
public import proofs.«01_k».proof.Proof.MixPoint
public import proofs.«01_k».proof.Proof.PoolAhead
public import proofs.«01_k».proof.Proof.Reals
public import proofs.«01_k».proof.Kernel11Ideal
public import Idealize.ShloMosaic.Lib.Pipeline.ValueKit
public import Idealize.ShloMosaic.Lib.Pipeline.ReadBack
public import Idealize.ShloMosaic.Lib.Pointwise
public import Idealize.ShloMosaic.Lib.Claim
@[expose] public section

set_option maxRecDepth 16384

noncomputable section

open Idealize.ShloMosaic Idealize.ShloMosaic.TcCoe Idealize.SL.Sem
open Idealize.ShloMosaic.Pipeline (Dat)
open Cert.Row (row)

namespace Cert.PoolGrad
open Cert.Kernel11Ideal Cert.Pool
open Cert.Kernel10Ideal.Point (pos wd2 wd4 wd8 wd16)

variable (x : FVec Ideal S16384x2176 .f32) (y : FVec Ideal S16384x1024 .f32) (q : FVec Ideal S4x128x128 .f32) (s : FVec Ideal S512 .f32)

/-- A pooled column's rows: zero past the last row. -/
def col (j : Fin 512) (n : ℕ) : EReal := if h : n < 16384 then x (ix2 ⟨n, h⟩ ⟨1536 + j.val, by omega⟩) else 0

/-- The widths of the four groups' windows, as numbers of rows and as divisors. -/
def wid : Fin 4 → ℕ := ![2, 4, 8, 16]
def wide : Fin 4 → EReal := ![wd2, wd4, wd8, wd16]

/-- Column `k` of group `g`. -/
def at4 (g : Fin 4) (k : Fin 128) : Fin 512 := ⟨g.val * 128 + k.val, by omega⟩

/-- The pooled rows of a group: the mean of the last rows, less the row. -/
def Group (t : ℕ) (g : Fin 4) (k : Fin 128) : EReal :=
  Ideal.div (win (col x (at4 g k)) (wid g) t) (min (pos t) (wide g)) - col x (at4 g k) t

/-- The gradient at a group's mixed rows: zero past the last row. -/
def Dmx (t : ℕ) (g : Fin 4) (l : Fin 128) : EReal :=
  if h : t < 16384 then y (ix2 ⟨t, h⟩ ⟨512 + (at4 g l).val, by have := (at4 g l).isLt; omega⟩) * s (ix1 (at4 g l)) else 0

/-- The gradient at a group's pooled rows, and that gradient over the number of rows its mean is of. -/
def Dpool (t : ℕ) (g : Fin 4) (k : Fin 128) : EReal := ∑ l : Fin 128, Dmx y s t g l * q (ix3 g k l)
def Scaled (t : ℕ) (g : Fin 4) (k : Fin 128) : EReal := Ideal.div (Dpool y q s t g k) (min (pos t) (wide g))

/-- The gradient at a group's rows: a row enters its own pooled row, less once, and the means of the rows after it. -/
def Back (t : ℕ) (g : Fin 4) (k : Fin 128) : EReal :=
  (0 - Dpool y q s t g k) + ∑ d ∈ Finset.range (wid g), Scaled y q s (t + d) g k

/-- The three results. -/
def DU : FVec Ideal S16384x512 .f32 := fun i =>
  have h : (i 1).val < 512 := (i 1).isLt
  Back y q s (i 0).val ⟨(i 1).val / 128, by omega⟩ ⟨(i 1).val % 128, by omega⟩
def DW : FVec Ideal S4x128x128 .f32 := fun i =>
  ∑ t : Fin 16384, Group x t.val (i 0) (i 1) * Dmx y s t.val (i 0) (i 2)
def DS : FVec Ideal S1x512 .f32 := fun i =>
  have h : (i 1).val < 512 := (i 1).isLt
  ∑ t : Fin 16384, y (ix2 t ⟨512 + (i 1).val, by omega⟩)
    * ∑ k : Fin 128, Group x t.val ⟨(i 1).val / 128, by omega⟩ k * q (ix3 ⟨(i 1).val / 128, by omega⟩ k ⟨(i 1).val % 128, by omega⟩)

theorem wide_real (g : Fin 4) : ∃ r : ℝ, 0 < r ∧ r ≤ 16 ∧ wide g = (r : EReal) := by
  have e2 : wd2 = ((2 : ℝ) : EReal) := by
    unfold wd2; simp [Ideal.ofBits, Ideal.ieee]; rw [← EReal.coe_mul]; norm_num
  have e4 : wd4 = ((4 : ℝ) : EReal) := by
    unfold wd4; simp [Ideal.ofBits, Ideal.ieee]; rw [← EReal.coe_mul]; norm_num
  have e8 : wd8 = ((8 : ℝ) : EReal) := by
    unfold wd8; simp [Ideal.ofBits, Ideal.ieee]; rw [← EReal.coe_mul]; norm_num
  have e16 : wd16 = ((16 : ℝ) : EReal) := by
    unfold wd16; simp [Ideal.ofBits, Ideal.ieee]; rw [← EReal.coe_mul]; norm_num
  match g with
  | 0 => exact ⟨2, by norm_num, by norm_num, e2⟩
  | 1 => exact ⟨4, by norm_num, by norm_num, e4⟩
  | 2 => exact ⟨8, by norm_num, by norm_num, e8⟩
  | 3 => exact ⟨16, by norm_num, by norm_num, e16⟩

/-- From row 512 on every window is whole. -/
theorem min_wide (g : Fin 4) (t : ℕ) (h : 512 ≤ t) : min (pos t) (wide g) = wide g := by
  obtain ⟨r, h0, h1, e⟩ := wide_real g
  refine min_eq_right ?_
  rw [e]
  unfold pos
  refine EReal.coe_le_coe_iff.mpr ?_
  have : (512 : ℝ) ≤ (t : ℝ) := by exact_mod_cast h
  linarith

/-- The divisor of a row is a real number other than zero. -/
theorem min_real (g : Fin 4) (t : ℕ) : ∃ r : ℝ, r ≠ 0 ∧ min (pos t) (wide g) = (r : EReal) := by
  obtain ⟨r, h0, h1, e⟩ := wide_real g
  have hp : (0 : ℝ) < (t : ℝ) + 1 := by positivity
  refine ⟨min ((t : ℝ) + 1) r, (lt_min hp h0).ne', ?_⟩
  rw [e]
  unfold pos
  exact (EReal.coe_strictMono.monotone.map_min (a := (t : ℝ) + 1) (b := r)).symm

theorem div_real (a r : ℝ) (hr : r ≠ 0) : Ideal.div (a : EReal) (r : EReal) = ((a / r : ℝ) : EReal) := by
  unfold Ideal.div
  simp [hr]
  rw [← EReal.coe_inv, ← EReal.coe_mul, div_eq_mul_inv]

theorem dmx_past (t : ℕ) (g : Fin 4) (l : Fin 128) (h : 16384 ≤ t) : Dmx y s t g l = 0 := by
  unfold Dmx
  rw [dif_neg (by omega)]

theorem dpool_past (t : ℕ) (g : Fin 4) (k : Fin 128) (h : 16384 ≤ t) : Dpool y q s t g k = 0 := by
  unfold Dpool
  refine Finset.sum_eq_zero fun l _ => ?_
  rw [dmx_past y s t g l h, zero_mul]

theorem scaled_past (t : ℕ) (g : Fin 4) (k : Fin 128) (h : 16384 ≤ t) : Scaled y q s t g k = 0 := by
  obtain ⟨r, hr, e⟩ := min_real g t
  unfold Scaled
  rw [dpool_past y q s t g k h, e]
  refine (div_real 0 r hr).trans ?_
  simp

theorem scaled_real (hy : Reals.Real' y) (hq : Reals.Real' q) (hs : Reals.Real' s) (g : Fin 4) (k : Fin 128) (t : ℕ) :
    ∃ r : ℝ, Scaled y q s t g k = (r : EReal) := by
  obtain ⟨fy, ey⟩ := hy
  obtain ⟨fq, eq⟩ := hq
  obtain ⟨fs, es⟩ := hs
  by_cases h : t < 16384
  · obtain ⟨r, hr, e⟩ := min_real g t
    have hd : Dpool y q s t g k = ((∑ l : Fin 128, fy (ix2 ⟨t, h⟩ ⟨512 + (at4 g l).val, by have := (at4 g l).isLt; omega⟩) * fs (ix1 (at4 g l)) * fq (ix3 g k l) : ℝ) : EReal) := by
      unfold Dpool Dmx
      rw [Reals.coe_sum]
      refine Finset.sum_congr rfl fun l _ => ?_
      rw [dif_pos h, ey, eq, es, EReal.coe_mul, EReal.coe_mul]
    unfold Scaled
    rw [hd, e]
    exact ⟨_, div_real _ r hr⟩
  · exact ⟨0, scaled_past y q s t g k (by omega)⟩

end Cert.PoolGrad

end

end
-- ==== Proof.PoolBlock.lean ====
/- The backward pass of the pooled mixer: what each tile reads, and its rows among all rows. -/
module

public import proofs.«01_k».proof.Defs
public import proofs.«01_k».proof.Proof.PoolPoint
public import proofs.«01_k».proof.Proof.PoolGrad
public import proofs.«01_k».proof.Proof.Gen.Kernel11Ideal.Frame
public import proofs.«01_k».proof.Proof.Gen.Kernel11Ideal.Value
public import Idealize.ShloMosaic.Lib.Pipeline.ValueKit
public import Idealize.ShloMosaic.Lib.Pipeline.ReadBack
public import Idealize.ShloMosaic.Lib.Pointwise
public import Idealize.ShloMosaic.Lib.Claim
@[expose] public section

set_option maxRecDepth 16384

noncomputable section

open Idealize.ShloMosaic Idealize.ShloMosaic.TcCoe Idealize.SL.Sem
open Idealize.ShloMosaic.Pipeline (Dat)
open Cert.Row (row)

namespace Cert.Kernel11Ideal.Value
open Cert.Kernel11Ideal Cert.Kernel11Ideal.Gen Cert.Kernel11Ideal.Point Cert.Pool Cert.PoolGrad
open Cert.Kernel10Ideal.Point (pos wd2 wd4 wd8 wd16)

variable (m : (ℓ : Loc nD τ sig) → Buf (Elt Ideal) ℓ)

theorem idx : ∀ t : Fin cfg0.N, win0_0.index t = ![t.val, 1] ∧ win0_1.index t = ![min ((t.val + 1) * 32) 1023, 1] ∧ win0_2.index t = ![t.val, 3]
    ∧ win0_3.index t = ![t.val * 32 - 1, 3] ∧ win0_4.index t = ![0, 0, 0] ∧ win0_5.index t = ![0, 0, 0] ∧ win0_6.index t = ![0, 0]
    ∧ win0_7.index t = ![t.val, 0] ∧ win0_8.index t = ![0, 0, 0] ∧ win0_9.index t = ![0, 0] :=
  (by decide +kernel : ∀ t : Fin grid0.N, _)

theorem coord : ∀ t : Fin cfg0.N, ((cfg0.grid.coords t) 0).val = t.val :=
  (by decide +kernel : ∀ t : Fin grid0.N, _)

/-- The arguments of the call at a device. -/
def aY (c : Dev nD) : FVec Ideal S16384x1024 .f32 := m ((c : Thread nD τ).loc main_arg0)
def aX (c : Dev nD) : FVec Ideal S16384x2176 .f32 := m ((c : Thread nD τ).loc main_arg1)
def aQ (c : Dev nD) : FVec Ideal S4x128x128 .f32 := m ((c : Thread nD τ).loc main_arg2)
def aS (c : Dev nD) : FVec Ideal S512 .f32 := m ((c : Thread nD τ).loc main_arg3)

/-- Row `r` of block `t`, among all rows. -/
def at' (t : Fin cfg0.N) (r : Fin 512) : Fin 16384 := ⟨t.val * 512 + r.val, by have := t.isLt; have : cfg0.N = 32 := N_0; omega⟩

theorem row_y (c : Dev nD) (t : Fin cfg0.N) (r : Fin 512) (j : Fin 512) :
    (show FVec Ideal S512x512 .f32 from iblk m c 0 t) (ix2 r j) = aY m c (ix2 (at' t r) ⟨512 + j.val, by omega⟩) := by
  unfold aY at'
  blk_ext [iblk, V, idx t]

theorem row_next (c : Dev nD) (t : Fin cfg0.N) (ht : t.val < 31) (r : Fin 16) (j : Fin 512) (n : Fin 16384) (h : n.val = (t.val + 1) * 512 + r.val) :
    (show FVec Ideal S16x512 .f32 from iblk m c 1 t) (ix2 r j) = aY m c (ix2 n ⟨512 + j.val, by omega⟩) := by
  unfold aY
  blk_ext [iblk, V, idx t]

theorem row_u (c : Dev nD) (t : Fin cfg0.N) (r : Fin 512) (j : Fin 512) :
    (show FVec Ideal S512x512 .f32 from X0_2 m c t) (ix2 r j) = aX m c (ix2 (at' t r) ⟨1536 + j.val, by omega⟩) := by
  unfold aX at'
  show X0_2 m c t (ix2 r j) = _
  unfold X0_2 Pipeline.Window.fill
  rw [dif_pos (moved0_2 t _)]
  blk_ext [iblk, V, idx t]

theorem row_halo (c : Dev nD) (t : Fin cfg0.N) (r : Fin 16) (j : Fin 512) (n : Fin 16384) (h : n.val + 16 = t.val * 512 + r.val) :
    (show FVec Ideal S16x512 .f32 from X0_3 m c t) (ix2 r j) = aX m c (ix2 n ⟨1536 + j.val, by omega⟩) := by
  unfold aX
  show X0_3 m c t (ix2 r j) = _
  unfold X0_3 Pipeline.Window.fill
  rw [dif_pos (moved0_3 t _)]
  blk_ext [iblk, V, idx t]

theorem row_q (c : Dev nD) (t : Fin cfg0.N) (g : Fin 4) (k l : Fin 128) :
    (show FVec Ideal S4x128x128 .bf16 from iblk m c 4 t) (ix3 g k l) = aQ m c (ix3 g k l) := by
  unfold aQ
  blk_point [iblk, V, idx t]

theorem row_p (c : Dev nD) (t : Fin cfg0.N) (g : Fin 4) (k l : Fin 128) :
    (show FVec Ideal S4x128x128 .bf16 from iblk m c 5 t) (ix3 g l k) = aQ m c (ix3 g k l) := by
  unfold aQ
  blk_point [iblk, V, idx t]

theorem row_s (c : Dev nD) (t : Fin cfg0.N) (j : Fin 512) :
    (show FVec Ideal S1x512 .f32 from iblk m c 6 t) (ix2 0 j) = aS m c (ix1 j) := by
  unfold aS
  blk_point [iblk, V, idx t]

/-- A tile, the rows before it as the point keeps them, the gradient's tile, the rows after it as the point keeps them, and the scale. -/
abbrev uT (c : Dev nD) (t : Fin cfg0.N) : FVec Ideal S512x512 .f32 := X0_2 m c t
abbrev hT (c : Dev nD) (t : Fin cfg0.N) : FVec Ideal S16x512 .f32 := k0_pay5 (F := Ideal) (grid0.coords t) (X0_3 m c t)
abbrev nT (t : Fin cfg0.N) : FVec Ideal S512x1 .f32 := k0_pay7 (F := Ideal) (grid0.coords t)
abbrev yT (c : Dev nD) (t : Fin cfg0.N) : FVec Ideal S512x512 .f32 := iblk m c 0 t
abbrev zT (c : Dev nD) (t : Fin cfg0.N) : FVec Ideal S16x512 .f32 := k0_pay9 (F := Ideal) (grid0.coords t) (iblk m c 1 t)
abbrev sT (c : Dev nD) (t : Fin cfg0.N) : FVec Ideal S1x512 .f32 := k0_pay8 (F := Ideal) (iblk m c 6 t)

theorem nT_at (t : Fin cfg0.N) (r : Fin 512) : nT t (ix2 r 0) = pos (t.val * 512 + r.val) := by
  refine (pos_at _ r).trans ?_
  rw [coord t]

theorem tile_past (c : Dev nD) (t : Fin cfg0.N) (q : ℕ) (hq : q + 128 ≤ 512) (r : Fin 512) (k : Fin 128) :
    uT m c t (ix2 r ⟨q + k.val, by omega⟩) = past (col (aX m c) ⟨q + k.val, by omega⟩) (t.val * 512 + r.val) 0 := by
  refine (row_u m c t r _).trans ?_
  have := (at' t r).isLt
  unfold past col
  rw [if_pos (Nat.zero_le _), dif_pos (show t.val * 512 + r.val - 0 < 16384 from this)]
  rfl

theorem back_past (c : Dev nD) (t : Fin cfg0.N) (o q : ℕ) (ho : o ≤ 16) (hq : q + 128 ≤ 512) (r : Fin 512) (k : Fin 128) :
    back o q ho hq (k0_pay6 (F := Ideal) (uT m c t)) (hT m c t) (ix2 r k)
      = past (col (aX m c) ⟨q + k.val, by omega⟩) (t.val * 512 + r.val) o := by
  have hT' := (at' t r).isLt
  have hT'' : t.val * 512 + r.val < 16384 := hT'
  unfold back past
  by_cases h : o ≤ r.val
  · refine (dif_pos h).trans ?_
    rw [if_pos (by omega), tile_at]
    refine (row_u m c t _ _).trans ?_
    unfold col
    rw [dif_pos (by omega)]
    refine congrArg (fun n => aX m c (ix2 n _)) (Fin.ext ?_)
    show t.val * 512 + (r.val - o) = t.val * 512 + r.val - o
    omega
  · refine (dif_neg h).trans ?_
    refine (halo_at _ _ _ _).trans ?_
    have hc : ((grid0.coords t) 0).val = t.val := coord t
    rw [hc]
    by_cases h0 : t.val = 0
    · rw [if_pos h0, if_neg (by omega)]
    · rw [if_neg h0, if_pos (by omega)]
      unfold col
      rw [dif_pos (by omega)]
      refine row_halo m c t _ _ _ ?_
      show t.val * 512 + r.val - o + 16 = t.val * 512 + (r.val + 16 - o)
      omega

/-- A tile's pooled rows of group 0, as its point builds them. -/
def pT0 (c : Dev nD) (t : Fin cfg0.N) : FVec Ideal S512x128 .f32 :=
    k0_pay12 (F := Ideal) (uT m c t) (nT t) (k0_pay10 (F := Ideal) (uT m c t)
      (back 1 0 (by decide) (by decide) (k0_pay6 (F := Ideal) (uT m c t)) (hT m c t))) (k0_pay11 (F := Ideal))

theorem pT0_at (c : Dev nD) (t : Fin cfg0.N) (r : Fin 512) (k : Fin 128) :
    pT0 m c t (ix2 r k) = Group (aX m c) (t.val * 512 + r.val) 0 k := by
  unfold pT0
  refine (pool2_at _ _ _ r k).trans ?_
  rw [nT_at]
  simp only [back_past m c t _ _ _ _ r k]
  rw [tile_past m c t 0 (by decide) r k]
  show _ = Ideal.div (win (col (aX m c) ⟨0 + k.val, _⟩) 2 _) (min (pos _) wd2) - col (aX m c) ⟨0 + k.val, _⟩ _
  unfold win
  simp only [Finset.sum_range_succ, Finset.sum_range_zero, zero_add]
  rfl

/-- A tile's pooled rows of group 1, as its point builds them. -/
def pT1 (c : Dev nD) (t : Fin cfg0.N) : FVec Ideal S512x128 .f32 :=
    k0_pay13 (F := Ideal) (uT m c t) (nT t)
      (back 1 128 (by decide) (by decide) (k0_pay6 (F := Ideal) (uT m c t)) (hT m c t))
      (back 2 128 (by decide) (by decide) (k0_pay6 (F := Ideal) (uT m c t)) (hT m c t))
      (back 3 128 (by decide) (by decide) (k0_pay6 (F := Ideal) (uT m c t)) (hT m c t))

theorem pT1_at (c : Dev nD) (t : Fin cfg0.N) (r : Fin 512) (k : Fin 128) :
    pT1 m c t (ix2 r k) = Group (aX m c) (t.val * 512 + r.val) 1 k := by
  unfold pT1
  refine (pool4_at _ _ _ _ _ r k).trans ?_
  rw [nT_at]
  simp only [back_past m c t _ _ _ _ r k]
  rw [tile_past m c t 128 (by decide) r k]
  show _ = Ideal.div (win (col (aX m c) ⟨128 + k.val, _⟩) 4 _) (min (pos _) wd4) - col (aX m c) ⟨128 + k.val, _⟩ _
  unfold win
  simp only [Finset.sum_range_succ, Finset.sum_range_zero, zero_add]
  rfl

/-- A tile's pooled rows of group 2, as its point builds them. -/
def pT2 (c : Dev nD) (t : Fin cfg0.N) : FVec Ideal S512x128 .f32 :=
    k0_pay16 (F := Ideal) (k0_pay14 (F := Ideal) (uT m c t) (nT t)
      (back 1 256 (by decide) (by decide) (k0_pay6 (F := Ideal) (uT m c t)) (hT m c t))
      (back 2 256 (by decide) (by decide) (k0_pay6 (F := Ideal) (uT m c t)) (hT m c t))
      (back 3 256 (by decide) (by decide) (k0_pay6 (F := Ideal) (uT m c t)) (hT m c t))
      (back 4 256 (by decide) (by decide) (k0_pay6 (F := Ideal) (uT m c t)) (hT m c t))
      (back 5 256 (by decide) (by decide) (k0_pay6 (F := Ideal) (uT m c t)) (hT m c t))
      (back 6 256 (by decide) (by decide) (k0_pay6 (F := Ideal) (uT m c t)) (hT m c t))
      (back 7 256 (by decide) (by decide) (k0_pay6 (F := Ideal) (uT m c t)) (hT m c t))) (k0_pay15 (F := Ideal) (uT m c t))

theorem pT2_at (c : Dev nD) (t : Fin cfg0.N) (r : Fin 512) (k : Fin 128) :
    pT2 m c t (ix2 r k) = Group (aX m c) (t.val * 512 + r.val) 2 k := by
  unfold pT2
  refine (pool8_at _ _ _ _ _ _ _ _ _ r k).trans ?_
  rw [nT_at]
  simp only [back_past m c t _ _ _ _ r k]
  rw [tile_past m c t 256 (by decide) r k]
  show _ = Ideal.div (win (col (aX m c) ⟨256 + k.val, _⟩) 8 _) (min (pos _) wd8) - col (aX m c) ⟨256 + k.val, _⟩ _
  unfold win
  simp only [Finset.sum_range_succ, Finset.sum_range_zero, zero_add]
  rfl

/-- A tile's pooled rows of group 3, as its point builds them. -/
def pT3 (c : Dev nD) (t : Fin cfg0.N) : FVec Ideal S512x128 .f32 :=
    k0_pay18 (F := Ideal) (uT m c t) (nT t) (k0_pay17 (F := Ideal) (uT m c t)
      (back 1 384 (by decide) (by decide) (k0_pay6 (F := Ideal) (uT m c t)) (hT m c t))
      (back 2 384 (by decide) (by decide) (k0_pay6 (F := Ideal) (uT m c t)) (hT m c t))
      (back 3 384 (by decide) (by decide) (k0_pay6 (F := Ideal) (uT m c t)) (hT m c t))
      (back 4 384 (by decide) (by decide) (k0_pay6 (F := Ideal) (uT m c t)) (hT m c t))
      (back 5 384 (by decide) (by decide) (k0_pay6 (F := Ideal) (uT m c t)) (hT m c t))
      (back 6 384 (by decide) (by decide) (k0_pay6 (F := Ideal) (uT m c t)) (hT m c t))
      (back 7 384 (by decide) (by decide) (k0_pay6 (F := Ideal) (uT m c t)) (hT m c t))
      (back 8 384 (by decide) (by decide) (k0_pay6 (F := Ideal) (uT m c t)) (hT m c t))
      (back 9 384 (by decide) (by decide) (k0_pay6 (F := Ideal) (uT m c t)) (hT m c t))
      (back 10 384 (by decide) (by decide) (k0_pay6 (F := Ideal) (uT m c t)) (hT m c t))
      (back 11 384 (by decide) (by decide) (k0_pay6 (F := Ideal) (uT m c t)) (hT m c t))
      (back 12 384 (by decide) (by decide) (k0_pay6 (F := Ideal) (uT m c t)) (hT m c t))
      (back 13 384 (by decide) (by decide) (k0_pay6 (F := Ideal) (uT m c t)) (hT m c t))
      (back 14 384 (by decide) (by decide) (k0_pay6 (F := Ideal) (uT m c t)) (hT m c t)))
      (back 15 384 (by decide) (by decide) (k0_pay6 (F := Ideal) (uT m c t)) (hT m c t))

theorem pT3_at (c : Dev nD) (t : Fin cfg0.N) (r : Fin 512) (k : Fin 128) :
    pT3 m c t (ix2 r k) = Group (aX m c) (t.val * 512 + r.val) 3 k := by
  unfold pT3
  refine (pool16_at _ _ _ _ _ _ _ _ _ _ _ _ _ _ _ _ _ r k).trans ?_
  rw [nT_at]
  simp only [back_past m c t _ _ _ _ r k]
  rw [tile_past m c t 384 (by decide) r k]
  show _ = Ideal.div (win (col (aX m c) ⟨384 + k.val, _⟩) 16 _) (min (pos _) wd16) - col (aX m c) ⟨384 + k.val, _⟩ _
  unfold win
  simp only [Finset.sum_range_succ, Finset.sum_range_zero, zero_add]
  rfl

end Cert.Kernel11Ideal.Value

end

end
-- ==== Proof.PoolTile.lean ====
/- The backward pass of the pooled mixer: a tile and the rows after it, each with the gradient at the pooled rows. -/
module

public import proofs.«01_k».proof.Defs
public import proofs.«01_k».proof.Proof.PoolBlock
public import Idealize.ShloMosaic.Lib.Pipeline.ValueKit
public import Idealize.ShloMosaic.Lib.Pipeline.ReadBack
public import Idealize.ShloMosaic.Lib.Pointwise
public import Idealize.ShloMosaic.Lib.Claim
@[expose] public section

set_option maxRecDepth 16384

noncomputable section

open Idealize.ShloMosaic Idealize.ShloMosaic.TcCoe Idealize.SL.Sem
open Idealize.ShloMosaic.Pipeline (Dat)
open Cert.Row (row)

namespace Cert.Kernel11Ideal.Value
open Cert.Kernel11Ideal Cert.Kernel11Ideal.Gen Cert.Kernel11Ideal.Point Cert.Pool Cert.PoolGrad
open Cert.Kernel10Ideal.Point (pos wd2 wd4 wd8 wd16)

variable (m : (ℓ : Loc nD τ sig) → Buf (Elt Ideal) ℓ)

theorem inb4 (g : Fin 4) : ∀ k, (![g.val, 0, 0] : Fin 3 → ℕ) k + (![1, 128, 128] : Fin 3 → ℕ) k ≤ S4x128x128.size k := by
  have := g.isLt
  intro k
  fin_cases k
  · exact (show g.val + 1 ≤ 4 by omega)
  · exact (show 0 + 128 ≤ 128 by omega)
  · exact (show 0 + 128 ≤ 128 by omega)

theorem emb4 (g : Fin 4) (k l : Fin 128) :
    (Rect.unit (s := S4x128x128) ![g.val, 0, 0] ![1, 128, 128] (inb4 g)).idx (show S1x128x128.Idx from ix3 0 k l) = (ix3 g k l : S4x128x128.Idx) := by
  refine funext fun a => Fin.ext ?_
  fin_cases a
  · exact (show g.val + 1 * 0 = g.val by omega)
  · exact (show 0 + 1 * k.val = k.val by omega)
  · exact (show 0 + 1 * l.val = l.val by omega)

/-- One group's matrix and its transpose, as a point loads them. -/
def qT (c : Dev nD) (t : Fin cfg0.N) (g : Fin 4) : FVec Ideal S1x128x128 .bf16 := fun x =>
  (show FVec Ideal S4x128x128 .bf16 from iblk m c 4 t) ((Rect.unit (s := S4x128x128) ![g.val, 0, 0] ![1, 128, 128] (inb4 g)).idx x)
def wT (c : Dev nD) (t : Fin cfg0.N) (g : Fin 4) : FVec Ideal S1x128x128 .bf16 := fun x =>
  (show FVec Ideal S4x128x128 .bf16 from iblk m c 5 t) ((Rect.unit (s := S4x128x128) ![g.val, 0, 0] ![1, 128, 128] (inb4 g)).idx x)

theorem qT_at (c : Dev nD) (t : Fin cfg0.N) (g : Fin 4) (k l : Fin 128) : qT m c t g (ix3 0 k l) = aQ m c (ix3 g k l) := by
  refine Eq.trans ?_ (row_q m c t g k l)
  unfold qT
  exact congrArg (show FVec Ideal S4x128x128 .bf16 from iblk m c 4 t) (emb4 g k l)

theorem wT_at (c : Dev nD) (t : Fin cfg0.N) (g : Fin 4) (k l : Fin 128) : wT m c t g (ix3 0 l k) = aQ m c (ix3 g k l) := by
  refine Eq.trans ?_ (row_p m c t g k l)
  unfold wT
  exact congrArg (show FVec Ideal S4x128x128 .bf16 from iblk m c 5 t) (emb4 g l k)

theorem sT_at (c : Dev nD) (t : Fin cfg0.N) (j : Fin 512) : sT m c t (ix2 0 j) = aS m c (ix1 j) := (scale_at _ 0 j).trans (row_s m c t j)

/-- A tile's gradient at the mixed rows. -/
theorem mixed_at (c : Dev nD) (t : Fin cfg0.N) (g : Fin 4) (q : ℕ) (hq : q + 128 ≤ 512) (hg : q = g.val * 128) (r : Fin 512) (l : Fin 128) :
    yT m c t (ix2 r ⟨q + l.val, by omega⟩) * sT m c t (ix2 0 ⟨q + l.val, by omega⟩) = Dmx (aY m c) (aS m c) (t.val * 512 + r.val) g l := by
  subst hg
  have h := (at' t r).isLt
  unfold Dmx
  have h' : t.val * 512 + r.val < 16384 := h
  rw [dif_pos h']
  exact congrArg₂ (· * ·) (row_y m c t r _) (sT_at m c t _)

/-- The rows after a tile: their gradient at the mixed rows, which past the last row is zero. -/
theorem later_at (c : Dev nD) (t : Fin cfg0.N) (g : Fin 4) (q : ℕ) (hq : q + 128 ≤ 512) (hg : q = g.val * 128) (r : Fin 16) (l : Fin 128) :
    zT m c t (ix2 r ⟨q + l.val, by omega⟩) * sT m c t (ix2 0 ⟨q + l.val, by omega⟩) = Dmx (aY m c) (aS m c) ((t.val + 1) * 512 + r.val) g l := by
  subst hg
  have hN : cfg0.N = 32 := N_0
  have ht := t.isLt
  have hc : ((grid0.coords t) 0).val = t.val := coord t
  have hz := next_at (grid0.coords t) (iblk m c 1 t) r ⟨g.val * 128 + l.val, by omega⟩
  rw [hc] at hz
  by_cases h : t.val = 31
  · rw [if_pos h] at hz
    refine (congrArg (fun y => y * _) hz).trans ?_
    rw [zero_mul, dmx_past _ _ _ _ _ (by omega)]
  · rw [if_neg h] at hz
    unfold Dmx
    rw [dif_pos (by omega)]
    exact congrArg₂ (· * ·) (hz.trans (row_next m c t (by omega) r _ _ rfl)) (sT_at m c t _)

theorem grad_at (c : Dev nD) (t : Fin cfg0.N) (g : Fin 4) (q : ℕ) (hq : q + 128 ≤ 512) (hg : q = g.val * 128) (r : Fin 512) (k : Fin 128) :
    grad (yT m c t) (sT m c t) (wT m c t g) q hq r k = Dpool (aY m c) (aQ m c) (aS m c) (t.val * 512 + r.val) g k :=
  Finset.sum_congr rfl fun l _ => congrArg₂ (· * ·) (mixed_at m c t g q hq hg r l) (wT_at m c t g k l)

theorem late_at (c : Dev nD) (t : Fin cfg0.N) (g : Fin 4) (q : ℕ) (hq : q + 128 ≤ 512) (hg : q = g.val * 128) (r : Fin 16) (k : Fin 128) :
    grad (zT m c t) (sT m c t) (wT m c t g) q hq r k = Dpool (aY m c) (aQ m c) (aS m c) ((t.val + 1) * 512 + r.val) g k :=
  Finset.sum_congr rfl fun l _ => congrArg₂ (· * ·) (later_at m c t g q hq hg r l) (wT_at m c t g k l)

/-- A group's scaled gradient on a tile and on the rows after it, read `o` rows later. -/
theorem front_at (c : Dev nD) (t : Fin cfg0.N) (g : Fin 4) (w : FVec Ideal S512x128 .f32) (z : FVec Ideal S16x128 .f32)
    (hw : ∀ r k, w (ix2 r k) = Scaled (aY m c) (aQ m c) (aS m c) (t.val * 512 + r.val) g k)
    (hz : ∀ r k, z (ix2 r k) = Scaled (aY m c) (aQ m c) (aS m c) ((t.val + 1) * 512 + r.val) g k)
    (o : ℕ) (ho : o ≤ 16) (r : Fin 512) (k : Fin 128) :
    front o ho w z (ix2 r k) = Scaled (aY m c) (aQ m c) (aS m c) (t.val * 512 + r.val + o) g k := by
  unfold front
  by_cases h : r.val + o < 512
  · refine (dif_pos h).trans ((hw _ _).trans ?_)
    exact congrArg (fun n => Scaled (aY m c) (aQ m c) (aS m c) n g k) (by show t.val * 512 + (r.val + o) = _; omega)
  · refine (dif_neg h).trans ((hz _ _).trans ?_)
    exact congrArg (fun n => Scaled (aY m c) (aQ m c) (aS m c) n g k) (by show (t.val + 1) * 512 + (r.val + o - 512) = _; omega)

/-- The scaled gradient of the rows after a tile, whose windows are all whole. -/
theorem whole_at (c : Dev nD) (t : Fin cfg0.N) (g : Fin 4) (q : ℕ) (hq : q + 128 ≤ 512) (hg : q = g.val * 128) (r : Fin 16) (k : Fin 128) :
    Ideal.div (grad (zT m c t) (sT m c t) (wT m c t g) q hq r k) (wide g) = Scaled (aY m c) (aQ m c) (aS m c) ((t.val + 1) * 512 + r.val) g k := by
  unfold Scaled
  rw [late_at m c t g q hq hg r k, min_wide g _ (by omega)]

theorem scaled_at (c : Dev nD) (t : Fin cfg0.N) (g : Fin 4) (q : ℕ) (hq : q + 128 ≤ 512) (hg : q = g.val * 128) (r : Fin 512) (k : Fin 128) :
    Ideal.div (grad (yT m c t) (sT m c t) (wT m c t g) q hq r k) (min (nT t (ix2 r 0)) (wide g)) = Scaled (aY m c) (aQ m c) (aS m c) (t.val * 512 + r.val) g k := by
  unfold Scaled
  rw [grad_at m c t g q hq hg r k, nT_at]

/-- Group 0: the scaled gradient a point keeps of its tile and of the rows after it, and what it reads back `o` rows later. -/
def mT0 (c : Dev nD) (t : Fin cfg0.N) : FVec Ideal S512x128 .f32 := k0_pay26 (F := Ideal) (nT t) (k0_pay23 (F := Ideal) (sT m c t) (yT m c t) (wT m c t 0))
def lT0 (c : Dev nD) (t : Fin cfg0.N) : FVec Ideal S16x128 .f32 := k0_pay27 (F := Ideal) (k0_pay24 (F := Ideal) (sT m c t) (zT m c t)) (k0_pay25 (F := Ideal) (wT m c t 0)) (constant S16x128 .f32 0x00000000#32)
abbrev fT0 (c : Dev nD) (t : Fin cfg0.N) (o : ℕ) (ho : o ≤ 16) : FVec Ideal S512x128 .f32 := front o ho (mT0 m c t) (lT0 m c t)

theorem fT0_at (c : Dev nD) (t : Fin cfg0.N) (o : ℕ) (ho : o ≤ 16) (r : Fin 512) (k : Fin 128) :
    fT0 m c t o ho (ix2 r k) = Scaled (aY m c) (aQ m c) (aS m c) (t.val * 512 + r.val + o) 0 k :=
  front_at m c t 0 _ _ (fun r k => (over0_at (nT t) (sT m c t) (yT m c t) (wT m c t 0) r k).trans (scaled_at m c t 0 0 (by decide) rfl r k))
    (fun r k => (tail0_at (sT m c t) (zT m c t) (wT m c t 0) r k).trans (whole_at m c t 0 0 (by decide) rfl r k)) o ho r k

/-- Group 1: the scaled gradient a point keeps of its tile and of the rows after it, and what it reads back `o` rows later. -/
def mT1 (c : Dev nD) (t : Fin cfg0.N) : FVec Ideal S512x128 .f32 := k0_pay35 (F := Ideal) (nT t) (k0_pay31 (F := Ideal) (sT m c t) (yT m c t)) (wT m c t 1)
def lT1 (c : Dev nD) (t : Fin cfg0.N) : FVec Ideal S16x128 .f32 := k0_pay36 (F := Ideal) (sT m c t) (zT m c t) (wT m c t 1)
abbrev fT1 (c : Dev nD) (t : Fin cfg0.N) (o : ℕ) (ho : o ≤ 16) : FVec Ideal S512x128 .f32 := front o ho (mT1 m c t) (lT1 m c t)

theorem fT1_at (c : Dev nD) (t : Fin cfg0.N) (o : ℕ) (ho : o ≤ 16) (r : Fin 512) (k : Fin 128) :
    fT1 m c t o ho (ix2 r k) = Scaled (aY m c) (aQ m c) (aS m c) (t.val * 512 + r.val + o) 1 k :=
  front_at m c t 1 _ _ (fun r k => (over1_at (nT t) (sT m c t) (yT m c t) (wT m c t 1) r k).trans (scaled_at m c t 1 128 (by decide) rfl r k))
    (fun r k => (tail1_at (sT m c t) (zT m c t) (wT m c t 1) r k).trans (whole_at m c t 1 128 (by decide) rfl r k)) o ho r k

/-- Group 2: the scaled gradient a point keeps of its tile and of the rows after it, and what it reads back `o` rows later. -/
def mT2 (c : Dev nD) (t : Fin cfg0.N) : FVec Ideal S512x128 .f32 := k0_pay46 (F := Ideal) (k0_pay45 (F := Ideal) (nT t) (sT m c t) (yT m c t) (wT m c t 2))
def lT2 (c : Dev nD) (t : Fin cfg0.N) : FVec Ideal S16x128 .f32 := k0_pay47 (F := Ideal) (k0_pay44 (F := Ideal) (sT m c t) (zT m c t) (wT m c t 2))
abbrev fT2 (c : Dev nD) (t : Fin cfg0.N) (o : ℕ) (ho : o ≤ 16) : FVec Ideal S512x128 .f32 := front o ho (mT2 m c t) (lT2 m c t)

theorem fT2_at (c : Dev nD) (t : Fin cfg0.N) (o : ℕ) (ho : o ≤ 16) (r : Fin 512) (k : Fin 128) :
    fT2 m c t o ho (ix2 r k) = Scaled (aY m c) (aQ m c) (aS m c) (t.val * 512 + r.val + o) 2 k :=
  front_at m c t 2 _ _ (fun r k => (over2_at (nT t) (sT m c t) (yT m c t) (wT m c t 2) r k).trans (scaled_at m c t 2 256 (by decide) rfl r k))
    (fun r k => (tail2_at (sT m c t) (zT m c t) (wT m c t 2) r k).trans (whole_at m c t 2 256 (by decide) rfl r k)) o ho r k

/-- Group 3: the scaled gradient a point keeps of its tile and of the rows after it, and what it reads back `o` rows later. -/
def mT3 (c : Dev nD) (t : Fin cfg0.N) : FVec Ideal S512x128 .f32 := k0_pay55 (F := Ideal) (nT t) (sT m c t) (yT m c t) (wT m c t 3)
def lT3 (c : Dev nD) (t : Fin cfg0.N) : FVec Ideal S16x128 .f32 := k0_pay57 (F := Ideal) (k0_pay56 (F := Ideal) (sT m c t) (zT m c t) (wT m c t 3))
abbrev fT3 (c : Dev nD) (t : Fin cfg0.N) (o : ℕ) (ho : o ≤ 16) : FVec Ideal S512x128 .f32 := front o ho (mT3 m c t) (lT3 m c t)

theorem fT3_at (c : Dev nD) (t : Fin cfg0.N) (o : ℕ) (ho : o ≤ 16) (r : Fin 512) (k : Fin 128) :
    fT3 m c t o ho (ix2 r k) = Scaled (aY m c) (aQ m c) (aS m c) (t.val * 512 + r.val + o) 3 k :=
  front_at m c t 3 _ _ (fun r k => (over3_at (nT t) (sT m c t) (yT m c t) (wT m c t 3) r k).trans (scaled_at m c t 3 384 (by decide) rfl r k))
    (fun r k => (tail3_at (sT m c t) (zT m c t) (wT m c t 3) r k).trans (whole_at m c t 3 384 (by decide) rfl r k)) o ho r k

/-- Group 0's columns of the gradient at the input rows. -/
def dT0 (c : Dev nD) (t : Fin cfg0.N) : FVec Ideal S512x128 .f32 := k0_pay28 (F := Ideal) (k0_pay23 (F := Ideal) (sT m c t) (yT m c t) (wT m c t 0)) (fT0 m c t 0 (by decide)) (fT0 m c t 1 (by decide))

theorem dT0_at (c : Dev nD) (t : Fin cfg0.N) (r : Fin 512) (k : Fin 128) :
    dT0 m c t (ix2 r k) = Back (aY m c) (aQ m c) (aS m c) (t.val * 512 + r.val) 0 k := by
  unfold dT0
  refine (back0_at _ _ _ r k).trans ?_
  rw [grad0_at, grad_at m c t 0 0 (by decide) rfl r k]
  simp only [fT0_at m c t _ _ r k]
  unfold Back
  show _ = _ + ∑ d ∈ Finset.range 2, _
  simp only [Finset.sum_range_succ, Finset.sum_range_zero, zero_add, add_assoc]
  try rfl

/-- Group 1's columns of the gradient at the input rows. -/
def dT1 (c : Dev nD) (t : Fin cfg0.N) : FVec Ideal S512x128 .f32 := k0_pay38 (F := Ideal) (k0_pay37 (F := Ideal) (k0_pay31 (F := Ideal) (sT m c t) (yT m c t)) (wT m c t 1) (fT1 m c t 0 (by decide)) (fT1 m c t 1 (by decide)) (fT1 m c t 2 (by decide))) (fT1 m c t 3 (by decide))

theorem dT1_at (c : Dev nD) (t : Fin cfg0.N) (r : Fin 512) (k : Fin 128) :
    dT1 m c t (ix2 r k) = Back (aY m c) (aQ m c) (aS m c) (t.val * 512 + r.val) 1 k := by
  unfold dT1
  refine (back1_at _ _ _ _ _ _ _ r k).trans ?_
  rw [grad_at m c t 1 128 (by decide) rfl r k]
  simp only [fT1_at m c t _ _ r k]
  unfold Back
  show _ = _ + ∑ d ∈ Finset.range 4, _
  simp only [Finset.sum_range_succ, Finset.sum_range_zero, zero_add, add_assoc]
  try rfl

/-- Group 2's columns of the gradient at the input rows. -/
def dT2 (c : Dev nD) (t : Fin cfg0.N) : FVec Ideal S512x128 .f32 := k0_pay48 (F := Ideal) (k0_pay43 (F := Ideal) (sT m c t) (yT m c t) (wT m c t 2))
    (fT2 m c t 0 (by decide))
    (fT2 m c t 1 (by decide))
    (fT2 m c t 2 (by decide))
    (fT2 m c t 3 (by decide))
    (fT2 m c t 4 (by decide))
    (fT2 m c t 5 (by decide))
    (fT2 m c t 6 (by decide))
    (fT2 m c t 7 (by decide))

theorem dT2_at (c : Dev nD) (t : Fin cfg0.N) (r : Fin 512) (k : Fin 128) :
    dT2 m c t (ix2 r k) = Back (aY m c) (aQ m c) (aS m c) (t.val * 512 + r.val) 2 k := by
  unfold dT2
  refine (back2_at _ _ _ _ _ _ _ _ _ r k).trans ?_
  rw [grad2_at, grad_at m c t 2 256 (by decide) rfl r k]
  simp only [fT2_at m c t _ _ r k]
  unfold Back
  show _ = _ + ∑ d ∈ Finset.range 8, _
  simp only [Finset.sum_range_succ, Finset.sum_range_zero, zero_add, add_assoc]
  try rfl

/-- Group 3's columns of the gradient at the input rows, before its last three terms. -/
def dT3 (c : Dev nD) (t : Fin cfg0.N) : FVec Ideal S512x128 .f32 := k0_pay58 (F := Ideal) (k0_pay54 (F := Ideal) (sT m c t) (yT m c t) (wT m c t 3))
    (fT3 m c t 0 (by decide))
    (fT3 m c t 1 (by decide))
    (fT3 m c t 2 (by decide))
    (fT3 m c t 3 (by decide))
    (fT3 m c t 4 (by decide))
    (fT3 m c t 5 (by decide))
    (fT3 m c t 6 (by decide))
    (fT3 m c t 7 (by decide))
    (fT3 m c t 8 (by decide))
    (fT3 m c t 9 (by decide))
    (fT3 m c t 10 (by decide))
    (fT3 m c t 11 (by decide))
    (fT3 m c t 12 (by decide))

theorem dT3_at (c : Dev nD) (t : Fin cfg0.N) (r : Fin 512) (k : Fin 128) :
    addf (addf (addf (dT3 m c t) (fT3 m c t 13 (by decide))) (fT3 m c t 14 (by decide))) (fT3 m c t 15 (by decide)) (ix2 r k) = Back (aY m c) (aQ m c) (aS m c) (t.val * 512 + r.val) 3 k := by
  unfold dT3
  refine (back3_at _ _ _ _ _ _ _ _ _ _ _ _ _ _ _ _ _ r k).trans ?_
  rw [grad3_at, grad_at m c t 3 384 (by decide) rfl r k]
  simp only [fT3_at m c t _ _ r k]
  unfold Back
  show _ = _ + ∑ d ∈ Finset.range 16, _
  simp only [Finset.sum_range_succ, Finset.sum_range_zero, zero_add, add_assoc]
  try rfl

/-- The rows of the gradient at the input that a point stores. -/
def duT (c : Dev nD) (t : Fin cfg0.N) : FVec Ideal S512x512 .f32 :=
  k0_pay1 (F := Ideal) (dT0 m c t) (dT1 m c t) (dT2 m c t) (dT3 m c t) (fT3 m c t 13 (by decide)) (fT3 m c t 14 (by decide)) (fT3 m c t 15 (by decide))

theorem duT_at (c : Dev nD) (t : Fin cfg0.N) (r j : Fin 512) : duT m c t (ix2 r j) = DU (aY m c) (aQ m c) (aS m c) (ix2 (at' t r) j) := by
  have back_eq : ∀ (g : Fin 4) (k : Fin 128), j.val = g.val * 128 + k.val →
      Back (aY m c) (aQ m c) (aS m c) (t.val * 512 + r.val) g k = DU (aY m c) (aQ m c) (aS m c) (ix2 (at' t r) j) := by
    intro g k h
    exact congrArg₂ (Back (aY m c) (aQ m c) (aS m c) (t.val * 512 + r.val))
      (Fin.ext (by show g.val = j.val / 128; omega)) (Fin.ext (by show k.val = j.val % 128; omega))
  refine (cols_at _ _ _ _ _ _ _ r j).trans ?_
  by_cases h2 : j.val < 128
  · rw [dif_pos h2]
    exact (dT0_at m c t r _).trans (back_eq 0 _ (show j.val = 0 * 128 + j.val by omega))
  rw [dif_neg h2]
  by_cases h3 : j.val - 128 < 128
  · rw [dif_pos h3]
    exact (dT1_at m c t r _).trans (back_eq 1 _ (show j.val = 1 * 128 + (j.val - 128) by omega))
  rw [dif_neg h3]
  by_cases h4 : j.val - 128 - 128 < 128
  · rw [dif_pos h4]
    exact (dT2_at m c t r _).trans (back_eq 2 _ (show j.val = 2 * 128 + (j.val - 128 - 128) by omega))
  rw [dif_neg h4]
  exact (dT3_at m c t r _).trans (back_eq 3 _ (show j.val = 3 * 128 + (j.val - 128 - 128 - 128) by omega))

end Cert.Kernel11Ideal.Value

end

end
-- ==== Proof.PoolShare.lean ====
/- The backward pass of the pooled mixer: what a point adds to the gradients of the matrices and of the scale, and the three results. -/
module

public import proofs.«01_k».proof.Defs
public import proofs.«01_k».proof.Proof.PoolTile
public import proofs.«01_k».proof.Proof.FfnTaps
public import proofs.«01_k».proof.Proof.Gen.Kernel11Ideal.Frame
public import proofs.«01_k».proof.Proof.Gen.Kernel11Ideal.Value
public import Idealize.ShloMosaic.Lib.Pipeline.ValueKit
public import Idealize.ShloMosaic.Lib.Pipeline.ReadBack
public import Idealize.ShloMosaic.Lib.Pointwise
public import Idealize.ShloMosaic.Lib.Claim
@[expose] public section

set_option maxRecDepth 16384

noncomputable section

open Idealize.ShloMosaic Idealize.ShloMosaic.TcCoe Idealize.SL.Sem
open Idealize.ShloMosaic.Pipeline (Dat)
open Cert.Row (row)

namespace Cert.Kernel11Ideal.Value
open Cert.Kernel11Ideal Cert.Kernel11Ideal.Gen Cert.Kernel11Ideal.Point Cert.Pool Cert.PoolGrad Cert.Taps
open Cert.Kernel10Ideal.Point (pos wd2 wd4 wd8 wd16)

variable (m : (ℓ : Loc nD τ sig) → Buf (Elt Ideal) ℓ)

/-- What a point adds to the gradient of the scale and to that of the matrices. -/
def dsPart (c : Dev nD) (t : Fin cfg0.N) (y : S1x512.Idx) : EReal :=
  have h : (y 1).val < 512 := (y 1).isLt
  ∑ r : Fin 512, aY m c (ix2 (at' t r) ⟨512 + (y 1).val, by omega⟩) * ∑ k : Fin 128, Group (aX m c) (at' t r).val ⟨(y 1).val / 128, by omega⟩ k
    * aQ m c (ix3 ⟨(y 1).val / 128, by omega⟩ k ⟨(y 1).val % 128, by omega⟩)
def dwPart (c : Dev nD) (t : Fin cfg0.N) (y : S4x128x128.Idx) : EReal :=
  ∑ r : Fin 512, Group (aX m c) (at' t r).val (y 0) (y 1) * Dmx (aY m c) (aS m c) (at' t r).val (y 0) (y 2)

/-- What a point leaves of each. -/
def dsT (c : Dev nD) (t : Fin cfg0.N) (a : FVec Ideal S1x512 .f32) : FVec Ideal S1x512 .f32 :=
  k0_pay2 (F := Ideal) (k0_pay20 (F := Ideal) (yT m c t) (pT0 m c t) (qT m c t 0)) (k0_pay30 (F := Ideal) (yT m c t) (pT1 m c t) (qT m c t 1))
    (k0_pay40 (F := Ideal) (yT m c t) (pT2 m c t) (qT m c t 2)) (k0_pay51 (F := Ideal) (k0_pay50 (F := Ideal) (yT m c t) (pT3 m c t) (qT m c t 3))) a
def DwB (c : Dev nD) (t : Fin cfg0.N) (a : FVec Ideal S4x128x128 .f32) : FVec Ideal S4x128x128 .f32 := fun y => a y + dwPart m c t y

theorem share_at (c : Dev nD) (t : Fin cfg0.N) (p : FVec Ideal S512x128 .f32) (g : Fin 4) (q : ℕ) (hq : q + 128 ≤ 512) (hg : q = g.val * 128)
    (hp : ∀ r k, p (ix2 r k) = Group (aX m c) (t.val * 512 + r.val) g k) (l : Fin 128) (j : Fin 512) (hj : j.val = q + l.val) :
    scaleShare (yT m c t) p (qT m c t g) q hq l = dsPart m c t (ix2 0 j) := by
  have e1 : (⟨j.val / 128, by omega⟩ : Fin 4) = g := Fin.ext (by show j.val / 128 = g.val; omega)
  have e2 : (⟨j.val % 128, by omega⟩ : Fin 128) = l := Fin.ext (by show j.val % 128 = l.val; omega)
  have e3 : (⟨q + l.val, by omega⟩ : Fin 512) = j := Fin.ext hj.symm
  show _ = ∑ r : Fin 512, aY m c (ix2 (at' t r) ⟨512 + j.val, _⟩) * ∑ k : Fin 128, Group (aX m c) (at' t r).val ⟨j.val / 128, _⟩ k
    * aQ m c (ix3 ⟨j.val / 128, _⟩ k ⟨j.val % 128, _⟩)
  unfold scaleShare
  rw [e1, e2, e3]
  exact Finset.sum_congr rfl fun r _ => congrArg₂ (· * ·) (row_y m c t r j)
    (Finset.sum_congr rfl fun k _ => congrArg₂ (· * ·) (hp r k) (qT_at m c t g k l))

theorem dsT_at (c : Dev nD) (t : Fin cfg0.N) (a : FVec Ideal S1x512 .f32) (j : Fin 512) : dsT m c t a (ix2 0 j) = a (ix2 0 j) + dsPart m c t (ix2 0 j) := by
  refine (sums_at _ _ _ _ a j).trans (congrArg (fun y => a (ix2 0 j) + y) ?_)
  by_cases h2 : j.val < 128
  · rw [dif_pos h2]
    exact (scaleShare0_at _ _ _ _).trans (share_at m c t _ 0 0 _ rfl (pT0_at m c t) _ j (show j.val = 0 + j.val by omega))
  rw [dif_neg h2]
  by_cases h3 : j.val - 128 < 128
  · rw [dif_pos h3]
    exact (scaleShare1_at _ _ _ _).trans (share_at m c t _ 1 128 _ rfl (pT1_at m c t) _ j (show j.val = 128 + (j.val - 128) by omega))
  rw [dif_neg h3]
  by_cases h4 : j.val - 128 - 128 < 128
  · rw [dif_pos h4]
    exact (scaleShare2_at _ _ _ _).trans (share_at m c t _ 2 256 _ rfl (pT2_at m c t) _ j (show j.val = 256 + (j.val - 128 - 128) by omega))
  rw [dif_neg h4]
  exact (scaleShare3_at _ _ _ _).trans (share_at m c t _ 3 384 _ rfl (pT3_at m c t) _ j (show j.val = 384 + (j.val - 128 - 128 - 128) by omega))

theorem mat_at (c : Dev nD) (t : Fin cfg0.N) (p : FVec Ideal S512x128 .f32) (g : Fin 4) (q : ℕ) (hq : q + 128 ≤ 512) (hg : q = g.val * 128)
    (hp : ∀ r k, p (ix2 r k) = Group (aX m c) (t.val * 512 + r.val) g k) (k l : Fin 128) :
    matShare (sT m c t) (yT m c t) p q hq k l = dwPart m c t (ix3 g k l) :=
  Finset.sum_congr rfl fun r _ => congrArg₂ (· * ·) (hp r k) (mixed_at m c t g q hq hg r l)

/-- One group's matrix of the gradient that a point adds to. -/
def cutG (g : Fin 4) (a : FVec Ideal S4x128x128 .f32) : FVec Ideal S1x128x128 .f32 := fun x =>
  a ((Rect.unit (s := S4x128x128) ![g.val, 0, 0] ![1, 128, 128] (inb4 g)).idx x)

theorem piece0 (c : Dev nD) (t : Fin cfg0.N) (a : FVec Ideal S4x128x128 .f32) (x : S1x128x128.Idx) :
    k0_pay22 (F := Ideal) (sT m c t) (yT m c t) (pT0 m c t) (cutG 0 a) x = DwB m c t a ((Rect.unit (s := S4x128x128) ![0, 0, 0] ![1, 128, 128] (inb4 0)).idx x) := by
  obtain ⟨o, k, l, rfl⟩ : ∃ (o : Fin 1) (k l : Fin 128), x = ix3 o k l := ⟨x 0, x 1, x 2, eq_ix3 x⟩
  obtain rfl : o = 0 := Subsingleton.elim _ _
  refine (matShare0_at _ _ _ _ k l).trans ?_
  refine Eq.trans ?_ (congrArg (DwB m c t a) (emb4 0 k l)).symm
  exact congrArg₂ (· + ·) (congrArg a (emb4 0 k l)) (mat_at m c t _ 0 0 (by decide) rfl (pT0_at m c t) k l)

theorem piece1 (c : Dev nD) (t : Fin cfg0.N) (a : FVec Ideal S4x128x128 .f32) (x : S1x128x128.Idx) :
    k0_pay33 (F := Ideal) (k0_pay32 (F := Ideal) (sT m c t) (yT m c t) (pT1 m c t) (cutG 1 a)) x = DwB m c t a ((Rect.unit (s := S4x128x128) ![1, 0, 0] ![1, 128, 128] (inb4 1)).idx x) := by
  obtain ⟨o, k, l, rfl⟩ : ∃ (o : Fin 1) (k l : Fin 128), x = ix3 o k l := ⟨x 0, x 1, x 2, eq_ix3 x⟩
  obtain rfl : o = 0 := Subsingleton.elim _ _
  refine (matShare1_at _ _ _ _ k l).trans ?_
  refine Eq.trans ?_ (congrArg (DwB m c t a) (emb4 1 k l)).symm
  exact congrArg₂ (· + ·) (congrArg a (emb4 1 k l)) (mat_at m c t _ 1 128 (by decide) rfl (pT1_at m c t) k l)

theorem piece2 (c : Dev nD) (t : Fin cfg0.N) (a : FVec Ideal S4x128x128 .f32) (x : S1x128x128.Idx) :
    k0_pay42 (F := Ideal) (sT m c t) (yT m c t) (pT2 m c t) (cutG 2 a) x = DwB m c t a ((Rect.unit (s := S4x128x128) ![2, 0, 0] ![1, 128, 128] (inb4 2)).idx x) := by
  obtain ⟨o, k, l, rfl⟩ : ∃ (o : Fin 1) (k l : Fin 128), x = ix3 o k l := ⟨x 0, x 1, x 2, eq_ix3 x⟩
  obtain rfl : o = 0 := Subsingleton.elim _ _
  refine (matShare2_at _ _ _ _ k l).trans ?_
  refine Eq.trans ?_ (congrArg (DwB m c t a) (emb4 2 k l)).symm
  exact congrArg₂ (· + ·) (congrArg a (emb4 2 k l)) (mat_at m c t _ 2 256 (by decide) rfl (pT2_at m c t) k l)

theorem piece3 (c : Dev nD) (t : Fin cfg0.N) (a : FVec Ideal S4x128x128 .f32) (x : S1x128x128.Idx) :
    k0_pay53 (F := Ideal) (sT m c t) (yT m c t) (k0_pay49 (F := Ideal) (pT3 m c t)) (cutG 3 a) x = DwB m c t a ((Rect.unit (s := S4x128x128) ![3, 0, 0] ![1, 128, 128] (inb4 3)).idx x) := by
  obtain ⟨o, k, l, rfl⟩ : ∃ (o : Fin 1) (k l : Fin 128), x = ix3 o k l := ⟨x 0, x 1, x 2, eq_ix3 x⟩
  obtain rfl : o = 0 := Subsingleton.elim _ _
  refine (matShare3_at _ _ _ _ k l).trans ?_
  refine Eq.trans ?_ (congrArg (DwB m c t a) (emb4 3 k l)).symm
  exact congrArg₂ (· + ·) (congrArg a (emb4 3 k l)) (mat_at m c t _ 3 384 (by decide) rfl (pT3_at m c t) k l)

end Cert.Kernel11Ideal.Value

end

end
-- ==== Proof.PoolStoreU.lean ====
/- The backward pass of the pooled mixer: what each point stores. -/
module

public import proofs.«01_k».proof.Defs
public import proofs.«01_k».proof.Proof.PoolShare
public import proofs.«01_k».proof.Proof.Gen.Kernel11Ideal.Frame
public import proofs.«01_k».proof.Proof.Gen.Kernel11Ideal.Value
public import Idealize.ShloMosaic.Lib.Pipeline.ValueKit
public import Idealize.ShloMosaic.Lib.Pipeline.ReadBack
public import Idealize.ShloMosaic.Lib.Pointwise
public import Idealize.ShloMosaic.Lib.Claim
@[expose] public section

set_option maxRecDepth 16384

noncomputable section

open Idealize.ShloMosaic Idealize.ShloMosaic.TcCoe Idealize.SL.Sem
open Idealize.ShloMosaic.Pipeline (Dat)
open Cert.Row (row)

namespace Cert.Kernel11Ideal.Value
open Cert.Kernel11Ideal Cert.Kernel11Ideal.Gen Cert.Kernel11Ideal.Point Cert.Pool Cert.PoolGrad Cert.Taps
open Cert.Kernel10Ideal.Point (pos wd2 wd4 wd8 wd16)

variable (m : (ℓ : Loc nD τ sig) → Buf (Elt Ideal) ℓ)

set_option maxHeartbeats 4000000 in
theorem duA (c : Dev nD) (t : Fin cfg0.N) (h0 : t.val % 32 = 0) : (outsAt0 m c t.val t.isLt).1 = duT m c t := by
  rw [outsAt0_A m c t h0]
  frame_out
  simp only [
    Pool.read_back (o := 1) (p := 15) (q := 0) (by decide) (by decide) (by decide),
    Pool.read_back (o := 1) (p := 15) (q := 128) (by decide) (by decide) (by decide),
    Pool.read_back (o := 2) (p := 14) (q := 128) (by decide) (by decide) (by decide),
    Pool.read_back (o := 3) (p := 13) (q := 128) (by decide) (by decide) (by decide),
    Pool.read_back (o := 1) (p := 15) (q := 256) (by decide) (by decide) (by decide),
    Pool.read_back (o := 2) (p := 14) (q := 256) (by decide) (by decide) (by decide),
    Pool.read_back (o := 3) (p := 13) (q := 256) (by decide) (by decide) (by decide),
    Pool.read_back (o := 4) (p := 12) (q := 256) (by decide) (by decide) (by decide),
    Pool.read_back (o := 5) (p := 11) (q := 256) (by decide) (by decide) (by decide),
    Pool.read_back (o := 6) (p := 10) (q := 256) (by decide) (by decide) (by decide),
    Pool.read_back (o := 7) (p := 9) (q := 256) (by decide) (by decide) (by decide),
    Pool.read_back (o := 1) (p := 15) (q := 384) (by decide) (by decide) (by decide),
    Pool.read_back (o := 2) (p := 14) (q := 384) (by decide) (by decide) (by decide),
    Pool.read_back (o := 3) (p := 13) (q := 384) (by decide) (by decide) (by decide),
    Pool.read_back (o := 4) (p := 12) (q := 384) (by decide) (by decide) (by decide),
    Pool.read_back (o := 5) (p := 11) (q := 384) (by decide) (by decide) (by decide),
    Pool.read_back (o := 6) (p := 10) (q := 384) (by decide) (by decide) (by decide),
    Pool.read_back (o := 7) (p := 9) (q := 384) (by decide) (by decide) (by decide),
    Pool.read_back (o := 8) (p := 8) (q := 384) (by decide) (by decide) (by decide),
    Pool.read_back (o := 9) (p := 7) (q := 384) (by decide) (by decide) (by decide),
    Pool.read_back (o := 10) (p := 6) (q := 384) (by decide) (by decide) (by decide),
    Pool.read_back (o := 11) (p := 5) (q := 384) (by decide) (by decide) (by decide),
    Pool.read_back (o := 12) (p := 4) (q := 384) (by decide) (by decide) (by decide),
    Pool.read_back (o := 13) (p := 3) (q := 384) (by decide) (by decide) (by decide),
    Pool.read_back (o := 14) (p := 2) (q := 384) (by decide) (by decide) (by decide),
    Pool.read_back (o := 15) (p := 1) (q := 384) (by decide) (by decide) (by decide),
    Pool.read_front (o := 0) (q := 0) (by decide),
    Pool.read_front (o := 1) (q := 0) (by decide),
    Pool.read_front (o := 0) (q := 128) (by decide),
    Pool.read_front (o := 1) (q := 128) (by decide),
    Pool.read_front (o := 2) (q := 128) (by decide),
    Pool.read_front (o := 3) (q := 128) (by decide),
    Pool.read_front (o := 0) (q := 256) (by decide),
    Pool.read_front (o := 1) (q := 256) (by decide),
    Pool.read_front (o := 2) (q := 256) (by decide),
    Pool.read_front (o := 3) (q := 256) (by decide),
    Pool.read_front (o := 4) (q := 256) (by decide),
    Pool.read_front (o := 5) (q := 256) (by decide),
    Pool.read_front (o := 6) (q := 256) (by decide),
    Pool.read_front (o := 7) (q := 256) (by decide),
    Pool.read_front (o := 0) (q := 384) (by decide),
    Pool.read_front (o := 1) (q := 384) (by decide),
    Pool.read_front (o := 2) (q := 384) (by decide),
    Pool.read_front (o := 3) (q := 384) (by decide),
    Pool.read_front (o := 4) (q := 384) (by decide),
    Pool.read_front (o := 5) (q := 384) (by decide),
    Pool.read_front (o := 6) (q := 384) (by decide),
    Pool.read_front (o := 7) (q := 384) (by decide),
    Pool.read_front (o := 8) (q := 384) (by decide),
    Pool.read_front (o := 9) (q := 384) (by decide),
    Pool.read_front (o := 10) (q := 384) (by decide),
    Pool.read_front (o := 11) (q := 384) (by decide),
    Pool.read_front (o := 12) (q := 384) (by decide),
    Pool.read_front (o := 13) (q := 384) (by decide),
    Pool.read_front (o := 14) (q := 384) (by decide),
    Pool.read_front (o := 15) (q := 384) (by decide)]
  rfl

set_option maxHeartbeats 4000000 in
theorem duB (c : Dev nD) (t : Fin cfg0.N) (h0 : ¬ t.val % 32 = 0) : (outsAt0 m c t.val t.isLt).1 = duT m c t := by
  rw [outsAt0_B m c t h0]
  frame_out
  simp only [
    Pool.read_back (o := 1) (p := 15) (q := 0) (by decide) (by decide) (by decide),
    Pool.read_back (o := 1) (p := 15) (q := 128) (by decide) (by decide) (by decide),
    Pool.read_back (o := 2) (p := 14) (q := 128) (by decide) (by decide) (by decide),
    Pool.read_back (o := 3) (p := 13) (q := 128) (by decide) (by decide) (by decide),
    Pool.read_back (o := 1) (p := 15) (q := 256) (by decide) (by decide) (by decide),
    Pool.read_back (o := 2) (p := 14) (q := 256) (by decide) (by decide) (by decide),
    Pool.read_back (o := 3) (p := 13) (q := 256) (by decide) (by decide) (by decide),
    Pool.read_back (o := 4) (p := 12) (q := 256) (by decide) (by decide) (by decide),
    Pool.read_back (o := 5) (p := 11) (q := 256) (by decide) (by decide) (by decide),
    Pool.read_back (o := 6) (p := 10) (q := 256) (by decide) (by decide) (by decide),
    Pool.read_back (o := 7) (p := 9) (q := 256) (by decide) (by decide) (by decide),
    Pool.read_back (o := 1) (p := 15) (q := 384) (by decide) (by decide) (by decide),
    Pool.read_back (o := 2) (p := 14) (q := 384) (by decide) (by decide) (by decide),
    Pool.read_back (o := 3) (p := 13) (q := 384) (by decide) (by decide) (by decide),
    Pool.read_back (o := 4) (p := 12) (q := 384) (by decide) (by decide) (by decide),
    Pool.read_back (o := 5) (p := 11) (q := 384) (by decide) (by decide) (by decide),
    Pool.read_back (o := 6) (p := 10) (q := 384) (by decide) (by decide) (by decide),
    Pool.read_back (o := 7) (p := 9) (q := 384) (by decide) (by decide) (by decide),
    Pool.read_back (o := 8) (p := 8) (q := 384) (by decide) (by decide) (by decide),
    Pool.read_back (o := 9) (p := 7) (q := 384) (by decide) (by decide) (by decide),
    Pool.read_back (o := 10) (p := 6) (q := 384) (by decide) (by decide) (by decide),
    Pool.read_back (o := 11) (p := 5) (q := 384) (by decide) (by decide) (by decide),
    Pool.read_back (o := 12) (p := 4) (q := 384) (by decide) (by decide) (by decide),
    Pool.read_back (o := 13) (p := 3) (q := 384) (by decide) (by decide) (by decide),
    Pool.read_back (o := 14) (p := 2) (q := 384) (by decide) (by decide) (by decide),
    Pool.read_back (o := 15) (p := 1) (q := 384) (by decide) (by decide) (by decide),
    Pool.read_front (o := 0) (q := 0) (by decide),
    Pool.read_front (o := 1) (q := 0) (by decide),
    Pool.read_front (o := 0) (q := 128) (by decide),
    Pool.read_front (o := 1) (q := 128) (by decide),
    Pool.read_front (o := 2) (q := 128) (by decide),
    Pool.read_front (o := 3) (q := 128) (by decide),
    Pool.read_front (o := 0) (q := 256) (by decide),
    Pool.read_front (o := 1) (q := 256) (by decide),
    Pool.read_front (o := 2) (q := 256) (by decide),
    Pool.read_front (o := 3) (q := 256) (by decide),
    Pool.read_front (o := 4) (q := 256) (by decide),
    Pool.read_front (o := 5) (q := 256) (by decide),
    Pool.read_front (o := 6) (q := 256) (by decide),
    Pool.read_front (o := 7) (q := 256) (by decide),
    Pool.read_front (o := 0) (q := 384) (by decide),
    Pool.read_front (o := 1) (q := 384) (by decide),
    Pool.read_front (o := 2) (q := 384) (by decide),
    Pool.read_front (o := 3) (q := 384) (by decide),
    Pool.read_front (o := 4) (q := 384) (by decide),
    Pool.read_front (o := 5) (q := 384) (by decide),
    Pool.read_front (o := 6) (q := 384) (by decide),
    Pool.read_front (o := 7) (q := 384) (by decide),
    Pool.read_front (o := 8) (q := 384) (by decide),
    Pool.read_front (o := 9) (q := 384) (by decide),
    Pool.read_front (o := 10) (q := 384) (by decide),
    Pool.read_front (o := 11) (q := 384) (by decide),
    Pool.read_front (o := 12) (q := 384) (by decide),
    Pool.read_front (o := 13) (q := 384) (by decide),
    Pool.read_front (o := 14) (q := 384) (by decide),
    Pool.read_front (o := 15) (q := 384) (by decide)]
  rfl

end Cert.Kernel11Ideal.Value

end

end
-- ==== Proof.PoolStoreW.lean ====
/- The backward pass of the pooled mixer: what each point stores. -/
module

public import proofs.«01_k».proof.Defs
public import proofs.«01_k».proof.Proof.PoolShare
public import proofs.«01_k».proof.Proof.Gen.Kernel11Ideal.Frame
public import proofs.«01_k».proof.Proof.Gen.Kernel11Ideal.Value
public import Idealize.ShloMosaic.Lib.Pipeline.ValueKit
public import Idealize.ShloMosaic.Lib.Pipeline.ReadBack
public import Idealize.ShloMosaic.Lib.Pointwise
public import Idealize.ShloMosaic.Lib.Claim
@[expose] public section

set_option maxRecDepth 16384

noncomputable section

open Idealize.ShloMosaic Idealize.ShloMosaic.TcCoe Idealize.SL.Sem
open Idealize.ShloMosaic.Pipeline (Dat)
open Cert.Row (row)

namespace Cert.Kernel11Ideal.Value
open Cert.Kernel11Ideal Cert.Kernel11Ideal.Gen Cert.Kernel11Ideal.Point Cert.Pool Cert.PoolGrad Cert.Taps
open Cert.Kernel10Ideal.Point (pos wd2 wd4 wd8 wd16)

variable (m : (ℓ : Loc nD τ sig) → Buf (Elt Ideal) ℓ)

set_option maxHeartbeats 4000000 in
theorem dsA (c : Dev nD) (t : Fin cfg0.N) (h0 : t.val % 32 = 0) : (outsAt0 m c t.val t.isLt).2.2 = dsT m c t (k0_pay4 (F := Ideal)) := by
  rw [outsAt0_A m c t h0]
  frame_out
  simp only [
    Pool.read_back (o := 1) (p := 15) (q := 0) (by decide) (by decide) (by decide),
    Pool.read_back (o := 1) (p := 15) (q := 128) (by decide) (by decide) (by decide),
    Pool.read_back (o := 2) (p := 14) (q := 128) (by decide) (by decide) (by decide),
    Pool.read_back (o := 3) (p := 13) (q := 128) (by decide) (by decide) (by decide),
    Pool.read_back (o := 1) (p := 15) (q := 256) (by decide) (by decide) (by decide),
    Pool.read_back (o := 2) (p := 14) (q := 256) (by decide) (by decide) (by decide),
    Pool.read_back (o := 3) (p := 13) (q := 256) (by decide) (by decide) (by decide),
    Pool.read_back (o := 4) (p := 12) (q := 256) (by decide) (by decide) (by decide),
    Pool.read_back (o := 5) (p := 11) (q := 256) (by decide) (by decide) (by decide),
    Pool.read_back (o := 6) (p := 10) (q := 256) (by decide) (by decide) (by decide),
    Pool.read_back (o := 7) (p := 9) (q := 256) (by decide) (by decide) (by decide),
    Pool.read_back (o := 1) (p := 15) (q := 384) (by decide) (by decide) (by decide),
    Pool.read_back (o := 2) (p := 14) (q := 384) (by decide) (by decide) (by decide),
    Pool.read_back (o := 3) (p := 13) (q := 384) (by decide) (by decide) (by decide),
    Pool.read_back (o := 4) (p := 12) (q := 384) (by decide) (by decide) (by decide),
    Pool.read_back (o := 5) (p := 11) (q := 384) (by decide) (by decide) (by decide),
    Pool.read_back (o := 6) (p := 10) (q := 384) (by decide) (by decide) (by decide),
    Pool.read_back (o := 7) (p := 9) (q := 384) (by decide) (by decide) (by decide),
    Pool.read_back (o := 8) (p := 8) (q := 384) (by decide) (by decide) (by decide),
    Pool.read_back (o := 9) (p := 7) (q := 384) (by decide) (by decide) (by decide),
    Pool.read_back (o := 10) (p := 6) (q := 384) (by decide) (by decide) (by decide),
    Pool.read_back (o := 11) (p := 5) (q := 384) (by decide) (by decide) (by decide),
    Pool.read_back (o := 12) (p := 4) (q := 384) (by decide) (by decide) (by decide),
    Pool.read_back (o := 13) (p := 3) (q := 384) (by decide) (by decide) (by decide),
    Pool.read_back (o := 14) (p := 2) (q := 384) (by decide) (by decide) (by decide),
    Pool.read_back (o := 15) (p := 1) (q := 384) (by decide) (by decide) (by decide)]
  rfl

set_option maxHeartbeats 4000000 in
theorem dwA (c : Dev nD) (t : Fin cfg0.N) (h0 : t.val % 32 = 0) : (outsAt0 m c t.val t.isLt).2.1 = DwB m c t (k0_pay3 (F := Ideal)) := by
  rw [outsAt0_A m c t h0]
  frame_out
  simp only [
    Pool.read_back (o := 1) (p := 15) (q := 0) (by decide) (by decide) (by decide),
    Pool.read_back (o := 1) (p := 15) (q := 128) (by decide) (by decide) (by decide),
    Pool.read_back (o := 2) (p := 14) (q := 128) (by decide) (by decide) (by decide),
    Pool.read_back (o := 3) (p := 13) (q := 128) (by decide) (by decide) (by decide),
    Pool.read_back (o := 1) (p := 15) (q := 256) (by decide) (by decide) (by decide),
    Pool.read_back (o := 2) (p := 14) (q := 256) (by decide) (by decide) (by decide),
    Pool.read_back (o := 3) (p := 13) (q := 256) (by decide) (by decide) (by decide),
    Pool.read_back (o := 4) (p := 12) (q := 256) (by decide) (by decide) (by decide),
    Pool.read_back (o := 5) (p := 11) (q := 256) (by decide) (by decide) (by decide),
    Pool.read_back (o := 6) (p := 10) (q := 256) (by decide) (by decide) (by decide),
    Pool.read_back (o := 7) (p := 9) (q := 256) (by decide) (by decide) (by decide),
    Pool.read_back (o := 1) (p := 15) (q := 384) (by decide) (by decide) (by decide),
    Pool.read_back (o := 2) (p := 14) (q := 384) (by decide) (by decide) (by decide),
    Pool.read_back (o := 3) (p := 13) (q := 384) (by decide) (by decide) (by decide),
    Pool.read_back (o := 4) (p := 12) (q := 384) (by decide) (by decide) (by decide),
    Pool.read_back (o := 5) (p := 11) (q := 384) (by decide) (by decide) (by decide),
    Pool.read_back (o := 6) (p := 10) (q := 384) (by decide) (by decide) (by decide),
    Pool.read_back (o := 7) (p := 9) (q := 384) (by decide) (by decide) (by decide),
    Pool.read_back (o := 8) (p := 8) (q := 384) (by decide) (by decide) (by decide),
    Pool.read_back (o := 9) (p := 7) (q := 384) (by decide) (by decide) (by decide),
    Pool.read_back (o := 10) (p := 6) (q := 384) (by decide) (by decide) (by decide),
    Pool.read_back (o := 11) (p := 5) (q := 384) (by decide) (by decide) (by decide),
    Pool.read_back (o := 12) (p := 4) (q := 384) (by decide) (by decide) (by decide),
    Pool.read_back (o := 13) (p := 3) (q := 384) (by decide) (by decide) (by decide),
    Pool.read_back (o := 14) (p := 2) (q := 384) (by decide) (by decide) (by decide),
    Pool.read_back (o := 15) (p := 1) (q := 384) (by decide) (by decide) (by decide)]
  simp (decide := true) only [View.readCov_skip, View.readCov_fill]
  refine tiles 3 _ _ _ _ ⟨fun x => (congrFun ?_ x).trans (piece3 m c t (k0_pay3 (F := Ideal)) x),
      fun x => (congrFun ?_ x).trans (piece2 m c t (k0_pay3 (F := Ideal)) x),
      fun x => (congrFun ?_ x).trans (piece1 m c t (k0_pay3 (F := Ideal)) x),
      fun x => (congrFun ?_ x).trans (piece0 m c t (k0_pay3 (F := Ideal)) x), trivial⟩ rfl
  all_goals rfl

set_option maxHeartbeats 4000000 in
theorem dsB (c : Dev nD) (t : Fin cfg0.N) (h0 : ¬ t.val % 32 = 0) : (outsAt0 m c t.val t.isLt).2.2 = dsT m c t (outsAt0 m c (t.val - 1) (Nat.lt_of_le_of_lt (Nat.sub_le _ _) t.isLt)).2.2 := by
  rw [outsAt0_B m c t h0]
  frame_out
  simp only [
    Pool.read_back (o := 1) (p := 15) (q := 0) (by decide) (by decide) (by decide),
    Pool.read_back (o := 1) (p := 15) (q := 128) (by decide) (by decide) (by decide),
    Pool.read_back (o := 2) (p := 14) (q := 128) (by decide) (by decide) (by decide),
    Pool.read_back (o := 3) (p := 13) (q := 128) (by decide) (by decide) (by decide),
    Pool.read_back (o := 1) (p := 15) (q := 256) (by decide) (by decide) (by decide),
    Pool.read_back (o := 2) (p := 14) (q := 256) (by decide) (by decide) (by decide),
    Pool.read_back (o := 3) (p := 13) (q := 256) (by decide) (by decide) (by decide),
    Pool.read_back (o := 4) (p := 12) (q := 256) (by decide) (by decide) (by decide),
    Pool.read_back (o := 5) (p := 11) (q := 256) (by decide) (by decide) (by decide),
    Pool.read_back (o := 6) (p := 10) (q := 256) (by decide) (by decide) (by decide),
    Pool.read_back (o := 7) (p := 9) (q := 256) (by decide) (by decide) (by decide),
    Pool.read_back (o := 1) (p := 15) (q := 384) (by decide) (by decide) (by decide),
    Pool.read_back (o := 2) (p := 14) (q := 384) (by decide) (by decide) (by decide),
    Pool.read_back (o := 3) (p := 13) (q := 384) (by decide) (by decide) (by decide),
    Pool.read_back (o := 4) (p := 12) (q := 384) (by decide) (by decide) (by decide),
    Pool.read_back (o := 5) (p := 11) (q := 384) (by decide) (by decide) (by decide),
    Pool.read_back (o := 6) (p := 10) (q := 384) (by decide) (by decide) (by decide),
    Pool.read_back (o := 7) (p := 9) (q := 384) (by decide) (by decide) (by decide),
    Pool.read_back (o := 8) (p := 8) (q := 384) (by decide) (by decide) (by decide),
    Pool.read_back (o := 9) (p := 7) (q := 384) (by decide) (by decide) (by decide),
    Pool.read_back (o := 10) (p := 6) (q := 384) (by decide) (by decide) (by decide),
    Pool.read_back (o := 11) (p := 5) (q := 384) (by decide) (by decide) (by decide),
    Pool.read_back (o := 12) (p := 4) (q := 384) (by decide) (by decide) (by decide),
    Pool.read_back (o := 13) (p := 3) (q := 384) (by decide) (by decide) (by decide),
    Pool.read_back (o := 14) (p := 2) (q := 384) (by decide) (by decide) (by decide),
    Pool.read_back (o := 15) (p := 1) (q := 384) (by decide) (by decide) (by decide)]
  rfl

set_option maxHeartbeats 4000000 in
theorem dwB (c : Dev nD) (t : Fin cfg0.N) (h0 : ¬ t.val % 32 = 0) : (outsAt0 m c t.val t.isLt).2.1 = DwB m c t (outsAt0 m c (t.val - 1) (Nat.lt_of_le_of_lt (Nat.sub_le _ _) t.isLt)).2.1 := by
  rw [outsAt0_B m c t h0]
  frame_out
  simp only [
    Pool.read_back (o := 1) (p := 15) (q := 0) (by decide) (by decide) (by decide),
    Pool.read_back (o := 1) (p := 15) (q := 128) (by decide) (by decide) (by decide),
    Pool.read_back (o := 2) (p := 14) (q := 128) (by decide) (by decide) (by decide),
    Pool.read_back (o := 3) (p := 13) (q := 128) (by decide) (by decide) (by decide),
    Pool.read_back (o := 1) (p := 15) (q := 256) (by decide) (by decide) (by decide),
    Pool.read_back (o := 2) (p := 14) (q := 256) (by decide) (by decide) (by decide),
    Pool.read_back (o := 3) (p := 13) (q := 256) (by decide) (by decide) (by decide),
    Pool.read_back (o := 4) (p := 12) (q := 256) (by decide) (by decide) (by decide),
    Pool.read_back (o := 5) (p := 11) (q := 256) (by decide) (by decide) (by decide),
    Pool.read_back (o := 6) (p := 10) (q := 256) (by decide) (by decide) (by decide),
    Pool.read_back (o := 7) (p := 9) (q := 256) (by decide) (by decide) (by decide),
    Pool.read_back (o := 1) (p := 15) (q := 384) (by decide) (by decide) (by decide),
    Pool.read_back (o := 2) (p := 14) (q := 384) (by decide) (by decide) (by decide),
    Pool.read_back (o := 3) (p := 13) (q := 384) (by decide) (by decide) (by decide),
    Pool.read_back (o := 4) (p := 12) (q := 384) (by decide) (by decide) (by decide),
    Pool.read_back (o := 5) (p := 11) (q := 384) (by decide) (by decide) (by decide),
    Pool.read_back (o := 6) (p := 10) (q := 384) (by decide) (by decide) (by decide),
    Pool.read_back (o := 7) (p := 9) (q := 384) (by decide) (by decide) (by decide),
    Pool.read_back (o := 8) (p := 8) (q := 384) (by decide) (by decide) (by decide),
    Pool.read_back (o := 9) (p := 7) (q := 384) (by decide) (by decide) (by decide),
    Pool.read_back (o := 10) (p := 6) (q := 384) (by decide) (by decide) (by decide),
    Pool.read_back (o := 11) (p := 5) (q := 384) (by decide) (by decide) (by decide),
    Pool.read_back (o := 12) (p := 4) (q := 384) (by decide) (by decide) (by decide),
    Pool.read_back (o := 13) (p := 3) (q := 384) (by decide) (by decide) (by decide),
    Pool.read_back (o := 14) (p := 2) (q := 384) (by decide) (by decide) (by decide),
    Pool.read_back (o := 15) (p := 1) (q := 384) (by decide) (by decide) (by decide)]
  refine tiles 3 _ _ _ _ ⟨fun x => (congrFun ?_ x).trans (piece3 m c t (outsAt0 m c (t.val - 1) (Nat.lt_of_le_of_lt (Nat.sub_le _ _) t.isLt)).2.1 x),
      fun x => (congrFun ?_ x).trans (piece2 m c t (outsAt0 m c (t.val - 1) (Nat.lt_of_le_of_lt (Nat.sub_le _ _) t.isLt)).2.1 x),
      fun x => (congrFun ?_ x).trans (piece1 m c t (outsAt0 m c (t.val - 1) (Nat.lt_of_le_of_lt (Nat.sub_le _ _) t.isLt)).2.1 x),
      fun x => (congrFun ?_ x).trans (piece0 m c t (outsAt0 m c (t.val - 1) (Nat.lt_of_le_of_lt (Nat.sub_le _ _) t.isLt)).2.1 x), trivial⟩ rfl
  all_goals rfl

end Cert.Kernel11Ideal.Value

end

end
-- ==== Proof.PoolFinal.lean ====
/- The backward pass of the pooled mixer: the kernel's three results. -/
module

public import proofs.«01_k».proof.Defs
public import proofs.«01_k».proof.Proof.PoolStoreU
public import proofs.«01_k».proof.Proof.PoolStoreW
public import proofs.«01_k».proof.Proof.Gen.Kernel11Ideal.Frame
public import proofs.«01_k».proof.Proof.Gen.Kernel11Ideal.Value
public import Idealize.ShloMosaic.Lib.Pipeline.ValueKit
public import Idealize.ShloMosaic.Lib.Pipeline.ReadBack
public import Idealize.ShloMosaic.Lib.Pointwise
public import Idealize.ShloMosaic.Lib.Claim
@[expose] public section

set_option maxRecDepth 16384

noncomputable section

open Idealize.ShloMosaic Idealize.ShloMosaic.TcCoe Idealize.SL.Sem
open Idealize.ShloMosaic.Pipeline (Dat)
open Cert.Row (row)

namespace Cert.Kernel11Ideal.Value
open Cert.Kernel11Ideal Cert.Kernel11Ideal.Gen Cert.Kernel11Ideal.Point Cert.Pool Cert.PoolGrad
open Cert.Kernel10Ideal.Point (pos wd2 wd4 wd8 wd16)

variable (m : (ℓ : Loc nD τ sig) → Buf (Elt Ideal) ℓ)

/-- The rows of all points are all rows. -/
theorem sum_rows (f : Fin 16384 → EReal) (t : Fin cfg0.N) (h : ∀ s : Fin 32, 32 * (t.val / 32) + s.val < cfg0.N) :
    ∑ s : Fin 32, ∑ r : Fin 512, f (at' ⟨32 * (t.val / 32) + s.val, h s⟩ r) = ∑ i, f i := by
  refine Fin.sum_mul_add_congr fun s k hl => congrArg f (Fin.ext ?_)
  have := t.isLt
  have hN : cfg0.N = 32 := N_0
  show (32 * (t.val / 32) + s.val) * 512 + k.val = s.val * 512 + k.val
  omega

theorem du_at (c : Dev nD) (t : Fin cfg0.N) : (outsAt0 m c t.val t.isLt).1 = duT m c t := by
  by_cases h : t.val % 32 = 0
  · exact duA m c t h
  · exact duB m c t h

theorem final7 (c : Dev nD) : (dats m 0 c).arrAt 7 (cfgs 0).N = DU (aY m c) (aQ m c) (aS m c) := by
  refine (dats m 0 c).arrAt_eq_of_covers 7 _ (by decide +kernel) fun t _ y => ?_
  blk_simp
  rw [after0_7, du_at]
  have e := duT_at m c t (y 0) (y 1)
  rw [← eq_ix2 (show S512x512.Idx from y)] at e
  have hp : (ix2 (at' t (y 0)) (y 1) : S16384x512.Idx) = (win0_7.blk t).view.emb y := by
    unfold at'
    blk_ext [idx t]
  rw [hp] at e
  exact e

theorem final8 (c : Dev nD) : (dats m 0 c).arrAt 8 (cfgs 0).N = DW (aX m c) (aY m c) (aS m c) := by
  refine (dats m 0 c).arrAt_eq_of_covers 8 _ (by decide +kernel) fun t hf y => ?_
  blk_simp
  rw [after0_8, Pipeline.eq_sum_fin_of_reset_step_apply_of_flush (fun n h => (outsAt0 m c n h).2.1) 32 (fun _ => 0) (dwPart m c)
    (fun t h j => by rw [dwA m c t h]; exact congrArg (· + _) (by rw [eq_ix3 j]; exact zero3_at _ _ _))
    (fun t h j => by rw [dwB m c t h]; rfl)
    t ((flush0_8 t).mp hf) _, zero_add]
  have hp : (win0_8.blk t).view.emb y = (show S4x128x128.Idx from y) := by blk_ext [idx t]
  rw [hp]
  exact sum_rows (fun i => Group (aX m c) i.val (y 0) (y 1) * Dmx (aY m c) (aS m c) i.val (y 0) (y 2)) t _

theorem final9 (c : Dev nD) : (dats m 0 c).arrAt 9 (cfgs 0).N = DS (aX m c) (aY m c) (aQ m c) := by
  have ds_at : ∀ (t : Fin cfg0.N) (a : FVec Ideal S1x512 .f32) (j : S1x512.Idx), dsT m c t a j = a j + dsPart m c t j := by
    intro t a j
    obtain ⟨o, j, rfl⟩ : ∃ (o : Fin 1) (k : Fin 512), j = ix2 o k := ⟨j 0, j 1, eq_ix2 j⟩
    obtain rfl : o = 0 := Subsingleton.elim _ _
    exact dsT_at m c t a j
  refine (dats m 0 c).arrAt_eq_of_covers 9 _ (by decide +kernel) fun t hf y => ?_
  blk_simp
  rw [after0_9, Pipeline.eq_sum_fin_of_reset_step_apply_of_flush (fun n h => (outsAt0 m c n h).2.2) 32 (fun _ => 0) (dsPart m c)
    (fun t h j => by rw [dsA m c t h, ds_at]; exact congrArg (· + _) (by rw [eq_ix2 j]; exact zero4_at _ _))
    (fun t h j => by rw [dsB m c t h, ds_at])
    t ((flush0_9 t).mp hf) _, zero_add]
  have hp : (win0_9.blk t).view.emb y = (show S1x512.Idx from y) := by blk_ext [idx t]
  rw [hp]
  have hy : (y 1).val < 512 := (y 1).isLt
  exact sum_rows (fun i => aY m c (ix2 i ⟨512 + (y 1).val, by omega⟩) * ∑ k : Fin 128, Group (aX m c) i.val ⟨(y 1).val / 128, by omega⟩ k
    * aQ m c (ix3 ⟨(y 1).val / 128, by omega⟩ k ⟨(y 1).val % 128, by omega⟩)) t _

end Cert.Kernel11Ideal.Value

end

end
-- ==== Proof.PoolGradRef.lean ====
/- The backward pass of the pooled mixer: the reference's pooled rows, and its gradients of the matrices and the scale. -/
module

public import proofs.«01_k».proof.Defs
public import proofs.«01_k».proof.Proof.PoolGrad
public import proofs.«01_k».proof.Proof.Gen.Reference11Ideal
public import proofs.«01_k».proof.Proof.Gen.Reference11Ideal.Read
public import Idealize.ShloMosaic.Lib.Pipeline.ValueKit
public import Idealize.ShloMosaic.Lib.KernelVsHost
public import Idealize.ShloMosaic.Lib.Pointwise
public import Idealize.ShloMosaic.Lib.Claim
@[expose] public section

set_option maxRecDepth 16384

noncomputable section

open Idealize.ShloMosaic Idealize.ShloMosaic.TcCoe Idealize.SL.Sem
open Idealize.ShloMosaic.Pipeline (Dat)
open Cert.Row (row)

namespace Cert.Reference11Ideal.Point
open Cert.Reference11Ideal Cert.Reference11Ideal.Gen Cert.Reference11Ideal.Read
open Cert.Kernel10Ideal.Point (pos pos_host wd2 wd4 wd8 wd16)
open Cert.Pool Cert.PoolGrad

theorem v2_at (x : FVec Ideal S16384x2176 .f32) (t : Fin 16384) (g : Fin 4) (k : Fin 128) :
    val_main_v2 (F := Ideal) x (ix4 0 t g k) = col x (at4 g k) t.val := by
  unfold col at4
  rw [dif_pos t.isLt]
  pointwise [val_main_v2, val_main_v1, val_main_v0]

theorem v3_at (x : FVec Ideal S16384x2176 .f32) (t : Fin 16384) (g : Fin 4) (k : Fin 128) :
    val_main_v3 (F := Ideal) x (ix4 0 t g k) = win (col x (at4 g k)) 16384 t.val := by
  unfold val_main_v3
  refine (running (M := 16383) rfl (val_main_v2 (F := Ideal) x) _ _ _ ?_ t g k).trans ?_
  · pointwise [val_main_call0_call0_v0, val_main_call0_call0_cst]
  · refine congrArg (fun U => win U 16384 t.val) (funext fun n => ?_)
    by_cases hn : n < 16384
    · rw [dif_pos hn, v2_at]
    · rw [dif_neg hn]
      unfold col
      rw [dif_neg hn]

theorem v6_at (t : Fin 16384) : val_main_v6 (F := Ideal) (ix1 t) = pos t.val := by
  rw [← pos_host t.val t.isLt]
  pointwise [val_main_v6, val_main_v5, val_main_v4, val_main_cst]

variable (x : FVec Ideal S16384x2176 .f32) (hx : ∀ j n, ∃ r : ℝ, col x j n = (r : EReal))

theorem width0_at (t : Fin 16384) : val_main_v17 (F := Ideal) (ix3 0 t 0) = min (pos t.val) (wide 0) := by
  rw [← v6_at]
  show _ = min _ wd2
  unfold wd2
  generalize hp : val_main_v6 (F := Ideal) = p
  pointwise [val_main_v17, val_main_v16, val_main_v15, val_main_v14, val_main_cst_2, hp]
  try rfl

theorem run0_at (t : Fin 16384) (k : Fin 128) :
    val_main_v8 (F := Ideal) x (ix3 0 t k) = win (col x (at4 0 k)) 16384 t.val := by
  refine Eq.trans ?_ (v3_at x t 0 k)
  generalize hv : val_main_v3 (F := Ideal) x = v
  pointwise [val_main_v8, val_main_v7, hv]

theorem lag0_at (t : Fin 16384) (k : Fin 128) :
    val_main_v11 (F := Ideal) x (ix3 0 t k) = if h : 2 ≤ t.val then val_main_v8 (F := Ideal) x (ix3 0 ⟨t.val - 2, by omega⟩ k) else 0 := by
  have ht := t.isLt
  generalize hv : val_main_v8 (F := Ideal) x = v
  pointwise [val_main_v11, val_main_v10, val_main_v9, hv, val_main_cst_0]
  by_cases h : 2 ≤ t.val
  · rw [dif_pos h]
    simp [show ¬ t.val < 2 by omega]
  · rw [dif_neg h]
    simp [show t.val < 2 by omega]

include hx in
theorem mean0_at (t : Fin 16384) (k : Fin 128) :
    val_main_v22 (F := Ideal) x (ix3 0 t k) = Group x t.val 0 k := by
  have hd : val_main_v13 (F := Ideal) x (ix3 0 t k) = win (col x (at4 0 k)) 2 t.val := by
    refine Eq.trans ?_ (diff_eq (hx _) (N := 16384) (w := 2) (by decide) t.isLt)
    show val_main_v8 (F := Ideal) x (ix3 0 t k) - val_main_v11 (F := Ideal) x (ix3 0 t k) = _
    rw [run0_at, lag0_at]
    refine congrArg (fun y => win _ 16384 t.val - y) ?_
    by_cases h : 2 ≤ t.val
    · rw [dif_pos h, if_pos h, run0_at]
    · rw [dif_neg h, if_neg h]
  have h2 := v2_at x t 0 k
  have h3 := width0_at t
  show _ = Ideal.div (win (col x (at4 0 k)) 2 t.val) (min (pos t.val) (wide 0)) - col x (at4 0 k) t.val
  rw [← hd, ← h2, ← h3]
  generalize ha : val_main_v13 (F := Ideal) x = a
  generalize hb : val_main_v2 (F := Ideal) x = b
  generalize hp : val_main_v17 (F := Ideal) = p
  pointwise [val_main_v22, val_main_v19, val_main_v21, val_main_v20, val_main_v18, ha, hb, hp]
  try rfl

theorem width1_at (t : Fin 16384) : val_main_v33 (F := Ideal) (ix3 0 t 0) = min (pos t.val) (wide 1) := by
  rw [← v6_at]
  show _ = min _ wd4
  unfold wd4
  generalize hp : val_main_v6 (F := Ideal) = p
  pointwise [val_main_v33, val_main_v32, val_main_v31, val_main_v30, val_main_cst_5, hp]
  try rfl

theorem run1_at (t : Fin 16384) (k : Fin 128) :
    val_main_v24 (F := Ideal) x (ix3 0 t k) = win (col x (at4 1 k)) 16384 t.val := by
  refine Eq.trans ?_ (v3_at x t 1 k)
  generalize hv : val_main_v3 (F := Ideal) x = v
  pointwise [val_main_v24, val_main_v23, hv]

theorem lag1_at (t : Fin 16384) (k : Fin 128) :
    val_main_v27 (F := Ideal) x (ix3 0 t k) = if h : 4 ≤ t.val then val_main_v24 (F := Ideal) x (ix3 0 ⟨t.val - 4, by omega⟩ k) else 0 := by
  have ht := t.isLt
  generalize hv : val_main_v24 (F := Ideal) x = v
  pointwise [val_main_v27, val_main_v26, val_main_v25, hv, val_main_cst_3]
  by_cases h : 4 ≤ t.val
  · rw [dif_pos h]
    simp [show ¬ t.val < 4 by omega]
  · rw [dif_neg h]
    simp [show t.val < 4 by omega]

include hx in
theorem mean1_at (t : Fin 16384) (k : Fin 128) :
    val_main_v38 (F := Ideal) x (ix3 0 t k) = Group x t.val 1 k := by
  have hd : val_main_v29 (F := Ideal) x (ix3 0 t k) = win (col x (at4 1 k)) 4 t.val := by
    refine Eq.trans ?_ (diff_eq (hx _) (N := 16384) (w := 4) (by decide) t.isLt)
    show val_main_v24 (F := Ideal) x (ix3 0 t k) - val_main_v27 (F := Ideal) x (ix3 0 t k) = _
    rw [run1_at, lag1_at]
    refine congrArg (fun y => win _ 16384 t.val - y) ?_
    by_cases h : 4 ≤ t.val
    · rw [dif_pos h, if_pos h, run1_at]
    · rw [dif_neg h, if_neg h]
  have h2 := v2_at x t 1 k
  have h3 := width1_at t
  show _ = Ideal.div (win (col x (at4 1 k)) 4 t.val) (min (pos t.val) (wide 1)) - col x (at4 1 k) t.val
  rw [← hd, ← h2, ← h3]
  generalize ha : val_main_v29 (F := Ideal) x = a
  generalize hb : val_main_v2 (F := Ideal) x = b
  generalize hp : val_main_v33 (F := Ideal) = p
  pointwise [val_main_v38, val_main_v35, val_main_v37, val_main_v36, val_main_v34, ha, hb, hp]
  try rfl

theorem width2_at (t : Fin 16384) : val_main_v49 (F := Ideal) (ix3 0 t 0) = min (pos t.val) (wide 2) := by
  rw [← v6_at]
  show _ = min _ wd8
  unfold wd8
  generalize hp : val_main_v6 (F := Ideal) = p
  pointwise [val_main_v49, val_main_v48, val_main_v47, val_main_v46, val_main_cst_8, hp]
  try rfl

theorem run2_at (t : Fin 16384) (k : Fin 128) :
    val_main_v40 (F := Ideal) x (ix3 0 t k) = win (col x (at4 2 k)) 16384 t.val := by
  refine Eq.trans ?_ (v3_at x t 2 k)
  generalize hv : val_main_v3 (F := Ideal) x = v
  pointwise [val_main_v40, val_main_v39, hv]

theorem lag2_at (t : Fin 16384) (k : Fin 128) :
    val_main_v43 (F := Ideal) x (ix3 0 t k) = if h : 8 ≤ t.val then val_main_v40 (F := Ideal) x (ix3 0 ⟨t.val - 8, by omega⟩ k) else 0 := by
  have ht := t.isLt
  generalize hv : val_main_v40 (F := Ideal) x = v
  pointwise [val_main_v43, val_main_v42, val_main_v41, hv, val_main_cst_6]
  by_cases h : 8 ≤ t.val
  · rw [dif_pos h]
    simp [show ¬ t.val < 8 by omega]
  · rw [dif_neg h]
    simp [show t.val < 8 by omega]

include hx in
theorem mean2_at (t : Fin 16384) (k : Fin 128) :
    val_main_v54 (F := Ideal) x (ix3 0 t k) = Group x t.val 2 k := by
  have hd : val_main_v45 (F := Ideal) x (ix3 0 t k) = win (col x (at4 2 k)) 8 t.val := by
    refine Eq.trans ?_ (diff_eq (hx _) (N := 16384) (w := 8) (by decide) t.isLt)
    show val_main_v40 (F := Ideal) x (ix3 0 t k) - val_main_v43 (F := Ideal) x (ix3 0 t k) = _
    rw [run2_at, lag2_at]
    refine congrArg (fun y => win _ 16384 t.val - y) ?_
    by_cases h : 8 ≤ t.val
    · rw [dif_pos h, if_pos h, run2_at]
    · rw [dif_neg h, if_neg h]
  have h2 := v2_at x t 2 k
  have h3 := width2_at t
  show _ = Ideal.div (win (col x (at4 2 k)) 8 t.val) (min (pos t.val) (wide 2)) - col x (at4 2 k) t.val
  rw [← hd, ← h2, ← h3]
  generalize ha : val_main_v45 (F := Ideal) x = a
  generalize hb : val_main_v2 (F := Ideal) x = b
  generalize hp : val_main_v49 (F := Ideal) = p
  pointwise [val_main_v54, val_main_v51, val_main_v53, val_main_v52, val_main_v50, ha, hb, hp]
  try rfl

theorem width3_at (t : Fin 16384) : val_main_v65 (F := Ideal) (ix3 0 t 0) = min (pos t.val) (wide 3) := by
  rw [← v6_at]
  show _ = min _ wd16
  unfold wd16
  generalize hp : val_main_v6 (F := Ideal) = p
  pointwise [val_main_v65, val_main_v64, val_main_v63, val_main_v62, val_main_cst_11, hp]
  try rfl

theorem run3_at (t : Fin 16384) (k : Fin 128) :
    val_main_v56 (F := Ideal) x (ix3 0 t k) = win (col x (at4 3 k)) 16384 t.val := by
  refine Eq.trans ?_ (v3_at x t 3 k)
  generalize hv : val_main_v3 (F := Ideal) x = v
  pointwise [val_main_v56, val_main_v55, hv]

theorem lag3_at (t : Fin 16384) (k : Fin 128) :
    val_main_v59 (F := Ideal) x (ix3 0 t k) = if h : 16 ≤ t.val then val_main_v56 (F := Ideal) x (ix3 0 ⟨t.val - 16, by omega⟩ k) else 0 := by
  have ht := t.isLt
  generalize hv : val_main_v56 (F := Ideal) x = v
  pointwise [val_main_v59, val_main_v58, val_main_v57, hv, val_main_cst_9]
  by_cases h : 16 ≤ t.val
  · rw [dif_pos h]
    simp [show ¬ t.val < 16 by omega]
  · rw [dif_neg h]
    simp [show t.val < 16 by omega]

include hx in
theorem mean3_at (t : Fin 16384) (k : Fin 128) :
    val_main_v70 (F := Ideal) x (ix3 0 t k) = Group x t.val 3 k := by
  have hd : val_main_v61 (F := Ideal) x (ix3 0 t k) = win (col x (at4 3 k)) 16 t.val := by
    refine Eq.trans ?_ (diff_eq (hx _) (N := 16384) (w := 16) (by decide) t.isLt)
    show val_main_v56 (F := Ideal) x (ix3 0 t k) - val_main_v59 (F := Ideal) x (ix3 0 t k) = _
    rw [run3_at, lag3_at]
    refine congrArg (fun y => win _ 16384 t.val - y) ?_
    by_cases h : 16 ≤ t.val
    · rw [dif_pos h, if_pos h, run3_at]
    · rw [dif_neg h, if_neg h]
  have h2 := v2_at x t 3 k
  have h3 := width3_at t
  show _ = Ideal.div (win (col x (at4 3 k)) 16 t.val) (min (pos t.val) (wide 3)) - col x (at4 3 k) t.val
  rw [← hd, ← h2, ← h3]
  generalize ha : val_main_v61 (F := Ideal) x = a
  generalize hb : val_main_v2 (F := Ideal) x = b
  generalize hp : val_main_v65 (F := Ideal) = p
  pointwise [val_main_v70, val_main_v67, val_main_v69, val_main_v68, val_main_v66, ha, hb, hp]
  try rfl

theorem v75_at (t : Fin 16384) (g : Fin 4) (k : Fin 128) :
    val_main_v75 (F := Ideal) x (ix4 0 t g k) = ![val_main_v22 (F := Ideal) x, val_main_v38 (F := Ideal) x, val_main_v54 (F := Ideal) x, val_main_v70 (F := Ideal) x] g (ix3 0 t k) := by
  unfold val_main_v75 val_main_v71 val_main_v72 val_main_v73 val_main_v74
  generalize val_main_v22 (F := Ideal) x = a
  generalize val_main_v38 (F := Ideal) x = b
  generalize val_main_v54 (F := Ideal) x = c
  generalize val_main_v70 (F := Ideal) x = d
  fin_cases g <;> pointwise

include hx in
theorem group_at (t : Fin 16384) (g : Fin 4) (k : Fin 128) : val_main_v75 (F := Ideal) x (ix4 0 t g k) = Group x t.val g k := by
  rw [v75_at]
  match g with
  | 0 => exact mean0_at x hx t k
  | 1 => exact mean1_at x hx t k
  | 2 => exact mean2_at x hx t k
  | 3 => exact mean3_at x hx t k

variable (y : FVec Ideal S16384x1024 .f32) (q : FVec Ideal S4x128x128 .f32) (s : FVec Ideal S512 .f32)

theorem dmx_at (t : Fin 16384) (g : Fin 4) (l : Fin 128) :
    val_main_v91 (F := Ideal) y s (ix4 g l 0 t) = Dmx y s t.val g l := by
  unfold Dmx at4
  rw [dif_pos t.isLt]
  pointwise [val_main_v91, val_main_v90, val_main_v88, val_main_v87, val_main_v83, val_main_v82, val_main_v79]
  try rfl

theorem dpool_at (t : Fin 16384) (g : Fin 4) (k : Fin 128) :
    val_main_v93 (F := Ideal) y q s (ix4 0 t g k) = Dpool y q s t.val g k := by
  refine Eq.trans ?_ (Finset.sum_congr rfl fun l _ => congrArg (fun z => z * q (ix3 g k l)) (dmx_at y s t g l))
  generalize hv : val_main_v91 (F := Ideal) y s = v
  pointwise [val_main_v93, val_main_v92, hv]

theorem v95_at (g : Fin 4) (k l : Fin 128) :
    val_main_v95 (F := Ideal) y x s (ix3 g k l)
      = ∑ t : Fin 16384, val_main_v75 (F := Ideal) x (ix4 0 t g k) * val_main_v91 (F := Ideal) y s (ix4 g l 0 t) := by
  generalize hu : val_main_v75 (F := Ideal) x = u
  generalize hv : val_main_v91 (F := Ideal) y s = v
  pointwise [val_main_v95, val_main_v94, hu, hv]
  rw [Fin.sum_univ_one]
  exact Finset.sum_congr rfl fun t _ => mul_comm _ _

/-- A sum over two axes of one row each leaves the row. -/
theorem one_row (v : S1x1x512.Idx → EReal) (j : Fin 512) :
    Ideal.hostReduceAdd reducesTo_S1x1x512_S512_d0_1 v 0 (ix1 j) = v (ix3 0 0 j) := by
  show 0 + ∑ i ∈ Finset.univ.filter (fun i => reducesTo_S1x1x512_S512_d0_1.drop i = ix1 j), v i = _
  rw [zero_add]
  have e : Finset.univ.filter (fun i => reducesTo_S1x1x512_S512_d0_1.drop i = ix1 j) = {(ix3 0 0 j : S1x1x512.Idx)} := by
    ext i
    simp only [Finset.mem_filter, Finset.mem_univ, true_and, Finset.mem_singleton]
    constructor
    · intro h
      have h2 : (i 2).val = j.val := congrArg Fin.val (congrFun h 0)
      have h0 : (i 0).val < 1 := (i 0).isLt
      have h1 : (i 1).val < 1 := (i 1).isLt
      funext a
      apply Fin.ext
      fin_cases a
      · exact (show (i 0).val = 0 by omega)
      · exact (show (i 1).val = 0 by omega)
      · exact h2
    · rintro rfl
      funext b
      apply Fin.ext
      fin_cases b
      rfl
  rw [e, Finset.sum_singleton]

theorem v89_at (j : Fin 512) : val_main_v89 (F := Ideal) y x q (ix1 j) = val_main_v86 (F := Ideal) y x q (ix3 0 0 j) := by
  generalize hv : val_main_v86 (F := Ideal) y x q = v
  pointwise [val_main_v89, val_main_cst_13, hv]
  exact one_row v j

theorem v162_at (j : Fin 512) :
    val_main_v162 (F := Ideal) y x q (ix2 0 j)
      = ∑ t : Fin 16384, y (ix2 t ⟨512 + j.val, by omega⟩)
          * ∑ k : Fin 128, val_main_v75 (F := Ideal) x (ix4 0 t ⟨j.val / 128, by omega⟩ k) * q (ix3 ⟨j.val / 128, by omega⟩ k ⟨j.val % 128, by omega⟩) := by
  generalize hu : val_main_v75 (F := Ideal) x = u
  have e : val_main_v162 (F := Ideal) y x q (ix2 0 j) = val_main_v89 (F := Ideal) y x q (ix1 j) := by
    generalize hv : val_main_v89 (F := Ideal) y x q = v
    pointwise [val_main_v162, hv]
  rw [e, v89_at]
  pointwise [val_main_v86, val_main_v85, val_main_v84, val_main_v83, val_main_v82, val_main_v78, val_main_v77, val_main_v76, val_main_cst_12, hu]
  refine Finset.sum_congr rfl fun t _ => (mul_comm _ _).trans (congrArg _ (Finset.sum_congr rfl fun k _ => mul_comm _ _))

end Cert.Reference11Ideal.Point

end

end
-- ==== Proof.PoolGradRef2.lean ====
/- The backward pass of the pooled mixer: the reference's gradient at the rows. -/
module

public import proofs.«01_k».proof.Defs
public import proofs.«01_k».proof.Proof.PoolGradRef
public import Idealize.ShloMosaic.Lib.Pipeline.ValueKit
public import Idealize.ShloMosaic.Lib.KernelVsHost
public import Idealize.ShloMosaic.Lib.Pointwise
public import Idealize.ShloMosaic.Lib.Claim
@[expose] public section

set_option maxRecDepth 16384

noncomputable section

open Idealize.ShloMosaic Idealize.ShloMosaic.TcCoe Idealize.SL.Sem
open Idealize.ShloMosaic.Pipeline (Dat)
open Cert.Row (row)

namespace Cert.Reference11Ideal.Point
open Cert.Reference11Ideal Cert.Reference11Ideal.Gen Cert.Reference11Ideal.Read
open Cert.Kernel10Ideal.Point (pos pos_host wd2 wd4 wd8 wd16)
open Cert.Pool Cert.PoolGrad

variable (y : FVec Ideal S16384x1024 .f32) (q : FVec Ideal S4x128x128 .f32) (s : FVec Ideal S512 .f32)

theorem own0_at (t : Fin 16384) (k : Fin 128) : val_main_v97 (F := Ideal) y q s (ix3 0 t k) = Dpool y q s t.val 0 k := by
  refine Eq.trans ?_ (dpool_at y q s t 0 k)
  generalize hv : val_main_v93 (F := Ideal) y q s = v
  pointwise [val_main_v97, val_main_v96, hv]

theorem less0_at (t : Fin 16384) (k : Fin 128) : val_main_v144 (F := Ideal) y q s (ix3 0 t k) = -Dpool y q s t.val 0 k := by
  rw [← own0_at]
  rfl

theorem over0_at (t : Fin 16384) (k : Fin 128) : val_main_v149 (F := Ideal) y q s (ix3 0 t k) = Scaled y q s t.val 0 k := by
  unfold Scaled
  rw [← own0_at, ← width0_at]
  generalize hv : val_main_v97 (F := Ideal) y q s = v
  generalize hp : val_main_v17 (F := Ideal) = p
  pointwise [val_main_v149, val_main_v148, hv, hp]
  try rfl

theorem shift0_at (t : Fin 16384) (k : Fin 128) :
    val_main_v153 (F := Ideal) y q s (ix3 0 t k) = -Scaled y q s (t.val + 2) 0 k := by
  have ht := t.isLt
  by_cases h : t.val + 2 < 16384
  · refine Eq.trans ?_ (congrArg (fun z => -z) (over0_at y q s ⟨t.val + 2, h⟩ k))
    generalize hv : val_main_v149 (F := Ideal) y q s = v
    pointwise [val_main_v153, val_main_v152, val_main_v150, val_main_cst_24, hv]
    simp [show t.val < 16382 by omega]
    exact congrArg v (congrArg (fun n => ix3 0 n k) (Fin.ext (Nat.add_comm _ _)))
  · rw [scaled_past y q s _ 0 k (by omega)]
    generalize hv : val_main_v149 (F := Ideal) y q s = v
    pointwise [val_main_v153, val_main_v152, val_main_v150, val_main_cst_24, hv]
    simp [show ¬ t.val < 16382 by omega]

theorem both0_at (t : Fin 16384) (k : Fin 128) :
    val_main_v154 (F := Ideal) y q s (ix3 0 t k) = Scaled y q s t.val 0 k + -Scaled y q s (t.val + 2) 0 k := by
  rw [← over0_at, ← shift0_at]
  rfl

theorem own1_at (t : Fin 16384) (k : Fin 128) : val_main_v99 (F := Ideal) y q s (ix3 0 t k) = Dpool y q s t.val 1 k := by
  refine Eq.trans ?_ (dpool_at y q s t 1 k)
  generalize hv : val_main_v93 (F := Ideal) y q s = v
  pointwise [val_main_v99, val_main_v98, hv]

theorem less1_at (t : Fin 16384) (k : Fin 128) : val_main_v130 (F := Ideal) y q s (ix3 0 t k) = -Dpool y q s t.val 1 k := by
  rw [← own1_at]
  rfl

theorem over1_at (t : Fin 16384) (k : Fin 128) : val_main_v135 (F := Ideal) y q s (ix3 0 t k) = Scaled y q s t.val 1 k := by
  unfold Scaled
  rw [← own1_at, ← width1_at]
  generalize hv : val_main_v99 (F := Ideal) y q s = v
  generalize hp : val_main_v33 (F := Ideal) = p
  pointwise [val_main_v135, val_main_v134, hv, hp]
  try rfl

theorem shift1_at (t : Fin 16384) (k : Fin 128) :
    val_main_v139 (F := Ideal) y q s (ix3 0 t k) = -Scaled y q s (t.val + 4) 1 k := by
  have ht := t.isLt
  by_cases h : t.val + 4 < 16384
  · refine Eq.trans ?_ (congrArg (fun z => -z) (over1_at y q s ⟨t.val + 4, h⟩ k))
    generalize hv : val_main_v135 (F := Ideal) y q s = v
    pointwise [val_main_v139, val_main_v138, val_main_v136, val_main_cst_21, hv]
    simp [show t.val < 16380 by omega]
    exact congrArg v (congrArg (fun n => ix3 0 n k) (Fin.ext (Nat.add_comm _ _)))
  · rw [scaled_past y q s _ 1 k (by omega)]
    generalize hv : val_main_v135 (F := Ideal) y q s = v
    pointwise [val_main_v139, val_main_v138, val_main_v136, val_main_cst_21, hv]
    simp [show ¬ t.val < 16380 by omega]

theorem both1_at (t : Fin 16384) (k : Fin 128) :
    val_main_v140 (F := Ideal) y q s (ix3 0 t k) = Scaled y q s t.val 1 k + -Scaled y q s (t.val + 4) 1 k := by
  rw [← over1_at, ← shift1_at]
  rfl

theorem own2_at (t : Fin 16384) (k : Fin 128) : val_main_v101 (F := Ideal) y q s (ix3 0 t k) = Dpool y q s t.val 2 k := by
  refine Eq.trans ?_ (dpool_at y q s t 2 k)
  generalize hv : val_main_v93 (F := Ideal) y q s = v
  pointwise [val_main_v101, val_main_v100, hv]

theorem less2_at (t : Fin 16384) (k : Fin 128) : val_main_v116 (F := Ideal) y q s (ix3 0 t k) = -Dpool y q s t.val 2 k := by
  rw [← own2_at]
  rfl

theorem over2_at (t : Fin 16384) (k : Fin 128) : val_main_v121 (F := Ideal) y q s (ix3 0 t k) = Scaled y q s t.val 2 k := by
  unfold Scaled
  rw [← own2_at, ← width2_at]
  generalize hv : val_main_v101 (F := Ideal) y q s = v
  generalize hp : val_main_v49 (F := Ideal) = p
  pointwise [val_main_v121, val_main_v120, hv, hp]
  try rfl

theorem shift2_at (t : Fin 16384) (k : Fin 128) :
    val_main_v125 (F := Ideal) y q s (ix3 0 t k) = -Scaled y q s (t.val + 8) 2 k := by
  have ht := t.isLt
  by_cases h : t.val + 8 < 16384
  · refine Eq.trans ?_ (congrArg (fun z => -z) (over2_at y q s ⟨t.val + 8, h⟩ k))
    generalize hv : val_main_v121 (F := Ideal) y q s = v
    pointwise [val_main_v125, val_main_v124, val_main_v122, val_main_cst_18, hv]
    simp [show t.val < 16376 by omega]
    exact congrArg v (congrArg (fun n => ix3 0 n k) (Fin.ext (Nat.add_comm _ _)))
  · rw [scaled_past y q s _ 2 k (by omega)]
    generalize hv : val_main_v121 (F := Ideal) y q s = v
    pointwise [val_main_v125, val_main_v124, val_main_v122, val_main_cst_18, hv]
    simp [show ¬ t.val < 16376 by omega]

theorem both2_at (t : Fin 16384) (k : Fin 128) :
    val_main_v126 (F := Ideal) y q s (ix3 0 t k) = Scaled y q s t.val 2 k + -Scaled y q s (t.val + 8) 2 k := by
  rw [← over2_at, ← shift2_at]
  rfl

theorem own3_at (t : Fin 16384) (k : Fin 128) : val_main_v103 (F := Ideal) y q s (ix3 0 t k) = Dpool y q s t.val 3 k := by
  refine Eq.trans ?_ (dpool_at y q s t 3 k)
  generalize hv : val_main_v93 (F := Ideal) y q s = v
  pointwise [val_main_v103, val_main_v102, hv]

theorem less3_at (t : Fin 16384) (k : Fin 128) : val_main_v104 (F := Ideal) y q s (ix3 0 t k) = -Dpool y q s t.val 3 k := by
  rw [← own3_at]
  rfl

theorem over3_at (t : Fin 16384) (k : Fin 128) : val_main_v108 (F := Ideal) y q s (ix3 0 t k) = Scaled y q s t.val 3 k := by
  unfold Scaled
  rw [← own3_at, ← width3_at]
  generalize hv : val_main_v103 (F := Ideal) y q s = v
  generalize hp : val_main_v65 (F := Ideal) = p
  pointwise [val_main_v108, val_main_v107, hv, hp]
  try rfl

theorem shift3_at (t : Fin 16384) (k : Fin 128) :
    val_main_v112 (F := Ideal) y q s (ix3 0 t k) = -Scaled y q s (t.val + 16) 3 k := by
  have ht := t.isLt
  by_cases h : t.val + 16 < 16384
  · refine Eq.trans ?_ (congrArg (fun z => -z) (over3_at y q s ⟨t.val + 16, h⟩ k))
    generalize hv : val_main_v108 (F := Ideal) y q s = v
    pointwise [val_main_v112, val_main_v111, val_main_v109, val_main_cst_15, hv]
    simp [show t.val < 16368 by omega]
    exact congrArg v (congrArg (fun n => ix3 0 n k) (Fin.ext (Nat.add_comm _ _)))
  · rw [scaled_past y q s _ 3 k (by omega)]
    generalize hv : val_main_v108 (F := Ideal) y q s = v
    pointwise [val_main_v112, val_main_v111, val_main_v109, val_main_cst_15, hv]
    simp [show ¬ t.val < 16368 by omega]

theorem both3_at (t : Fin 16384) (k : Fin 128) :
    val_main_v113 (F := Ideal) y q s (ix3 0 t k) = Scaled y q s t.val 3 k + -Scaled y q s (t.val + 16) 3 k := by
  rw [← over3_at, ← shift3_at]
  rfl

theorem v147_at (t : Fin 16384) (g : Fin 4) (k : Fin 128) :
    val_main_v147 (F := Ideal) y q s (ix4 0 t g k) = -Dpool y q s t.val g k := by
  have e0 := less0_at y q s t k
  have e1 := less1_at y q s t k
  have e2 := less2_at y q s t k
  have e3 := less3_at y q s t k
  generalize h0 : val_main_v144 (F := Ideal) y q s = n0 at e0
  generalize h1 : val_main_v130 (F := Ideal) y q s = n1 at e1
  generalize h2 : val_main_v116 (F := Ideal) y q s = n2 at e2
  generalize h3 : val_main_v104 (F := Ideal) y q s = n3 at e3
  fin_cases g
  · refine Eq.trans ?_ e0
    pointwise [val_main_v147, val_main_v133, val_main_v119, val_main_v146, val_main_v132, val_main_v118, val_main_v106, val_main_v145, val_main_v131, val_main_v117, val_main_v105, val_main_cst_23, val_main_cst_20, val_main_cst_17, val_main_cst_14, h0, h1, h2, h3]
    try simp
  · refine Eq.trans ?_ e1
    pointwise [val_main_v147, val_main_v133, val_main_v119, val_main_v146, val_main_v132, val_main_v118, val_main_v106, val_main_v145, val_main_v131, val_main_v117, val_main_v105, val_main_cst_23, val_main_cst_20, val_main_cst_17, val_main_cst_14, h0, h1, h2, h3]
    try simp
  · refine Eq.trans ?_ e2
    pointwise [val_main_v147, val_main_v133, val_main_v119, val_main_v146, val_main_v132, val_main_v118, val_main_v106, val_main_v145, val_main_v131, val_main_v117, val_main_v105, val_main_cst_23, val_main_cst_20, val_main_cst_17, val_main_cst_14, h0, h1, h2, h3]
    try simp
  · refine Eq.trans ?_ e3
    pointwise [val_main_v147, val_main_v133, val_main_v119, val_main_v146, val_main_v132, val_main_v118, val_main_v106, val_main_v145, val_main_v131, val_main_v117, val_main_v105, val_main_cst_23, val_main_cst_20, val_main_cst_17, val_main_cst_14, h0, h1, h2, h3]
    try simp

theorem v157_at (t : Fin 16384) (g : Fin 4) (k : Fin 128) :
    val_main_v157 (F := Ideal) y q s (ix4 0 t g k) = Scaled y q s t.val g k + -Scaled y q s (t.val + wid g) g k := by
  have e0 := both0_at y q s t k
  have e1 := both1_at y q s t k
  have e2 := both2_at y q s t k
  have e3 := both3_at y q s t k
  generalize h0 : val_main_v154 (F := Ideal) y q s = n0 at e0
  generalize h1 : val_main_v140 (F := Ideal) y q s = n1 at e1
  generalize h2 : val_main_v126 (F := Ideal) y q s = n2 at e2
  generalize h3 : val_main_v113 (F := Ideal) y q s = n3 at e3
  fin_cases g
  · refine Eq.trans ?_ e0
    pointwise [val_main_v157, val_main_v143, val_main_v129, val_main_v156, val_main_v142, val_main_v128, val_main_v115, val_main_v155, val_main_v141, val_main_v127, val_main_v114, val_main_cst_25, val_main_cst_22, val_main_cst_19, val_main_cst_16, h0, h1, h2, h3]
    try simp
  · refine Eq.trans ?_ e1
    pointwise [val_main_v157, val_main_v143, val_main_v129, val_main_v156, val_main_v142, val_main_v128, val_main_v115, val_main_v155, val_main_v141, val_main_v127, val_main_v114, val_main_cst_25, val_main_cst_22, val_main_cst_19, val_main_cst_16, h0, h1, h2, h3]
    try simp
  · refine Eq.trans ?_ e2
    pointwise [val_main_v157, val_main_v143, val_main_v129, val_main_v156, val_main_v142, val_main_v128, val_main_v115, val_main_v155, val_main_v141, val_main_v127, val_main_v114, val_main_cst_25, val_main_cst_22, val_main_cst_19, val_main_cst_16, h0, h1, h2, h3]
    try simp
  · refine Eq.trans ?_ e3
    pointwise [val_main_v157, val_main_v143, val_main_v129, val_main_v156, val_main_v142, val_main_v128, val_main_v115, val_main_v155, val_main_v141, val_main_v127, val_main_v114, val_main_cst_25, val_main_cst_22, val_main_cst_19, val_main_cst_16, h0, h1, h2, h3]
    try simp

theorem v158_at (hy : Reals.Real' y) (hq : Reals.Real' q) (hs : Reals.Real' s) (t : Fin 16384) (g : Fin 4) (k : Fin 128) :
    val_main_v158 (F := Ideal) y q s (ix4 0 t g k) = ∑ d ∈ Finset.range (wid g), Scaled y q s (t.val + d) g k := by
  unfold val_main_v158
  refine (remaining (M := 16383) rfl (val_main_v157 (F := Ideal) y q s) _ _ _ ?_ t g k).trans ?_
  · pointwise [val_main_call1_call0_v0, val_main_call1_call0_cst]
  refine Eq.trans (Finset.sum_congr rfl fun d _ => ?_)
    (ahead_eq (G := fun n => Scaled y q s n g k) (N := 16384) (scaled_real y q s hy hq hs g k) (fun n h => scaled_past y q s n g k h) (wid g) t.val)
  by_cases hn : t.val + d < 16384
  · rw [dif_pos hn, v157_at]
  · rw [dif_neg hn, scaled_past y q s _ g k (by omega), scaled_past y q s _ g k (by omega)]
    simp

theorem v161_at (hy : Reals.Real' y) (hq : Reals.Real' q) (hs : Reals.Real' s) (t : Fin 16384) (j : Fin 512) :
    val_main_v161 (F := Ideal) y q s (ix2 t j) = DU y q s (ix2 t j) := by
  show _ = (0 - Dpool y q s t.val ⟨j.val / 128, by omega⟩ ⟨j.val % 128, by omega⟩)
    + ∑ d ∈ Finset.range (wid ⟨j.val / 128, by omega⟩), Scaled y q s (t.val + d) ⟨j.val / 128, by omega⟩ ⟨j.val % 128, by omega⟩
  rw [zero_sub, ← v147_at, ← v158_at y q s hy hq hs]
  generalize ha : val_main_v147 (F := Ideal) y q s = a
  generalize hb : val_main_v158 (F := Ideal) y q s = b
  pointwise [val_main_v161, val_main_v160, val_main_v159, ha, hb]

end Cert.Reference11Ideal.Point

end

end
-- ==== Proof.PoolBwd.lean ====
/- The backward pass of the pooled mixer: the kernel's results are the reference's. -/
module

public import proofs.«01_k».proof.Defs
public import proofs.«01_k».proof.Proof.Finite
public import proofs.«01_k».proof.Pre_finite5
public import proofs.«01_k».proof.Proof.Gen.Pre_finite5
public import proofs.«01_k».proof.Proof.PoolFinal
public import proofs.«01_k».proof.Proof.PoolGradRef2
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import Idealize.ShloMosaic.Lib.Pipeline.ValueKit
public import Idealize.ShloMosaic.Lib.Pipeline.ReadBack
public import Idealize.ShloMosaic.Lib.Pointwise
public import Idealize.ShloMosaic.Lib.Claim
@[expose] public section

set_option maxRecDepth 16384

noncomputable section

open Idealize.ShloMosaic Idealize.ShloMosaic.TcCoe Idealize.SL.Sem
open Idealize.ShloMosaic.Pipeline (Dat)
open Cert.Row (row)

namespace Cert.PoolBwd

theorem refFrame : Cert.quiescent_Reference11Ideal := fun m ρ _ =>
  (θ_run Cert.Reference11Ideal.defs _ _).mono (fun r h => ⟨fun c => (h c).2.2.2,
    sem_eq_zero_of_no_sems (by decide) r.2⟩) (Cert.Reference11Ideal.Value.run (F := Ideal) m ρ)

theorem refFrame' : Cert.quiescent_Reference11Ideal_pre_finite5 := fun m ρ _ => refFrame m ρ trivial

theorem finite_args (y x q s) (hf : Cert.Pre_finite5.fn (F := Ideal) y x q s = fun _ => 1#1) :
    Reals.Real' y ∧ Reals.Real' x ∧ Reals.Real' q ∧ Reals.Real' s := by
  have h0 := congrFun hf (fun a => a.elim0)
  unfold Cert.Pre_finite5.fn Cert.Pre_finite5.fn_part1 at h0
  dsimp only at h0
  simp only [andi, IntOp.andi_eq_one] at h0
  obtain ⟨⟨⟨h1, h2⟩, h3⟩, h4⟩ := h0
  exact ⟨Finite.real_of_all _ _ _ _ _ _ _ h1, Finite.real_of_all _ _ _ _ _ _ _ h2, Finite.real_of_all _ _ _ _ _ _ _ h3,
    Finite.real_of_all _ _ _ _ _ _ _ h4⟩

section
open Cert.Reference11Ideal Cert.Reference11Ideal.Read Cert.Reference11Ideal.Point Cert.PoolGrad

variable (x : FVec Ideal S16384x2176 .f32) (y : FVec Ideal S16384x1024 .f32) (q : FVec Ideal S4x128x128 .f32) (s : FVec Ideal S512 .f32)

theorem col_real (hx : Reals.Real' x) (j : Fin 512) (n : ℕ) : ∃ r : ℝ, PoolGrad.col x j n = (r : EReal) := by
  obtain ⟨f, hf⟩ := hx
  unfold PoolGrad.col
  by_cases h : n < 16384
  · rw [dif_pos h, hf]
    exact ⟨_, rfl⟩
  · rw [dif_neg h]
    exact ⟨0, rfl⟩

theorem ref0 (hy : Reals.Real' y) (hq : Reals.Real' q) (hs : Reals.Real' s) : val_main_v161 (F := Ideal) y q s = DU y q s :=
  funext fun i => by rw [eq_ix2 i]; exact v161_at y q s hy hq hs (i 0) (i 1)

theorem ref1 (hx : Reals.Real' x) : val_main_v95 (F := Ideal) y x s = DW x y s := by
  funext i
  obtain ⟨g, k, l, rfl⟩ : ∃ (g : Fin 4) (k l : Fin 128), i = ix3 g k l := ⟨i 0, i 1, i 2, eq_ix3 i⟩
  refine (v95_at x y s g k l).trans ?_
  exact Finset.sum_congr rfl fun t _ => congrArg₂ (· * ·) (group_at x (col_real x hx) t g k) (dmx_at y s t g l)

theorem ref2 (hx : Reals.Real' x) : val_main_v162 (F := Ideal) y x q = DS x y q := by
  funext i
  obtain ⟨o, j, rfl⟩ : ∃ (o : Fin 1) (j : Fin 512), i = ix2 o j := ⟨i 0, i 1, eq_ix2 i⟩
  obtain rfl : o = 0 := Subsingleton.elim _ _
  refine (v162_at x y q j).trans ?_
  exact Finset.sum_congr rfl fun t _ => congrArg (fun z => y _ * z)
    (Finset.sum_congr rfl fun k _ => congrArg (fun z => z * _) (group_at x (col_real x hx) t _ k))

end

open Cert.Kernel11Ideal.Value Cert.PoolGrad in
/-- The kernel's results are the reference's, where every argument is real. -/
theorem values : Cert.algebraic_Kernel11Ideal_Reference11Ideal_pre_finite5 := by
  intro m g m' g' hpre hag
  refine ⟨fun c => DU (aY m c) (aQ m c) (aS m c), fun c => DW (aX m c) (aY m c) (aS m c), fun c => DS (aX m c) (aY m c) (aQ m c), ?_, ?_⟩
  · refine (θ_run Kernel11Ideal.defs _ _).mono (fun r h c => ?_) (run_blocks m g)
    obtain ⟨h0, h1, h2, hr⟩ := h c
    exact ⟨h0.trans (final7 m c), h1.trans (final8 m c), h2.trans (final9 m c), hr⟩
  · refine (θ_run Reference11Ideal.defs _ _).mono (fun r h c => ?_) (Reference11Ideal.Value.run m' g')
    obtain ⟨h0, h1, h2, hr⟩ := h c
    obtain ⟨e0, e1, e2, e3⟩ := hag c
    obtain ⟨hy, hx, hq, hs⟩ := finite_args _ _ _ _ (hpre c)
    have fy : Reals.Real' (aY m c) := hy
    have fx : Reals.Real' (aX m c) := hx
    have fq : Reals.Real' (aQ m c) := hq
    have fs : Reals.Real' (aS m c) := hs
    refine ⟨h0.trans ?_, h1.trans ?_, h2.trans ?_, hr⟩
    · refine Eq.trans ?_ (ref0 (aY m c) (aQ m c) (aS m c) fy fq fs)
      unfold aY aQ aS
      rw [← e0, ← e2, ← e3]
      rfl
    · refine Eq.trans ?_ (ref1 (aX m c) (aY m c) (aS m c) fx)
      unfold aX aY aS
      rw [← e0, ← e1, ← e3]
      rfl
    · refine Eq.trans ?_ (ref2 (aX m c) (aY m c) (aQ m c) fx)
      unfold aX aY aQ
      rw [← e0, ← e1, ← e2]
      rfl

end Cert.PoolBwd

end

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Pre_finite
public import proofs.«01_k».proof.Proof.Gen.Pre_finite2
public import proofs.«01_k».proof.Proof.Gen.Pre_finite3
public import proofs.«01_k».proof.Proof.Gen.Pre_finite4
public import proofs.«01_k».proof.Proof.Gen.Kernel2Ideal.Value
public import proofs.«01_k».proof.Proof.Gen.Kernel3Ideal.Value
public import proofs.«01_k».proof.Proof.Gen.Kernel4Ideal.Value
public import proofs.«01_k».proof.Proof.Gen.Kernel5Ideal.Value
public import proofs.«01_k».proof.Proof.Gen.Kernel6Ideal.Value
public import proofs.«01_k».proof.Proof.Gen.Kernel7Ideal.Value
public import proofs.«01_k».proof.Proof.Gen.Kernel8Ideal.Value
public import proofs.«01_k».proof.Proof.Gen.Kernel9Ideal.Value
public import proofs.«01_k».proof.Proof.Gen.KernelIdeal.Value
public import proofs.«01_k».proof.Proof.Gen.Reference2Ideal.Read
public import proofs.«01_k».proof.Proof.Gen.Reference2Ideal.Run
public import proofs.«01_k».proof.Proof.Gen.Reference3Ideal.Read
public import proofs.«01_k».proof.Proof.Gen.Reference3Ideal.Run
public import proofs.«01_k».proof.Proof.Gen.Reference4Ideal.Read
public import proofs.«01_k».proof.Proof.Gen.Reference4Ideal.Run
public import proofs.«01_k».proof.Proof.Gen.Reference5Ideal.Read
public import proofs.«01_k».proof.Proof.Gen.Reference5Ideal.Run
public import proofs.«01_k».proof.Proof.Gen.Reference6Ideal.Read
public import proofs.«01_k».proof.Proof.Gen.Reference6Ideal.Run
public import proofs.«01_k».proof.Proof.Gen.Reference7Ideal.Read
public import proofs.«01_k».proof.Proof.Gen.Reference7Ideal.Run
public import proofs.«01_k».proof.Proof.Gen.Reference8Ideal.Read
public import proofs.«01_k».proof.Proof.Gen.Reference8Ideal.Run
public import proofs.«01_k».proof.Proof.Gen.Reference9Ideal.Read
public import proofs.«01_k».proof.Proof.Gen.Reference9Ideal.Run
public import proofs.«01_k».proof.Proof.Gen.ReferenceIdeal.Read
public import proofs.«01_k».proof.Proof.Gen.ReferenceIdeal.Run
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Kernel11Ideal.Value
public import proofs.«01_k».proof.Proof.Gen.Reference11Ideal.Run
public import proofs.«01_k».proof.Proof.Gen.Reference11Ideal.Read
public import proofs.«01_k».proof.Proof.PleClaim
public import proofs.«01_k».proof.Proof.InBwd
public import proofs.«01_k».proof.Proof.OutBwd
public import proofs.«01_k».proof.Proof.DwUp
public import proofs.«01_k».proof.Proof.DwDown
public import proofs.«01_k».proof.Proof.InProj
public import proofs.«01_k».proof.Proof.PleFwd
public import proofs.«01_k».proof.Proof.FfnFwd
public import proofs.«01_k».proof.Proof.FfnBwd
public import proofs.«01_k».proof.Proof.MixOut
public import proofs.«01_k».proof.Proof.PoolBwd
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts, Cert.Kernel6.Gen.facts,
    Cert.Kernel6Ideal.Gen.facts, Cert.Reference6Ideal.Gen.facts, Cert.Kernel7.Gen.facts, Cert.Kernel7Ideal.Gen.facts,
    Cert.Reference7Ideal.Gen.facts, Cert.Kernel8.Gen.facts, Cert.Kernel8Ideal.Gen.facts, Cert.Reference8Ideal.Gen.facts,
    Cert.Kernel9.Gen.facts, Cert.Kernel9Ideal.Gen.facts, Cert.Reference9Ideal.Gen.facts, Cert.Kernel10.Gen.facts,
    Cert.Kernel10Ideal.Gen.facts, Cert.Reference10Ideal.Gen.facts, Cert.Kernel11.Gen.facts, Cert.Kernel11Ideal.Gen.facts,
    Cert.Reference11Ideal.Gen.facts, Cert.Pre_finite.Gen.facts, Cert.Pre_finite2.Gen.facts, Cert.Pre_finite3.Gen.facts,
    Cert.Pre_finite4.Gen.facts, Cert.Pre_finite5.Gen.facts, fun m ρ _ => Cert.Kernel.Gen.frame m ρ,
    fun m ρ _ => Cert.KernelIdeal.Gen.frame m ρ, fun m ρ _ => Cert.KernelIdeal.Gen.frame m ρ, PleClaim.refFrame,
    PleClaim.refFrame', fun m ρ _ => Cert.Kernel2.Gen.frame m ρ, fun m ρ _ => Cert.Kernel2Ideal.Gen.frame m ρ,
    fun m ρ _ => Cert.Kernel2Ideal.Gen.frame m ρ, InBwd.refFrame, InBwd.refFrame', fun m ρ _ => Cert.Kernel3.Gen.frame m ρ,
    fun m ρ _ => Cert.Kernel3Ideal.Gen.frame m ρ, OutBwd.refFrame, fun m ρ _ => Cert.Kernel4.Gen.frame m ρ,
    fun m ρ _ => Cert.Kernel4Ideal.Gen.frame m ρ, DwUp.refFrame, fun m ρ _ => Cert.Kernel5.Gen.frame m ρ,
    fun m ρ _ => Cert.Kernel5Ideal.Gen.frame m ρ, DwDown.refFrame, fun m ρ _ => Cert.Kernel6.Gen.frame m ρ,
    fun m ρ _ => Cert.Kernel6Ideal.Gen.frame m ρ, InProj.refFrame, fun m ρ _ => Cert.Kernel7.Gen.frame m ρ,
    fun m ρ _ => Cert.Kernel7Ideal.Gen.frame m ρ, PleFwd.refFrame, fun m ρ _ => Cert.Kernel8.Gen.frame m ρ,
    fun m ρ _ => Cert.Kernel8Ideal.Gen.frame m ρ, FfnFwd.refFrame, fun m ρ _ => Cert.Kernel9.Gen.frame m ρ,
    fun m ρ _ => Cert.Kernel9Ideal.Gen.frame m ρ, fun m ρ _ => Cert.Kernel9Ideal.Gen.frame m ρ, FfnBwd.refFrame,
    FfnBwd.refFrame', fun m ρ _ => Cert.Kernel10.Gen.frame m ρ, fun m ρ _ => Cert.Kernel10Ideal.Gen.frame m ρ,
    fun m ρ _ => Cert.Kernel10Ideal.Gen.frame m ρ, MixOut.refFrame, MixOut.refFrame',
    fun m ρ _ => Cert.Kernel11.Gen.frame m ρ, fun m ρ _ => Cert.Kernel11Ideal.Gen.frame m ρ,
    fun m ρ _ => Cert.Kernel11Ideal.Gen.frame m ρ, PoolBwd.refFrame, PoolBwd.refFrame', trivial, PleClaim.values, trivial,
    InBwd.values, trivial, OutBwd.values, trivial, DwUp.values, trivial, DwDown.values, trivial, InProj.values, trivial,
    PleFwd.values, trivial, FfnFwd.values, FfnBwd.preserves, FfnBwd.values, trivial, MixOut.values, trivial, PoolBwd.values⟩

end Cert.Proof

end
